-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_codes_and_scales [hKernelIdeal : Cert.KernelIdeal.Facts] [hReferenceIdeal : Cert.ReferenceIdeal.Facts] [hOn_codes_and_scales : Cert.On_codes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![4, 1, 32, 256]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v2_0) i = v0 c i)
          ∧ (∀ i : (⟨4, ![4, 1, 8, 256]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v2_1) i = v1 c i)
          ∧ (∀ i : (⟨3, ![4, 1, 8]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v2_2) i = v2 c i)
          ∧ (∀ i : (⟨4, ![4, 1, 8, 256]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v2_3) i = v3 c i)
          ∧ (∀ i : (⟨3, ![4, 1, 8]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.KernelIdeal.nD Cert.KernelIdeal.τ).loc Cert.KernelIdeal.main_v2_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 1, 32, 256]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v118) i = v0 c i)
          ∧ (∀ i : (⟨4, ![4, 1, 8, 256]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v14) i = v1 c i)
          ∧ (∀ i : (⟨3, ![4, 1, 8]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v7) i = v2 c i)
          ∧ (∀ i : (⟨4, ![4, 1, 8, 256]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v29) i = v3 c i)
          ∧ (∀ i : (⟨3, ![4, 1, 8]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.ReferenceIdeal.nD Cert.ReferenceIdeal.τ).loc Cert.ReferenceIdeal.main_v22) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts) (hOn_codes_and_scales : Cert.On_codes_and_scales.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_codes_and_scales (hKernelIdeal := hKernelIdeal) (hReferenceIdeal := hReferenceIdeal) (hOn_codes_and_scales := hOn_codes_and_scales)
    ∧ algebraic_KernelIdeal_ReferenceIdeal_pre_finite (hKernelIdeal := hKernelIdeal) (hReferenceIdeal := hReferenceIdeal) (hPre_finite := hPre_finite)
-- ==== On_codes_and_scales.lean ====
abbrev S4x1x32x256 : Shape := ⟨4, ![4, 1, 32, 256]⟩
abbrev S4x1x8x256 : Shape := ⟨4, ![4, 1, 8, 256]⟩
abbrev S4x4096x8x256 : Shape := ⟨4, ![4, 4096, 8, 256]⟩
abbrev S4x4096x8 : Shape := ⟨3, ![4, 4096, 8]⟩
abbrev S4 : Shape := ⟨1, ![4]⟩
abbrev S_ : Shape := ⟨0, ![]⟩
abbrev S4x1x8 : Shape := ⟨3, ![4, 1, 8]⟩

class Facts : Prop where
  bcast_S_S4x1x32x256 : S_.BroadcastsInDim S4x1x32x256 (![] : Fin 0 → Fin S4x1x32x256.rank)
  bcast_S_S4x1x8x256 : S_.BroadcastsInDim S4x1x8x256 (![] : Fin 0 → Fin S4x1x8x256.rank)
  bcast_S_S4x1x8 : S_.BroadcastsInDim S4x1x8 (![] : Fin 0 → Fin S4x1x8.rank)

variable [Facts]

def fn {F : FTy → Type} [FloatOps F] (main_arg0 : FVec F S4x1x32x256 .bf16) (main_arg1 : FVec F S4x1x8x256 .bf16) (main_arg2 : FVec F S4x1x8x256 .bf16) (main_arg3 : IVec S4x4096x8x256 8) (main_arg4 : FVec F S4x4096x8 .f32) (main_arg5 : IVec S4x4096x8x256 8) (main_arg6 : FVec F S4x4096x8 .f32) (main_arg7 : IVec S4 32) : IVec S4x1x32x256 1 × IVec S4x1x8x256 1 × IVec S4x1x8 1 × IVec S4x1x8x256 1 × IVec S4x1x8 1 :=
  let main_c : IVec S_ 1 := constantI S_ 1 0#1
  let main_v0 : IVec S4x1x32x256 1 := broadcastInDim S4x1x32x256 ![] bcast_S_S4x1x32x256 main_c
  let main_c_0 : IVec S_ 1 := constantI S_ 1 1#1
  let main_v1 : IVec S4x1x8x256 1 := broadcastInDim S4x1x8x256 ![] bcast_S_S4x1x8x256 main_c_0
  let main_c_1 : IVec S_ 1 := constantI S_ 1 1#1
  let main_v2 : IVec S4x1x8 1 := broadcastInDim S4x1x8 ![] bcast_S_S4x1x8 main_c_1
  let main_c_2 : IVec S_ 1 := constantI S_ 1 1#1
  let main_v3 : IVec S4x1x8x256 1 := broadcastInDim S4x1x8x256 ![] bcast_S_S4x1x8x256 main_c_2
  let main_c_3 : IVec S_ 1 := constantI S_ 1 1#1
  let main_v4 : IVec S4x1x8 1 := broadcastInDim S4x1x8 ![] bcast_S_S4x1x8 main_c_3
  (main_v0, main_v1, main_v2, main_v3, main_v4)
-- ==== Pre_finite.lean ====
abbrev S4x1x32x256 : Shape := ⟨4, ![4, 1, 32, 256]⟩
abbrev S4x1x8x256 : Shape := ⟨4, ![4, 1, 8, 256]⟩
abbrev S4x4096x8x256 : Shape := ⟨4, ![4, 4096, 8, 256]⟩
abbrev S4x4096x8 : Shape := ⟨3, ![4, 4096, 8]⟩
abbrev S4 : Shape := ⟨1, ![4]⟩
abbrev S4x1x1 : Shape := ⟨3, ![4, 1, 1]⟩
abbrev S_ : Shape := ⟨0, ![]⟩

class Facts : Prop where
  bcast_S4_S4x1x1_0 : S4.BroadcastsInDim S4x1x1 (![0] : Fin 1 → Fin S4x1x1.rank)
  bcast_S4x1x1_S4x4096x8_0_1_2 : S4x1x1.BroadcastsInDim S4x4096x8 (![0, 1, 2] : Fin 3 → Fin S4x4096x8.rank)
  bcast_S_S4x4096x8 : S_.BroadcastsInDim S4x4096x8 (![] : Fin 0 → Fin S4x4096x8.rank)
  bitsLt_bf16_f32 : FTy.bits .bf16 < FTy.bits .f32
  bcast_S_S4x1x32x256 : S_.BroadcastsInDim S4x1x32x256 (![] : Fin 0 → Fin S4x1x32x256.rank)

variable [Facts]

def fn {F : FTy → Type} [FloatOps F] (main_arg0 : FVec F S4x1x32x256 .bf16) (main_arg1 : FVec F S4x1x8x256 .bf16) (main_arg2 : FVec F S4x1x8x256 .bf16) (main_arg3 : IVec S4x4096x8x256 8) (main_arg4 : FVec F S4x4096x8 .f32) (main_arg5 : IVec S4x4096x8x256 8) (main_arg6 : FVec F S4x4096x8 .f32) (main_arg7 : IVec S4 32) : IVec S4x1x32x256 1 × IVec S4x4096x8 1 :=
  let main_v0 : IVec S4x4096x8 32 := iotaInDim S4x4096x8 32 1
  let main_v1 : IVec S4x1x1 32 := broadcastInDim S4x1x1 ![0] bcast_S4_S4x1x1_0 main_arg7
  let main_v2 : IVec S4x4096x8 32 := broadcastInDim S4x4096x8 ![0, 1, 2] bcast_S4x1x1_S4x4096x8_0_1_2 main_v1
  let main_v3 : IVec S4x4096x8 1 := cmpi .slt main_v0 main_v2
  let main_v4 : IVec S4x4096x8 32 := subi main_v2 main_v0
  let main_c : IVec S_ 32 := constantI S_ 32 1024#32
  let main_v5 : IVec S4x4096x8 32 := broadcastInDim S4x4096x8 ![] bcast_S_S4x4096x8 main_c
  let main_v6 : IVec S4x4096x8 1 := cmpi .slt main_v4 main_v5
  let main_v7 : IVec S4x4096x8 1 := andi main_v3 main_v6
  let main_v8 : FVec F S4x1x32x256 .f32 := (extf .f32 · bitsLt_bf16_f32) main_arg0
  let main_v9 : FVec F S4x1x32x256 .f32 := Host.absf main_v8
  let main_cst : FVec F S_ .f32 := constant S_ .f32 0x7F800000#32
  let main_v10 : FVec F S4x1x32x256 .f32 := broadcastInDim S4x1x32x256 ![] bcast_S_S4x1x32x256 main_cst
  let main_v11 : IVec S4x1x32x256 1 := cmpf .olt main_v9 main_v10
  let main_v12 : IVec S4x4096x8 1 := noti main_v7
  let main_v13 : FVec F S4x4096x8 .f32 := Host.absf main_arg4
  let main_cst_0 : FVec F S_ .f32 := constant S_ .f32 0x7F800000#32
  let main_v14 : FVec F S4x4096x8 .f32 := broadcastInDim S4x4096x8 ![] bcast_S_S4x4096x8 main_cst_0
  let main_v15 : IVec S4x4096x8 1 := cmpf .olt main_v13 main_v14
  let main_v16 : IVec S4x4096x8 1 := ori main_v12 main_v15
  (main_v11, main_v16)
-- ==== Kernel.lean ====
abbrev S4x1x32x256 : Shape := ⟨4, ![4, 1, 32, 256]⟩
abbrev S4x1x8x256 : Shape := ⟨4, ![4, 1, 8, 256]⟩
abbrev S4x4096x8x256 : Shape := ⟨4, ![4, 4096, 8, 256]⟩
abbrev S4x4096x8 : Shape := ⟨3, ![4, 4096, 8]⟩
abbrev S4 : Shape := ⟨1, ![4]⟩
abbrev S4x8x4096 : Shape := ⟨3, ![4, 8, 4096]⟩
abbrev S4x1x8 : Shape := ⟨3, ![4, 1, 8]⟩
abbrev S4x1024x8x256 : Shape := ⟨4, ![4, 1024, 8, 256]⟩
abbrev S4x8x1152 : Shape := ⟨3, ![4, 8, 1152]⟩
abbrev S2x32x128 : Shape := ⟨3, ![2, 32, 128]⟩
abbrev S32x8192 : Shape := ⟨2, ![32, 8192]⟩
abbrev S32x1024 : Shape := ⟨2, ![32, 1024]⟩
abbrev S4x4 : Shape := ⟨2, ![4, 4]⟩
abbrev S1 : Shape := ⟨1, ![1]⟩
abbrev S1x1 : Shape := ⟨2, ![1, 1]⟩
abbrev S_ : Shape := ⟨0, ![]⟩
abbrev S1x8x1152 : Shape := ⟨3, ![1, 8, 1152]⟩
abbrev S8x1152 : Shape := ⟨2, ![8, 1152]⟩
abbrev S1x1024x8x256 : Shape := ⟨4, ![1, 1024, 8, 256]⟩
abbrev S1024x8x256 : Shape := ⟨3, ![1024, 8, 256]⟩
abbrev S8x128 : Shape := ⟨2, ![8, 128]⟩
abbrev S1x1x8x256 : Shape := ⟨4, ![1, 1, 8, 256]⟩
abbrev S8x256 : Shape := ⟨2, ![8, 256]⟩
abbrev S8 : Shape := ⟨1, ![8]⟩
abbrev S8x1 : Shape := ⟨2, ![8, 1]⟩
abbrev S1x1x8 : Shape := ⟨3, ![1, 1, 8]⟩
abbrev S1x1x32x256 : Shape := ⟨4, ![1, 1, 32, 256]⟩
abbrev S32x256 : Shape := ⟨2, ![32, 256]⟩
abbrev S32x128 : Shape := ⟨2, ![32, 128]⟩
abbrev S1x32x128 : Shape := ⟨3, ![1, 32, 128]⟩
abbrev S1x8x128 : Shape := ⟨3, ![1, 8, 128]⟩
abbrev S1x128x8x256 : Shape := ⟨4, ![1, 128, 8, 256]⟩
abbrev S128x8x256 : Shape := ⟨3, ![128, 8, 256]⟩
abbrev S1024x256 : Shape := ⟨2, ![1024, 256]⟩
abbrev S8x128x1 : Shape := ⟨3, ![8, 128, 1]⟩

abbrev nBuf : Space → Nat
  | .hbm => 15
  | .vmem => 16
  | .smem => 1
  | _ => 0

abbrev bufTy : (tb : Table) → Fin (tcTables nBuf tb) → BufTy
  | .hbm, ⟨0, _⟩ => ⟨S4x1x32x256, .bf16⟩
  | .hbm, ⟨1, _⟩ => ⟨S4x1x8x256, .bf16⟩
  | .hbm, ⟨2, _⟩ => ⟨S4x1x8x256, .bf16⟩
  | .hbm, ⟨3, _⟩ => ⟨S4x4096x8x256, .i8⟩
  | .hbm, ⟨4, _⟩ => ⟨S4x4096x8, .f32⟩
  | .hbm, ⟨5, _⟩ => ⟨S4x4096x8x256, .i8⟩
  | .hbm, ⟨6, _⟩ => ⟨S4x4096x8, .f32⟩
  | .hbm, ⟨7, _⟩ => ⟨S4, .i32⟩
  | .hbm, ⟨8, _⟩ => ⟨S4x8x4096, .f32⟩
  | .hbm, ⟨9, _⟩ => ⟨S4x8x4096, .f32⟩
  | .hbm, ⟨10, _⟩ => ⟨S4x1x32x256, .bf16⟩
  | .hbm, ⟨11, _⟩ => ⟨S4x1x8x256, .i8⟩
  | .hbm, ⟨12, _⟩ => ⟨S4x1x8, .f32⟩
  | .hbm, ⟨13, _⟩ => ⟨S4x1x8x256, .i8⟩
  | .hbm, ⟨14, _⟩ => ⟨S4x1x8, .f32⟩
  | .local _ .vmem, ⟨0, _⟩ => ⟨S4x1x32x256, .bf16⟩
  | .local _ .vmem, ⟨1, _⟩ => ⟨S4x1x8x256, .bf16⟩
  | .local _ .vmem, ⟨2, _⟩ => ⟨S4x1x8x256, .bf16⟩
  | .local _ .vmem, ⟨3, _⟩ => ⟨S4x1x32x256, .bf16⟩
  | .local _ .vmem, ⟨4, _⟩ => ⟨S4x1x8x256, .i8⟩
  | .local _ .vmem, ⟨5, _⟩ => ⟨S4x1x8, .f32⟩
  | .local _ .vmem, ⟨6, _⟩ => ⟨S4x1x8x256, .i8⟩
  | .local _ .vmem, ⟨7, _⟩ => ⟨S4x1x8, .f32⟩
  | .local _ .vmem, ⟨8, _⟩ => ⟨S4x1024x8x256, .i8⟩
  | .local _ .vmem, ⟨9, _⟩ => ⟨S4x1024x8x256, .i8⟩
  | .local _ .vmem, ⟨10, _⟩ => ⟨S4x8x1152, .f32⟩
  | .local _ .vmem, ⟨11, _⟩ => ⟨S4x8x1152, .f32⟩
  | .local _ .vmem, ⟨12, _⟩ => ⟨S2x32x128, .f32⟩
  | .local _ .vmem, ⟨13, _⟩ => ⟨S2x32x128, .f32⟩
  | .local _ .vmem, ⟨14, _⟩ => ⟨S32x8192, .f32⟩
  | .local _ .vmem, ⟨15, _⟩ => ⟨S32x1024, .f32⟩
  | .local _ .smem, ⟨0, _⟩ => ⟨S4, .i32⟩
  | _, _ => ⟨S4x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 (v4 : BitVec 32) : BitVec 32 :=
  let c1023_i32_1 : BitVec 32 := 1023#32
  let v5 : BitVec 32 := Scalar.subi v4 c1023_i32_1
  let c0_i32_2 : BitVec 32 := 0#32
  let v6 : BitVec 32 := Scalar.maxsi v5 c0_i32_2
  let c3072_i32_3 : BitVec 32 := 3072#32
  let v7 : BitVec 32 := Scalar.minsi v6 c3072_i32_3
  let c7_i32 : BitVec 32 := 7#32
  let v8 : BitVec 32 := Scalar.shrsi v7 c7_i32
  let c7_i32_4 : BitVec 32 := 7#32
  let v9 : BitVec 32 := Scalar.shli v8 c7_i32_4
  let c2944_i32 : BitVec 32 := 2944#32
  let v10 : BitVec 32 := Scalar.minsi v9 c2944_i32
  v10

def k0_off1 (v4 : BitVec 32) : Fin 3 → Nat :=
  let c0_i32_5 : BitVec 32 := 0#32
  let c0_i32_11 : BitVec 32 := 0#32
  let c1023_i32_1 : BitVec 32 := 1023#32
  let v5 : BitVec 32 := Scalar.subi v4 c1023_i32_1
  let c0_i32_2 : BitVec 32 := 0#32
  let v6 : BitVec 32 := Scalar.maxsi v5 c0_i32_2
  let c3072_i32_3 : BitVec 32 := 3072#32
  let v7 : BitVec 32 := Scalar.minsi v6 c3072_i32_3
  let c7_i32 : BitVec 32 := 7#32
  let v8 : BitVec 32 := Scalar.shrsi v7 c7_i32
  let c7_i32_4 : BitVec 32 := 7#32
  let v9 : BitVec 32 := Scalar.shli v8 c7_i32_4
  let c2944_i32 : BitVec 32 := 2944#32
  let v10 : BitVec 32 := Scalar.minsi v9 c2944_i32
  let v11 : BitVec 32 := v10
  ![0, 0, v11.toNat]

def k0_chk1 (v4 : BitVec 32) : Prop :=
  (128 ∣ (k0_mult1 v4).toNat) ∧
  (∀ a, (k0_off1 v4) a + S1x8x1152.size a ≤ S4x8x4096.size a)
theorem k0_mult1_dvd : ∀ (v4 : BitVec 32) (k0_hw1 : k0_chk1 v4), 128 ∣ (k0_mult1 v4).toNat := fun v4 k0_hw1 => k0_hw1.1
theorem k0_off1_inb : ∀ (v4 : BitVec 32) (k0_hw1 : k0_chk1 v4), ∀ a, (k0_off1 v4) a + S1x8x1152.size a ≤ S4x8x4096.size a := fun v4 k0_hw1 => k0_hw1.2

def k0_off2 (v0 : BitVec 32) : Fin 4 → Nat :=
  let c0_i32_18 : BitVec 32 := 0#32
  let c1023_i32 : BitVec 32 := 1023#32
  let v1 : BitVec 32 := Scalar.subi v0 c1023_i32
  let c0_i32 : BitVec 32 := 0#32
  let v2 : BitVec 32 := Scalar.maxsi v1 c0_i32
  let c3072_i32 : BitVec 32 := 3072#32
  let v3 : BitVec 32 := Scalar.minsi v2 c3072_i32
  let c0_i32_24 : BitVec 32 := 0#32
  let c0_i32_25 : BitVec 32 := 0#32
  ![0, v3.toNat, 0, 0]

def k0_chk2 (v0 : BitVec 32) : Prop :=
  (∀ a, (k0_off2 v0) a + S1x1024x8x256.size a ≤ S4x4096x8x256.size a) ∧
  (∀ (hinb : ∀ a, (k0_off2 v0) a + S1x1024x8x256.size a ≤ S4x4096x8x256.size a), (Rect.unit (s := S4x4096x8x256) (k0_off2 v0) S1x1024x8x256.size hinb).WholeWords (EltTy.packing .i8))
theorem k0_off2_inb : ∀ (v0 : BitVec 32) (k0_hw2 : k0_chk2 v0), ∀ a, (k0_off2 v0) a + S1x1024x8x256.size a ≤ S4x4096x8x256.size a := fun v0 k0_hw2 => k0_hw2.1
theorem k0_off2_wordsi8 : ∀ (v0 : BitVec 32) (k0_hw2 : k0_chk2 v0), (Rect.unit (s := S4x4096x8x256) (k0_off2 v0) S1x1024x8x256.size (k0_off2_inb v0 k0_hw2)).WholeWords (EltTy.packing .i8) := fun v0 k0_hw2 => k0_hw2.2 (k0_off2_inb v0 k0_hw2)

def k0_mult2 (v40 : BitVec 32) : BitVec 32 :=
  let c1023_i32_38 : BitVec 32 := 1023#32
  let v41 : BitVec 32 := Scalar.subi v40 c1023_i32_38
  let c0_i32_39 : BitVec 32 := 0#32
  let v42 : BitVec 32 := Scalar.maxsi v41 c0_i32_39
  let c3072_i32_40 : BitVec 32 := 3072#32
  let v43 : BitVec 32 := Scalar.minsi v42 c3072_i32_40
  let c7_i32_41 : BitVec 32 := 7#32
  let v44 : BitVec 32 := Scalar.shrsi v43 c7_i32_41
  let c7_i32_42 : BitVec 32 := 7#32
  let v45 : BitVec 32 := Scalar.shli v44 c7_i32_42
  let c2944_i32_43 : BitVec 32 := 2944#32
  let v46 : BitVec 32 := Scalar.minsi v45 c2944_i32_43
  v46

def k0_off3 (v40 : BitVec 32) : Fin 3 → Nat :=
  let c1_i32_44 : BitVec 32 := 1#32
  let c0_i32_50 : BitVec 32 := 0#32
  let c1023_i32_38 : BitVec 32 := 1023#32
  let v41 : BitVec 32 := Scalar.subi v40 c1023_i32_38
  let c0_i32_39 : BitVec 32 := 0#32
  let v42 : BitVec 32 := Scalar.maxsi v41 c0_i32_39
  let c3072_i32_40 : BitVec 32 := 3072#32
  let v43 : BitVec 32 := Scalar.minsi v42 c3072_i32_40
  let c7_i32_41 : BitVec 32 := 7#32
  let v44 : BitVec 32 := Scalar.shrsi v43 c7_i32_41
  let c7_i32_42 : BitVec 32 := 7#32
  let v45 : BitVec 32 := Scalar.shli v44 c7_i32_42
  let c2944_i32_43 : BitVec 32 := 2944#32
  let v46 : BitVec 32 := Scalar.minsi v45 c2944_i32_43
  let v47 : BitVec 32 := v46
  ![1, 0, v47.toNat]

def k0_chk3 (v40 : BitVec 32) : Prop :=
  (128 ∣ (k0_mult2 v40).toNat) ∧
  (∀ a, (k0_off3 v40) a + S1x8x1152.size a ≤ S4x8x4096.size a)
theorem k0_mult2_dvd : ∀ (v40 : BitVec 32) (k0_hw3 : k0_chk3 v40), 128 ∣ (k0_mult2 v40).toNat := fun v40 k0_hw3 => k0_hw3.1
theorem k0_off3_inb : ∀ (v40 : BitVec 32) (k0_hw3 : k0_chk3 v40), ∀ a, (k0_off3 v40) a + S1x8x1152.size a ≤ S4x8x4096.size a := fun v40 k0_hw3 => k0_hw3.2

def k0_off4 (v36 : BitVec 32) : Fin 4 → Nat :=
  let c1_i32_58 : BitVec 32 := 1#32
  let c1023_i32_34 : BitVec 32 := 1023#32
  let v37 : BitVec 32 := Scalar.subi v36 c1023_i32_34
  let c0_i32_35 : BitVec 32 := 0#32
  let v38 : BitVec 32 := Scalar.maxsi v37 c0_i32_35
  let c3072_i32_36 : BitVec 32 := 3072#32
  let v39 : BitVec 32 := Scalar.minsi v38 c3072_i32_36
  let c0_i32_65 : BitVec 32 := 0#32
  let c0_i32_66 : BitVec 32 := 0#32
  ![1, v39.toNat, 0, 0]

def k0_chk4 (v36 : BitVec 32) : Prop :=
  (∀ a, (k0_off4 v36) a + S1x1024x8x256.size a ≤ S4x4096x8x256.size a) ∧
  (∀ (hinb : ∀ a, (k0_off4 v36) a + S1x1024x8x256.size a ≤ S4x4096x8x256.size a), (Rect.unit (s := S4x4096x8x256) (k0_off4 v36) S1x1024x8x256.size hinb).WholeWords (EltTy.packing .i8))
theorem k0_off4_inb : ∀ (v36 : BitVec 32) (k0_hw4 : k0_chk4 v36), ∀ a, (k0_off4 v36) a + S1x1024x8x256.size a ≤ S4x4096x8x256.size a := fun v36 k0_hw4 => k0_hw4.1
theorem k0_off4_wordsi8 : ∀ (v36 : BitVec 32) (k0_hw4 : k0_chk4 v36), (Rect.unit (s := S4x4096x8x256) (k0_off4 v36) S1x1024x8x256.size (k0_off4_inb v36 k0_hw4)).WholeWords (EltTy.packing .i8) := fun v36 k0_hw4 => k0_hw4.2 (k0_off4_inb v36 k0_hw4)

def k0_mult3 (v76 : BitVec 32) : BitVec 32 :=
  let c1023_i32_80 : BitVec 32 := 1023#32
  let v77 : BitVec 32 := Scalar.subi v76 c1023_i32_80
  let c0_i32_81 : BitVec 32 := 0#32
  let v78 : BitVec 32 := Scalar.maxsi v77 c0_i32_81
  let c3072_i32_82 : BitVec 32 := 3072#32
  let v79 : BitVec 32 := Scalar.minsi v78 c3072_i32_82
  let c7_i32_83 : BitVec 32 := 7#32
  let v80 : BitVec 32 := Scalar.shrsi v79 c7_i32_83
  let c7_i32_84 : BitVec 32 := 7#32
  let v81 : BitVec 32 := Scalar.shli v80 c7_i32_84
  let c2944_i32_85 : BitVec 32 := 2944#32
  let v82 : BitVec 32 := Scalar.minsi v81 c2944_i32_85
  v82

def k0_off5 (v76 : BitVec 32) : Fin 3 → Nat :=
  let c2_i32_86 : BitVec 32 := 2#32
  let c0_i32_92 : BitVec 32 := 0#32
  let c1023_i32_80 : BitVec 32 := 1023#32
  let v77 : BitVec 32 := Scalar.subi v76 c1023_i32_80
  let c0_i32_81 : BitVec 32 := 0#32
  let v78 : BitVec 32 := Scalar.maxsi v77 c0_i32_81
  let c3072_i32_82 : BitVec 32 := 3072#32
  let v79 : BitVec 32 := Scalar.minsi v78 c3072_i32_82
  let c7_i32_83 : BitVec 32 := 7#32
  let v80 : BitVec 32 := Scalar.shrsi v79 c7_i32_83
  let c7_i32_84 : BitVec 32 := 7#32
  let v81 : BitVec 32 := Scalar.shli v80 c7_i32_84
  let c2944_i32_85 : BitVec 32 := 2944#32
  let v82 : BitVec 32 := Scalar.minsi v81 c2944_i32_85
  let v83 : BitVec 32 := v82
  ![2, 0, v83.toNat]

def k0_chk5 (v76 : BitVec 32) : Prop :=
  (128 ∣ (k0_mult3 v76).toNat) ∧
  (∀ a, (k0_off5 v76) a + S1x8x1152.size a ≤ S4x8x4096.size a)
theorem k0_mult3_dvd : ∀ (v76 : BitVec 32) (k0_hw5 : k0_chk5 v76), 128 ∣ (k0_mult3 v76).toNat := fun v76 k0_hw5 => k0_hw5.1
theorem k0_off5_inb : ∀ (v76 : BitVec 32) (k0_hw5 : k0_chk5 v76), ∀ a, (k0_off5 v76) a + S1x8x1152.size a ≤ S4x8x4096.size a := fun v76 k0_hw5 => k0_hw5.2

def k0_off6 (v72 : BitVec 32) : Fin 4 → Nat :=
  let c2_i32_100 : BitVec 32 := 2#32
  let c1023_i32_76 : BitVec 32 := 1023#32
  let v73 : BitVec 32 := Scalar.subi v72 c1023_i32_76
  let c0_i32_77 : BitVec 32 := 0#32
  let v74 : BitVec 32 := Scalar.maxsi v73 c0_i32_77
  let c3072_i32_78 : BitVec 32 := 3072#32
  let v75 : BitVec 32 := Scalar.minsi v74 c3072_i32_78
  let c0_i32_107 : BitVec 32 := 0#32
  let c0_i32_108 : BitVec 32 := 0#32
  ![2, v75.toNat, 0, 0]

def k0_chk6 (v72 : BitVec 32) : Prop :=
  (∀ a, (k0_off6 v72) a + S1x1024x8x256.size a ≤ S4x4096x8x256.size a) ∧
  (∀ (hinb : ∀ a, (k0_off6 v72) a + S1x1024x8x256.size a ≤ S4x4096x8x256.size a), (Rect.unit (s := S4x4096x8x256) (k0_off6 v72) S1x1024x8x256.size hinb).WholeWords (EltTy.packing .i8))
theorem k0_off6_inb : ∀ (v72 : BitVec 32) (k0_hw6 : k0_chk6 v72), ∀ a, (k0_off6 v72) a + S1x1024x8x256.size a ≤ S4x4096x8x256.size a := fun v72 k0_hw6 => k0_hw6.1
theorem k0_off6_wordsi8 : ∀ (v72 : BitVec 32) (k0_hw6 : k0_chk6 v72), (Rect.unit (s := S4x4096x8x256) (k0_off6 v72) S1x1024x8x256.size (k0_off6_inb v72 k0_hw6)).WholeWords (EltTy.packing .i8) := fun v72 k0_hw6 => k0_hw6.2 (k0_off6_inb v72 k0_hw6)

def k0_mult4 (v112 : BitVec 32) : BitVec 32 :=
  let c1023_i32_122 : BitVec 32 := 1023#32
  let v113 : BitVec 32 := Scalar.subi v112 c1023_i32_122
  let c0_i32_123 : BitVec 32 := 0#32
  let v114 : BitVec 32 := Scalar.maxsi v113 c0_i32_123
  let c3072_i32_124 : BitVec 32 := 3072#32
  let v115 : BitVec 32 := Scalar.minsi v114 c3072_i32_124
  let c7_i32_125 : BitVec 32 := 7#32
  let v116 : BitVec 32 := Scalar.shrsi v115 c7_i32_125
  let c7_i32_126 : BitVec 32 := 7#32
  let v117 : BitVec 32 := Scalar.shli v116 c7_i32_126
  let c2944_i32_127 : BitVec 32 := 2944#32
  let v118 : BitVec 32 := Scalar.minsi v117 c2944_i32_127
  v118

def k0_off7 (v112 : BitVec 32) : Fin 3 → Nat :=
  let c3_i32_128 : BitVec 32 := 3#32
  let c0_i32_134 : BitVec 32 := 0#32
  let c1023_i32_122 : BitVec 32 := 1023#32
  let v113 : BitVec 32 := Scalar.subi v112 c1023_i32_122
  let c0_i32_123 : BitVec 32 := 0#32
  let v114 : BitVec 32 := Scalar.maxsi v113 c0_i32_123
  let c3072_i32_124 : BitVec 32 := 3072#32
  let v115 : BitVec 32 := Scalar.minsi v114 c3072_i32_124
  let c7_i32_125 : BitVec 32 := 7#32
  let v116 : BitVec 32 := Scalar.shrsi v115 c7_i32_125
  let c7_i32_126 : BitVec 32 := 7#32
  let v117 : BitVec 32 := Scalar.shli v116 c7_i32_126
  let c2944_i32_127 : BitVec 32 := 2944#32
  let v118 : BitVec 32 := Scalar.minsi v117 c2944_i32_127
  let v119 : BitVec 32 := v118
  ![3, 0, v119.toNat]

def k0_chk7 (v112 : BitVec 32) : Prop :=
  (128 ∣ (k0_mult4 v112).toNat) ∧
  (∀ a, (k0_off7 v112) a + S1x8x1152.size a ≤ S4x8x4096.size a)
theorem k0_mult4_dvd : ∀ (v112 : BitVec 32) (k0_hw7 : k0_chk7 v112), 128 ∣ (k0_mult4 v112).toNat := fun v112 k0_hw7 => k0_hw7.1
theorem k0_off7_inb : ∀ (v112 : BitVec 32) (k0_hw7 : k0_chk7 v112), ∀ a, (k0_off7 v112) a + S1x8x1152.size a ≤ S4x8x4096.size a := fun v112 k0_hw7 => k0_hw7.2

def k0_off8 (v108 : BitVec 32) : Fin 4 → Nat :=
  let c3_i32_142 : BitVec 32 := 3#32
  let c1023_i32_118 : BitVec 32 := 1023#32
  let v109 : BitVec 32 := Scalar.subi v108 c1023_i32_118
  let c0_i32_119 : BitVec 32 := 0#32
  let v110 : BitVec 32 := Scalar.maxsi v109 c0_i32_119
  let c3072_i32_120 : BitVec 32 := 3072#32
  let v111 : BitVec 32 := Scalar.minsi v110 c3072_i32_120
  let c0_i32_149 : BitVec 32 := 0#32
  let c0_i32_150 : BitVec 32 := 0#32
  ![3, v111.toNat, 0, 0]

def k0_chk8 (v108 : BitVec 32) : Prop :=
  (∀ a, (k0_off8 v108) a + S1x1024x8x256.size a ≤ S4x4096x8x256.size a) ∧
  (∀ (hinb : ∀ a, (k0_off8 v108) a + S1x1024x8x256.size a ≤ S4x4096x8x256.size a), (Rect.unit (s := S4x4096x8x256) (k0_off8 v108) S1x1024x8x256.size hinb).WholeWords (EltTy.packing .i8))
theorem k0_off8_inb : ∀ (v108 : BitVec 32) (k0_hw8 : k0_chk8 v108), ∀ a, (k0_off8 v108) a + S1x1024x8x256.size a ≤ S4x4096x8x256.size a := fun v108 k0_hw8 => k0_hw8.1
theorem k0_off8_wordsi8 : ∀ (v108 : BitVec 32) (k0_hw8 : k0_chk8 v108), (Rect.unit (s := S4x4096x8x256) (k0_off8 v108) S1x1024x8x256.size (k0_off8_inb v108 k0_hw8)).WholeWords (EltTy.packing .i8) := fun v108 k0_hw8 => k0_hw8.2 (k0_off8_inb v108 k0_hw8)

@[reducible] def k0_t1_loop : Scf.Loop 32 :=
  let c0_i32_162 : BitVec 32 := 0#32
  let c4_i32 : BitVec 32 := 4#32
  let v151 : BitVec 32 := Scalar.addi c0_i32_162 c4_i32
  let c1_i32_163 : BitVec 32 := 1#32
  ⟨c0_i32_162, v151, c1_i32_163⟩
def k0_off9 (k0_t1 : Fin k0_t1_loop.trips) : Fin 1 → Nat :=
  let c0_i32_162 : BitVec 32 := 0#32
  let c1_i32_163 : BitVec 32 := 1#32
  let arg22 : BitVec 32 := Scf.iv c0_i32_162 c1_i32_163 k0_t1
  let v152 : Index := Scalar.indexCast arg22
  ![v152.toNat]
def k0_mult5 (v158 : BitVec 32) : BitVec 32 :=
  let c1023_i32_168 : BitVec 32 := 1023#32
  let v159 : BitVec 32 := Scalar.subi v158 c1023_i32_168
  let c0_i32_169 : BitVec 32 := 0#32
  let v160 : BitVec 32 := Scalar.maxsi v159 c0_i32_169
  let c3072_i32_170 : BitVec 32 := 3072#32
  let v161 : BitVec 32 := Scalar.minsi v160 c3072_i32_170
  let c7_i32_171 : BitVec 32 := 7#32
  let v162 : BitVec 32 := Scalar.shrsi v161 c7_i32_171
  let c7_i32_172 : BitVec 32 := 7#32
  let v163 : BitVec 32 := Scalar.shli v162 c7_i32_172
  let c2944_i32_173 : BitVec 32 := 2944#32
  let v164 : BitVec 32 := Scalar.minsi v163 c2944_i32_173
  v164

def k0_off10 (k0_t1 : Fin k0_t1_loop.trips) : Fin 1 → Nat :=
  let c0_i32_162 : BitVec 32 := 0#32
  let c1_i32_163 : BitVec 32 := 1#32
  let arg22 : BitVec 32 := Scf.iv c0_i32_162 c1_i32_163 k0_t1
  let v166 : Index := Scalar.indexCast arg22
  ![v166.toNat]
def k0_off11 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v182 : Index := Scalar.indexCast arg22
  let c0_183 : Index := 0#32
  let c0_184 : Index := 0#32
  let c0_185 : Index := 0#32
  ![v182.toNat, 0, 0, 0]
def k0_off12 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v232 : Index := Scalar.indexCast arg22
  let c0_206 : Index := 0#32
  let c0_207 : Index := 0#32
  ![v232.toNat, 0, 0]
def k0_off13 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v240 : Index := Scalar.indexCast arg22
  let c0_210 : Index := 0#32
  let c0_211 : Index := 0#32
  let c0_212 : Index := 0#32
  ![v240.toNat, 0, 0, 0]
def k0_off14 (k0_t1 : Fin k0_t1_loop.trips) : Fin 2 → Nat :=
  let c0_i32_162 : BitVec 32 := 0#32
  let c1_i32_163 : BitVec 32 := 1#32
  let arg22 : BitVec 32 := Scf.iv c0_i32_162 c1_i32_163 k0_t1
  let c0_i32_251 : BitVec 32 := 0#32
  ![arg22.toNat, 0]
def k0_off15 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let c0_i32_252 : BitVec 32 := 0#32
  let c0_i32_253 : BitVec 32 := 0#32
  ![arg22.toNat, 0, 0]
def k0_off16 (k0_t1 : Fin k0_t1_loop.trips) (v158 : BitVec 32) : Fin 3 → Nat :=
  let c0_i32_162 : BitVec 32 := 0#32
  let c1_i32_163 : BitVec 32 := 1#32
  let arg22 : BitVec 32 := Scf.iv c0_i32_162 c1_i32_163 k0_t1
  let c0_i32_254 : BitVec 32 := 0#32
  let c1023_i32_168 : BitVec 32 := 1023#32
  let v159 : BitVec 32 := Scalar.subi v158 c1023_i32_168
  let c0_i32_169 : BitVec 32 := 0#32
  let v160 : BitVec 32 := Scalar.maxsi v159 c0_i32_169
  let c3072_i32_170 : BitVec 32 := 3072#32
  let v161 : BitVec 32 := Scalar.minsi v160 c3072_i32_170
  let c7_i32_171 : BitVec 32 := 7#32
  let v162 : BitVec 32 := Scalar.shrsi v161 c7_i32_171
  let c7_i32_172 : BitVec 32 := 7#32
  let v163 : BitVec 32 := Scalar.shli v162 c7_i32_172
  let c2944_i32_173 : BitVec 32 := 2944#32
  let v164 : BitVec 32 := Scalar.minsi v163 c2944_i32_173
  let v165 : BitVec 32 := v164
  ![arg22.toNat, 0, v165.toNat]

def k0_chk9 (k0_t1 : Fin k0_t1_loop.trips) (v158 : BitVec 32) : Prop :=
  (128 ∣ (k0_mult5 v158).toNat) ∧
  (∀ a, (k0_off16 k0_t1 v158) a + S1x8x1152.size a ≤ S4x8x4096.size a)
theorem k0_mult5_dvd : ∀ (k0_t1 : Fin k0_t1_loop.trips) (v158 : BitVec 32) (k0_hw9 : k0_chk9 k0_t1 v158), 128 ∣ (k0_mult5 v158).toNat := fun k0_t1 v158 k0_hw9 => k0_hw9.1
theorem k0_off16_inb : ∀ (k0_t1 : Fin k0_t1_loop.trips) (v158 : BitVec 32) (k0_hw9 : k0_chk9 k0_t1 v158), ∀ a, (k0_off16 k0_t1 v158) a + S1x8x1152.size a ≤ S4x8x4096.size a := fun k0_t1 v158 k0_hw9 => k0_hw9.2

def k0_off17 (k0_t1 : Fin k0_t1_loop.trips) : Fin 2 → Nat :=
  let c0_i32_162 : BitVec 32 := 0#32
  let c1_i32_163 : BitVec 32 := 1#32
  let arg22 : BitVec 32 := Scf.iv c0_i32_162 c1_i32_163 k0_t1
  let c1_i32_255 : BitVec 32 := 1#32
  ![arg22.toNat, 1]
def k0_off18 (k0_t1 : Fin k0_t1_loop.trips) : Fin 2 → Nat :=
  let c0_i32_162 : BitVec 32 := 0#32
  let c1_i32_163 : BitVec 32 := 1#32
  let arg22 : BitVec 32 := Scf.iv c0_i32_162 c1_i32_163 k0_t1
  let c2_i32_259 : BitVec 32 := 2#32
  ![arg22.toNat, 2]
def k0_off19 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let c0_i32_260 : BitVec 32 := 0#32
  let c0_i32_261 : BitVec 32 := 0#32
  let c0_i32_262 : BitVec 32 := 0#32
  ![arg22.toNat, 0, 0, 0]
def k0_off20 (k0_t1 : Fin k0_t1_loop.trips) (v153 : BitVec 32) : Fin 4 → Nat :=
  let c0_i32_162 : BitVec 32 := 0#32
  let c1_i32_163 : BitVec 32 := 1#32
  let arg22 : BitVec 32 := Scf.iv c0_i32_162 c1_i32_163 k0_t1
  let c1023_i32_165 : BitVec 32 := 1023#32
  let v154 : BitVec 32 := Scalar.subi v153 c1023_i32_165
  let c0_i32_166 : BitVec 32 := 0#32
  let v155 : BitVec 32 := Scalar.maxsi v154 c0_i32_166
  let c3072_i32_167 : BitVec 32 := 3072#32
  let v156 : BitVec 32 := Scalar.minsi v155 c3072_i32_167
  let c0_i32_263 : BitVec 32 := 0#32
  let c0_i32_264 : BitVec 32 := 0#32
  ![arg22.toNat, v156.toNat, 0, 0]

def k0_chk10 (k0_t1 : Fin k0_t1_loop.trips) (v153 : BitVec 32) : Prop :=
  (∀ a, (k0_off20 k0_t1 v153) a + S1x1024x8x256.size a ≤ S4x4096x8x256.size a) ∧
  (∀ (hinb : ∀ a, (k0_off20 k0_t1 v153) a + S1x1024x8x256.size a ≤ S4x4096x8x256.size a), (Rect.unit (s := S4x4096x8x256) (k0_off20 k0_t1 v153) S1x1024x8x256.size hinb).WholeWords (EltTy.packing .i8))
theorem k0_off20_inb : ∀ (k0_t1 : Fin k0_t1_loop.trips) (v153 : BitVec 32) (k0_hw10 : k0_chk10 k0_t1 v153), ∀ a, (k0_off20 k0_t1 v153) a + S1x1024x8x256.size a ≤ S4x4096x8x256.size a := fun k0_t1 v153 k0_hw10 => k0_hw10.1
theorem k0_off20_wordsi8 : ∀ (k0_t1 : Fin k0_t1_loop.trips) (v153 : BitVec 32) (k0_hw10 : k0_chk10 k0_t1 v153), (Rect.unit (s := S4x4096x8x256) (k0_off20 k0_t1 v153) S1x1024x8x256.size (k0_off20_inb k0_t1 v153 k0_hw10)).WholeWords (EltTy.packing .i8) := fun k0_t1 v153 k0_hw10 => k0_hw10.2 (k0_off20_inb k0_t1 v153 k0_hw10)

def k0_off21 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v328 : Index := Scalar.indexCast arg22
  let c0_265 : Index := 0#32
  let c0_266 : Index := 0#32
  let c0_267 : Index := 0#32
  ![v328.toNat, 0, 0, 0]
def k0_mult6 : BitVec 32 :=
  let c0_i32_270 : BitVec 32 := 0#32
  c0_i32_270
def k0_off22 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v346 : Index := Scalar.indexCast arg22
  let c0_271 : Index := 0#32
  let c0_i32_270 : BitVec 32 := 0#32
  let v345 : BitVec 32 := c0_i32_270
  let v347 : Index := Scalar.indexCast v345
  ![v346.toNat, 0, 0]
def k0_mult7 : BitVec 32 :=
  let c128_i32 : BitVec 32 := 128#32
  c128_i32
def k0_off23 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v351 : Index := Scalar.indexCast arg22
  let c0_272 : Index := 0#32
  let c128_i32 : BitVec 32 := 128#32
  let v350 : BitVec 32 := c128_i32
  let v352 : Index := Scalar.indexCast v350
  ![v351.toNat, 0, 128]
def k0_mult8 : BitVec 32 :=
  let c0_i32_294 : BitVec 32 := 0#32
  c0_i32_294
def k0_mult9 : BitVec 32 :=
  let c128_i32_296 : BitVec 32 := 128#32
  c128_i32_296
def k0_mult10 : BitVec 32 :=
  let c0_i32_322 : BitVec 32 := 0#32
  c0_i32_322
def k0_mult11 : BitVec 32 :=
  let c128_i32_324 : BitVec 32 := 128#32
  c128_i32_324
def k0_mult12 : BitVec 32 :=
  let c0_i32_350 : BitVec 32 := 0#32
  c0_i32_350
def k0_mult13 : BitVec 32 :=
  let c128_i32_352 : BitVec 32 := 128#32
  c128_i32_352
def k0_mult14 : BitVec 32 :=
  let c0_i32_378 : BitVec 32 := 0#32
  c0_i32_378
def k0_mult15 : BitVec 32 :=
  let c128_i32_380 : BitVec 32 := 128#32
  c128_i32_380
def k0_mult16 : BitVec 32 :=
  let c0_i32_406 : BitVec 32 := 0#32
  c0_i32_406
def k0_mult17 : BitVec 32 :=
  let c128_i32_408 : BitVec 32 := 128#32
  c128_i32_408
def k0_mult18 : BitVec 32 :=
  let c0_i32_434 : BitVec 32 := 0#32
  c0_i32_434
def k0_mult19 : BitVec 32 :=
  let c128_i32_436 : BitVec 32 := 128#32
  c128_i32_436
def k0_mult20 : BitVec 32 :=
  let c0_i32_462 : BitVec 32 := 0#32
  c0_i32_462
def k0_mult21 : BitVec 32 :=
  let c128_i32_464 : BitVec 32 := 128#32
  c128_i32_464
def k0_off24 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v1030 : Index := Scalar.indexCast arg22
  let c128_489 : Index := 128#32
  let c0_490 : Index := 0#32
  let c0_491 : Index := 0#32
  ![v1030.toNat, 128, 0, 0]
def k0_mult22 : BitVec 32 :=
  let c128_i32_495 : BitVec 32 := 128#32
  c128_i32_495
def k0_mult23 : BitVec 32 :=
  let c256_i32 : BitVec 32 := 256#32
  c256_i32
def k0_off25 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v1053 : Index := Scalar.indexCast arg22
  let c0_497 : Index := 0#32
  let c256_i32 : BitVec 32 := 256#32
  let v1052 : BitVec 32 := c256_i32
  let v1054 : Index := Scalar.indexCast v1052
  ![v1053.toNat, 0, 256]
def k0_mult24 : BitVec 32 :=
  let c128_i32_522 : BitVec 32 := 128#32
  c128_i32_522
def k0_mult25 : BitVec 32 :=
  let c256_i32_524 : BitVec 32 := 256#32
  c256_i32_524
def k0_mult26 : BitVec 32 :=
  let c128_i32_550 : BitVec 32 := 128#32
  c128_i32_550
def k0_mult27 : BitVec 32 :=
  let c256_i32_552 : BitVec 32 := 256#32
  c256_i32_552
def k0_mult28 : BitVec 32 :=
  let c128_i32_578 : BitVec 32 := 128#32
  c128_i32_578
def k0_mult29 : BitVec 32 :=
  let c256_i32_580 : BitVec 32 := 256#32
  c256_i32_580
def k0_mult30 : BitVec 32 :=
  let c128_i32_606 : BitVec 32 := 128#32
  c128_i32_606
def k0_mult31 : BitVec 32 :=
  let c256_i32_608 : BitVec 32 := 256#32
  c256_i32_608
def k0_mult32 : BitVec 32 :=
  let c128_i32_634 : BitVec 32 := 128#32
  c128_i32_634
def k0_mult33 : BitVec 32 :=
  let c256_i32_636 : BitVec 32 := 256#32
  c256_i32_636
def k0_mult34 : BitVec 32 :=
  let c128_i32_662 : BitVec 32 := 128#32
  c128_i32_662
def k0_mult35 : BitVec 32 :=
  let c256_i32_664 : BitVec 32 := 256#32
  c256_i32_664
def k0_mult36 : BitVec 32 :=
  let c128_i32_690 : BitVec 32 := 128#32
  c128_i32_690
def k0_mult37 : BitVec 32 :=
  let c256_i32_692 : BitVec 32 := 256#32
  c256_i32_692
def k0_off26 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v1732 : Index := Scalar.indexCast arg22
  let c256_717 : Index := 256#32
  let c0_718 : Index := 0#32
  let c0_719 : Index := 0#32
  ![v1732.toNat, 256, 0, 0]
def k0_mult38 : BitVec 32 :=
  let c256_i32_723 : BitVec 32 := 256#32
  c256_i32_723
def k0_mult39 : BitVec 32 :=
  let c384_i32 : BitVec 32 := 384#32
  c384_i32
def k0_off27 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v1755 : Index := Scalar.indexCast arg22
  let c0_725 : Index := 0#32
  let c384_i32 : BitVec 32 := 384#32
  let v1754 : BitVec 32 := c384_i32
  let v1756 : Index := Scalar.indexCast v1754
  ![v1755.toNat, 0, 384]
def k0_mult40 : BitVec 32 :=
  let c256_i32_750 : BitVec 32 := 256#32
  c256_i32_750
def k0_mult41 : BitVec 32 :=
  let c384_i32_752 : BitVec 32 := 384#32
  c384_i32_752
def k0_mult42 : BitVec 32 :=
  let c256_i32_778 : BitVec 32 := 256#32
  c256_i32_778
def k0_mult43 : BitVec 32 :=
  let c384_i32_780 : BitVec 32 := 384#32
  c384_i32_780
def k0_mult44 : BitVec 32 :=
  let c256_i32_806 : BitVec 32 := 256#32
  c256_i32_806
def k0_mult45 : BitVec 32 :=
  let c384_i32_808 : BitVec 32 := 384#32
  c384_i32_808
def k0_mult46 : BitVec 32 :=
  let c256_i32_834 : BitVec 32 := 256#32
  c256_i32_834
def k0_mult47 : BitVec 32 :=
  let c384_i32_836 : BitVec 32 := 384#32
  c384_i32_836
def k0_mult48 : BitVec 32 :=
  let c256_i32_862 : BitVec 32 := 256#32
  c256_i32_862
def k0_mult49 : BitVec 32 :=
  let c384_i32_864 : BitVec 32 := 384#32
  c384_i32_864
def k0_mult50 : BitVec 32 :=
  let c256_i32_890 : BitVec 32 := 256#32
  c256_i32_890
def k0_mult51 : BitVec 32 :=
  let c384_i32_892 : BitVec 32 := 384#32
  c384_i32_892
def k0_mult52 : BitVec 32 :=
  let c256_i32_918 : BitVec 32 := 256#32
  c256_i32_918
def k0_mult53 : BitVec 32 :=
  let c384_i32_920 : BitVec 32 := 384#32
  c384_i32_920
def k0_off28 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v2434 : Index := Scalar.indexCast arg22
  let c384_945 : Index := 384#32
  let c0_946 : Index := 0#32
  let c0_947 : Index := 0#32
  ![v2434.toNat, 384, 0, 0]
def k0_mult54 : BitVec 32 :=
  let c384_i32_951 : BitVec 32 := 384#32
  c384_i32_951
def k0_mult55 : BitVec 32 :=
  let c512_i32 : BitVec 32 := 512#32
  c512_i32
def k0_off29 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v2457 : Index := Scalar.indexCast arg22
  let c0_953 : Index := 0#32
  let c512_i32 : BitVec 32 := 512#32
  let v2456 : BitVec 32 := c512_i32
  let v2458 : Index := Scalar.indexCast v2456
  ![v2457.toNat, 0, 512]
def k0_mult56 : BitVec 32 :=
  let c384_i32_978 : BitVec 32 := 384#32
  c384_i32_978
def k0_mult57 : BitVec 32 :=
  let c512_i32_980 : BitVec 32 := 512#32
  c512_i32_980
def k0_mult58 : BitVec 32 :=
  let c384_i32_1006 : BitVec 32 := 384#32
  c384_i32_1006
def k0_mult59 : BitVec 32 :=
  let c512_i32_1008 : BitVec 32 := 512#32
  c512_i32_1008
def k0_mult60 : BitVec 32 :=
  let c384_i32_1034 : BitVec 32 := 384#32
  c384_i32_1034
def k0_mult61 : BitVec 32 :=
  let c512_i32_1036 : BitVec 32 := 512#32
  c512_i32_1036
def k0_mult62 : BitVec 32 :=
  let c384_i32_1062 : BitVec 32 := 384#32
  c384_i32_1062
def k0_mult63 : BitVec 32 :=
  let c512_i32_1064 : BitVec 32 := 512#32
  c512_i32_1064
def k0_mult64 : BitVec 32 :=
  let c384_i32_1090 : BitVec 32 := 384#32
  c384_i32_1090
def k0_mult65 : BitVec 32 :=
  let c512_i32_1092 : BitVec 32 := 512#32
  c512_i32_1092
def k0_mult66 : BitVec 32 :=
  let c384_i32_1118 : BitVec 32 := 384#32
  c384_i32_1118
def k0_mult67 : BitVec 32 :=
  let c512_i32_1120 : BitVec 32 := 512#32
  c512_i32_1120
def k0_mult68 : BitVec 32 :=
  let c384_i32_1146 : BitVec 32 := 384#32
  c384_i32_1146
def k0_mult69 : BitVec 32 :=
  let c512_i32_1148 : BitVec 32 := 512#32
  c512_i32_1148
def k0_off30 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v3136 : Index := Scalar.indexCast arg22
  let c512_1173 : Index := 512#32
  let c0_1174 : Index := 0#32
  let c0_1175 : Index := 0#32
  ![v3136.toNat, 512, 0, 0]
def k0_mult70 : BitVec 32 :=
  let c512_i32_1179 : BitVec 32 := 512#32
  c512_i32_1179
def k0_mult71 : BitVec 32 :=
  let c640_i32 : BitVec 32 := 640#32
  c640_i32
def k0_off31 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v3159 : Index := Scalar.indexCast arg22
  let c0_1181 : Index := 0#32
  let c640_i32 : BitVec 32 := 640#32
  let v3158 : BitVec 32 := c640_i32
  let v3160 : Index := Scalar.indexCast v3158
  ![v3159.toNat, 0, 640]
def k0_mult72 : BitVec 32 :=
  let c512_i32_1206 : BitVec 32 := 512#32
  c512_i32_1206
def k0_mult73 : BitVec 32 :=
  let c640_i32_1208 : BitVec 32 := 640#32
  c640_i32_1208
def k0_mult74 : BitVec 32 :=
  let c512_i32_1234 : BitVec 32 := 512#32
  c512_i32_1234
def k0_mult75 : BitVec 32 :=
  let c640_i32_1236 : BitVec 32 := 640#32
  c640_i32_1236
def k0_mult76 : BitVec 32 :=
  let c512_i32_1262 : BitVec 32 := 512#32
  c512_i32_1262
def k0_mult77 : BitVec 32 :=
  let c640_i32_1264 : BitVec 32 := 640#32
  c640_i32_1264
def k0_mult78 : BitVec 32 :=
  let c512_i32_1290 : BitVec 32 := 512#32
  c512_i32_1290
def k0_mult79 : BitVec 32 :=
  let c640_i32_1292 : BitVec 32 := 640#32
  c640_i32_1292
def k0_mult80 : BitVec 32 :=
  let c512_i32_1318 : BitVec 32 := 512#32
  c512_i32_1318
def k0_mult81 : BitVec 32 :=
  let c640_i32_1320 : BitVec 32 := 640#32
  c640_i32_1320
def k0_mult82 : BitVec 32 :=
  let c512_i32_1346 : BitVec 32 := 512#32
  c512_i32_1346
def k0_mult83 : BitVec 32 :=
  let c640_i32_1348 : BitVec 32 := 640#32
  c640_i32_1348
def k0_mult84 : BitVec 32 :=
  let c512_i32_1374 : BitVec 32 := 512#32
  c512_i32_1374
def k0_mult85 : BitVec 32 :=
  let c640_i32_1376 : BitVec 32 := 640#32
  c640_i32_1376
def k0_off32 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v3838 : Index := Scalar.indexCast arg22
  let c640_1401 : Index := 640#32
  let c0_1402 : Index := 0#32
  let c0_1403 : Index := 0#32
  ![v3838.toNat, 640, 0, 0]
def k0_mult86 : BitVec 32 :=
  let c640_i32_1407 : BitVec 32 := 640#32
  c640_i32_1407
def k0_mult87 : BitVec 32 :=
  let c768_i32 : BitVec 32 := 768#32
  c768_i32
def k0_off33 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v3861 : Index := Scalar.indexCast arg22
  let c0_1409 : Index := 0#32
  let c768_i32 : BitVec 32 := 768#32
  let v3860 : BitVec 32 := c768_i32
  let v3862 : Index := Scalar.indexCast v3860
  ![v3861.toNat, 0, 768]
def k0_mult88 : BitVec 32 :=
  let c640_i32_1434 : BitVec 32 := 640#32
  c640_i32_1434
def k0_mult89 : BitVec 32 :=
  let c768_i32_1436 : BitVec 32 := 768#32
  c768_i32_1436
def k0_mult90 : BitVec 32 :=
  let c640_i32_1462 : BitVec 32 := 640#32
  c640_i32_1462
def k0_mult91 : BitVec 32 :=
  let c768_i32_1464 : BitVec 32 := 768#32
  c768_i32_1464
def k0_mult92 : BitVec 32 :=
  let c640_i32_1490 : BitVec 32 := 640#32
  c640_i32_1490
def k0_mult93 : BitVec 32 :=
  let c768_i32_1492 : BitVec 32 := 768#32
  c768_i32_1492
def k0_mult94 : BitVec 32 :=
  let c640_i32_1518 : BitVec 32 := 640#32
  c640_i32_1518
def k0_mult95 : BitVec 32 :=
  let c768_i32_1520 : BitVec 32 := 768#32
  c768_i32_1520
def k0_mult96 : BitVec 32 :=
  let c640_i32_1546 : BitVec 32 := 640#32
  c640_i32_1546
def k0_mult97 : BitVec 32 :=
  let c768_i32_1548 : BitVec 32 := 768#32
  c768_i32_1548
def k0_mult98 : BitVec 32 :=
  let c640_i32_1574 : BitVec 32 := 640#32
  c640_i32_1574
def k0_mult99 : BitVec 32 :=
  let c768_i32_1576 : BitVec 32 := 768#32
  c768_i32_1576
def k0_mult100 : BitVec 32 :=
  let c640_i32_1602 : BitVec 32 := 640#32
  c640_i32_1602
def k0_mult101 : BitVec 32 :=
  let c768_i32_1604 : BitVec 32 := 768#32
  c768_i32_1604
def k0_off34 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v4540 : Index := Scalar.indexCast arg22
  let c768_1629 : Index := 768#32
  let c0_1630 : Index := 0#32
  let c0_1631 : Index := 0#32
  ![v4540.toNat, 768, 0, 0]
def k0_mult102 : BitVec 32 :=
  let c768_i32_1635 : BitVec 32 := 768#32
  c768_i32_1635
def k0_mult103 : BitVec 32 :=
  let c896_i32 : BitVec 32 := 896#32
  c896_i32
def k0_off35 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v4563 : Index := Scalar.indexCast arg22
  let c0_1637 : Index := 0#32
  let c896_i32 : BitVec 32 := 896#32
  let v4562 : BitVec 32 := c896_i32
  let v4564 : Index := Scalar.indexCast v4562
  ![v4563.toNat, 0, 896]
def k0_mult104 : BitVec 32 :=
  let c768_i32_1662 : BitVec 32 := 768#32
  c768_i32_1662
def k0_mult105 : BitVec 32 :=
  let c896_i32_1664 : BitVec 32 := 896#32
  c896_i32_1664
def k0_mult106 : BitVec 32 :=
  let c768_i32_1690 : BitVec 32 := 768#32
  c768_i32_1690
def k0_mult107 : BitVec 32 :=
  let c896_i32_1692 : BitVec 32 := 896#32
  c896_i32_1692
def k0_mult108 : BitVec 32 :=
  let c768_i32_1718 : BitVec 32 := 768#32
  c768_i32_1718
def k0_mult109 : BitVec 32 :=
  let c896_i32_1720 : BitVec 32 := 896#32
  c896_i32_1720
def k0_mult110 : BitVec 32 :=
  let c768_i32_1746 : BitVec 32 := 768#32
  c768_i32_1746
def k0_mult111 : BitVec 32 :=
  let c896_i32_1748 : BitVec 32 := 896#32
  c896_i32_1748
def k0_mult112 : BitVec 32 :=
  let c768_i32_1774 : BitVec 32 := 768#32
  c768_i32_1774
def k0_mult113 : BitVec 32 :=
  let c896_i32_1776 : BitVec 32 := 896#32
  c896_i32_1776
def k0_mult114 : BitVec 32 :=
  let c768_i32_1802 : BitVec 32 := 768#32
  c768_i32_1802
def k0_mult115 : BitVec 32 :=
  let c896_i32_1804 : BitVec 32 := 896#32
  c896_i32_1804
def k0_mult116 : BitVec 32 :=
  let c768_i32_1830 : BitVec 32 := 768#32
  c768_i32_1830
def k0_mult117 : BitVec 32 :=
  let c896_i32_1832 : BitVec 32 := 896#32
  c896_i32_1832
def k0_off36 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v5242 : Index := Scalar.indexCast arg22
  let c896_1857 : Index := 896#32
  let c0_1858 : Index := 0#32
  let c0_1859 : Index := 0#32
  ![v5242.toNat, 896, 0, 0]
def k0_mult118 : BitVec 32 :=
  let c896_i32_1863 : BitVec 32 := 896#32
  c896_i32_1863
def k0_mult119 : BitVec 32 :=
  let c1024_i32_1865 : BitVec 32 := 1024#32
  c1024_i32_1865
def k0_off37 (k0_t1 : Fin k0_t1_loop.trips) : Fin 3 → Nat :=
  let c0_i32_162 : BitVec 32 := 0#32
  let c1_i32_163 : BitVec 32 := 1#32
  let arg22 : BitVec 32 := Scf.iv c0_i32_162 c1_i32_163 k0_t1
  let v5265 : Index := Scalar.indexCast arg22
  let c0_1866 : Index := 0#32
  let c1024_i32_1865 : BitVec 32 := 1024#32
  let v5264 : BitVec 32 := c1024_i32_1865
  let v5266 : Index := Scalar.indexCast v5264
  ![v5265.toNat, 0, 1024]
def k0_mult120 : BitVec 32 :=
  let c896_i32_1891 : BitVec 32 := 896#32
  c896_i32_1891
def k0_mult121 : BitVec 32 :=
  let c1024_i32_1893 : BitVec 32 := 1024#32
  c1024_i32_1893
def k0_mult122 : BitVec 32 :=
  let c896_i32_1919 : BitVec 32 := 896#32
  c896_i32_1919
def k0_mult123 : BitVec 32 :=
  let c1024_i32_1921 : BitVec 32 := 1024#32
  c1024_i32_1921
def k0_mult124 : BitVec 32 :=
  let c896_i32_1947 : BitVec 32 := 896#32
  c896_i32_1947
def k0_mult125 : BitVec 32 :=
  let c1024_i32_1949 : BitVec 32 := 1024#32
  c1024_i32_1949
def k0_mult126 : BitVec 32 :=
  let c896_i32_1975 : BitVec 32 := 896#32
  c896_i32_1975
def k0_mult127 : BitVec 32 :=
  let c1024_i32_1977 : BitVec 32 := 1024#32
  c1024_i32_1977
def k0_mult128 : BitVec 32 :=
  let c896_i32_2003 : BitVec 32 := 896#32
  c896_i32_2003
def k0_mult129 : BitVec 32 :=
  let c1024_i32_2005 : BitVec 32 := 1024#32
  c1024_i32_2005
def k0_mult130 : BitVec 32 :=
  let c896_i32_2031 : BitVec 32 := 896#32
  c896_i32_2031
def k0_mult131 : BitVec 32 :=
  let c1024_i32_2033 : BitVec 32 := 1024#32
  c1024_i32_2033
def k0_mult132 : BitVec 32 :=
  let c896_i32_2059 : BitVec 32 := 896#32
  c896_i32_2059
def k0_mult133 : BitVec 32 :=
  let c1024_i32_2061 : BitVec 32 := 1024#32
  c1024_i32_2061
def k0_off38 (k0_t1 : Fin k0_t1_loop.trips) : Fin 2 → Nat :=
  let c0_i32_162 : BitVec 32 := 0#32
  let c1_i32_163 : BitVec 32 := 1#32
  let arg22 : BitVec 32 := Scf.iv c0_i32_162 c1_i32_163 k0_t1
  let c3_i32_2090 : BitVec 32 := 3#32
  ![arg22.toNat, 3]
def k0_off39 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let c0_i32_2091 : BitVec 32 := 0#32
  let c0_i32_2092 : BitVec 32 := 0#32
  let c0_i32_2093 : BitVec 32 := 0#32
  ![arg22.toNat, 0, 0, 0]
def k0_mult134 : BitVec 32 :=
  let c0_i32_2101 : BitVec 32 := 0#32
  c0_i32_2101
def k0_mult135 : BitVec 32 :=
  let c128_i32_2103 : BitVec 32 := 128#32
  c128_i32_2103
def k0_mult136 : BitVec 32 :=
  let c0_i32_2129 : BitVec 32 := 0#32
  c0_i32_2129
def k0_mult137 : BitVec 32 :=
  let c128_i32_2131 : BitVec 32 := 128#32
  c128_i32_2131
def k0_mult138 : BitVec 32 :=
  let c0_i32_2157 : BitVec 32 := 0#32
  c0_i32_2157
def k0_mult139 : BitVec 32 :=
  let c128_i32_2159 : BitVec 32 := 128#32
  c128_i32_2159
def k0_mult140 : BitVec 32 :=
  let c0_i32_2185 : BitVec 32 := 0#32
  c0_i32_2185
def k0_mult141 : BitVec 32 :=
  let c128_i32_2187 : BitVec 32 := 128#32
  c128_i32_2187
def k0_mult142 : BitVec 32 :=
  let c0_i32_2213 : BitVec 32 := 0#32
  c0_i32_2213
def k0_mult143 : BitVec 32 :=
  let c128_i32_2215 : BitVec 32 := 128#32
  c128_i32_2215
def k0_mult144 : BitVec 32 :=
  let c0_i32_2241 : BitVec 32 := 0#32
  c0_i32_2241
def k0_mult145 : BitVec 32 :=
  let c128_i32_2243 : BitVec 32 := 128#32
  c128_i32_2243
def k0_mult146 : BitVec 32 :=
  let c0_i32_2269 : BitVec 32 := 0#32
  c0_i32_2269
def k0_mult147 : BitVec 32 :=
  let c128_i32_2271 : BitVec 32 := 128#32
  c128_i32_2271
def k0_mult148 : BitVec 32 :=
  let c0_i32_2297 : BitVec 32 := 0#32
  c0_i32_2297
def k0_mult149 : BitVec 32 :=
  let c128_i32_2299 : BitVec 32 := 128#32
  c128_i32_2299
def k0_mult150 : BitVec 32 :=
  let c128_i32_2331 : BitVec 32 := 128#32
  c128_i32_2331
def k0_mult151 : BitVec 32 :=
  let c256_i32_2333 : BitVec 32 := 256#32
  c256_i32_2333
def k0_mult152 : BitVec 32 :=
  let c128_i32_2359 : BitVec 32 := 128#32
  c128_i32_2359
def k0_mult153 : BitVec 32 :=
  let c256_i32_2361 : BitVec 32 := 256#32
  c256_i32_2361
def k0_mult154 : BitVec 32 :=
  let c128_i32_2387 : BitVec 32 := 128#32
  c128_i32_2387
def k0_mult155 : BitVec 32 :=
  let c256_i32_2389 : BitVec 32 := 256#32
  c256_i32_2389
def k0_mult156 : BitVec 32 :=
  let c128_i32_2415 : BitVec 32 := 128#32
  c128_i32_2415
def k0_mult157 : BitVec 32 :=
  let c256_i32_2417 : BitVec 32 := 256#32
  c256_i32_2417
def k0_mult158 : BitVec 32 :=
  let c128_i32_2443 : BitVec 32 := 128#32
  c128_i32_2443
def k0_mult159 : BitVec 32 :=
  let c256_i32_2445 : BitVec 32 := 256#32
  c256_i32_2445
def k0_mult160 : BitVec 32 :=
  let c128_i32_2471 : BitVec 32 := 128#32
  c128_i32_2471
def k0_mult161 : BitVec 32 :=
  let c256_i32_2473 : BitVec 32 := 256#32
  c256_i32_2473
def k0_mult162 : BitVec 32 :=
  let c128_i32_2499 : BitVec 32 := 128#32
  c128_i32_2499
def k0_mult163 : BitVec 32 :=
  let c256_i32_2501 : BitVec 32 := 256#32
  c256_i32_2501
def k0_mult164 : BitVec 32 :=
  let c128_i32_2527 : BitVec 32 := 128#32
  c128_i32_2527
def k0_mult165 : BitVec 32 :=
  let c256_i32_2529 : BitVec 32 := 256#32
  c256_i32_2529
def k0_mult166 : BitVec 32 :=
  let c256_i32_2561 : BitVec 32 := 256#32
  c256_i32_2561
def k0_mult167 : BitVec 32 :=
  let c384_i32_2563 : BitVec 32 := 384#32
  c384_i32_2563
def k0_mult168 : BitVec 32 :=
  let c256_i32_2589 : BitVec 32 := 256#32
  c256_i32_2589
def k0_mult169 : BitVec 32 :=
  let c384_i32_2591 : BitVec 32 := 384#32
  c384_i32_2591
def k0_mult170 : BitVec 32 :=
  let c256_i32_2617 : BitVec 32 := 256#32
  c256_i32_2617
def k0_mult171 : BitVec 32 :=
  let c384_i32_2619 : BitVec 32 := 384#32
  c384_i32_2619
def k0_mult172 : BitVec 32 :=
  let c256_i32_2645 : BitVec 32 := 256#32
  c256_i32_2645
def k0_mult173 : BitVec 32 :=
  let c384_i32_2647 : BitVec 32 := 384#32
  c384_i32_2647
def k0_mult174 : BitVec 32 :=
  let c256_i32_2673 : BitVec 32 := 256#32
  c256_i32_2673
def k0_mult175 : BitVec 32 :=
  let c384_i32_2675 : BitVec 32 := 384#32
  c384_i32_2675
def k0_mult176 : BitVec 32 :=
  let c256_i32_2701 : BitVec 32 := 256#32
  c256_i32_2701
def k0_mult177 : BitVec 32 :=
  let c384_i32_2703 : BitVec 32 := 384#32
  c384_i32_2703
def k0_mult178 : BitVec 32 :=
  let c256_i32_2729 : BitVec 32 := 256#32
  c256_i32_2729
def k0_mult179 : BitVec 32 :=
  let c384_i32_2731 : BitVec 32 := 384#32
  c384_i32_2731
def k0_mult180 : BitVec 32 :=
  let c256_i32_2757 : BitVec 32 := 256#32
  c256_i32_2757
def k0_mult181 : BitVec 32 :=
  let c384_i32_2759 : BitVec 32 := 384#32
  c384_i32_2759
def k0_mult182 : BitVec 32 :=
  let c384_i32_2791 : BitVec 32 := 384#32
  c384_i32_2791
def k0_mult183 : BitVec 32 :=
  let c512_i32_2793 : BitVec 32 := 512#32
  c512_i32_2793
def k0_mult184 : BitVec 32 :=
  let c384_i32_2819 : BitVec 32 := 384#32
  c384_i32_2819
def k0_mult185 : BitVec 32 :=
  let c512_i32_2821 : BitVec 32 := 512#32
  c512_i32_2821
def k0_mult186 : BitVec 32 :=
  let c384_i32_2847 : BitVec 32 := 384#32
  c384_i32_2847
def k0_mult187 : BitVec 32 :=
  let c512_i32_2849 : BitVec 32 := 512#32
  c512_i32_2849
def k0_mult188 : BitVec 32 :=
  let c384_i32_2875 : BitVec 32 := 384#32
  c384_i32_2875
def k0_mult189 : BitVec 32 :=
  let c512_i32_2877 : BitVec 32 := 512#32
  c512_i32_2877
def k0_mult190 : BitVec 32 :=
  let c384_i32_2903 : BitVec 32 := 384#32
  c384_i32_2903
def k0_mult191 : BitVec 32 :=
  let c512_i32_2905 : BitVec 32 := 512#32
  c512_i32_2905
def k0_mult192 : BitVec 32 :=
  let c384_i32_2931 : BitVec 32 := 384#32
  c384_i32_2931
def k0_mult193 : BitVec 32 :=
  let c512_i32_2933 : BitVec 32 := 512#32
  c512_i32_2933
def k0_mult194 : BitVec 32 :=
  let c384_i32_2959 : BitVec 32 := 384#32
  c384_i32_2959
def k0_mult195 : BitVec 32 :=
  let c512_i32_2961 : BitVec 32 := 512#32
  c512_i32_2961
def k0_mult196 : BitVec 32 :=
  let c384_i32_2987 : BitVec 32 := 384#32
  c384_i32_2987
def k0_mult197 : BitVec 32 :=
  let c512_i32_2989 : BitVec 32 := 512#32
  c512_i32_2989
def k0_mult198 : BitVec 32 :=
  let c512_i32_3021 : BitVec 32 := 512#32
  c512_i32_3021
def k0_mult199 : BitVec 32 :=
  let c640_i32_3023 : BitVec 32 := 640#32
  c640_i32_3023
def k0_mult200 : BitVec 32 :=
  let c512_i32_3049 : BitVec 32 := 512#32
  c512_i32_3049
def k0_mult201 : BitVec 32 :=
  let c640_i32_3051 : BitVec 32 := 640#32
  c640_i32_3051
def k0_mult202 : BitVec 32 :=
  let c512_i32_3077 : BitVec 32 := 512#32
  c512_i32_3077
def k0_mult203 : BitVec 32 :=
  let c640_i32_3079 : BitVec 32 := 640#32
  c640_i32_3079
def k0_mult204 : BitVec 32 :=
  let c512_i32_3105 : BitVec 32 := 512#32
  c512_i32_3105
def k0_mult205 : BitVec 32 :=
  let c640_i32_3107 : BitVec 32 := 640#32
  c640_i32_3107
def k0_mult206 : BitVec 32 :=
  let c512_i32_3133 : BitVec 32 := 512#32
  c512_i32_3133
def k0_mult207 : BitVec 32 :=
  let c640_i32_3135 : BitVec 32 := 640#32
  c640_i32_3135
def k0_mult208 : BitVec 32 :=
  let c512_i32_3161 : BitVec 32 := 512#32
  c512_i32_3161
def k0_mult209 : BitVec 32 :=
  let c640_i32_3163 : BitVec 32 := 640#32
  c640_i32_3163
def k0_mult210 : BitVec 32 :=
  let c512_i32_3189 : BitVec 32 := 512#32
  c512_i32_3189
def k0_mult211 : BitVec 32 :=
  let c640_i32_3191 : BitVec 32 := 640#32
  c640_i32_3191
def k0_mult212 : BitVec 32 :=
  let c512_i32_3217 : BitVec 32 := 512#32
  c512_i32_3217
def k0_mult213 : BitVec 32 :=
  let c640_i32_3219 : BitVec 32 := 640#32
  c640_i32_3219
def k0_mult214 : BitVec 32 :=
  let c640_i32_3251 : BitVec 32 := 640#32
  c640_i32_3251
def k0_mult215 : BitVec 32 :=
  let c768_i32_3253 : BitVec 32 := 768#32
  c768_i32_3253
def k0_mult216 : BitVec 32 :=
  let c640_i32_3279 : BitVec 32 := 640#32
  c640_i32_3279
def k0_mult217 : BitVec 32 :=
  let c768_i32_3281 : BitVec 32 := 768#32
  c768_i32_3281
def k0_mult218 : BitVec 32 :=
  let c640_i32_3307 : BitVec 32 := 640#32
  c640_i32_3307
def k0_mult219 : BitVec 32 :=
  let c768_i32_3309 : BitVec 32 := 768#32
  c768_i32_3309
def k0_mult220 : BitVec 32 :=
  let c640_i32_3335 : BitVec 32 := 640#32
  c640_i32_3335
def k0_mult221 : BitVec 32 :=
  let c768_i32_3337 : BitVec 32 := 768#32
  c768_i32_3337
def k0_mult222 : BitVec 32 :=
  let c640_i32_3363 : BitVec 32 := 640#32
  c640_i32_3363
def k0_mult223 : BitVec 32 :=
  let c768_i32_3365 : BitVec 32 := 768#32
  c768_i32_3365
def k0_mult224 : BitVec 32 :=
  let c640_i32_3391 : BitVec 32 := 640#32
  c640_i32_3391
def k0_mult225 : BitVec 32 :=
  let c768_i32_3393 : BitVec 32 := 768#32
  c768_i32_3393
def k0_mult226 : BitVec 32 :=
  let c640_i32_3419 : BitVec 32 := 640#32
  c640_i32_3419
def k0_mult227 : BitVec 32 :=
  let c768_i32_3421 : BitVec 32 := 768#32
  c768_i32_3421
def k0_mult228 : BitVec 32 :=
  let c640_i32_3447 : BitVec 32 := 640#32
  c640_i32_3447
def k0_mult229 : BitVec 32 :=
  let c768_i32_3449 : BitVec 32 := 768#32
  c768_i32_3449
def k0_mult230 : BitVec 32 :=
  let c768_i32_3481 : BitVec 32 := 768#32
  c768_i32_3481
def k0_mult231 : BitVec 32 :=
  let c896_i32_3483 : BitVec 32 := 896#32
  c896_i32_3483
def k0_mult232 : BitVec 32 :=
  let c768_i32_3509 : BitVec 32 := 768#32
  c768_i32_3509
def k0_mult233 : BitVec 32 :=
  let c896_i32_3511 : BitVec 32 := 896#32
  c896_i32_3511
def k0_mult234 : BitVec 32 :=
  let c768_i32_3537 : BitVec 32 := 768#32
  c768_i32_3537
def k0_mult235 : BitVec 32 :=
  let c896_i32_3539 : BitVec 32 := 896#32
  c896_i32_3539
def k0_mult236 : BitVec 32 :=
  let c768_i32_3565 : BitVec 32 := 768#32
  c768_i32_3565
def k0_mult237 : BitVec 32 :=
  let c896_i32_3567 : BitVec 32 := 896#32
  c896_i32_3567
def k0_mult238 : BitVec 32 :=
  let c768_i32_3593 : BitVec 32 := 768#32
  c768_i32_3593
def k0_mult239 : BitVec 32 :=
  let c896_i32_3595 : BitVec 32 := 896#32
  c896_i32_3595
def k0_mult240 : BitVec 32 :=
  let c768_i32_3621 : BitVec 32 := 768#32
  c768_i32_3621
def k0_mult241 : BitVec 32 :=
  let c896_i32_3623 : BitVec 32 := 896#32
  c896_i32_3623
def k0_mult242 : BitVec 32 :=
  let c768_i32_3649 : BitVec 32 := 768#32
  c768_i32_3649
def k0_mult243 : BitVec 32 :=
  let c896_i32_3651 : BitVec 32 := 896#32
  c896_i32_3651
def k0_mult244 : BitVec 32 :=
  let c768_i32_3677 : BitVec 32 := 768#32
  c768_i32_3677
def k0_mult245 : BitVec 32 :=
  let c896_i32_3679 : BitVec 32 := 896#32
  c896_i32_3679
def k0_mult246 : BitVec 32 :=
  let c896_i32_3711 : BitVec 32 := 896#32
  c896_i32_3711
def k0_mult247 : BitVec 32 :=
  let c1024_i32_3713 : BitVec 32 := 1024#32
  c1024_i32_3713
def k0_mult248 : BitVec 32 :=
  let c896_i32_3739 : BitVec 32 := 896#32
  c896_i32_3739
def k0_mult249 : BitVec 32 :=
  let c1024_i32_3741 : BitVec 32 := 1024#32
  c1024_i32_3741
def k0_mult250 : BitVec 32 :=
  let c896_i32_3767 : BitVec 32 := 896#32
  c896_i32_3767
def k0_mult251 : BitVec 32 :=
  let c1024_i32_3769 : BitVec 32 := 1024#32
  c1024_i32_3769
def k0_mult252 : BitVec 32 :=
  let c896_i32_3795 : BitVec 32 := 896#32
  c896_i32_3795
def k0_mult253 : BitVec 32 :=
  let c1024_i32_3797 : BitVec 32 := 1024#32
  c1024_i32_3797
def k0_mult254 : BitVec 32 :=
  let c896_i32_3823 : BitVec 32 := 896#32
  c896_i32_3823
def k0_mult255 : BitVec 32 :=
  let c1024_i32_3825 : BitVec 32 := 1024#32
  c1024_i32_3825
def k0_mult256 : BitVec 32 :=
  let c896_i32_3851 : BitVec 32 := 896#32
  c896_i32_3851
def k0_mult257 : BitVec 32 :=
  let c1024_i32_3853 : BitVec 32 := 1024#32
  c1024_i32_3853
def k0_mult258 : BitVec 32 :=
  let c896_i32_3879 : BitVec 32 := 896#32
  c896_i32_3879
def k0_mult259 : BitVec 32 :=
  let c1024_i32_3881 : BitVec 32 := 1024#32
  c1024_i32_3881
def k0_mult260 : BitVec 32 :=
  let c896_i32_3907 : BitVec 32 := 896#32
  c896_i32_3907
def k0_mult261 : BitVec 32 :=
  let c1024_i32_3909 : BitVec 32 := 1024#32
  c1024_i32_3909
def k0_off40 (k0_t1 : Fin k0_t1_loop.trips) : Fin 4 → Nat :=
  let c0_i32_162 : BitVec 32 := 0#32
  let c1_i32_163 : BitVec 32 := 1#32
  let arg22 : BitVec 32 := Scf.iv c0_i32_162 c1_i32_163 k0_t1
  let v10741 : Index := Scalar.indexCast arg22
  let c0_3975 : Index := 0#32
  let c0_3976 : Index := 0#32
  let c0_3977 : Index := 0#32
  ![v10741.toNat, 0, 0, 0]
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x8x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x8x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4x1x32x256 : Shape := ⟨4, ![4, 1, 32, 256]⟩
abbrev S4x1x8x256 : Shape := ⟨4, ![4, 1, 8, 256]⟩
abbrev S4x4096x8x256 : Shape := ⟨4, ![4, 4096, 8, 256]⟩
abbrev S4x4096x8 : Shape := ⟨3, ![4, 4096, 8]⟩
abbrev S4 : Shape := ⟨1, ![4]⟩
abbrev S_ : Shape := ⟨0, ![]⟩
abbrev S4x1x8 : Shape := ⟨3, ![4, 1, 8]⟩
abbrev S4x1x8x1 : Shape := ⟨4, ![4, 1, 8, 1]⟩
abbrev S4x1x8x4x256 : Shape := ⟨5, ![4, 1, 8, 4, 256]⟩
abbrev S4x8x4096x1x4 : Shape := ⟨5, ![4, 8, 4096, 1, 4]⟩
abbrev S4x8x4x1x4096 : Shape := ⟨5, ![4, 8, 4, 1, 4096]⟩
abbrev S4x8x4096 : Shape := ⟨3, ![4, 8, 4096]⟩
abbrev S4x8x1x1x4096 : Shape := ⟨5, ![4, 8, 1, 1, 4096]⟩
abbrev S4x8x1x1x4 : Shape := ⟨5, ![4, 8, 1, 1, 4]⟩
abbrev S4x8x4x1x1 : Shape := ⟨5, ![4, 8, 4, 1, 1]⟩
abbrev S4x8x1 : Shape := ⟨3, ![4, 8, 1]⟩
abbrev S4x8x1x1x1 : Shape := ⟨5, ![4, 8, 1, 1, 1]⟩
abbrev S4x1 : Shape := ⟨2, ![4, 1]⟩
abbrev S1 : Shape := ⟨1, ![1]⟩
abbrev S1x1 : Shape := ⟨2, ![1, 1]⟩
abbrev S4096 : Shape := ⟨1, ![4096]⟩
abbrev S1x1x4096 : Shape := ⟨3, ![1, 1, 4096]⟩
abbrev S4x1x1 : Shape := ⟨3, ![4, 1, 1]⟩
abbrev S4x1x4096 : Shape := ⟨3, ![4, 1, 4096]⟩
abbrev S4x1x1x1x4096 : Shape := ⟨5, ![4, 1, 1, 1, 4096]⟩
abbrev S1x1x1x1x1 : Shape := ⟨5, ![1, 1, 1, 1, 1]⟩
abbrev S4x8x4x1x4097 : Shape := ⟨5, ![4, 8, 4, 1, 4097]⟩
abbrev S4x8x4x1 : Shape := ⟨4, ![4, 8, 4, 1]⟩
abbrev S4x8x256x4x1 : Shape := ⟨5, ![4, 8, 256, 4, 1]⟩

abbrev nBuf : Space → Nat
  | .hbm => 168
  | .vmem => 0
  | .smem => 0
  | _ => 0

abbrev hbmTy0_0 (i : Nat) : BufTy := match i % 128 with
  | 0 => ⟨S4x1x32x256, .bf16⟩
  | 1 => ⟨S4x1x8x256, .bf16⟩
  | 2 => ⟨S4x1x8x256, .bf16⟩
  | 3 => ⟨S4x4096x8x256, .i8⟩
  | 4 => ⟨S4x4096x8, .f32⟩
  | 5 => ⟨S4x4096x8x256, .i8⟩
  | 6 => ⟨S4x4096x8, .f32⟩
  | 7 => ⟨S4, .i32⟩
  | 8 => ⟨S4x1x8x256, .f32⟩
  | 9 => ⟨S4x1x8x256, .f32⟩
  | 10 => ⟨S_, .f32⟩
  | 11 => ⟨S4x1x8, .f32⟩
  | 12 => ⟨S_, .f32⟩
  | 13 => ⟨S4x1x8, .f32⟩
  | 14 => ⟨S4x1x8, .i1⟩
  | 15 => ⟨S_, .f32⟩
  | 16 => ⟨S4x1x8, .f32⟩
  | 17 => ⟨S4x1x8, .f32⟩
  | 18 => ⟨S_, .f32⟩
  | 19 => ⟨S_, .f32⟩
  | 20 => ⟨S4x1x8, .f32⟩
  | 21 => ⟨S4x1x8, .f32⟩
  | 22 => ⟨S4x1x8x1, .f32⟩
  | 23 => ⟨S4x1x8x256, .f32⟩
  | 24 => ⟨S4x1x8x256, .f32⟩
  | 25 => ⟨S4x1x8x256, .f32⟩
  | 26 => ⟨S_, .f32⟩
  | 27 => ⟨S_, .f32⟩
  | 28 => ⟨S_, .f32⟩
  | 29 => ⟨S4x1x8x256, .f32⟩
  | 30 => ⟨S4x1x8x256, .f32⟩
  | 31 => ⟨S_, .f32⟩
  | 32 => ⟨S4x1x8x256, .f32⟩
  | 33 => ⟨S4x1x8x256, .f32⟩
  | 34 => ⟨S4x1x8x256, .i32⟩
  | 35 => ⟨S4x1x8x256, .i8⟩
  | 36 => ⟨S4x1x8x256, .f32⟩
  | 37 => ⟨S4x1x8x256, .f32⟩
  | 38 => ⟨S_, .f32⟩
  | 39 => ⟨S4x1x8, .f32⟩
  | 40 => ⟨S_, .f32⟩
  | 41 => ⟨S4x1x8, .f32⟩
  | 42 => ⟨S4x1x8, .i1⟩
  | 43 => ⟨S_, .f32⟩
  | 44 => ⟨S4x1x8, .f32⟩
  | 45 => ⟨S4x1x8, .f32⟩
  | 46 => ⟨S_, .f32⟩
  | 47 => ⟨S_, .f32⟩
  | 48 => ⟨S4x1x8, .f32⟩
  | 49 => ⟨S4x1x8, .f32⟩
  | 50 => ⟨S4x1x8x1, .f32⟩
  | 51 => ⟨S4x1x8x256, .f32⟩
  | 52 => ⟨S4x1x8x256, .f32⟩
  | 53 => ⟨S4x1x8x256, .f32⟩
  | 54 => ⟨S_, .f32⟩
  | 55 => ⟨S_, .f32⟩
  | 56 => ⟨S_, .f32⟩
  | 57 => ⟨S4x1x8x256, .f32⟩
  | 58 => ⟨S4x1x8x256, .f32⟩
  | 59 => ⟨S_, .f32⟩
  | 60 => ⟨S4x1x8x256, .f32⟩
  | 61 => ⟨S4x1x8x256, .f32⟩
  | 62 => ⟨S4x1x8x256, .i32⟩
  | 63 => ⟨S4x1x8x256, .i8⟩
  | 64 => ⟨S4x1x8x4x256, .bf16⟩
  | 65 => ⟨S4x4096x8x256, .i32⟩
  | 66 => ⟨S4x4096x8x256, .bf16⟩
  | 67 => ⟨S4x8x4096x1x4, .f32⟩
  | 68 => ⟨S4x8x4x1x4096, .f32⟩
  | 69 => ⟨S4x8x4096, .f32⟩
  | 70 => ⟨S4x8x1x1x4096, .f32⟩
  | 71 => ⟨S4x8x4x1x4096, .f32⟩
  | 72 => ⟨S4x8x4x1x4096, .f32⟩
  | 73 => ⟨S_, .f32⟩
  | 74 => ⟨S4x8x4x1x4096, .f32⟩
  | 75 => ⟨S4x8x4x1x4096, .f32⟩
  | 76 => ⟨S4x1x8x256, .i32⟩
  | 77 => ⟨S4x1x8x256, .bf16⟩
  | 78 => ⟨S4x8x1x1x4, .f32⟩
  | 79 => ⟨S4x8x4x1x1, .f32⟩
  | 80 => ⟨S4x8x1, .f32⟩
  | 81 => ⟨S4x8x1x1x1, .f32⟩
  | 82 => ⟨S4x8x4x1x1, .f32⟩
  | 83 => ⟨S4x8x4x1x1, .f32⟩
  | 84 => ⟨S_, .f32⟩
  | 85 => ⟨S4x8x4x1x1, .f32⟩
  | 86 => ⟨S4x8x4x1x1, .f32⟩
  | 87 => ⟨S4x1, .i32⟩
  | 88 => ⟨S1, .i32⟩
  | 89 => ⟨S1x1, .i32⟩
  | 90 => ⟨S4x1, .i32⟩
  | 91 => ⟨S4x1, .i32⟩
  | 92 => ⟨S4096, .i32⟩
  | 93 => ⟨S1x1x4096, .i32⟩
  | 94 => ⟨S4x1x1, .i32⟩
  | 95 => ⟨S4x1x4096, .i32⟩
  | 96 => ⟨S4x1x4096, .i32⟩
  | 97 => ⟨S4x1x4096, .i1⟩
  | 98 => ⟨S4x1x1, .i32⟩
  | 99 => ⟨S1x1x4096, .i32⟩
  | 100 => ⟨S4x1x4096, .i32⟩
  | 101 => ⟨S4x1x4096, .i32⟩
  | 102 => ⟨S4x1x4096, .i32⟩
  | 103 => ⟨S_, .i32⟩
  | 104 => ⟨S4x1x4096, .i32⟩
  | 105 => ⟨S4x1x4096, .i1⟩
  | 106 => ⟨S4x1x4096, .i1⟩
  | 107 => ⟨S1, .i32⟩
  | 108 => ⟨S1x1, .i32⟩
  | 109 => ⟨S1x1, .i32⟩
  | 110 => ⟨S1x1, .i1⟩
  | 111 => ⟨S1x1, .i32⟩
  | 112 => ⟨S1x1, .i32⟩
  | 113 => ⟨S1x1, .i32⟩
  | 114 => ⟨S_, .i32⟩
  | 115 => ⟨S1x1, .i32⟩
  | 116 => ⟨S1x1, .i1⟩
  | 117 => ⟨S1x1, .i1⟩
  | 118 => ⟨S4x1x1x1x4096, .i1⟩
  | 119 => ⟨S_, .f32⟩
  | 120 => ⟨S_, .f32⟩
  | 121 => ⟨S4x8x4x1x4096, .i1⟩
  | 122 => ⟨S4x8x4x1x4096, .f32⟩
  | 123 => ⟨S4x8x4x1x4096, .f32⟩
  | 124 => ⟨S1x1x1x1x1, .i1⟩
  | 125 => ⟨S_, .f32⟩
  | 126 => ⟨S_, .f32⟩
  | 127 => ⟨S4x8x4x1x1, .i1⟩
  | _ => ⟨S4x1x32x256, .bf16⟩

abbrev hbmTy0_1 (i : Nat) : BufTy := match i % 128 with
  | 0 => ⟨S4x8x4x1x1, .f32⟩
  | 1 => ⟨S4x8x4x1x1, .f32⟩
  | 2 => ⟨S4x8x4x1x4097, .f32⟩
  | 3 => ⟨S_, .f32⟩
  | 4 => ⟨S4x8x4x1, .f32⟩
  | 5 => ⟨S_, .f32⟩
  | 6 => ⟨S4x8x4x1, .f32⟩
  | 7 => ⟨S4x8x4x1, .f32⟩
  | 8 => ⟨S4x8x4x1x1, .f32⟩
  | 9 => ⟨S4x8x4x1x4097, .f32⟩
  | 10 => ⟨S4x8x4x1x4097, .f32⟩
  | 11 => ⟨S4x8x4x1x4097, .f32⟩
  | 12 => ⟨S_, .f32⟩
  | 13 => ⟨S4x8x4x1, .f32⟩
  | 14 => ⟨S4x8x4x1x1, .f32⟩
  | 15 => ⟨S4x8x4x1x4097, .f32⟩
  | 16 => ⟨S4x8x4x1x4097, .f32⟩
  | 17 => ⟨S4x8x4x1x4096, .f32⟩
  | 18 => ⟨S4x8x4x1x1, .f32⟩
  | 19 => ⟨S4x8x4096, .f32⟩
  | 20 => ⟨S4x8x1x1x4096, .f32⟩
  | 21 => ⟨S4x8x4x1x4096, .f32⟩
  | 22 => ⟨S4x8x4x1x4096, .f32⟩
  | 23 => ⟨S4x8x4x1x4096, .bf16⟩
  | 24 => ⟨S4x8x1, .f32⟩
  | 25 => ⟨S4x8x1x1x1, .f32⟩
  | 26 => ⟨S4x8x4x1x1, .f32⟩
  | 27 => ⟨S4x8x4x1x1, .f32⟩
  | 28 => ⟨S4x8x4x1x1, .bf16⟩
  | 29 => ⟨S4x4096x8x256, .i32⟩
  | 30 => ⟨S4x4096x8x256, .bf16⟩
  | 31 => ⟨S4x8x256x4x1, .f32⟩
  | 32 => ⟨S4x1x8x4x256, .f32⟩
  | 33 => ⟨S4x1x8x256, .i32⟩
  | 34 => ⟨S4x1x8x256, .bf16⟩
  | 35 => ⟨S4x8x256x4x1, .f32⟩
  | 36 => ⟨S4x1x8x4x256, .f32⟩
  | 37 => ⟨S4x1x8x4x256, .f32⟩
  | 38 => ⟨S4x1x32x256, .f32⟩
  | 39 => ⟨S4x1x32x256, .bf16⟩
  | _ => ⟨S4x1x32x256, .bf16⟩

abbrev hbmTy (i : Nat) : BufTy := match i / 128 with
  | 0 => hbmTy0_0 i
  | 1 => hbmTy0_1 i
  | _ => ⟨S4x1x32x256, .bf16⟩

abbrev bufTy : (tb : Table) → Fin (tcTables nBuf tb) → BufTy
  | .hbm, ⟨i, _⟩ => hbmTy i
  | _, _ => ⟨S4x1x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_9 : Ref sig .tc := ⟨.hbm, 54, rfl⟩
abbrev main_cst_10 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_11 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_12 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_13 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_v83 : Ref sig .tc := ⟨.hbm, 129, rfl⟩
abbrev main_v84 : Ref sig .tc := ⟨.hbm, 130, rfl⟩
abbrev main_cst_16 : Ref sig .tc := ⟨.hbm, 131, rfl⟩
abbrev main_v85 : Ref sig .tc := ⟨.hbm, 132, rfl⟩
abbrev main_cst_17 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_18 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]
-- ==== Proof.K.Step.lean ====
/-
  Stepping through the kernel's body: what the trip of the loop owns, and one rule an operation.
-/
module

public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The contents of every buffer of a core. -/
abbrev Cont (F : FTy → Type) (c : Dev nD) : Type := (b : Ref sig .tc) → Buf (Elt F) ((c : Thread nD τ).loc b)

/-- The buffers the body writes with vector stores. -/
def B0 : Finset (Ref sig .tc) :=
  {cc0_stg4_0, cc0_stg5_0, cc0_stg6_0, cc0_stg7_0, cc0_stg8_0, cc0_scratch4, cc0_scratch5, cc0_scratch6, cc0_scratch7}

/-- Those buffers, whole, holding `C`. -/
def OWN (c : Dev nD) (C : Cont F c) : sProp 𝕄 := bigSep B0 (fun b => ((c : Thread nD τ).loc b) ↦{fullShare} C b)

/-- The weakest precondition the body is proved at. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- From any contents satisfying `I`, and `X` besides, the program runs and ends in `Q`. -/
def Run (c : Dev nD) (X : sProp 𝕄) (I : Cont F c → Prop) {α : Type} (p : Prog (TpuEff nD τ sig (Elt F) Λ₀ .tc) α)
    (Q : α → sProp 𝕄) : Prop :=
  ∀ C, I C → iprop(OWN c C ∗ X) ⊢ WP c p Q

variable {c : Dev nD} {α β : Type}

theorem Run.pur {X : sProp 𝕄} {I : Cont F c → Prop} {a : α} {k : α → Prog (TpuEff nD τ sig (Elt F) Λ₀ .tc) β} {Q : β → sProp 𝕄}
    (h : Run c X I (k a) Q) : Run c X I (Pure.pure a) (fun x => WP c (k x) Q) := fun C hC =>
  (h C hC).trans (le_wp_ret _ _ _ a (fun x => WP c (k x) Q))

theorem Run.seq {X : sProp 𝕄} {I : Cont F c → Prop} {p : Prog (TpuEff nD τ sig (Elt F) Λ₀ .tc) α} {k : α → Prog (TpuEff nD τ sig (Elt F) Λ₀ .tc) β}
    {Q : β → sProp 𝕄} (h : Run c X I p (fun x => WP c (k x) Q)) : Run c X I (p >>= k) Q := fun C hC => by
  unfold WP; rw [wp_bind]; exact h C hC

theorem Run.ret {X : sProp 𝕄} {I : Cont F c → Prop} {a : α} {Q : α → sProp 𝕄} (h : ∀ C, I C → iprop(OWN c C ∗ X) ⊢ Q a) : Run c X I (Pure.pure a) Q := by
  intro C hC
  exact (h C hC).trans (le_wp_ret _ _ _ a _)

theorem Run.weaken {X : sProp 𝕄} {I I' : Cont F c → Prop} {p : Prog (TpuEff nD τ sig (Elt F) Λ₀ .tc) α} {Q : α → sProp 𝕄} (hI : ∀ C, I C → I' C)
    (h : Run c X I' p Q) : Run c X I p Q := fun C hC => h C (hI C hC)

theorem Run.of {X : sProp 𝕄} {I : Cont F c → Prop} {a : Prop} {p : Prog (TpuEff nD τ sig (Elt F) Λ₀ .tc) α} {Q : α → sProp 𝕄}
    (h : a → Run c X I p Q) (ha : a) : Run c X I p Q := h ha

/-- An `assume`, at a proposition that holds. -/
theorem Run.assume {X : sProp 𝕄} {I : Cont F c → Prop} {P : Prop} {d : Decidable P} {k : PLift P → Prog (TpuEff nD τ sig (Elt F) Λ₀ .tc) β} {Q : β → sProp 𝕄}
    (hP : P) (h : Run c X I (k ⟨hP⟩) Q) : Run c X I (Prog.lift (.assume P d) >>= k) Q := fun C hC => by
  have hw := wp_assume (defs := defs₀ (F := F)) (Γ := .empty) Variants.none (c : Thread nD τ) none Set.univ
    (k := fun u => Prog.ret u) (Q := fun x => WP c (k x) Q) (d := d) hP
  unfold WP; rw [wp_bind]
  refine (h C hC).trans (BIBase.Entails.trans ?_ hw)
  exact le_wp_ret _ _ _ _ (fun x => WP c (k x) Q)

/-- A load from a buffer `X` holds. -/
theorem Run.loadX {X : sProp 𝕄} {I : Cont F c → Prop} {cs : CoreSpace} {s : Shape} {e : EltTy} {m : Memref sig .tc cs s e} {r : LoadRect s} {hl : m.view.LoadsAt r}
    {k : (r.shape.Idx → Elt F e) → Prog (TpuEff nD τ sig (Elt F) Λ₀ .tc) β} {Q : β → sProp 𝕄}
    {S : Finset (Idx (m.view.loc (c : Thread nD τ)))} {q : PosShare TreeShare} {f : Buf (Elt F) (m.view.loc (c : Thread nD τ))}
    (hX : X ⊢ iprop((m.view.loc (c : Thread nD τ) ↦[S]{q} f) ∗ ((m.view.loc (c : Thread nD τ) ↦[S]{q} f) -∗ X)))
    (hS : m.view.setOn r.set ⊆ S) (h : Run c X I (k (m.view.readAt (Elt F) r f)) Q) :
    Run c X I (Prog.lift (.load m r hl) >>= k) Q := fun C hC => by
  unfold WP; rw [wp_bind]
  refine (sep_mono_right hX).trans ?_
  iintro ⟨HO, HM, HX⟩
  iapply (wp_load _ _ _ _ (r := r) (hl := hl) hS) $$ HM
  iintro HM
  rw [wp_ret]; imodintro
  iapply (h C hC)
  isplitl [HO]; · iexact HO
  iapply HX $$ HM

/-- A word read from scalar memory `X` holds. -/
theorem Run.smemX {X : sProp 𝕄} {I : Cont F c → Prop} {s : Shape} {e : EltTy} {m : Memref sig .tc .smem s e} {r : Rect s} {h1 : r.shape.numel = 1} {hp : e.packing = 1}
    {k : Elt F e → Prog (TpuEff nD τ sig (Elt F) Λ₀ .tc) β} {Q : β → sProp 𝕄}
    {q : PosShare TreeShare} {f : Buf (Elt F) ((m.access r).loc (c : Thread nD τ))}
    (hX : X ⊢ iprop(((m.access r).loc (c : Thread nD τ) ↦{q} f) ∗ (((m.access r).loc (c : Thread nD τ) ↦{q} f) -∗ X)))
    (h : Run c X I (k ((m.access r).read (Elt F) f (Shape.Idx.first (h1.symm ▸ Nat.one_pos)))) Q) :
    Run c X I (smemLoad m r h1 hp >>= k) Q := fun C hC => by
  unfold WP smemLoad; rw [wp_bind]
  refine (sep_mono_right hX).trans ?_
  iintro ⟨HO, HM, HX⟩
  iapply (wp_smemLoadElt _ _ _ _ (m := m) (r := r) (Finset.subset_univ _)) $$ HM
  iintro HM
  rw [wp_ret]; imodintro
  iapply (h C hC)
  isplitl [HO]; · iexact HO
  iapply HX $$ HM

theorem own_take (C : Cont F c) {b : Ref sig .tc} (hb : b ∈ B0) :
    OWN c C ⊢ iprop((((c : Thread nD τ).loc b) ↦{fullShare} C b)
      ∗ (∀ f, (((c : Thread nD τ).loc b) ↦{fullShare} f) -∗ OWN c (Function.update C b f))) := by
  unfold OWN
  rw [bigSep_erase hb]
  refine sep_mono_right (forall_intro fun f => ?_)
  refine BIClass.wand_intro ?_
  refine sep_comm.1.trans ?_
  rw [bigSep_erase (Φ := fun b' => ((c : Thread nD τ).loc b') ↦{fullShare} Function.update C b f b') hb, Function.update_self]
  refine sep_mono_right (Entails.of_eq (bigSep_congr fun b' hb' => ?_))
  rw [Function.update_of_ne (Finset.ne_of_mem_erase hb')]

/-- A load whose value is known from the contents' invariant. -/
theorem Run.load {X : sProp 𝕄} {I : Cont F c → Prop} {cs : CoreSpace} {s : Shape} {e : EltTy} {m : Memref sig .tc cs s e} {r : LoadRect s} {hl : m.view.LoadsAt r}
    {k : (r.shape.Idx → Elt F e) → Prog (TpuEff nD τ sig (Elt F) Λ₀ .tc) β} {Q : β → sProp 𝕄}
    (hb : m.view.ref ∈ B0) {v : r.shape.Idx → Elt F e} (hv : ∀ C, I C → m.view.readAt (Elt F) r (C m.view.ref) = v)
    (h : Run c X I (k v) Q) :
    Run c X I (Prog.lift (.load m r hl) >>= k) Q := fun C hC => by
  unfold WP; rw [wp_bind]
  refine (sep_mono_left (own_take C hb)).trans ?_
  iintro ⟨⟨HM, HO⟩, HX⟩
  iapply (wp_load _ _ _ _ (m := m) (r := r) (hl := hl) (Finset.subset_univ _)) $$ HM
  iintro HM
  rw [wp_ret]; imodintro
  rw [hv C hC]
  iapply (h C hC)
  isplitl [HO HM]
  · ihave HO := HO $$ HM
    rw [Function.update_eq_self]
    iexact HO
  iexact HX

/-- A load whose value nothing uses. -/
theorem Run.loadAny {X : sProp 𝕄} {I : Cont F c → Prop} {cs : CoreSpace} {s : Shape} {e : EltTy} {m : Memref sig .tc cs s e} {r : LoadRect s} {hl : m.view.LoadsAt r}
    {k : (r.shape.Idx → Elt F e) → Prog (TpuEff nD τ sig (Elt F) Λ₀ .tc) β} {Q : β → sProp 𝕄}
    (hb : m.view.ref ∈ B0) (h : ∀ v, Run c X I (k v) Q) :
    Run c X I (Prog.lift (.load m r hl) >>= k) Q := fun C hC =>
  Run.load (I := fun C' => C' = C) hb (v := m.view.readAt (Elt F) r (C m.view.ref)) (fun _ h => h ▸ rfl)
    (fun C' hC' => h _ C' (hC' ▸ hC)) C rfl

/-- A store. -/
theorem Run.store {X : sProp 𝕄} {I I' : Cont F c → Prop} {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) β} {Q : β → sProp 𝕄}
    (hb : m.view.ref ∈ B0)
    (hI : ∀ C, I C → I' (Function.update C m.view.ref ((m.access r).write (Elt F) (C m.view.ref) w Finset.univ)))
    (h : Run c X I' (k ⟨⟩) Q) :
    Run c X I (Prog.lift (.store m r w Finset.univ hx hm) >>= k) Q := fun C hC => by
  unfold WP; rw [wp_bind]
  refine (sep_mono_left (own_take C hb)).trans ?_
  refine (sep_mono_left (sep_mono_left (wp_store (defs := defs₀ (F := F)) (Γ := .empty) Variants.none (c : Thread nD τ) none Set.univ
    (m := m) (r := r) (w := w) (hx := hx) (hm := hm) (f := C m.view.ref) (k := fun u => Prog.ret u)
    (Q := fun x => WP c (k x) Q) (Finset.subset_univ _)))).trans ?_
  iintro ⟨⟨HW, HO⟩, HX⟩
  iapply HW
  iintro HM
  rw [wp_ret]; imodintro
  iapply (h _ (hI C hC))
  isplitl [HO HM]
  · iapply HO $$ HM
  iexact HX

/-- A store, where nothing is said of what the buffers hold. -/
theorem Run.put {X : sProp 𝕄} {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) β} {Q : β → sProp 𝕄} (hb : m.view.ref ∈ B0) (h : Run c X (fun _ => True) (k ⟨⟩) Q) :
    Run c X (fun _ => True) (Prog.lift (.store m r w Finset.univ hx hm) >>= k) Q :=
  Run.store hb (fun _ _ => trivial) h

end Cert.Kernel.Hand

end
-- ==== Proof.K.Words.lean ====
/-
  The window's start as the kernel computes it, and the conditions on it the kernel assumes: they hold of every word.
-/
module

public import proofs.«01_k».proof.Proof.Gen.Kernel.Points

@[expose] public section

noncomputable section

namespace Cert.Kernel.Hand

open Cert.Kernel Cert.Kernel.Gen
open Idealize.ShloMosaic

/-- The window's first token, clamped to `[0, 3072]`. -/
def stW (w : BitVec 32) : BitVec 32 := Scalar.minsi (Scalar.maxsi (Scalar.subi w 1023#32) 0#32) 3072#32

/-- The scales' first token: that one rounded down to a multiple of 128, at most 2944. -/
def ssW (w : BitVec 32) : BitVec 32 := Scalar.minsi (Scalar.shli (Scalar.shrsi (stW w) 7#32) 7#32) 2944#32

theorem clamp_le (x : BitVec 32) : (IntOp.minsi (IntOp.maxsi x 0#32) 3072#32).toNat ≤ 3072 := by
  unfold IntOp.minsi IntOp.maxsi
  simp only [BitVec.slt_eq_decide, BitVec.toInt_eq_toNat_cond, decide_eq_true_eq]
  have := x.isLt
  repeat' split
  all_goals simp_all
  all_goals omega

theorem stW_le (w : BitVec 32) : (stW w).toNat ≤ 3072 := clamp_le _

theorem shr7 (x : BitVec 32) (h : x.toNat ≤ 3072) : (Scalar.shrsi x 7#32).toNat = x.toNat / 128 := by
  have hm : x.msb = false := by rw [BitVec.msb_eq_decide]; simp; omega
  unfold Scalar.shrsi IntOp.shrsi
  rw [if_pos (by decide)]
  unfold BitVec.sshiftRight'
  rw [BitVec.sshiftRight_eq_of_msb_false hm]
  simp [Nat.shiftRight_eq_div_pow]

theorem shl7 (x : BitVec 32) (h : x.toNat ≤ 24) : (Scalar.shli x 7#32).toNat = x.toNat * 128 := by
  unfold Scalar.shli IntOp.shli
  rw [if_pos (by decide)]
  simp [Nat.shiftLeft_eq]
  omega

theorem ssW_eq (w : BitVec 32) : (ssW w).toNat = min ((stW w).toNat / 128 * 128) 2944 := by
  have h := stW_le w
  have h1 := shr7 _ h
  have h2 := shl7 (Scalar.shrsi (stW w) 7#32) (by omega)
  unfold ssW Scalar.minsi IntOp.minsi
  simp only [BitVec.slt_eq_decide, BitVec.toInt_eq_toNat_cond, decide_eq_true_eq, h2, h1]
  have e : (2944#32).toNat = 2944 := rfl
  simp only [e]
  repeat' split
  all_goals first | omega | (rw [if_pos (by omega)]; omega) | (rw [if_neg (by omega)]; omega) | skip

theorem ssW_le (w : BitVec 32) : (ssW w).toNat ≤ 2944 := by rw [ssW_eq]; exact Nat.min_le_right _ _
theorem ssW_dvd (w : BitVec 32) : 128 ∣ (ssW w).toNat := by rw [ssW_eq]; have := stW_le w; omega

theorem inb_ss (b : ℕ) (hb : b < 4) (w : BitVec 32) (a : Fin 3) :
    (![b, 0, (ssW w).toNat] : Fin 3 → ℕ) a + S1x8x1152.size a ≤ S4x8x4096.size a := by
  have := ssW_le w
  fin_cases a <;> simp [S1x8x1152, S4x8x4096] <;> omega

theorem inb_st (b : ℕ) (hb : b < 4) (w : BitVec 32) (a : Fin 4) :
    (![b, (stW w).toNat, 0, 0] : Fin 4 → ℕ) a + S1x1024x8x256.size a ≤ S4x4096x8x256.size a := by
  have := stW_le w
  fin_cases a <;> simp [S1x1024x8x256, S4x4096x8x256] <;> omega

theorem iv_t (t : Fin k0_t1_loop.trips) : (Scf.iv 0#32 1#32 t).toNat = t.val := by revert t; decide +kernel
theorem t_lt (t : Fin k0_t1_loop.trips) : t.val < 4 := by revert t; decide +kernel

theorem words_st {off : Fin 4 → ℕ} (h : ∀ a, off a + S1x1024x8x256.size a ≤ S4x4096x8x256.size a) (h0 : off 2 = 0) :
    (Rect.unit (s := S4x4096x8x256) off S1x1024x8x256.size h).WholeWords (EltTy.packing .i8) :=
  Or.inr ⟨by decide, rfl, h0, rfl⟩

theorem chk1 (w : BitVec 32) : k0_chk1 w := ⟨ssW_dvd w, inb_ss 0 (by decide) w⟩
theorem chk3 (w : BitVec 32) : k0_chk3 w := ⟨ssW_dvd w, inb_ss 1 (by decide) w⟩
theorem chk5 (w : BitVec 32) : k0_chk5 w := ⟨ssW_dvd w, inb_ss 2 (by decide) w⟩
theorem chk7 (w : BitVec 32) : k0_chk7 w := ⟨ssW_dvd w, inb_ss 3 (by decide) w⟩
theorem chk2 (w : BitVec 32) : k0_chk2 w := ⟨inb_st 0 (by decide) w, fun h => words_st h rfl⟩
theorem chk4 (w : BitVec 32) : k0_chk4 w := ⟨inb_st 1 (by decide) w, fun h => words_st h rfl⟩
theorem chk6 (w : BitVec 32) : k0_chk6 w := ⟨inb_st 2 (by decide) w, fun h => words_st h rfl⟩
theorem chk8 (w : BitVec 32) : k0_chk8 w := ⟨inb_st 3 (by decide) w, fun h => words_st h rfl⟩
theorem off16_eq (t : Fin k0_t1_loop.trips) (w : BitVec 32) : k0_off16 t w = ![t.val, 0, (ssW w).toNat] := by
  rw [← iv_t t]; rfl
theorem off20_eq (t : Fin k0_t1_loop.trips) (w : BitVec 32) : k0_off20 t w = ![t.val, (stW w).toNat, 0, 0] := by
  rw [← iv_t t]; rfl
theorem chk9 (t : Fin k0_t1_loop.trips) (w : BitVec 32) : k0_chk9 t w := ⟨ssW_dvd w, by rw [off16_eq]; exact inb_ss t (t_lt t) w⟩
theorem chk10 (t : Fin k0_t1_loop.trips) (w : BitVec 32) : k0_chk10 t w :=
  ⟨by rw [off20_eq]; exact inb_st t (t_lt t) w, fun h => words_st h (by rw [off20_eq]; rfl)⟩

end Cert.Kernel.Hand

end
-- ==== Proof.K.Slots.lean ====
/-
  The sixteen transfers: what a window's cell, its destination row and its source rows hold before the start, in
  flight, and after the wait; one rule for a start and one for a wait.
-/
module

public import proofs.«01_k».proof.Proof.K.Step
public import proofs.«01_k».proof.Proof.K.Words
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The cell `k` of the kernel's semaphore array, row major. -/
def cell (b i : Fin 4) : SemLoc sig := SemLoc.dma (⟨9 + 4 * b.val + i.val, by show _ < 25; omega⟩)

inductive Ph | idle | fly | done
deriving DecidableEq

/-- What one transfer's cell, destination and source hold at a phase. -/
def Slot (c : Dev nD) (s d : Ref sig .tc) (sm : SemLoc sig) (N : ℕ) (RS : Finset (Idx ((c : Thread nD τ).loc s)))
    (RD : Finset (Idx ((c : Thread nD τ).loc d))) (fs : Buf (Elt F) ((c : Thread nD τ).loc s)) (G : Buf (Elt F) ((c : Thread nD τ).loc d)) :
    Ph → sProp 𝕄
  | .idle => iprop((((c : Thread nD τ).loc s) ↦[RS]{fullShare} fs) ∗ (∃ fd, (((c : Thread nD τ).loc d) ↦[RD]{fullShare} fd)) ∗ semVal ((c : Thread nD τ), sm) 0)
  | .fly => iprop(∃ S : Finset (Idx ((c : Thread nD τ).loc s)), ⌜S ⊆ RS⌝
      ∗ Flight (countersEmb (U := Pipeline.UD sig nD τ)) (c : Thread nD τ) sm () N
          iprop((((c : Thread nD τ).loc d) ↦[RD]{fullShare} G) ∗ (((c : Thread nD τ).loc s) ↦[S]{fullShare} fs))
      ∗ (((c : Thread nD τ).loc s) ↦[RS \ S]{fullShare} fs))
  | .done => iprop((((c : Thread nD τ).loc s) ↦[RS]{fullShare} fs) ∗ (((c : Thread nD τ).loc d) ↦[RD]{fullShare} G) ∗ semVal ((c : Thread nD τ), sm) 0)

variable {c : Dev nD} {α β : Type}

/-- A start: the slot goes from idle to in flight. -/
theorem Run.enq {X X' : sProp 𝕄} {I : Cont F c → Prop} {s0 : Shape} {e : EltTy} {sp sp' : Space} {src : Memref sig .tc sp s0 e} {dst : Memref sig .tc sp' s0 e}
    {sm : SemLoc sig} {h1 : src.view.WordExact} {h2 : dst.view.WordExact} {h3 : DmaTarget.Typed (nD := nD) (τ := τ) (p := Proc.tc) sp sm (.here dst)}
    {k : PUnit → Prog (TpuEff nD τ sig (Elt F) Λ₀ .tc) β} {Q : β → sProp 𝕄} {N : ℕ}
    {RS : Finset (Idx (src.view.loc (c : Thread nD τ)))} {RD : Finset (Idx (dst.view.loc (c : Thread nD τ)))}
    {fs : Buf (Elt F) (src.view.loc (c : Thread nD τ))} {G : Buf (Elt F) (dst.view.loc (c : Thread nD τ))}
    (hX : X ⊢ iprop(Slot c src.view.ref dst.view.ref sm N RS RD fs G .idle ∗ (Slot c src.view.ref dst.view.ref sm N RS RD fs G .fly -∗ X')))
    (hN : dst.view.amount sm = N) (hN0 : 0 < N) (hRS : src.view.set ⊆ RS) (hRD : dst.view.set = RD)
    (hG : ∃ g0, G = dst.view.write (Elt F) g0 (src.view.read (Elt F) fs) Finset.univ)
    (h : Run c X' I (k ⟨⟩) Q) :
    Run c X I (Prog.lift (TpuEff.enqueueDma (p := Proc.tc) src (.here dst) sm h1 h2 h3) >>= k) Q := fun C hC => by
  unfold WP; rw [wp_bind]
  refine (sep_mono_right hX).trans ?_
  unfold Slot
  iintro ⟨HO, ⟨Hs, ⟨%fd, Hd⟩, Hv⟩, HX⟩
  ihave ⟨Hs, Hr⟩ := (pointsTo_split_subset hRS).1 $$ Hs
  iapply (wp_dmaLocal (countersEmb (U := Pipeline.UD sig nD τ)) Variants.none (c : Thread nD τ) none (src := src) (dst := dst) (via := ReadAs.same)
    (sm := sm) (defs := defs₀ (F := F)) (fs := fs) (fd := fd) (Sd := RD) () N hN hN0 (le_of_eq hRD)) $$ [Hs Hd Hv]
  · isplitl [Hs]; · iexact Hs
    isplitl [Hd]; · iexact Hd
    iexact Hv
  iintro HF
  rw [wp_ret]; imodintro
  iapply (h C hC)
  isplitl [HO]; · iexact HO
  iapply HX
  iexists src.view.set
  isplitr; · ipureintro; exact hRS
  isplitl [HF]
  · iapply (Flight_mono _ _ ?_) $$ HF
    obtain ⟨g0, rfl⟩ := hG
    refine sep_mono_left (Entails.of_eq (pointsTo_congr fun i hi => ?_))
    rw [← hRD] at hi
    refine View.write_congr (fun x _ _ => rfl) fun hn => absurd ?_ hn
    exact hi
  iexact Hr

/-- A wait: the slot goes from in flight to done. -/
theorem Run.wait {X X' : sProp 𝕄} {I : Cont F c → Prop} {s0 s1 : Shape} {e e1 : EltTy} {sp sp' : Space} {src : Memref sig .tc sp s1 e1} {dst : Memref sig .tc sp' s0 e}
    {sem : DmaSem sig} {sm : SemLoc sig} {h1 : src.view.WordExact} {h2 : dst.view.WordExact}
    {k : PUnit → Prog (TpuEff nD τ sig (Elt F) Λ₀ .tc) β} {Q : β → sProp 𝕄} {N : ℕ} {s d : Ref sig .tc}
    {RS : Finset (Idx ((c : Thread nD τ).loc s))} {RD : Finset (Idx ((c : Thread nD τ).loc d))}
    {fs : Buf (Elt F) ((c : Thread nD τ).loc s)} {G : Buf (Elt F) ((c : Thread nD τ).loc d)}
    (hX : X ⊢ iprop((∃ W, owes (c : Thread nD τ) 0 W) ∗ Slot c s d sm N RS RD fs G .fly
      ∗ ((∃ W, owes (c : Thread nD τ) 0 W) -∗ Slot c s d sm N RS RD fs G .done -∗ X')))
    (hs : SemLoc.dma sem = sm) (hN : dst.view.dmaCredit = N)
    (h : Run c X' I (k ⟨⟩) Q) :
    Run c X I (Prog.lift (.waitDma2 sem src dst h1 h2) >>= k) Q := fun C hC => by
  subst hs
  unfold WP; rw [wp_bind]
  refine (sep_mono_right hX).trans ?_
  unfold Slot
  iintro ⟨HO, ⟨%W, HW⟩, ⟨%S, %hS, HF, Hr⟩, HX⟩
  iapply (wp_waitLocal (countersEmb (U := Pipeline.UD sig nD τ)) Variants.none (c : Thread nD τ) none (srcw := src) (dstw := dst)
    (defs := defs₀ (F := F)) () hN) $$ [HF HW]
  · isplitl [HF]; · iexact HF
    iexact HW
  iintro ⟨⟨Hd, Hs⟩, Hv, HW⟩
  rw [wp_ret]; imodintro
  iapply (h C hC)
  isplitl [HO]; · iexact HO
  ihave HX := HX $$ [HW]
  · iexists _; iexact HW
  iapply HX
  isplitl [Hs Hr]
  · iapply (pointsTo_split_subset hS).2
    isplitl [Hs]; · iexact Hs
    iexact Hr
  isplitl [Hd]; · iexact Hd
  iexact Hv

end Cert.Kernel.Hand

end
-- ==== Proof.K.Pool.lean ====
/-
  The buffers the body reads and the sixteen transfers, together: the resource the stepping rules carry, and the
  kernel's own starts, waits and loads over it.
-/
module

public import proofs.«01_k».proof.Proof.K.Slots

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- What the body reads: the four staged operands and the four it leaves in HBM. -/
structure Env (F : FTy → Type) (c : Dev nD) where
  f0 : Buf (Elt F) ((c : Thread nD τ).loc cc0_stg0_0)
  f1 : Buf (Elt F) ((c : Thread nD τ).loc cc0_stg1_0)
  f2 : Buf (Elt F) ((c : Thread nD τ).loc cc0_stg2_0)
  f3 : Buf (Elt F) ((c : Thread nD τ).loc cc0_stg3_0)
  s0 : Buf (Elt F) ((c : Thread nD τ).loc main_v0)
  s1 : Buf (Elt F) ((c : Thread nD τ).loc main_v1)
  s2 : Buf (Elt F) ((c : Thread nD τ).loc main_arg3)
  s3 : Buf (Elt F) ((c : Thread nD τ).loc main_arg5)

variable {c : Dev nD} {α β : Type}

theorem inb_len (b : Fin 4) (a : Fin 1) : (![b.val] : Fin 1 → ℕ) a + S1.size a ≤ S4.size a := by
  revert b a; decide

/-- The length of sequence `b`. -/
def wd (E : Env F c) (b : Fin 4) : BitVec 32 :=
  ((Memref.whole cc0_stg0_0 : Memref sig .tc .smem S4 .i32).access (Rect.unit (s := S4) ![b.val] S1.size (inb_len b))).read (Elt F) E.f0
    (Shape.Idx.first (numel1_S1.symm ▸ Nat.one_pos))

theorem inb_d3 (b : Fin 4) (a : Fin 3) : (![b.val, 0, 0] : Fin 3 → ℕ) a + S1x8x1152.size a ≤ S4x8x1152.size a := by
  revert b a; decide
theorem inb_d4 (b : Fin 4) (a : Fin 4) : (![b.val, 0, 0, 0] : Fin 4 → ℕ) a + S1x1024x8x256.size a ≤ S4x1024x8x256.size a := by
  revert b a; decide

/-- A window of a sequence's scales. -/
abbrev srcS (m : Memref sig .tc .hbm S4x8x4096 .f32) (b : Fin 4) (w : BitVec 32) : Memref sig .tc .hbm S8x1152 .f32 :=
  (m.slice (Rect.unit (s := S4x8x4096) ![b.val, 0, (ssW w).toNat] S1x8x1152.size (inb_ss b b.isLt w)) (fun _ => rfl)).squeeze S8x1152 squeezes_S1x8x1152_S8x1152
/-- Its row of the scratch. -/
abbrev dstS (m : Memref sig .tc .vmem S4x8x1152 .f32) (b : Fin 4) : Memref sig .tc .vmem S8x1152 .f32 :=
  (m.slice (Rect.unit (s := S4x8x1152) ![b.val, 0, 0] S1x8x1152.size (inb_d3 b)) (fun _ => rfl)).squeeze S8x1152 squeezes_S1x8x1152_S8x1152
/-- A window of a sequence's codes. -/
abbrev srcC (m : Memref sig .tc .hbm S4x4096x8x256 .i8) (b : Fin 4) (w : BitVec 32) : Memref sig .tc .hbm S1024x8x256 .i8 :=
  (m.slice (Rect.unit (s := S4x4096x8x256) ![b.val, (stW w).toNat, 0, 0] S1x1024x8x256.size (inb_st b b.isLt w)) (fun _ => rfl)).squeeze S1024x8x256 squeezes_S1x1024x8x256_S1024x8x256
/-- Its row of the scratch. -/
abbrev dstC (m : Memref sig .tc .vmem S4x1024x8x256 .i8) (b : Fin 4) : Memref sig .tc .vmem S1024x8x256 .i8 :=
  (m.slice (Rect.unit (s := S4x1024x8x256) ![b.val, 0, 0, 0] S1x1024x8x256.size (inb_d4 b)) (fun _ => rfl)).squeeze S1024x8x256 squeezes_S1x1024x8x256_S1024x8x256

/-- What a transfer leaves in its row. -/
def G0 (E : Env F c) (b : Fin 4) : Buf (Elt F) ((c : Thread nD τ).loc cc0_scratch2) :=
  (dstS (Memref.whole cc0_scratch2) b).view.write (Elt F) (fun _ => (Scalar.ofBits .f32 0#32 : F .f32)) ((srcS (Memref.whole main_v0) b (wd E b)).view.read (Elt F) E.s0) Finset.univ
def G1 (E : Env F c) (b : Fin 4) : Buf (Elt F) ((c : Thread nD τ).loc cc0_scratch3) :=
  (dstS (Memref.whole cc0_scratch3) b).view.write (Elt F) (fun _ => (Scalar.ofBits .f32 0#32 : F .f32)) ((srcS (Memref.whole main_v1) b (wd E b)).view.read (Elt F) E.s1) Finset.univ
def G2 (E : Env F c) (b : Fin 4) : Buf (Elt F) ((c : Thread nD τ).loc cc0_scratch0) :=
  (dstC (Memref.whole cc0_scratch0) b).view.write (Elt F) (fun _ => (0 : BitVec 8)) ((srcC (Memref.whole main_arg3) b (wd E b)).view.read (Elt F) E.s2) Finset.univ
def G3 (E : Env F c) (b : Fin 4) : Buf (Elt F) ((c : Thread nD τ).loc cc0_scratch1) :=
  (dstC (Memref.whole cc0_scratch1) b).view.write (Elt F) (fun _ => (0 : BitVec 8)) ((srcC (Memref.whole main_arg5) b (wd E b)).view.read (Elt F) E.s3) Finset.univ

/-- The elements whose leading coordinate is `b`. -/
def row (s : Shape) (h : 0 < s.rank) (b : ℕ) : Finset s.Idx := Finset.univ.filter fun i => (i ⟨0, h⟩).val = b

abbrev NS : ℕ := (dstS (Memref.whole cc0_scratch2) 0).view.dmaCredit
abbrev NC : ℕ := (dstC (Memref.whole cc0_scratch0) 0).view.dmaCredit

/-- The slot of operand `i`, sequence `b`. -/
def slotAt (E : Env F c) (b i : Fin 4) (ph : Ph) : sProp 𝕄 :=
  match i with
  | 0 => Slot c main_v0 cc0_scratch2 (cell b 0) NS (row S4x8x4096 (by decide) b) (row S4x8x1152 (by decide) b) E.s0 (G0 E b) ph
  | 1 => Slot c main_v1 cc0_scratch3 (cell b 1) NS (row S4x8x4096 (by decide) b) (row S4x8x1152 (by decide) b) E.s1 (G1 E b) ph
  | 2 => Slot c main_arg3 cc0_scratch0 (cell b 2) NC (row S4x4096x8x256 (by decide) b) (row S4x1024x8x256 (by decide) b) E.s2 (G2 E b) ph
  | 3 => Slot c main_arg5 cc0_scratch1 (cell b 3) NC (row S4x4096x8x256 (by decide) b) (row S4x1024x8x256 (by decide) b) E.s3 (G3 E b) ph

/-- All sixteen. -/
def pool (E : Env F c) (ph : Fin 4 × Fin 4 → Ph) : sProp 𝕄 := bigSep Finset.univ fun p => slotAt E p.1 p.2 (ph p)

theorem pool_step (E : Env F c) (p : Fin 4 × Fin 4) {ph ph' : Fin 4 × Fin 4 → Ph} (h : ∀ p', p' ≠ p → ph p' = ph' p') :
    pool E ph ⊢ iprop(slotAt E p.1 p.2 (ph p) ∗ (slotAt E p.1 p.2 (ph' p) -∗ pool E ph')) := by
  unfold pool
  rw [bigSep_erase (Finset.mem_univ p)]
  refine sep_mono_right (BIClass.wand_intro (sep_comm.1.trans ?_))
  rw [bigSep_erase (Φ := fun p => slotAt E p.1 p.2 (ph' p)) (Finset.mem_univ p)]
  refine sep_mono_right (Entails.of_eq (bigSep_congr fun p' hp' => ?_))
  rw [h p' (Finset.ne_of_mem_erase hp')]

/-- After `n` starts. -/
def pro (n : ℕ) (p : Fin 4 × Fin 4) : Ph := if 4 * p.1.val + p.2.val < n then .fly else .idle
/-- After `n` waits. -/
def lp (n : ℕ) (p : Fin 4 × Fin 4) : Ph := if 4 * p.1.val + p.2.val < n then .done else .fly

/-- Everything the body carries beside the buffers it writes. -/
def XP (E : Env F c) (ph : Fin 4 × Fin 4 → Ph) : sProp 𝕄 :=
  iprop((∃ W, owes (c : Thread nD τ) 0 W)
    ∗ ((((c : Thread nD τ).loc cc0_stg0_0) ↦{fullShare} E.f0) ∗ (((c : Thread nD τ).loc cc0_stg1_0) ↦{fullShare} E.f1)
      ∗ (((c : Thread nD τ).loc cc0_stg2_0) ↦{fullShare} E.f2) ∗ (((c : Thread nD τ).loc cc0_stg3_0) ↦{fullShare} E.f3))
    ∗ pool E ph)

theorem XP_f0 (E : Env F c) (ph) : XP E ph ⊢ iprop((((c : Thread nD τ).loc cc0_stg0_0) ↦{fullShare} E.f0)
    ∗ ((((c : Thread nD τ).loc cc0_stg0_0) ↦{fullShare} E.f0) -∗ XP E ph)) := by
  unfold XP
  iintro ⟨HW, ⟨H0, H1, H2, H3⟩, HP⟩
  isplitl [H0]; · iexact H0
  iintro H0
  isplitl [HW]; · iexact HW
  isplitl [H0 H1 H2 H3]
  · isplitl [H0]; · iexact H0
    isplitl [H1]; · iexact H1
    isplitl [H2]; · iexact H2
    iexact H3
  iexact HP

theorem XP_f1 (E : Env F c) (ph) : XP E ph ⊢ iprop((((c : Thread nD τ).loc cc0_stg1_0) ↦{fullShare} E.f1)
    ∗ ((((c : Thread nD τ).loc cc0_stg1_0) ↦{fullShare} E.f1) -∗ XP E ph)) := by
  unfold XP
  iintro ⟨HW, ⟨H0, H1, H2, H3⟩, HP⟩
  isplitl [H1]; · iexact H1
  iintro H1
  isplitl [HW]; · iexact HW
  isplitl [H0 H1 H2 H3]
  · isplitl [H0]; · iexact H0
    isplitl [H1]; · iexact H1
    isplitl [H2]; · iexact H2
    iexact H3
  iexact HP

theorem XP_f2 (E : Env F c) (ph) : XP E ph ⊢ iprop((((c : Thread nD τ).loc cc0_stg2_0) ↦{fullShare} E.f2)
    ∗ ((((c : Thread nD τ).loc cc0_stg2_0) ↦{fullShare} E.f2) -∗ XP E ph)) := by
  unfold XP
  iintro ⟨HW, ⟨H0, H1, H2, H3⟩, HP⟩
  isplitl [H2]; · iexact H2
  iintro H2
  isplitl [HW]; · iexact HW
  isplitl [H0 H1 H2 H3]
  · isplitl [H0]; · iexact H0
    isplitl [H1]; · iexact H1
    isplitl [H2]; · iexact H2
    iexact H3
  iexact HP

theorem XP_f3 (E : Env F c) (ph) : XP E ph ⊢ iprop((((c : Thread nD τ).loc cc0_stg3_0) ↦{fullShare} E.f3)
    ∗ ((((c : Thread nD τ).loc cc0_stg3_0) ↦{fullShare} E.f3) -∗ XP E ph)) := by
  unfold XP
  iintro ⟨HW, ⟨H0, H1, H2, H3⟩, HP⟩
  isplitl [H3]; · iexact H3
  iintro H3
  isplitl [HW]; · iexact HW
  isplitl [H0 H1 H2 H3]
  · isplitl [H0]; · iexact H0
    isplitl [H1]; · iexact H1
    isplitl [H2]; · iexact H2
    iexact H3
  iexact HP

theorem XP_slot (E : Env F c) (p : Fin 4 × Fin 4) {ph ph' : Fin 4 × Fin 4 → Ph} (h : ∀ p', p' ≠ p → ph p' = ph' p') :
    XP E ph ⊢ iprop(slotAt E p.1 p.2 (ph p) ∗ (slotAt E p.1 p.2 (ph' p) -∗ XP E ph')) := by
  unfold XP
  iintro ⟨HW, HS, HP⟩
  ihave ⟨H, HP⟩ := (pool_step E p h) $$ HP
  isplitl [H]; · iexact H
  iintro H
  isplitl [HW]; · iexact HW
  isplitl [HS]; · iexact HS
  iapply HP $$ H

theorem XP_wait (E : Env F c) (p : Fin 4 × Fin 4) {ph ph' : Fin 4 × Fin 4 → Ph} (h : ∀ p', p' ≠ p → ph p' = ph' p') :
    XP E ph ⊢ iprop((∃ W, owes (c : Thread nD τ) 0 W) ∗ slotAt E p.1 p.2 (ph p)
      ∗ ((∃ W, owes (c : Thread nD τ) 0 W) -∗ slotAt E p.1 p.2 (ph' p) -∗ XP E ph')) := by
  unfold XP
  iintro ⟨HW, HS, HP⟩
  ihave ⟨H, HP⟩ := (pool_step E p h) $$ HP
  isplitl [HW]; · iexact HW
  isplitl [H]; · iexact H
  iintro HW H
  isplitl [HW]; · iexact HW
  isplitl [HS]; · iexact HS
  iapply HP $$ H

theorem pro_step (b i : Fin 4) (n : ℕ) (hn : 4 * b.val + i.val = n) : ∀ p', p' ≠ (b, i) → pro n p' = pro (n + 1) p' := by
  intro p' h
  have : 4 * p'.1.val + p'.2.val ≠ n := fun e => h (Prod.ext (Fin.ext (by have := p'.2.isLt; have := i.isLt; show p'.1.val = b.val; omega)) (Fin.ext (by have := p'.2.isLt; have := i.isLt; show p'.2.val = i.val; omega)))
  unfold pro
  exact if_congr (by omega) rfl rfl

theorem lp_step (b i : Fin 4) (n : ℕ) (hn : 4 * b.val + i.val = n) : ∀ p', p' ≠ (b, i) → lp n p' = lp (n + 1) p' := by
  intro p' h
  have : 4 * p'.1.val + p'.2.val ≠ n := fun e => h (Prod.ext (Fin.ext (by have := p'.2.isLt; have := i.isLt; show p'.1.val = b.val; omega)) (Fin.ext (by have := p'.2.isLt; have := i.isLt; show p'.2.val = i.val; omega)))
  unfold lp
  exact if_congr (by omega) rfl rfl

theorem pro_idle (b i : Fin 4) (n : ℕ) (hn : 4 * b.val + i.val = n) : pro n (b, i) = .idle := if_neg (by simp; omega)
theorem pro_fly (b i : Fin 4) (n : ℕ) (hn : 4 * b.val + i.val = n) : pro (n + 1) (b, i) = .fly := if_pos (by simp; omega)
theorem lp_fly (b i : Fin 4) (n : ℕ) (hn : 4 * b.val + i.val = n) : lp n (b, i) = .fly := if_neg (by simp; omega)
theorem lp_done (b i : Fin 4) (n : ℕ) (hn : 4 * b.val + i.val < n) : lp n (b, i) = .done := if_pos (by simp; omega)

/-! ## The starts -/

theorem XP_enq (E : Env F c) (b i : Fin 4) (n : ℕ) (hn : 4 * b.val + i.val = n) :
    XP E (pro n) ⊢ iprop(slotAt E b i .idle ∗ (slotAt E b i .fly -∗ XP E (pro (n + 1)))) := by
  have h := XP_slot E (b, i) (pro_step b i n hn)
  rw [pro_idle b i n hn, pro_fly b i n hn] at h
  exact h

theorem XP_lp (E : Env F c) (b i : Fin 4) (n : ℕ) (hn : 4 * b.val + i.val = n) :
    XP E (lp n) ⊢ iprop((∃ W, owes (c : Thread nD τ) 0 W) ∗ slotAt E b i .fly
      ∗ ((∃ W, owes (c : Thread nD τ) 0 W) -∗ slotAt E b i .done -∗ XP E (lp (n + 1)))) := by
  have h := XP_wait E (b, i) (lp_step b i n hn)
  rw [lp_fly b i n hn, lp_done b i (n + 1) (by omega)] at h
  exact h

theorem unit_sub_row {s : Shape} {off size : Fin s.rank → ℕ} {inb} (h : 0 < s.rank) (b : ℕ) (ho : off ⟨0, h⟩ = b) (hs : size ⟨0, h⟩ = 1) :
    (Rect.unit (s := s) off size inb).set ⊆ row s h b := fun i hi => by
  have := Rect.mem_set_unit.mp hi ⟨0, h⟩
  exact Finset.mem_filter.mpr ⟨Finset.mem_univ _, by omega⟩

theorem unit_eq_row {s : Shape} {off size : Fin s.rank → ℕ} {inb} (h : 0 < s.rank) (b : ℕ) (ho : off ⟨0, h⟩ = b) (hs : size ⟨0, h⟩ = 1)
    (hz : ∀ a : Fin s.rank, a ≠ ⟨0, h⟩ → off a = 0 ∧ size a = s.size a) :
    (Rect.unit (s := s) off size inb).set = row s h b := by
  refine (unit_sub_row h b ho hs).antisymm fun i hi => Rect.mem_set_unit.mpr fun a => ?_
  have hb := (Finset.mem_filter.mp hi).2
  by_cases ha : a = ⟨0, h⟩
  · subst ha; omega
  · have := hz a ha; have := (i a).isLt; omega

theorem src_row0 (b : Fin 4) (w : BitVec 32) : (srcS (Memref.whole main_v0) b w).view.set ⊆ row S4x8x4096 (by decide) b := by
  rw [View.set_reshape]; erw [View.set_slice_whole]; exact unit_sub_row _ _ rfl rfl
theorem src_row1 (b : Fin 4) (w : BitVec 32) : (srcS (Memref.whole main_v1) b w).view.set ⊆ row S4x8x4096 (by decide) b := by
  rw [View.set_reshape]; erw [View.set_slice_whole]; exact unit_sub_row _ _ rfl rfl
theorem src_row2 (b : Fin 4) (w : BitVec 32) : (srcC (Memref.whole main_arg3) b w).view.set ⊆ row S4x4096x8x256 (by decide) b := by
  rw [View.set_reshape]; erw [View.set_slice_whole]; exact unit_sub_row _ _ rfl rfl
theorem src_row3 (b : Fin 4) (w : BitVec 32) : (srcC (Memref.whole main_arg5) b w).view.set ⊆ row S4x4096x8x256 (by decide) b := by
  rw [View.set_reshape]; erw [View.set_slice_whole]; exact unit_sub_row _ _ rfl rfl

theorem zr3 (b : ℕ) : ∀ a : Fin 3, a ≠ 0 → (![b, 0, 0] : Fin 3 → ℕ) a = 0 ∧ S1x8x1152.size a = S4x8x1152.size a := by
  intro a h; fin_cases a; · exact absurd rfl h
  · exact ⟨rfl, rfl⟩
  · exact ⟨rfl, rfl⟩
theorem zr4 (b : ℕ) : ∀ a : Fin 4, a ≠ 0 → (![b, 0, 0, 0] : Fin 4 → ℕ) a = 0 ∧ S1x1024x8x256.size a = S4x1024x8x256.size a := by
  intro a h; fin_cases a; · exact absurd rfl h
  · exact ⟨rfl, rfl⟩
  · exact ⟨rfl, rfl⟩
  · exact ⟨rfl, rfl⟩

theorem dst_row0 (b : Fin 4) : (dstS (Memref.whole cc0_scratch2) b).view.set = row S4x8x1152 (by decide) b := by
  rw [View.set_reshape]; erw [View.set_slice_whole]; exact unit_eq_row _ _ rfl rfl (zr3 b)
theorem dst_row1 (b : Fin 4) : (dstS (Memref.whole cc0_scratch3) b).view.set = row S4x8x1152 (by decide) b := by
  rw [View.set_reshape]; erw [View.set_slice_whole]; exact unit_eq_row _ _ rfl rfl (zr3 b)
theorem dst_row2 (b : Fin 4) : (dstC (Memref.whole cc0_scratch0) b).view.set = row S4x1024x8x256 (by decide) b := by
  rw [View.set_reshape]; erw [View.set_slice_whole]; exact unit_eq_row _ _ rfl rfl (zr4 b)
theorem dst_row3 (b : Fin 4) : (dstC (Memref.whole cc0_scratch1) b).view.set = row S4x1024x8x256 (by decide) b := by
  rw [View.set_reshape]; erw [View.set_slice_whole]; exact unit_eq_row _ _ rfl rfl (zr4 b)

variable {k : PUnit → Prog (TpuEff nD τ sig (Elt F) Λ₀ .tc) β}

theorem NS_pos : 0 < NS := by decide +kernel
theorem NC_pos : 0 < NC := by decide +kernel

/-- Start the key scales' copy. -/
theorem Run.enq0 {I : Cont F c → Prop} {Q : β → sProp 𝕄} (E : Env F c) (b : Fin 4) (n : ℕ) (hn : 4 * b.val + (0 : Fin 4).val = n) {h1 h2 h3} (h : Run c (XP E (pro (n + 1))) I (k ⟨⟩) Q) :
    Run c (XP E (pro n)) I (Prog.lift (TpuEff.enqueueDma (p := Proc.tc) (srcS (Memref.whole main_v0) b (wd E b)) (.here (dstS (Memref.whole cc0_scratch2) b)) (cell b 0) h1 h2 h3) >>= k) Q :=
  Run.enq (N := NS) (XP_enq E b 0 n hn) rfl NS_pos (src_row0 _ _) (dst_row0 b) ⟨_, rfl⟩ h
/-- Start the value scales' copy. -/
theorem Run.enq1 {I : Cont F c → Prop} {Q : β → sProp 𝕄} (E : Env F c) (b : Fin 4) (n : ℕ) (hn : 4 * b.val + (1 : Fin 4).val = n) {h1 h2 h3} (h : Run c (XP E (pro (n + 1))) I (k ⟨⟩) Q) :
    Run c (XP E (pro n)) I (Prog.lift (TpuEff.enqueueDma (p := Proc.tc) (srcS (Memref.whole main_v1) b (wd E b)) (.here (dstS (Memref.whole cc0_scratch3) b)) (cell b 1) h1 h2 h3) >>= k) Q :=
  Run.enq (N := NS) (XP_enq E b 1 n hn) rfl NS_pos (src_row1 _ _) (dst_row1 b) ⟨_, rfl⟩ h
/-- Start the key codes' copy. -/
theorem Run.enq2 {I : Cont F c → Prop} {Q : β → sProp 𝕄} (E : Env F c) (b : Fin 4) (n : ℕ) (hn : 4 * b.val + (2 : Fin 4).val = n) {h1 h2 h3} (h : Run c (XP E (pro (n + 1))) I (k ⟨⟩) Q) :
    Run c (XP E (pro n)) I (Prog.lift (TpuEff.enqueueDma (p := Proc.tc) (srcC (Memref.whole main_arg3) b (wd E b)) (.here (dstC (Memref.whole cc0_scratch0) b)) (cell b 2) h1 h2 h3) >>= k) Q :=
  Run.enq (N := NC) (XP_enq E b 2 n hn) rfl NC_pos (src_row2 _ _) (dst_row2 b) ⟨_, rfl⟩ h
/-- Start the value codes' copy. -/
theorem Run.enq3 {I : Cont F c → Prop} {Q : β → sProp 𝕄} (E : Env F c) (b : Fin 4) (n : ℕ) (hn : 4 * b.val + (3 : Fin 4).val = n) {h1 h2 h3} (h : Run c (XP E (pro (n + 1))) I (k ⟨⟩) Q) :
    Run c (XP E (pro n)) I (Prog.lift (TpuEff.enqueueDma (p := Proc.tc) (srcC (Memref.whole main_arg5) b (wd E b)) (.here (dstC (Memref.whole cc0_scratch1) b)) (cell b 3) h1 h2 h3) >>= k) Q :=
  Run.enq (N := NC) (XP_enq E b 3 n hn) rfl NC_pos (src_row3 _ _) (dst_row3 b) ⟨_, rfl⟩ h

/-- A length read. -/
theorem Run.len {I : Cont F c → Prop} {Q : β → sProp 𝕄} {k : BitVec 32 → Prog (TpuEff nD τ sig (Elt F) Λ₀ .tc) β} (E : Env F c) {ph} (b : Fin 4) {off : Fin 1 → ℕ} (ho : off = ![b.val]) {inb : ∀ a, off a + S1.size a ≤ S4.size a} {h1 hp}
    (h : Run c (XP E ph) I (k (wd E b)) Q) :
    Run c (XP E ph) I (smemLoad (Memref.whole cc0_stg0_0 : Memref sig .tc .smem S4 .i32) (Rect.unit (s := S4) off S1.size inb) h1 hp >>= k) Q := by
  subst ho
  exact Run.smemX (XP_f0 E ph) h

/-! ## The waits -/

abbrev tb (t : Fin k0_t1_loop.trips) : Fin 4 := ⟨t.val, t_lt t⟩

theorem Run.wt {I : Cont F c → Prop} {Q : β → sProp 𝕄} (E : Env F c) (b i : Fin 4) (n : ℕ) (hn : 4 * b.val + i.val = n) {s0 s1 : Shape} {e e1 : EltTy} {sp sp' : Space} {src : Memref sig .tc sp s1 e1} {dst : Memref sig .tc sp' s0 e}
    {sem : DmaSem sig} {h1 : src.view.WordExact} {h2 : dst.view.WordExact}
    (hs : SemLoc.dma sem = cell b i) (hN : dst.view.dmaCredit = if i.val < 2 then NS else NC)
    (h : Run c (XP E (lp (n + 1))) I (k ⟨⟩) Q) :
    Run c (XP E (lp n)) I (Prog.lift (.waitDma2 sem src dst h1 h2) >>= k) Q := by
  have hx := XP_lp E b i n hn
  revert hs hN hx
  match i with
  | 0 => exact fun hs hN hx => Run.wait hx hs hN h
  | 1 => exact fun hs hN hx => Run.wait hx hs hN h
  | 2 => exact fun hs hN hx => Run.wait hx hs hN h
  | 3 => exact fun hs hN hx => Run.wait hx hs hN h

theorem sem14 (t : Fin k0_t1_loop.trips) : SemLoc.dma ((cc0_scratch8.slice (Rect.unit (s := S4x4) (k0_off14 t) S1x1.size (k0_off14_inb t))).squeeze S_ squeezes_S1x1_S_).sem = cell (tb t) 0 := by
  revert t; decide +kernel
theorem sem17 (t : Fin k0_t1_loop.trips) : SemLoc.dma ((cc0_scratch8.slice (Rect.unit (s := S4x4) (k0_off17 t) S1x1.size (k0_off17_inb t))).squeeze S_ squeezes_S1x1_S_).sem = cell (tb t) 1 := by
  revert t; decide +kernel
theorem sem18 (t : Fin k0_t1_loop.trips) : SemLoc.dma ((cc0_scratch8.slice (Rect.unit (s := S4x4) (k0_off18 t) S1x1.size (k0_off18_inb t))).squeeze S_ squeezes_S1x1_S_).sem = cell (tb t) 2 := by
  revert t; decide +kernel
theorem sem38 (t : Fin k0_t1_loop.trips) : SemLoc.dma ((cc0_scratch8.slice (Rect.unit (s := S4x4) (k0_off38 t) S1x1.size (k0_off38_inb t))).squeeze S_ squeezes_S1x1_S_).sem = cell (tb t) 3 := by
  revert t; decide +kernel

/-! ## The loads of what the waits delivered -/

/-- What a part may load: the staged operands, and the rows of trip `t` the waits have delivered. -/
structure Res (X : sProp 𝕄) (E : Env F c) (b : Fin 4) : Prop where
  f1 : X ⊢ iprop((((c : Thread nD τ).loc cc0_stg1_0) ↦{fullShare} E.f1) ∗ ((((c : Thread nD τ).loc cc0_stg1_0) ↦{fullShare} E.f1) -∗ X))
  f2 : X ⊢ iprop((((c : Thread nD τ).loc cc0_stg2_0) ↦{fullShare} E.f2) ∗ ((((c : Thread nD τ).loc cc0_stg2_0) ↦{fullShare} E.f2) -∗ X))
  f3 : X ⊢ iprop((((c : Thread nD τ).loc cc0_stg3_0) ↦{fullShare} E.f3) ∗ ((((c : Thread nD τ).loc cc0_stg3_0) ↦{fullShare} E.f3) -∗ X))
  g0 : X ⊢ iprop((((c : Thread nD τ).loc cc0_scratch2) ↦[row S4x8x1152 (by decide) b]{fullShare} G0 E b) ∗ ((((c : Thread nD τ).loc cc0_scratch2) ↦[row S4x8x1152 (by decide) b]{fullShare} G0 E b) -∗ X))
  g1 : X ⊢ iprop((((c : Thread nD τ).loc cc0_scratch3) ↦[row S4x8x1152 (by decide) b]{fullShare} G1 E b) ∗ ((((c : Thread nD τ).loc cc0_scratch3) ↦[row S4x8x1152 (by decide) b]{fullShare} G1 E b) -∗ X))
  g2 : X ⊢ iprop((((c : Thread nD τ).loc cc0_scratch0) ↦[row S4x1024x8x256 (by decide) b]{fullShare} G2 E b) ∗ ((((c : Thread nD τ).loc cc0_scratch0) ↦[row S4x1024x8x256 (by decide) b]{fullShare} G2 E b) -∗ X))

/-- And the value codes' rows, after the fourth wait. -/
structure Res3 (X : sProp 𝕄) (E : Env F c) (b : Fin 4) : Prop extends Res X E b where
  g3 : X ⊢ iprop((((c : Thread nD τ).loc cc0_scratch1) ↦[row S4x1024x8x256 (by decide) b]{fullShare} G3 E b) ∗ ((((c : Thread nD τ).loc cc0_scratch1) ↦[row S4x1024x8x256 (by decide) b]{fullShare} G3 E b) -∗ X))

theorem XP_done (E : Env F c) (b i : Fin 4) (n : ℕ) (hn : 4 * b.val + i.val < n) :
    XP E (lp n) ⊢ iprop(slotAt E b i .done ∗ (slotAt E b i .done -∗ XP E (lp n))) := by
  have h := XP_slot E (b, i) (ph := lp n) (ph' := lp n) fun _ _ => rfl
  rw [lp_done b i n hn] at h
  exact h

theorem slot_dst {s d : Ref sig .tc} {sm : SemLoc sig} {N : ℕ} {RS : Finset (Idx ((c : Thread nD τ).loc s))}
    {RD : Finset (Idx ((c : Thread nD τ).loc d))} {fs : Buf (Elt F) ((c : Thread nD τ).loc s)} {G : Buf (Elt F) ((c : Thread nD τ).loc d)} {X : sProp 𝕄}
    (h : X ⊢ iprop(Slot c s d sm N RS RD fs G .done ∗ (Slot c s d sm N RS RD fs G .done -∗ X))) :
    X ⊢ iprop((((c : Thread nD τ).loc d) ↦[RD]{fullShare} G) ∗ ((((c : Thread nD τ).loc d) ↦[RD]{fullShare} G) -∗ X)) := by
  refine h.trans ?_
  unfold Slot
  iintro ⟨⟨Hs, Hd, Hv⟩, HX⟩
  isplitl [Hd]; · iexact Hd
  iintro Hd
  iapply HX
  isplitl [Hs]; · iexact Hs
  isplitl [Hd]; · iexact Hd
  iexact Hv

theorem res3 (E : Env F c) (b : Fin 4) : Res (XP E (lp (4 * b.val + 3))) E b where
  f1 := XP_f1 E _
  f2 := XP_f2 E _
  f3 := XP_f3 E _
  g0 := slot_dst (N := NS) (XP_done E b 0 _ (by simp))
  g1 := slot_dst (N := NS) (XP_done E b 1 _ (by simp))
  g2 := slot_dst (N := NC) (XP_done E b 2 _ (by simp))
theorem res4 (E : Env F c) (b : Fin 4) : Res3 (XP E (lp (4 * b.val + 4))) E b where
  f1 := XP_f1 E _
  f2 := XP_f2 E _
  f3 := XP_f3 E _
  g0 := slot_dst (N := NS) (XP_done E b 0 _ (by simp))
  g1 := slot_dst (N := NS) (XP_done E b 1 _ (by simp))
  g2 := slot_dst (N := NC) (XP_done E b 2 _ (by simp))
  g3 := slot_dst (N := NC) (XP_done E b 3 _ (by simp))

theorem whole_setOn_sub_row (m : Ref sig .tc) {off size : Fin m.ty.shape.rank → ℕ} {inb} (h : 0 < m.ty.shape.rank) (b : ℕ) (ho : off ⟨0, h⟩ = b) (hs : size ⟨0, h⟩ = 1) :
    (View.whole m).setOn (Rect.unit (s := m.ty.shape) off size inb).toLoadRect.set ⊆ row m.ty.shape h b :=
  fun i hi => by obtain ⟨x, hx, rfl⟩ := Finset.mem_map.mp hi; exact unit_sub_row h b ho hs hx

theorem Res.ld0 {X : sProp 𝕄} {I : Cont F c → Prop} {E : Env F c} {b : Fin 4} (R : Res X E b) {off : Fin 3 → ℕ} {inb : ∀ a, off a + S1x8x128.size a ≤ S4x8x1152.size a} (ho : off 0 = b.val)
    {hl} {k : (S1x8x128.Idx → Elt F .f32) → Prog (TpuEff nD τ sig (Elt F) Λ₀ .tc) β} {Q : β → sProp 𝕄}
    (h : Run c X I (k ((Memref.whole cc0_scratch2 : Memref sig .tc .vmem S4x8x1152 .f32).view.readAt (Elt F) (Rect.unit (s := S4x8x1152) off S1x8x128.size inb).toLoadRect (G0 E b))) Q) :
    Run c X I (Prog.lift (.load (Memref.whole cc0_scratch2 : Memref sig .tc .vmem S4x8x1152 .f32) (Rect.unit (s := S4x8x1152) off S1x8x128.size inb).toLoadRect hl) >>= k) Q :=
  Run.loadX R.g0 (whole_setOn_sub_row cc0_scratch2 _ _ ho rfl) h
theorem Res.ld1 {X : sProp 𝕄} {I : Cont F c → Prop} {E : Env F c} {b : Fin 4} (R : Res X E b) {off : Fin 3 → ℕ} {inb : ∀ a, off a + S1x8x128.size a ≤ S4x8x1152.size a} (ho : off 0 = b.val)
    {hl} {k : (S1x8x128.Idx → Elt F .f32) → Prog (TpuEff nD τ sig (Elt F) Λ₀ .tc) β} {Q : β → sProp 𝕄}
    (h : Run c X I (k ((Memref.whole cc0_scratch3 : Memref sig .tc .vmem S4x8x1152 .f32).view.readAt (Elt F) (Rect.unit (s := S4x8x1152) off S1x8x128.size inb).toLoadRect (G1 E b))) Q) :
    Run c X I (Prog.lift (.load (Memref.whole cc0_scratch3 : Memref sig .tc .vmem S4x8x1152 .f32) (Rect.unit (s := S4x8x1152) off S1x8x128.size inb).toLoadRect hl) >>= k) Q :=
  Run.loadX R.g1 (whole_setOn_sub_row cc0_scratch3 _ _ ho rfl) h
theorem Res.ld2 {X : sProp 𝕄} {I : Cont F c → Prop} {E : Env F c} {b : Fin 4} (R : Res X E b) {off : Fin 4 → ℕ} {inb : ∀ a, off a + S1x128x8x256.size a ≤ S4x1024x8x256.size a} (ho : off 0 = b.val)
    {hl} {k : (S1x128x8x256.Idx → Elt F .i8) → Prog (TpuEff nD τ sig (Elt F) Λ₀ .tc) β} {Q : β → sProp 𝕄}
    (h : Run c X I (k ((Memref.whole cc0_scratch0 : Memref sig .tc .vmem S4x1024x8x256 .i8).view.readAt (Elt F) (Rect.unit (s := S4x1024x8x256) off S1x128x8x256.size inb).toLoadRect (G2 E b))) Q) :
    Run c X I (Prog.lift (.load (Memref.whole cc0_scratch0 : Memref sig .tc .vmem S4x1024x8x256 .i8) (Rect.unit (s := S4x1024x8x256) off S1x128x8x256.size inb).toLoadRect hl) >>= k) Q :=
  Run.loadX R.g2 (whole_setOn_sub_row cc0_scratch0 _ _ ho rfl) h
theorem Res3.ld3 {X : sProp 𝕄} {I : Cont F c → Prop} {E : Env F c} {b : Fin 4} (R : Res3 X E b) {off : Fin 4 → ℕ} {inb : ∀ a, off a + S1x128x8x256.size a ≤ S4x1024x8x256.size a} (ho : off 0 = b.val)
    {hl} {k : (S1x128x8x256.Idx → Elt F .i8) → Prog (TpuEff nD τ sig (Elt F) Λ₀ .tc) β} {Q : β → sProp 𝕄}
    (h : Run c X I (k ((Memref.whole cc0_scratch1 : Memref sig .tc .vmem S4x1024x8x256 .i8).view.readAt (Elt F) (Rect.unit (s := S4x1024x8x256) off S1x128x8x256.size inb).toLoadRect (G3 E b))) Q) :
    Run c X I (Prog.lift (.load (Memref.whole cc0_scratch1 : Memref sig .tc .vmem S4x1024x8x256 .i8) (Rect.unit (s := S4x1024x8x256) off S1x128x8x256.size inb).toLoadRect hl) >>= k) Q :=
  Run.loadX R.g3 (whole_setOn_sub_row cc0_scratch1 _ _ ho rfl) h

theorem offb (t : Fin k0_t1_loop.trips) : (![(Scalar.indexCast (Scf.iv 0#32 1#32 t) : Index).toNat] : Fin 1 → ℕ) = ![(tb t).val] := by
  revert t; decide +kernel

theorem m8 : cc0_stg4_0 ∈ B0 := by decide
theorem m9 : cc0_stg5_0 ∈ B0 := by decide
theorem m10 : cc0_stg6_0 ∈ B0 := by decide
theorem m11 : cc0_stg7_0 ∈ B0 := by decide
theorem m12 : cc0_stg8_0 ∈ B0 := by decide
theorem m17 : cc0_scratch4 ∈ B0 := by decide
theorem m18 : cc0_scratch5 ∈ B0 := by decide
theorem m19 : cc0_scratch6 ∈ B0 := by decide
theorem m20 : cc0_scratch7 ∈ B0 := by decide

end Cert.Kernel.Hand

end
-- ==== Proof.K.Enter.lean ====
/-
  Entering and leaving the region: the sixteen slots from the whole buffers and back.
-/
module

public import proofs.«01_k».proof.Proof.Gen.Kernel.Frame
public import proofs.«01_k».proof.Proof.K.Pool

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows of a buffer with leading extent four are disjoint and fill it. -/
theorem row_disj (s : Shape) (h : 0 < s.rank) : ∀ t ∈ (Finset.univ : Finset (Fin 4)), ∀ t' ∈ (Finset.univ : Finset (Fin 4)), t ≠ t' →
    Disjoint (row s h t.val) (row s h t'.val) := by
  intro t _ t' _ hne
  rw [Finset.disjoint_left]
  intro i hi hi'
  simp only [row, Finset.mem_filter] at hi hi'
  exact hne (Fin.ext (hi.2.symm.trans hi'.2))

theorem row_mem (s : Shape) (h : 0 < s.rank) (h4 : s.size ⟨0, h⟩ = 4) (i : s.Idx) : ∃ t : Fin 4, i ∈ row s h t.val :=
  ⟨⟨(i ⟨0, h⟩).val, by have := (i ⟨0, h⟩).isLt; omega⟩, by simp only [row, Finset.mem_filter, Finset.mem_univ, true_and]⟩

theorem four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

variable {c : Dev nD}

/-- A whole buffer as its four rows. -/
theorem rows_eq {ℓ : Loc nD τ sig} (K : Fin 4 → Finset (Idx ℓ)) (hd : ∀ t ∈ (Finset.univ : Finset (Fin 4)), ∀ t' ∈ (Finset.univ : Finset (Fin 4)), t ≠ t' → Disjoint (K t) (K t'))
    (hu : ∀ i, ∃ t, i ∈ K t) (f : Buf (Elt F) ℓ) :
    (ℓ ↦{fullShare} f : sProp 𝕄) = iprop((ℓ ↦[K 0]{fullShare} f) ∗ (ℓ ↦[K 1]{fullShare} f) ∗ (ℓ ↦[K 2]{fullShare} f) ∗ (ℓ ↦[K 3]{fullShare} f)) := by
  rw [← four (fun t => (ℓ ↦[K t]{fullShare} f : sProp 𝕄)), ← pointsTo_biUnion _ _ hd, show Finset.univ.biUnion K = Finset.univ from Finset.eq_univ_of_forall fun i => Finset.mem_biUnion.mpr ((hu i).imp fun t h => ⟨Finset.mem_univ t, h⟩)]

/-- Four rows at their own contents, as one buffer. -/
theorem rows_join {ℓ : Loc nD τ sig} (K : Fin 4 → Finset (Idx ℓ)) (hd : ∀ t ∈ (Finset.univ : Finset (Fin 4)), ∀ t' ∈ (Finset.univ : Finset (Fin 4)), t ≠ t' → Disjoint (K t) (K t'))
    (hu : ∀ i, ∃ t, i ∈ K t) (f : Fin 4 → Buf (Elt F) ℓ) :
    iprop((ℓ ↦[K 0]{fullShare} f 0) ∗ (ℓ ↦[K 1]{fullShare} f 1) ∗ (ℓ ↦[K 2]{fullShare} f 2) ∗ (ℓ ↦[K 3]{fullShare} f 3))
      ⊢ (iprop(∃ g, ℓ ↦{fullShare} g) : sProp 𝕄) := by
  rw [← four (fun t => (ℓ ↦[K t]{fullShare} f t : sProp 𝕄))]
  refine (pointsTo_biUnion_join _ _ f (f 0) hd).trans ?_
  rw [show Finset.univ.biUnion K = Finset.univ from Finset.eq_univ_of_forall fun i => Finset.mem_biUnion.mpr ((hu i).imp fun t h => ⟨Finset.mem_univ t, h⟩)]
  iintro ⟨%g, -, H⟩
  iexists g; iexact H

/-- Some contents of each of several buffers, as contents of them all. -/
theorem choose_cont (S : Finset (Ref sig .tc)) (C0 : Cont F c) :
    (bigSep S (fun b => iprop(∃ f, ((c : Thread nD τ).loc b) ↦{fullShare} f)) : sProp 𝕄)
      ⊢ iprop(∃ C : Cont F c, bigSep S (fun b => ((c : Thread nD τ).loc b) ↦{fullShare} C b)) := by
  classical
  induction S using Finset.induction_on with
  | empty =>
    rw [bigSep_empty]
    iintro H; iexists C0; rw [bigSep_empty]; iexact H
  | insert a S ha ih =>
    rw [bigSep_insert ha]
    show iprop((∃ f, ((c : Thread nD τ).loc a) ↦{fullShare} f) ∗ bigSep S (fun b => iprop(∃ f, ((c : Thread nD τ).loc b) ↦{fullShare} f))) ⊢ _
    iintro ⟨⟨%f, Hf⟩, HS⟩
    ihave ⟨%C, HS⟩ := ih $$ HS
    iexists (Function.update C a f)
    have e : (bigSep S (fun b => ((c : Thread nD τ).loc b) ↦{fullShare} Function.update C a f b) : sProp 𝕄) = bigSep S (fun b => ((c : Thread nD τ).loc b) ↦{fullShare} C b) :=
      bigSep_congr fun b hb => by
        have hne : b ≠ a := by rintro rfl; exact ha hb
        rw [Function.update_of_ne hne]
    have e2 : (bigSep (insert a S) (fun b => ((c : Thread nD τ).loc b) ↦{fullShare} Function.update C a f b) : sProp 𝕄)
        = iprop((((c : Thread nD τ).loc a) ↦{fullShare} f) ∗ bigSep S (fun b => ((c : Thread nD τ).loc b) ↦{fullShare} C b)) := by
      rw [bigSep_insert ha, Function.update_self, e]; rfl
    rw [e2]
    isplitl [Hf]; · iexact Hf
    iexact HS

theorem B0_list {M : Type} [URA M] (Φ : Ref sig .tc → sProp M) : bigSep B0 Φ = iprop(Φ cc0_stg4_0 ∗ Φ cc0_stg5_0 ∗ Φ cc0_stg6_0 ∗ Φ cc0_stg7_0 ∗ Φ cc0_stg8_0
    ∗ Φ cc0_scratch4 ∗ Φ cc0_scratch5 ∗ Φ cc0_scratch6 ∗ Φ cc0_scratch7) := by
  rw [BI.bigSep_eq_bigSepL_of_eq [cc0_stg4_0, cc0_stg5_0, cc0_stg6_0, cc0_stg7_0, cc0_stg8_0, cc0_scratch4, cc0_scratch5, cc0_scratch6, cc0_scratch7] (by decide) (by decide)]; rfl

abbrev K_src0 (c : Dev nD) (t : Fin 4) : Finset (Idx ((c : Thread nD τ).loc main_v0)) := row S4x8x4096 (by decide) t.val
theorem D_src0 (c : Dev nD) : ∀ t ∈ (Finset.univ : Finset (Fin 4)), ∀ t' ∈ (Finset.univ : Finset (Fin 4)), t ≠ t' → Disjoint (K_src0 c t) (K_src0 c t') := row_disj S4x8x4096 _
theorem U_src0 (c : Dev nD) : ∀ i, ∃ t, i ∈ K_src0 c t := row_mem S4x8x4096 _ (by decide)

abbrev K_src1 (c : Dev nD) (t : Fin 4) : Finset (Idx ((c : Thread nD τ).loc main_v1)) := row S4x8x4096 (by decide) t.val
theorem D_src1 (c : Dev nD) : ∀ t ∈ (Finset.univ : Finset (Fin 4)), ∀ t' ∈ (Finset.univ : Finset (Fin 4)), t ≠ t' → Disjoint (K_src1 c t) (K_src1 c t') := row_disj S4x8x4096 _
theorem U_src1 (c : Dev nD) : ∀ i, ∃ t, i ∈ K_src1 c t := row_mem S4x8x4096 _ (by decide)

abbrev K_src2 (c : Dev nD) (t : Fin 4) : Finset (Idx ((c : Thread nD τ).loc main_arg3)) := row S4x4096x8x256 (by decide) t.val
theorem D_src2 (c : Dev nD) : ∀ t ∈ (Finset.univ : Finset (Fin 4)), ∀ t' ∈ (Finset.univ : Finset (Fin 4)), t ≠ t' → Disjoint (K_src2 c t) (K_src2 c t') := row_disj S4x4096x8x256 _
theorem U_src2 (c : Dev nD) : ∀ i, ∃ t, i ∈ K_src2 c t := row_mem S4x4096x8x256 _ (by decide)

abbrev K_src3 (c : Dev nD) (t : Fin 4) : Finset (Idx ((c : Thread nD τ).loc main_arg5)) := row S4x4096x8x256 (by decide) t.val
theorem D_src3 (c : Dev nD) : ∀ t ∈ (Finset.univ : Finset (Fin 4)), ∀ t' ∈ (Finset.univ : Finset (Fin 4)), t ≠ t' → Disjoint (K_src3 c t) (K_src3 c t') := row_disj S4x4096x8x256 _
theorem U_src3 (c : Dev nD) : ∀ i, ∃ t, i ∈ K_src3 c t := row_mem S4x4096x8x256 _ (by decide)

abbrev K_dst0 (c : Dev nD) (t : Fin 4) : Finset (Idx ((c : Thread nD τ).loc cc0_scratch2)) := row S4x8x1152 (by decide) t.val
theorem D_dst0 (c : Dev nD) : ∀ t ∈ (Finset.univ : Finset (Fin 4)), ∀ t' ∈ (Finset.univ : Finset (Fin 4)), t ≠ t' → Disjoint (K_dst0 c t) (K_dst0 c t') := row_disj S4x8x1152 _
theorem U_dst0 (c : Dev nD) : ∀ i, ∃ t, i ∈ K_dst0 c t := row_mem S4x8x1152 _ (by decide)

abbrev K_dst1 (c : Dev nD) (t : Fin 4) : Finset (Idx ((c : Thread nD τ).loc cc0_scratch3)) := row S4x8x1152 (by decide) t.val
theorem D_dst1 (c : Dev nD) : ∀ t ∈ (Finset.univ : Finset (Fin 4)), ∀ t' ∈ (Finset.univ : Finset (Fin 4)), t ≠ t' → Disjoint (K_dst1 c t) (K_dst1 c t') := row_disj S4x8x1152 _
theorem U_dst1 (c : Dev nD) : ∀ i, ∃ t, i ∈ K_dst1 c t := row_mem S4x8x1152 _ (by decide)

abbrev K_dst2 (c : Dev nD) (t : Fin 4) : Finset (Idx ((c : Thread nD τ).loc cc0_scratch0)) := row S4x1024x8x256 (by decide) t.val
theorem D_dst2 (c : Dev nD) : ∀ t ∈ (Finset.univ : Finset (Fin 4)), ∀ t' ∈ (Finset.univ : Finset (Fin 4)), t ≠ t' → Disjoint (K_dst2 c t) (K_dst2 c t') := row_disj S4x1024x8x256 _
theorem U_dst2 (c : Dev nD) : ∀ i, ∃ t, i ∈ K_dst2 c t := row_mem S4x1024x8x256 _ (by decide)

abbrev K_dst3 (c : Dev nD) (t : Fin 4) : Finset (Idx ((c : Thread nD τ).loc cc0_scratch1)) := row S4x1024x8x256 (by decide) t.val
theorem D_dst3 (c : Dev nD) : ∀ t ∈ (Finset.univ : Finset (Fin 4)), ∀ t' ∈ (Finset.univ : Finset (Fin 4)), t ≠ t' → Disjoint (K_dst3 c t) (K_dst3 c t') := row_disj S4x1024x8x256 _
theorem U_dst3 (c : Dev nD) : ∀ i, ∃ t, i ∈ K_dst3 c t := row_mem S4x1024x8x256 _ (by decide)

/-- The sixteen slots, one by one. -/
theorem pool_list (E : Env F c) (ph : Fin 4 × Fin 4 → Ph) : pool E ph = iprop(slotAt E 0 0 (ph (0, 0)) ∗ slotAt E 0 1 (ph (0, 1)) ∗ slotAt E 0 2 (ph (0, 2)) ∗ slotAt E 0 3 (ph (0, 3)) ∗ slotAt E 1 0 (ph (1, 0)) ∗ slotAt E 1 1 (ph (1, 1)) ∗ slotAt E 1 2 (ph (1, 2)) ∗ slotAt E 1 3 (ph (1, 3)) ∗ slotAt E 2 0 (ph (2, 0)) ∗ slotAt E 2 1 (ph (2, 1)) ∗ slotAt E 2 2 (ph (2, 2)) ∗ slotAt E 2 3 (ph (2, 3)) ∗ slotAt E 3 0 (ph (3, 0)) ∗ slotAt E 3 1 (ph (3, 1)) ∗ slotAt E 3 2 (ph (3, 2)) ∗ slotAt E 3 3 (ph (3, 3))) := by
  unfold pool
  rw [bigSep_univ_eq_bigSepL [(0, 0), (0, 1), (0, 2), (0, 3), (1, 0), (1, 1), (1, 2), (1, 3), (2, 0), (2, 1), (2, 2), (2, 3), (3, 0), (3, 1), (3, 2), (3, 3)] (by decide) (by decide)]; rfl

/-- The sixteen cells, at zero. -/
def sems0 (c : Dev nD) : sProp 𝕄 := iprop(semVal ((c : Thread nD τ), cell 0 0) 0 ∗ semVal ((c : Thread nD τ), cell 0 1) 0 ∗ semVal ((c : Thread nD τ), cell 0 2) 0 ∗ semVal ((c : Thread nD τ), cell 0 3) 0 ∗ semVal ((c : Thread nD τ), cell 1 0) 0 ∗ semVal ((c : Thread nD τ), cell 1 1) 0 ∗ semVal ((c : Thread nD τ), cell 1 2) 0 ∗ semVal ((c : Thread nD τ), cell 1 3) 0 ∗ semVal ((c : Thread nD τ), cell 2 0) 0 ∗ semVal ((c : Thread nD τ), cell 2 1) 0 ∗ semVal ((c : Thread nD τ), cell 2 2) 0 ∗ semVal ((c : Thread nD τ), cell 2 3) 0 ∗ semVal ((c : Thread nD τ), cell 3 0) 0 ∗ semVal ((c : Thread nD τ), cell 3 1) 0 ∗ semVal ((c : Thread nD τ), cell 3 2) 0 ∗ semVal ((c : Thread nD τ), cell 3 3) 0)

/-- The sources and the cells, whole. -/
def srcs (E : Env F c) : sProp 𝕄 := iprop((((c : Thread nD τ).loc main_v0) ↦{fullShare} E.s0) ∗ (((c : Thread nD τ).loc main_v1) ↦{fullShare} E.s1) ∗ (((c : Thread nD τ).loc main_arg3) ↦{fullShare} E.s2) ∗ (((c : Thread nD τ).loc main_arg5) ↦{fullShare} E.s3))
/-- The destinations, whole, at some contents. -/
def dsts (c : Dev nD) : sProp 𝕄 := iprop((∃ f, ((c : Thread nD τ).loc cc0_scratch2) ↦{fullShare} f) ∗ (∃ f, ((c : Thread nD τ).loc cc0_scratch3) ↦{fullShare} f) ∗ (∃ f, ((c : Thread nD τ).loc cc0_scratch0) ↦{fullShare} f) ∗ (∃ f, ((c : Thread nD τ).loc cc0_scratch1) ↦{fullShare} f))

theorem pool_idle (E : Env F c) : pool E (pro 0) = iprop(((((c : Thread nD τ).loc main_v0) ↦[K_src0 c 0]{fullShare} E.s0) ∗ (∃ fd, ((c : Thread nD τ).loc cc0_scratch2) ↦[K_dst0 c 0]{fullShare} fd) ∗ semVal ((c : Thread nD τ), cell 0 0) 0)
    ∗ ((((c : Thread nD τ).loc main_v1) ↦[K_src1 c 0]{fullShare} E.s1) ∗ (∃ fd, ((c : Thread nD τ).loc cc0_scratch3) ↦[K_dst1 c 0]{fullShare} fd) ∗ semVal ((c : Thread nD τ), cell 0 1) 0)
    ∗ ((((c : Thread nD τ).loc main_arg3) ↦[K_src2 c 0]{fullShare} E.s2) ∗ (∃ fd, ((c : Thread nD τ).loc cc0_scratch0) ↦[K_dst2 c 0]{fullShare} fd) ∗ semVal ((c : Thread nD τ), cell 0 2) 0)
    ∗ ((((c : Thread nD τ).loc main_arg5) ↦[K_src3 c 0]{fullShare} E.s3) ∗ (∃ fd, ((c : Thread nD τ).loc cc0_scratch1) ↦[K_dst3 c 0]{fullShare} fd) ∗ semVal ((c : Thread nD τ), cell 0 3) 0)
    ∗ ((((c : Thread nD τ).loc main_v0) ↦[K_src0 c 1]{fullShare} E.s0) ∗ (∃ fd, ((c : Thread nD τ).loc cc0_scratch2) ↦[K_dst0 c 1]{fullShare} fd) ∗ semVal ((c : Thread nD τ), cell 1 0) 0)
    ∗ ((((c : Thread nD τ).loc main_v1) ↦[K_src1 c 1]{fullShare} E.s1) ∗ (∃ fd, ((c : Thread nD τ).loc cc0_scratch3) ↦[K_dst1 c 1]{fullShare} fd) ∗ semVal ((c : Thread nD τ), cell 1 1) 0)
    ∗ ((((c : Thread nD τ).loc main_arg3) ↦[K_src2 c 1]{fullShare} E.s2) ∗ (∃ fd, ((c : Thread nD τ).loc cc0_scratch0) ↦[K_dst2 c 1]{fullShare} fd) ∗ semVal ((c : Thread nD τ), cell 1 2) 0)
    ∗ ((((c : Thread nD τ).loc main_arg5) ↦[K_src3 c 1]{fullShare} E.s3) ∗ (∃ fd, ((c : Thread nD τ).loc cc0_scratch1) ↦[K_dst3 c 1]{fullShare} fd) ∗ semVal ((c : Thread nD τ), cell 1 3) 0)
    ∗ ((((c : Thread nD τ).loc main_v0) ↦[K_src0 c 2]{fullShare} E.s0) ∗ (∃ fd, ((c : Thread nD τ).loc cc0_scratch2) ↦[K_dst0 c 2]{fullShare} fd) ∗ semVal ((c : Thread nD τ), cell 2 0) 0)
    ∗ ((((c : Thread nD τ).loc main_v1) ↦[K_src1 c 2]{fullShare} E.s1) ∗ (∃ fd, ((c : Thread nD τ).loc cc0_scratch3) ↦[K_dst1 c 2]{fullShare} fd) ∗ semVal ((c : Thread nD τ), cell 2 1) 0)
    ∗ ((((c : Thread nD τ).loc main_arg3) ↦[K_src2 c 2]{fullShare} E.s2) ∗ (∃ fd, ((c : Thread nD τ).loc cc0_scratch0) ↦[K_dst2 c 2]{fullShare} fd) ∗ semVal ((c : Thread nD τ), cell 2 2) 0)
    ∗ ((((c : Thread nD τ).loc main_arg5) ↦[K_src3 c 2]{fullShare} E.s3) ∗ (∃ fd, ((c : Thread nD τ).loc cc0_scratch1) ↦[K_dst3 c 2]{fullShare} fd) ∗ semVal ((c : Thread nD τ), cell 2 3) 0)
    ∗ ((((c : Thread nD τ).loc main_v0) ↦[K_src0 c 3]{fullShare} E.s0) ∗ (∃ fd, ((c : Thread nD τ).loc cc0_scratch2) ↦[K_dst0 c 3]{fullShare} fd) ∗ semVal ((c : Thread nD τ), cell 3 0) 0)
    ∗ ((((c : Thread nD τ).loc main_v1) ↦[K_src1 c 3]{fullShare} E.s1) ∗ (∃ fd, ((c : Thread nD τ).loc cc0_scratch3) ↦[K_dst1 c 3]{fullShare} fd) ∗ semVal ((c : Thread nD τ), cell 3 1) 0)
    ∗ ((((c : Thread nD τ).loc main_arg3) ↦[K_src2 c 3]{fullShare} E.s2) ∗ (∃ fd, ((c : Thread nD τ).loc cc0_scratch0) ↦[K_dst2 c 3]{fullShare} fd) ∗ semVal ((c : Thread nD τ), cell 3 2) 0)
    ∗ ((((c : Thread nD τ).loc main_arg5) ↦[K_src3 c 3]{fullShare} E.s3) ∗ (∃ fd, ((c : Thread nD τ).loc cc0_scratch1) ↦[K_dst3 c 3]{fullShare} fd) ∗ semVal ((c : Thread nD τ), cell 3 3) 0)) := pool_list E _

theorem pool_done (E : Env F c) : pool E (lp 16) = iprop(((((c : Thread nD τ).loc main_v0) ↦[K_src0 c 0]{fullShare} E.s0) ∗ (((c : Thread nD τ).loc cc0_scratch2) ↦[K_dst0 c 0]{fullShare} G0 E 0) ∗ semVal ((c : Thread nD τ), cell 0 0) 0)
    ∗ ((((c : Thread nD τ).loc main_v1) ↦[K_src1 c 0]{fullShare} E.s1) ∗ (((c : Thread nD τ).loc cc0_scratch3) ↦[K_dst1 c 0]{fullShare} G1 E 0) ∗ semVal ((c : Thread nD τ), cell 0 1) 0)
    ∗ ((((c : Thread nD τ).loc main_arg3) ↦[K_src2 c 0]{fullShare} E.s2) ∗ (((c : Thread nD τ).loc cc0_scratch0) ↦[K_dst2 c 0]{fullShare} G2 E 0) ∗ semVal ((c : Thread nD τ), cell 0 2) 0)
    ∗ ((((c : Thread nD τ).loc main_arg5) ↦[K_src3 c 0]{fullShare} E.s3) ∗ (((c : Thread nD τ).loc cc0_scratch1) ↦[K_dst3 c 0]{fullShare} G3 E 0) ∗ semVal ((c : Thread nD τ), cell 0 3) 0)
    ∗ ((((c : Thread nD τ).loc main_v0) ↦[K_src0 c 1]{fullShare} E.s0) ∗ (((c : Thread nD τ).loc cc0_scratch2) ↦[K_dst0 c 1]{fullShare} G0 E 1) ∗ semVal ((c : Thread nD τ), cell 1 0) 0)
    ∗ ((((c : Thread nD τ).loc main_v1) ↦[K_src1 c 1]{fullShare} E.s1) ∗ (((c : Thread nD τ).loc cc0_scratch3) ↦[K_dst1 c 1]{fullShare} G1 E 1) ∗ semVal ((c : Thread nD τ), cell 1 1) 0)
    ∗ ((((c : Thread nD τ).loc main_arg3) ↦[K_src2 c 1]{fullShare} E.s2) ∗ (((c : Thread nD τ).loc cc0_scratch0) ↦[K_dst2 c 1]{fullShare} G2 E 1) ∗ semVal ((c : Thread nD τ), cell 1 2) 0)
    ∗ ((((c : Thread nD τ).loc main_arg5) ↦[K_src3 c 1]{fullShare} E.s3) ∗ (((c : Thread nD τ).loc cc0_scratch1) ↦[K_dst3 c 1]{fullShare} G3 E 1) ∗ semVal ((c : Thread nD τ), cell 1 3) 0)
    ∗ ((((c : Thread nD τ).loc main_v0) ↦[K_src0 c 2]{fullShare} E.s0) ∗ (((c : Thread nD τ).loc cc0_scratch2) ↦[K_dst0 c 2]{fullShare} G0 E 2) ∗ semVal ((c : Thread nD τ), cell 2 0) 0)
    ∗ ((((c : Thread nD τ).loc main_v1) ↦[K_src1 c 2]{fullShare} E.s1) ∗ (((c : Thread nD τ).loc cc0_scratch3) ↦[K_dst1 c 2]{fullShare} G1 E 2) ∗ semVal ((c : Thread nD τ), cell 2 1) 0)
    ∗ ((((c : Thread nD τ).loc main_arg3) ↦[K_src2 c 2]{fullShare} E.s2) ∗ (((c : Thread nD τ).loc cc0_scratch0) ↦[K_dst2 c 2]{fullShare} G2 E 2) ∗ semVal ((c : Thread nD τ), cell 2 2) 0)
    ∗ ((((c : Thread nD τ).loc main_arg5) ↦[K_src3 c 2]{fullShare} E.s3) ∗ (((c : Thread nD τ).loc cc0_scratch1) ↦[K_dst3 c 2]{fullShare} G3 E 2) ∗ semVal ((c : Thread nD τ), cell 2 3) 0)
    ∗ ((((c : Thread nD τ).loc main_v0) ↦[K_src0 c 3]{fullShare} E.s0) ∗ (((c : Thread nD τ).loc cc0_scratch2) ↦[K_dst0 c 3]{fullShare} G0 E 3) ∗ semVal ((c : Thread nD τ), cell 3 0) 0)
    ∗ ((((c : Thread nD τ).loc main_v1) ↦[K_src1 c 3]{fullShare} E.s1) ∗ (((c : Thread nD τ).loc cc0_scratch3) ↦[K_dst1 c 3]{fullShare} G1 E 3) ∗ semVal ((c : Thread nD τ), cell 3 1) 0)
    ∗ ((((c : Thread nD τ).loc main_arg3) ↦[K_src2 c 3]{fullShare} E.s2) ∗ (((c : Thread nD τ).loc cc0_scratch0) ↦[K_dst2 c 3]{fullShare} G2 E 3) ∗ semVal ((c : Thread nD τ), cell 3 2) 0)
    ∗ ((((c : Thread nD τ).loc main_arg5) ↦[K_src3 c 3]{fullShare} E.s3) ∗ (((c : Thread nD τ).loc cc0_scratch1) ↦[K_dst3 c 3]{fullShare} G3 E 3) ∗ semVal ((c : Thread nD τ), cell 3 3) 0)) := pool_list E _

theorem pool_in (E : Env F c) : iprop(srcs E ∗ dsts c ∗ sems0 c) ⊢ pool E (pro 0) := by
  rw [pool_idle]
  unfold srcs dsts sems0
  rw [rows_eq (ℓ := ((c : Thread nD τ).loc main_v0)) (K_src0 c) (D_src0 c) (U_src0 c) E.s0]
  rw [rows_eq (ℓ := ((c : Thread nD τ).loc main_v1)) (K_src1 c) (D_src1 c) (U_src1 c) E.s1]
  rw [rows_eq (ℓ := ((c : Thread nD τ).loc main_arg3)) (K_src2 c) (D_src2 c) (U_src2 c) E.s2]
  rw [rows_eq (ℓ := ((c : Thread nD τ).loc main_arg5)) (K_src3 c) (D_src3 c) (U_src3 c) E.s3]
  iintro ⟨⟨⟨HS00, HS10, HS20, HS30⟩, ⟨HS01, HS11, HS21, HS31⟩, ⟨HS02, HS12, HS22, HS32⟩, ⟨HS03, HS13, HS23, HS33⟩⟩, ⟨⟨%d0, HD0⟩, ⟨%d1, HD1⟩, ⟨%d2, HD2⟩, ⟨%d3, HD3⟩⟩, ⟨HV00, HV01, HV02, HV03, HV10, HV11, HV12, HV13, HV20, HV21, HV22, HV23, HV30, HV31, HV32, HV33⟩⟩
  ihave ⟨HD00, HD10, HD20, HD30⟩ := (Entails.of_eq (rows_eq (ℓ := ((c : Thread nD τ).loc cc0_scratch2)) (K_dst0 c) (D_dst0 c) (U_dst0 c) d0)) $$ HD0
  ihave ⟨HD01, HD11, HD21, HD31⟩ := (Entails.of_eq (rows_eq (ℓ := ((c : Thread nD τ).loc cc0_scratch3)) (K_dst1 c) (D_dst1 c) (U_dst1 c) d1)) $$ HD1
  ihave ⟨HD02, HD12, HD22, HD32⟩ := (Entails.of_eq (rows_eq (ℓ := ((c : Thread nD τ).loc cc0_scratch0)) (K_dst2 c) (D_dst2 c) (U_dst2 c) d2)) $$ HD2
  ihave ⟨HD03, HD13, HD23, HD33⟩ := (Entails.of_eq (rows_eq (ℓ := ((c : Thread nD τ).loc cc0_scratch1)) (K_dst3 c) (D_dst3 c) (U_dst3 c) d3)) $$ HD3
  isplitl [HS00 HD00 HV00]
  · isplitl [HS00]; · iexact HS00
    isplitl [HD00]; · iexists _; iexact HD00
    iexact HV00
  isplitl [HS01 HD01 HV01]
  · isplitl [HS01]; · iexact HS01
    isplitl [HD01]; · iexists _; iexact HD01
    iexact HV01
  isplitl [HS02 HD02 HV02]
  · isplitl [HS02]; · iexact HS02
    isplitl [HD02]; · iexists _; iexact HD02
    iexact HV02
  isplitl [HS03 HD03 HV03]
  · isplitl [HS03]; · iexact HS03
    isplitl [HD03]; · iexists _; iexact HD03
    iexact HV03
  isplitl [HS10 HD10 HV10]
  · isplitl [HS10]; · iexact HS10
    isplitl [HD10]; · iexists _; iexact HD10
    iexact HV10
  isplitl [HS11 HD11 HV11]
  · isplitl [HS11]; · iexact HS11
    isplitl [HD11]; · iexists _; iexact HD11
    iexact HV11
  isplitl [HS12 HD12 HV12]
  · isplitl [HS12]; · iexact HS12
    isplitl [HD12]; · iexists _; iexact HD12
    iexact HV12
  isplitl [HS13 HD13 HV13]
  · isplitl [HS13]; · iexact HS13
    isplitl [HD13]; · iexists _; iexact HD13
    iexact HV13
  isplitl [HS20 HD20 HV20]
  · isplitl [HS20]; · iexact HS20
    isplitl [HD20]; · iexists _; iexact HD20
    iexact HV20
  isplitl [HS21 HD21 HV21]
  · isplitl [HS21]; · iexact HS21
    isplitl [HD21]; · iexists _; iexact HD21
    iexact HV21
  isplitl [HS22 HD22 HV22]
  · isplitl [HS22]; · iexact HS22
    isplitl [HD22]; · iexists _; iexact HD22
    iexact HV22
  isplitl [HS23 HD23 HV23]
  · isplitl [HS23]; · iexact HS23
    isplitl [HD23]; · iexists _; iexact HD23
    iexact HV23
  isplitl [HS30 HD30 HV30]
  · isplitl [HS30]; · iexact HS30
    isplitl [HD30]; · iexists _; iexact HD30
    iexact HV30
  isplitl [HS31 HD31 HV31]
  · isplitl [HS31]; · iexact HS31
    isplitl [HD31]; · iexists _; iexact HD31
    iexact HV31
  isplitl [HS32 HD32 HV32]
  · isplitl [HS32]; · iexact HS32
    isplitl [HD32]; · iexists _; iexact HD32
    iexact HV32
  isplitl [HS33]; · iexact HS33
  isplitl [HD33]; · iexists _; iexact HD33
  iexact HV33

theorem pool_out (E : Env F c) : pool E (lp 16) ⊢ iprop(srcs E ∗ dsts c ∗ sems0 c) := by
  rw [pool_done]
  unfold srcs dsts sems0
  rw [rows_eq (ℓ := ((c : Thread nD τ).loc main_v0)) (K_src0 c) (D_src0 c) (U_src0 c) E.s0]
  rw [rows_eq (ℓ := ((c : Thread nD τ).loc main_v1)) (K_src1 c) (D_src1 c) (U_src1 c) E.s1]
  rw [rows_eq (ℓ := ((c : Thread nD τ).loc main_arg3)) (K_src2 c) (D_src2 c) (U_src2 c) E.s2]
  rw [rows_eq (ℓ := ((c : Thread nD τ).loc main_arg5)) (K_src3 c) (D_src3 c) (U_src3 c) E.s3]
  iintro ⟨⟨HS00, HD00, HV00⟩, ⟨HS01, HD01, HV01⟩, ⟨HS02, HD02, HV02⟩, ⟨HS03, HD03, HV03⟩, ⟨HS10, HD10, HV10⟩, ⟨HS11, HD11, HV11⟩, ⟨HS12, HD12, HV12⟩, ⟨HS13, HD13, HV13⟩, ⟨HS20, HD20, HV20⟩, ⟨HS21, HD21, HV21⟩, ⟨HS22, HD22, HV22⟩, ⟨HS23, HD23, HV23⟩, ⟨HS30, HD30, HV30⟩, ⟨HS31, HD31, HV31⟩, ⟨HS32, HD32, HV32⟩, ⟨HS33, HD33, HV33⟩⟩
  ihave HD0 := (rows_join (ℓ := ((c : Thread nD τ).loc cc0_scratch2)) (K_dst0 c) (D_dst0 c) (U_dst0 c) (G0 E)) $$ [HD00 HD10 HD20 HD30]
  · isplitl [HD00]; · iexact HD00
    isplitl [HD10]; · iexact HD10
    isplitl [HD20]; · iexact HD20
    iexact HD30
  ihave HD1 := (rows_join (ℓ := ((c : Thread nD τ).loc cc0_scratch3)) (K_dst1 c) (D_dst1 c) (U_dst1 c) (G1 E)) $$ [HD01 HD11 HD21 HD31]
  · isplitl [HD01]; · iexact HD01
    isplitl [HD11]; · iexact HD11
    isplitl [HD21]; · iexact HD21
    iexact HD31
  ihave HD2 := (rows_join (ℓ := ((c : Thread nD τ).loc cc0_scratch0)) (K_dst2 c) (D_dst2 c) (U_dst2 c) (G2 E)) $$ [HD02 HD12 HD22 HD32]
  · isplitl [HD02]; · iexact HD02
    isplitl [HD12]; · iexact HD12
    isplitl [HD22]; · iexact HD22
    iexact HD32
  ihave HD3 := (rows_join (ℓ := ((c : Thread nD τ).loc cc0_scratch1)) (K_dst3 c) (D_dst3 c) (U_dst3 c) (G3 E)) $$ [HD03 HD13 HD23 HD33]
  · isplitl [HD03]; · iexact HD03
    isplitl [HD13]; · iexact HD13
    isplitl [HD23]; · iexact HD23
    iexact HD33
  isplitl [HS00 HS10 HS20 HS30 HS01 HS11 HS21 HS31 HS02 HS12 HS22 HS32 HS03 HS13 HS23 HS33]
  · isplitl [HS00 HS10 HS20 HS30]
    · isplitl [HS00]; · iexact HS00
      isplitl [HS10]; · iexact HS10
      isplitl [HS20]; · iexact HS20
      iexact HS30
    isplitl [HS01 HS11 HS21 HS31]
    · isplitl [HS01]; · iexact HS01
      isplitl [HS11]; · iexact HS11
      isplitl [HS21]; · iexact HS21
      iexact HS31
    isplitl [HS02 HS12 HS22 HS32]
    · isplitl [HS02]; · iexact HS02
      isplitl [HS12]; · iexact HS12
      isplitl [HS22]; · iexact HS22
      iexact HS32
    isplitl [HS03]; · iexact HS03
    isplitl [HS13]; · iexact HS13
    isplitl [HS23]; · iexact HS23
    iexact HS33
  isplitl [HD0 HD1 HD2 HD3]
  · isplitl [HD0]; · iexact HD0
    isplitl [HD1]; · iexact HD1
    isplitl [HD2]; · iexact HD2
    iexact HD3
  isplitl [HV00]; · iexact HV00
  isplitl [HV01]; · iexact HV01
  isplitl [HV02]; · iexact HV02
  isplitl [HV03]; · iexact HV03
  isplitl [HV10]; · iexact HV10
  isplitl [HV11]; · iexact HV11
  isplitl [HV12]; · iexact HV12
  isplitl [HV13]; · iexact HV13
  isplitl [HV20]; · iexact HV20
  isplitl [HV21]; · iexact HV21
  isplitl [HV22]; · iexact HV22
  isplitl [HV23]; · iexact HV23
  isplitl [HV30]; · iexact HV30
  isplitl [HV31]; · iexact HV31
  isplitl [HV32]; · iexact HV32
  iexact HV33

end Cert.Kernel.Hand

end
-- ==== Proof.K.F252.lean ====
/-
  The first quarter of a trip, stepped through.
-/
module

public import proofs.«01_k».proof.Proof.K.Pool

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 4000000 in
theorem f252 (E : Env F c) (t : Fin k0_t1_loop.trips) (v148 : IVec S8x128 1) (v150 : IVec S8x128 32) (c0_i32_162 : BitVec 32) (c1_i32_163 : BitVec 32) {β : Type} {k : _ → Prog (TpuEff nD τ sig (Elt F) Λ₀ .tc) β} {Q : β → sProp 𝕄}
    (h : ∀ r, Run c (XP E (lp (4 * (tb t).val + 3))) (fun _ => True) (k r) Q) :
    Run c (XP E (lp (4 * (tb t).val))) (fun _ => True) (k0_part252 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 v148 v150 c0_i32_162 c1_i32_163 t >>= k) Q := by
  refine Run.seq ?_
  unfold k0_part252
  refine Run.seq ?_
  unfold k0_part1
  refine Run.len E (tb t) (offb t) ?_
  refine Run.assume (chk10 t _) ?_
  refine Run.len E (tb t) (offb t) ?_
  refine Run.assume (chk9 t _) ?_
  refine Run.len E (tb t) (offb t) ?_
  refine Run.len E (tb t) (offb t) ?_
  refine Run.len E (tb t) (offb t) ?_
  refine Run.loadX (XP_f2 E _) (Finset.subset_univ _) ?_
  refine Run.pur ?_
  refine Run.seq ?_
  unfold k0_part2
  refine Run.loadX (XP_f3 E _) (Finset.subset_univ _) ?_
  refine Run.loadAny m9 fun _ => ?_
  refine Run.put m9 ?_
  refine Run.pur ?_
  refine Run.seq ?_
  unfold k0_part3
  refine Run.loadAny m11 fun _ => ?_
  refine Run.put m11 ?_
  refine Run.loadAny m10 fun _ => ?_
  refine Run.put m10 ?_
  refine Run.loadAny m12 fun _ => ?_
  refine Run.put m12 ?_
  refine Run.loadX (XP_f1 E _) (Finset.subset_univ _) ?_
  refine Run.loadAny m17 fun _ => ?_
  refine Run.put m17 ?_
  refine Run.loadAny m17 fun _ => ?_
  refine Run.put m17 ?_
  refine Run.loadAny m17 fun _ => ?_
  refine Run.loadAny m17 fun _ => ?_
  refine Run.loadAny m17 fun _ => ?_
  refine Run.pur ?_
  refine Run.seq ?_
  unfold k0_part4
  refine Run.loadAny m17 fun _ => ?_
  refine Run.loadAny m17 fun _ => ?_
  refine Run.loadAny m17 fun _ => ?_
  refine Run.loadAny m17 fun _ => ?_
  refine Run.loadAny m17 fun _ => ?_
  refine Run.pur ?_
  refine Run.seq ?_
  unfold k0_part5
  refine Run.wt E (tb t) 0 (4 * (tb t).val + 0) rfl (sem14 t) rfl ?_
  refine Run.wt E (tb t) 1 (4 * (tb t).val + 1) rfl (sem17 t) rfl ?_
  refine Run.wt E (tb t) 2 (4 * (tb t).val + 2) rfl (sem18 t) rfl ?_
  have R := res3 E (tb t)
  refine R.ld2 (iv_t t) ?_
  refine Run.pur ?_
  refine Run.seq ?_
  unfold k0_part6
  refine R.ld0 (iv_t t) ?_
  refine R.ld0 (iv_t t) ?_
  refine Run.pur ?_
  refine Run.seq ?_
  unfold k0_part7
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part8
  refine R.ld0 (iv_t t) ?_
  refine R.ld0 (iv_t t) ?_
  refine Run.pur ?_
  refine Run.seq ?_
  unfold k0_part9
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part10
  refine R.ld0 (iv_t t) ?_
  refine R.ld0 (iv_t t) ?_
  refine Run.pur ?_
  refine Run.seq ?_
  unfold k0_part11
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part12
  refine Run.put m19 ?_
  refine R.ld0 (iv_t t) ?_
  refine R.ld0 (iv_t t) ?_
  refine Run.pur ?_
  refine Run.seq ?_
  unfold k0_part13
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part14
  refine Run.put m19 ?_
  refine R.ld0 (iv_t t) ?_
  refine R.ld0 (iv_t t) ?_
  refine Run.pur ?_
  refine Run.seq ?_
  unfold k0_part15
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part16
  refine Run.put m19 ?_
  refine R.ld0 (iv_t t) ?_
  refine R.ld0 (iv_t t) ?_
  refine Run.pur ?_
  refine Run.seq ?_
  unfold k0_part17
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part18
  refine Run.loadAny m19 fun _ => ?_
  refine Run.put m19 ?_
  refine R.ld0 (iv_t t) ?_
  refine R.ld0 (iv_t t) ?_
  refine Run.pur ?_
  refine Run.seq ?_
  unfold k0_part19
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part20
  refine Run.loadAny m19 fun _ => ?_
  refine Run.put m19 ?_
  refine R.ld0 (iv_t t) ?_
  refine R.ld0 (iv_t t) ?_
  refine Run.pur ?_
  refine Run.seq ?_
  unfold k0_part21
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part22
  refine Run.loadAny m19 fun _ => ?_
  refine Run.put m19 ?_
  refine R.ld2 (iv_t t) ?_
  refine R.ld0 (iv_t t) ?_
  refine R.ld0 (iv_t t) ?_
  refine Run.pur ?_
  refine Run.seq ?_
  unfold k0_part23
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part24
  refine Run.put m19 ?_
  refine Run.loadAny m19 fun _ => ?_
  refine Run.put m19 ?_
  refine R.ld0 (iv_t t) ?_
  refine R.ld0 (iv_t t) ?_
  refine Run.pur ?_
  refine Run.seq ?_
  unfold k0_part25
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part26
  refine Run.put m19 ?_
  refine Run.loadAny m19 fun _ => ?_
  refine Run.put m19 ?_
  refine R.ld0 (iv_t t) ?_
  refine R.ld0 (iv_t t) ?_
  refine Run.pur ?_
  refine Run.seq ?_
  unfold k0_part27
  refine Run.loadAny m19 fun _ => ?_
  refine Run.put m19 ?_
  refine Run.loadAny m19 fun _ => ?_
  refine Run.put m19 ?_
  refine Run.pur ?_
  refine Run.seq ?_
  unfold k0_part28
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part29
  refine Run.loadAny m19 fun _ => ?_
  refine Run.put m19 ?_
  refine Run.loadAny m19 fun _ => ?_
  refine Run.put m19 ?_
  refine Run.pur ?_
  refine Run.seq ?_
  unfold k0_part30
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part31
  refine Run.loadAny m19 fun _ => ?_
  refine Run.put m19 ?_
  refine Run.loadAny m19 fun _ => ?_
  refine Run.put m19 ?_
  refine Run.pur ?_
  refine Run.seq ?_
  unfold k0_part32
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part33
  refine Run.loadAny m19 fun _ => ?_
  refine Run.put m19 ?_
  refine Run.loadAny m19 fun _ => ?_
  refine Run.put m19 ?_
  refine Run.pur ?_
  refine Run.seq ?_
  unfold k0_part34
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part35
  refine Run.loadAny m19 fun _ => ?_
  refine Run.put m19 ?_
  refine Run.loadAny m19 fun _ => ?_
  refine Run.put m19 ?_
  refine Run.pur ?_
  refine Run.seq ?_
  unfold k0_part36
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part37
  refine Run.loadAny m19 fun _ => ?_
  refine Run.put m19 ?_
  refine Run.loadAny m19 fun _ => ?_
  refine Run.put m19 ?_
  refine Run.pur ?_
  refine Run.seq ?_
  unfold k0_part38
  refine Run.loadAny m19 fun _ => ?_
  refine Run.put m19 ?_
  refine Run.loadAny m19 fun _ => ?_
  refine Run.put m19 ?_
  refine R.ld2 (iv_t t) ?_
  refine R.ld0 (iv_t t) ?_
  refine Run.pur ?_
  refine Run.seq ?_
  unfold k0_part39
  refine R.ld0 (iv_t t) ?_
  refine Run.loadAny m19 fun _ => ?_
  refine Run.put m19 ?_
  refine Run.pur ?_
  refine Run.seq ?_
  unfold k0_part40
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part41
  refine R.ld0 (iv_t t) ?_
  refine Run.loadAny m19 fun _ => ?_
  refine Run.put m19 ?_
  refine Run.pur ?_
  refine Run.seq ?_
  unfold k0_part42
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part43
  refine R.ld0 (iv_t t) ?_
  refine Run.loadAny m19 fun _ => ?_
  refine Run.put m19 ?_
  refine Run.pur ?_
  refine Run.seq ?_
  unfold k0_part44
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part45
  refine R.ld0 (iv_t t) ?_
  refine Run.loadAny m19 fun _ => ?_
  refine Run.put m19 ?_
  refine Run.pur ?_
  refine Run.seq ?_
  unfold k0_part46
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part47
  refine R.ld0 (iv_t t) ?_
  refine Run.loadAny m19 fun _ => ?_
  refine Run.put m19 ?_
  refine Run.pur ?_
  refine Run.seq ?_
  unfold k0_part48
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part49
  refine R.ld0 (iv_t t) ?_
  refine Run.loadAny m19 fun _ => ?_
  refine Run.put m19 ?_
  refine Run.pur ?_
  refine Run.seq ?_
  unfold k0_part50
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part51
  refine R.ld0 (iv_t t) ?_
  refine Run.loadAny m19 fun _ => ?_
  refine Run.put m19 ?_
  refine Run.pur ?_
  refine Run.seq ?_
  unfold k0_part52
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part53
  refine R.ld0 (iv_t t) ?_
  refine R.ld0 (iv_t t) ?_
  refine Run.loadAny m19 fun _ => ?_
  refine Run.put m19 ?_
  refine Run.pur ?_
  refine Run.seq ?_
  unfold k0_part54
  refine Run.loadAny m19 fun _ => ?_
  refine Run.put m19 ?_
  refine Run.loadAny m19 fun _ => ?_
  refine Run.put m19 ?_
  refine Run.loadAny m19 fun _ => ?_
  refine Run.put m19 ?_
  refine R.ld2 (iv_t t) ?_
  refine Run.pur ?_
  refine Run.seq ?_
  unfold k0_part55
  refine R.ld0 (iv_t t) ?_
  refine R.ld0 (iv_t t) ?_
  refine Run.pur ?_
  refine Run.seq ?_
  unfold k0_part56
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part57
  refine R.ld0 (iv_t t) ?_
  refine R.ld0 (iv_t t) ?_
  refine Run.pur ?_
  refine Run.seq ?_
  unfold k0_part58
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part59
  refine R.ld0 (iv_t t) ?_
  refine R.ld0 (iv_t t) ?_
  refine Run.pur ?_
  refine Run.seq ?_
  unfold k0_part60
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.pur ?_
  exact h _

end Cert.Kernel.Hand

end
-- ==== Proof.K.F253.lean ====
/-
  The second quarter of a trip, stepped through.
-/
module

public import proofs.«01_k».proof.Proof.K.Pool

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 4000000 in
theorem f253 (E : Env F c) (t : Fin k0_t1_loop.trips) (v148 : IVec S8x128 1) (v150 : IVec S8x128 32) (arg22 : BitVec 32) (v167 : Elt F .i32) (v172 : BitVec 32) (v181 : BitVec 32) (v273 : FVec F S32x256 .bf16) (v2439 : FVec F S32x1024 .f32) (v2670 : FVec F S8x128 .f32) (v2680 : FVec F S8x128 .f32) (v2690 : FVec F S8x128 .f32) (v2700 : FVec F S8x128 .f32) (v2703 : IVec S8x128 32) {β : Type} {k : _ → Prog (TpuEff nD τ sig (Elt F) Λ₀ .tc) β} {Q : β → sProp 𝕄}
    (h : ∀ r, Run c (XP E (lp (4 * (tb t).val + 3))) (fun _ => True) (k r) Q) :
    Run c (XP E (lp (4 * (tb t).val + 3))) (fun _ => True) (k0_part253 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 v148 v150 t arg22 v167 v172 v181 v273 v2439 v2670 v2680 v2690 v2700 v2703 >>= k) Q := by
  have R := res3 E (tb t)
  refine Run.seq ?_
  unfold k0_part253
  refine Run.seq ?_
  unfold k0_part61
  refine R.ld0 (iv_t t) ?_
  refine R.ld0 (iv_t t) ?_
  refine Run.pur ?_
  refine Run.seq ?_
  unfold k0_part62
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part63
  refine R.ld0 (iv_t t) ?_
  refine R.ld0 (iv_t t) ?_
  refine Run.pur ?_
  refine Run.seq ?_
  unfold k0_part64
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part65
  refine R.ld0 (iv_t t) ?_
  refine R.ld0 (iv_t t) ?_
  refine Run.pur ?_
  refine Run.seq ?_
  unfold k0_part66
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part67
  refine R.ld0 (iv_t t) ?_
  refine R.ld0 (iv_t t) ?_
  refine Run.pur ?_
  refine Run.seq ?_
  unfold k0_part68
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part69
  refine R.ld0 (iv_t t) ?_
  refine R.ld0 (iv_t t) ?_
  refine Run.pur ?_
  refine Run.seq ?_
  unfold k0_part70
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part71
  refine R.ld2 (iv_t t) ?_
  refine R.ld0 (iv_t t) ?_
  refine R.ld0 (iv_t t) ?_
  refine Run.pur ?_
  refine Run.seq ?_
  unfold k0_part72
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part73
  refine Run.loadAny m19 fun _ => ?_
  refine Run.put m19 ?_
  refine R.ld0 (iv_t t) ?_
  refine R.ld0 (iv_t t) ?_
  refine Run.pur ?_
  refine Run.seq ?_
  unfold k0_part74
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part75
  refine Run.loadAny m19 fun _ => ?_
  refine Run.put m19 ?_
  refine R.ld0 (iv_t t) ?_
  refine R.ld0 (iv_t t) ?_
  refine Run.pur ?_
  refine Run.seq ?_
  unfold k0_part76
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part77
  refine Run.loadAny m19 fun _ => ?_
  refine Run.put m19 ?_
  refine R.ld0 (iv_t t) ?_
  refine R.ld0 (iv_t t) ?_
  refine Run.pur ?_
  refine Run.seq ?_
  unfold k0_part78
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part79
  refine Run.loadAny m19 fun _ => ?_
  refine Run.put m19 ?_
  refine R.ld0 (iv_t t) ?_
  refine R.ld0 (iv_t t) ?_
  refine Run.pur ?_
  refine Run.seq ?_
  unfold k0_part80
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part81
  refine Run.loadAny m19 fun _ => ?_
  refine Run.put m19 ?_
  refine R.ld0 (iv_t t) ?_
  refine R.ld0 (iv_t t) ?_
  refine Run.pur ?_
  refine Run.seq ?_
  unfold k0_part82
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part83
  refine Run.put m19 ?_
  refine Run.loadAny m19 fun _ => ?_
  refine Run.put m19 ?_
  refine R.ld0 (iv_t t) ?_
  refine R.ld0 (iv_t t) ?_
  refine Run.pur ?_
  refine Run.seq ?_
  unfold k0_part84
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part85
  refine Run.put m19 ?_
  refine Run.loadAny m19 fun _ => ?_
  refine Run.put m19 ?_
  refine R.ld0 (iv_t t) ?_
  refine R.ld0 (iv_t t) ?_
  refine Run.pur ?_
  refine Run.seq ?_
  unfold k0_part86
  refine Run.loadAny m19 fun _ => ?_
  refine Run.put m19 ?_
  refine Run.loadAny m19 fun _ => ?_
  refine Run.put m19 ?_
  refine Run.loadAny m19 fun _ => ?_
  refine Run.pur ?_
  refine Run.seq ?_
  unfold k0_part87
  refine Run.put m19 ?_
  refine Run.loadAny m19 fun _ => ?_
  refine Run.put m19 ?_
  refine R.ld2 (iv_t t) ?_
  refine R.ld0 (iv_t t) ?_
  refine R.ld0 (iv_t t) ?_
  refine Run.pur ?_
  refine Run.seq ?_
  unfold k0_part88
  refine Run.loadAny m19 fun _ => ?_
  refine Run.put m19 ?_
  refine Run.loadAny m19 fun _ => ?_
  refine Run.put m19 ?_
  refine Run.pur ?_
  refine Run.seq ?_
  unfold k0_part89
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part90
  refine Run.loadAny m19 fun _ => ?_
  refine Run.put m19 ?_
  refine Run.loadAny m19 fun _ => ?_
  refine Run.put m19 ?_
  refine Run.pur ?_
  refine Run.seq ?_
  unfold k0_part91
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part92
  refine Run.loadAny m19 fun _ => ?_
  refine Run.put m19 ?_
  refine Run.loadAny m19 fun _ => ?_
  refine Run.pur ?_
  refine Run.seq ?_
  unfold k0_part93
  refine Run.put m19 ?_
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part94
  refine Run.loadAny m19 fun _ => ?_
  refine Run.put m19 ?_
  refine Run.loadAny m19 fun _ => ?_
  refine Run.pur ?_
  refine Run.seq ?_
  unfold k0_part95
  refine Run.put m19 ?_
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part96
  refine Run.loadAny m19 fun _ => ?_
  refine Run.put m19 ?_
  refine Run.loadAny m19 fun _ => ?_
  refine Run.pur ?_
  refine Run.seq ?_
  unfold k0_part97
  refine Run.put m19 ?_
  refine Run.loadAny m19 fun _ => ?_
  refine Run.put m19 ?_
  refine Run.loadAny m19 fun _ => ?_
  refine Run.put m19 ?_
  refine R.ld0 (iv_t t) ?_
  refine R.ld0 (iv_t t) ?_
  refine Run.pur ?_
  refine Run.seq ?_
  unfold k0_part98
  refine Run.loadAny m19 fun _ => ?_
  refine Run.put m19 ?_
  refine Run.pur ?_
  refine Run.seq ?_
  unfold k0_part99
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part100
  refine R.ld0 (iv_t t) ?_
  refine Run.loadAny m19 fun _ => ?_
  refine Run.put m19 ?_
  refine Run.pur ?_
  refine Run.seq ?_
  unfold k0_part101
  refine Run.loadAny m19 fun _ => ?_
  refine Run.put m19 ?_
  refine Run.loadAny m19 fun _ => ?_
  refine Run.put m19 ?_
  refine Run.loadAny m19 fun _ => ?_
  refine Run.put m19 ?_
  refine R.ld0 (iv_t t) ?_
  refine Run.pur ?_
  refine Run.seq ?_
  unfold k0_part102
  refine R.ld0 (iv_t t) ?_
  refine Run.loadAny m19 fun _ => ?_
  refine Run.put m19 ?_
  refine Run.pur ?_
  refine Run.seq ?_
  unfold k0_part103
  refine Run.loadAny m19 fun _ => ?_
  refine Run.put m19 ?_
  refine Run.loadAny m19 fun _ => ?_
  refine Run.put m19 ?_
  refine Run.loadAny m19 fun _ => ?_
  refine Run.put m19 ?_
  refine R.ld2 (iv_t t) ?_
  refine Run.pur ?_
  refine Run.seq ?_
  unfold k0_part104
  refine R.ld0 (iv_t t) ?_
  refine R.ld0 (iv_t t) ?_
  refine Run.loadAny m19 fun _ => ?_
  refine Run.pur ?_
  refine Run.seq ?_
  unfold k0_part105
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part106
  refine R.ld0 (iv_t t) ?_
  refine R.ld0 (iv_t t) ?_
  refine Run.loadAny m19 fun _ => ?_
  refine Run.pur ?_
  refine Run.seq ?_
  unfold k0_part107
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part108
  refine R.ld0 (iv_t t) ?_
  refine R.ld0 (iv_t t) ?_
  refine Run.pur ?_
  refine Run.seq ?_
  unfold k0_part109
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part110
  refine R.ld0 (iv_t t) ?_
  refine R.ld0 (iv_t t) ?_
  refine Run.pur ?_
  refine Run.seq ?_
  unfold k0_part111
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part112
  refine R.ld0 (iv_t t) ?_
  refine R.ld0 (iv_t t) ?_
  refine Run.pur ?_
  refine Run.seq ?_
  unfold k0_part113
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part114
  refine R.ld0 (iv_t t) ?_
  refine R.ld0 (iv_t t) ?_
  refine Run.pur ?_
  refine Run.seq ?_
  unfold k0_part115
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part116
  refine R.ld0 (iv_t t) ?_
  refine R.ld0 (iv_t t) ?_
  refine Run.pur ?_
  refine Run.seq ?_
  unfold k0_part117
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part118
  refine R.ld0 (iv_t t) ?_
  refine R.ld0 (iv_t t) ?_
  refine Run.pur ?_
  refine Run.seq ?_
  unfold k0_part119
  refine Run.loadAny m19 fun _ => ?_
  refine Run.put m19 ?_
  refine Run.loadAny m19 fun _ => ?_
  refine Run.put m19 ?_
  refine Run.loadAny m19 fun _ => ?_
  refine Run.put m19 ?_
  refine Run.loadAny m19 fun _ => ?_
  refine Run.put m19 ?_
  refine R.ld2 (iv_t t) ?_
  refine Run.pur ?_
  refine Run.seq ?_
  unfold k0_part120
  refine R.ld0 (iv_t t) ?_
  refine R.ld0 (iv_t t) ?_
  refine Run.pur ?_
  refine Run.pur ?_
  exact h _

end Cert.Kernel.Hand

end
-- ==== Proof.K.F254.lean ====
/-
  The third quarter of a trip, stepped through.
-/
module

public import proofs.«01_k».proof.Proof.K.Pool

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 4000000 in
theorem f254 (E : Env F c) (t : Fin k0_t1_loop.trips) (v148 : IVec S8x128 1) (v150 : IVec S8x128 32) (arg22 : BitVec 32) (v153 : Elt F .i32) (k0_hw10 : k0_chk10 t v153) (v167 : Elt F .i32) (v172 : BitVec 32) (v181 : BitVec 32) (v5211 : FVec F S8x128 .f32) (v5221 : FVec F S8x128 .f32) (v5231 : FVec F S8x128 .f32) (v5241 : FVec F S8x128 .f32) (v5247 : FVec F S32x1024 .f32) (v5258 : IVec S8x128 1) (v5268 : FVec F S8x128 .f32) (v5271 : IVec S8x128 32) (v5281 : FVec F S8x128 .f32) (v5289 : IVec S8x128x1 32) {β : Type} {k : _ → Prog (TpuEff nD τ sig (Elt F) Λ₀ .tc) β} {Q : β → sProp 𝕄}
    (h : ∀ r, Run c (XP E (lp (4 * (tb t).val + 4))) (fun _ => True) (k r) Q) :
    Run c (XP E (lp (4 * (tb t).val + 3))) (fun _ => True) (k0_part254 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 v148 v150 t arg22 v153 k0_hw10 v167 v172 v181 v5211 v5221 v5231 v5241 v5247 v5258 v5268 v5271 v5281 v5289 >>= k) Q := by
  have R := res3 E (tb t)
  refine Run.seq ?_
  unfold k0_part254
  refine Run.seq ?_
  unfold k0_part121
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part122
  refine Run.loadAny m19 fun _ => ?_
  refine Run.put m19 ?_
  refine R.ld0 (iv_t t) ?_
  refine R.ld0 (iv_t t) ?_
  refine Run.pur ?_
  refine Run.seq ?_
  unfold k0_part123
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part124
  refine Run.loadAny m19 fun _ => ?_
  refine Run.put m19 ?_
  refine R.ld0 (iv_t t) ?_
  refine R.ld0 (iv_t t) ?_
  refine Run.pur ?_
  refine Run.seq ?_
  unfold k0_part125
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part126
  refine Run.loadAny m19 fun _ => ?_
  refine Run.put m19 ?_
  refine R.ld0 (iv_t t) ?_
  refine R.ld0 (iv_t t) ?_
  refine Run.pur ?_
  refine Run.seq ?_
  unfold k0_part127
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part128
  refine Run.loadAny m19 fun _ => ?_
  refine Run.put m19 ?_
  refine R.ld0 (iv_t t) ?_
  refine R.ld0 (iv_t t) ?_
  refine Run.pur ?_
  refine Run.seq ?_
  unfold k0_part129
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part130
  refine Run.loadAny m19 fun _ => ?_
  refine Run.put m19 ?_
  refine R.ld0 (iv_t t) ?_
  refine R.ld0 (iv_t t) ?_
  refine Run.pur ?_
  refine Run.seq ?_
  unfold k0_part131
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part132
  refine Run.loadAny m19 fun _ => ?_
  refine Run.put m19 ?_
  refine R.ld0 (iv_t t) ?_
  refine R.ld0 (iv_t t) ?_
  refine Run.pur ?_
  refine Run.seq ?_
  unfold k0_part133
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part134
  refine Run.loadAny m19 fun _ => ?_
  refine Run.put m19 ?_
  refine R.ld0 (iv_t t) ?_
  refine R.ld0 (iv_t t) ?_
  refine Run.pur ?_
  refine Run.seq ?_
  unfold k0_part135
  refine Run.loadAny m19 fun _ => ?_
  refine Run.put m19 ?_
  refine Run.loadAny m19 fun _ => ?_
  refine Run.put m19 ?_
  refine Run.loadAny m19 fun _ => ?_
  refine Run.put m19 ?_
  refine Run.pur ?_
  refine Run.seq ?_
  unfold k0_part136
  refine Run.loadAny m19 fun _ => ?_
  refine Run.put m19 ?_
  refine Run.wt E (tb t) 3 (4 * (tb t).val + 3) rfl (sem38 t) rfl ?_
  have R4 := res4 E (tb t)
  have R := R4.toRes
  refine R.ld1 (iv_t t) ?_
  refine Run.pur ?_
  refine Run.seq ?_
  unfold k0_part137
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part138
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part139
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part140
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part141
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part142
  refine R.ld1 (iv_t t) ?_
  refine R.ld1 (iv_t t) ?_
  refine Run.loadAny m19 fun _ => ?_
  refine Run.loadAny m20 fun _ => ?_
  refine Run.pur ?_
  refine Run.seq ?_
  unfold k0_part143
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part144
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part145
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part146
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part147
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part148
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part149
  refine R.ld1 (iv_t t) ?_
  refine R.ld1 (iv_t t) ?_
  refine Run.loadAny m19 fun _ => ?_
  refine Run.loadAny m20 fun _ => ?_
  refine Run.put m20 ?_
  refine Run.pur ?_
  refine Run.seq ?_
  unfold k0_part150
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R4.ld3 (iv_t t) ?_
  refine Run.loadAny m20 fun _ => ?_
  refine Run.pur ?_
  refine Run.seq ?_
  unfold k0_part151
  refine R.ld1 (iv_t t) ?_
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part152
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part153
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part154
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part155
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part156
  refine Run.loadAny m20 fun _ => ?_
  refine Run.put m20 ?_
  refine R.ld1 (iv_t t) ?_
  refine R.ld1 (iv_t t) ?_
  refine Run.loadAny m19 fun _ => ?_
  refine Run.pur ?_
  refine Run.seq ?_
  unfold k0_part157
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine Run.pur ?_
  refine Run.seq ?_
  unfold k0_part158
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part159
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part160
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part161
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part162
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part163
  refine Run.put m20 ?_
  refine R.ld1 (iv_t t) ?_
  refine R.ld1 (iv_t t) ?_
  refine Run.loadAny m19 fun _ => ?_
  refine Run.pur ?_
  refine Run.seq ?_
  unfold k0_part164
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R4.ld3 (iv_t t) ?_
  refine Run.loadAny m20 fun _ => ?_
  refine Run.pur ?_
  refine Run.seq ?_
  unfold k0_part165
  refine R.ld1 (iv_t t) ?_
  refine R.ld1 (iv_t t) ?_
  refine Run.loadAny m19 fun _ => ?_
  refine Run.pur ?_
  refine Run.seq ?_
  unfold k0_part166
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part167
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part168
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part169
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part170
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part171
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part172
  refine R.ld1 (iv_t t) ?_
  refine R.ld1 (iv_t t) ?_
  refine Run.loadAny m19 fun _ => ?_
  refine Run.loadAny m20 fun _ => ?_
  refine Run.put m20 ?_
  refine Run.pur ?_
  refine Run.seq ?_
  unfold k0_part173
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part174
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part175
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part176
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part177
  refine Run.loadAny m20 fun _ => ?_
  refine Run.put m20 ?_
  refine R.ld1 (iv_t t) ?_
  refine R.ld1 (iv_t t) ?_
  refine Run.pur ?_
  refine Run.seq ?_
  unfold k0_part178
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R4.ld3 (iv_t t) ?_
  refine Run.pur ?_
  refine Run.seq ?_
  unfold k0_part179
  refine Run.loadAny m20 fun _ => ?_
  refine R.ld1 (iv_t t) ?_
  refine R.ld1 (iv_t t) ?_
  refine Run.loadAny m19 fun _ => ?_
  refine Run.pur ?_
  refine Run.seq ?_
  unfold k0_part180
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine Run.pur ?_
  refine Run.pur ?_
  exact h _

end Cert.Kernel.Hand

end
-- ==== Proof.K.F255.lean ====
/-
  The last quarter of a trip, stepped through.
-/
module

public import proofs.«01_k».proof.Proof.K.Pool

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 4000000 in
theorem f255 (E : Env F c) (t : Fin k0_t1_loop.trips) (v150 : IVec S8x128 32) (arg22 : BitVec 32) (v181 : BitVec 32) (v5945 : FVec F S8x1 .f32) (v5947 : FVec F S8x1 .f32) (v5949 : FVec F S8x1 .f32) (v5951 : FVec F S8x1 .f32) (v7717 : FVec F S32x256 .f32) (v7758 : FVec F S8x128 .f32) (v7767 : FVec F S8x128 .f32) (v7776 : FVec F S8x128 .f32) (v7785 : FVec F S8x128 .f32) (v7794 : FVec F S8x128 .f32) {β : Type} {k : _ → Prog (TpuEff nD τ sig (Elt F) Λ₀ .tc) β} {Q : β → sProp 𝕄}
    (h : ∀ r, Run c (XP E (lp (4 * (tb t).val + 4))) (fun _ => True) (k r) Q) :
    Run c (XP E (lp (4 * (tb t).val + 4))) (fun _ => True) (k0_part255 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 v150 t arg22 v181 v5945 v5947 v5949 v5951 v7717 v7758 v7767 v7776 v7785 v7794 >>= k) Q := by
  have R4 := res4 E (tb t)
  have R := R4.toRes
  refine Run.seq ?_
  unfold k0_part255
  refine Run.seq ?_
  unfold k0_part181
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part182
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part183
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part184
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part185
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part186
  refine Run.loadAny m20 fun _ => ?_
  refine Run.put m20 ?_
  refine R.ld1 (iv_t t) ?_
  refine R.ld1 (iv_t t) ?_
  refine Run.loadAny m19 fun _ => ?_
  refine Run.pur ?_
  refine Run.seq ?_
  unfold k0_part187
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine Run.pur ?_
  refine Run.seq ?_
  unfold k0_part188
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part189
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part190
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part191
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part192
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part193
  refine Run.put m20 ?_
  refine R4.ld3 (iv_t t) ?_
  refine Run.loadAny m20 fun _ => ?_
  refine R.ld1 (iv_t t) ?_
  refine R.ld1 (iv_t t) ?_
  refine Run.pur ?_
  refine Run.seq ?_
  unfold k0_part194
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part195
  refine R.ld1 (iv_t t) ?_
  refine R.ld1 (iv_t t) ?_
  refine Run.loadAny m19 fun _ => ?_
  refine Run.loadAny m20 fun _ => ?_
  refine Run.pur ?_
  refine Run.seq ?_
  unfold k0_part196
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part197
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part198
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part199
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part200
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part201
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part202
  refine R.ld1 (iv_t t) ?_
  refine R.ld1 (iv_t t) ?_
  refine Run.loadAny m19 fun _ => ?_
  refine Run.loadAny m20 fun _ => ?_
  refine Run.put m20 ?_
  refine Run.pur ?_
  refine Run.seq ?_
  unfold k0_part203
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part204
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part205
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part206
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part207
  refine Run.loadAny m20 fun _ => ?_
  refine Run.put m20 ?_
  refine R4.ld3 (iv_t t) ?_
  refine Run.loadAny m20 fun _ => ?_
  refine R.ld1 (iv_t t) ?_
  refine R.ld1 (iv_t t) ?_
  refine Run.pur ?_
  refine Run.seq ?_
  unfold k0_part208
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part209
  refine Run.loadAny m20 fun _ => ?_
  refine Run.put m20 ?_
  refine R.ld1 (iv_t t) ?_
  refine R.ld1 (iv_t t) ?_
  refine Run.loadAny m19 fun _ => ?_
  refine Run.pur ?_
  refine Run.seq ?_
  unfold k0_part210
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine Run.pur ?_
  refine Run.seq ?_
  unfold k0_part211
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part212
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part213
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part214
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part215
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part216
  refine Run.put m20 ?_
  refine R.ld1 (iv_t t) ?_
  refine R.ld1 (iv_t t) ?_
  refine Run.loadAny m19 fun _ => ?_
  refine Run.pur ?_
  refine Run.seq ?_
  unfold k0_part217
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part218
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part219
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part220
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.pur ?_
  refine Run.seq ?_
  unfold k0_part221
  refine Run.put m20 ?_
  refine Run.loadAny m19 fun _ => ?_
  refine Run.loadAny m20 fun _ => ?_
  refine Run.put m20 ?_
  refine R4.ld3 (iv_t t) ?_
  refine Run.loadAny m20 fun _ => ?_
  refine R.ld1 (iv_t t) ?_
  refine R.ld1 (iv_t t) ?_
  refine Run.pur ?_
  refine Run.seq ?_
  unfold k0_part222
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part223
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part224
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part225
  refine R.ld1 (iv_t t) ?_
  refine R.ld1 (iv_t t) ?_
  refine Run.loadAny m19 fun _ => ?_
  refine Run.loadAny m20 fun _ => ?_
  refine Run.put m20 ?_
  refine Run.pur ?_
  refine Run.seq ?_
  unfold k0_part226
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part227
  refine Run.loadAny m19 fun _ => ?_
  refine Run.loadAny m20 fun _ => ?_
  refine Run.put m20 ?_
  refine Run.loadAny m19 fun _ => ?_
  refine Run.loadAny m20 fun _ => ?_
  refine Run.put m20 ?_
  refine Run.pur ?_
  refine Run.seq ?_
  unfold k0_part228
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part229
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part230
  refine Run.loadAny m20 fun _ => ?_
  refine Run.put m20 ?_
  refine R.ld1 (iv_t t) ?_
  refine R.ld1 (iv_t t) ?_
  refine Run.pur ?_
  refine Run.seq ?_
  unfold k0_part231
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine Run.pur ?_
  refine Run.seq ?_
  unfold k0_part232
  refine R.ld1 (iv_t t) ?_
  refine Run.loadAny m19 fun _ => ?_
  refine Run.loadAny m20 fun _ => ?_
  refine Run.put m20 ?_
  refine Run.loadAny m19 fun _ => ?_
  refine Run.pur ?_
  refine Run.seq ?_
  unfold k0_part233
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part234
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part235
  refine Run.loadAny m20 fun _ => ?_
  refine Run.put m20 ?_
  refine Run.loadAny m19 fun _ => ?_
  refine Run.loadAny m20 fun _ => ?_
  refine Run.put m20 ?_
  refine R4.ld3 (iv_t t) ?_
  refine Run.loadAny m20 fun _ => ?_
  refine R.ld1 (iv_t t) ?_
  refine R.ld1 (iv_t t) ?_
  refine Run.pur ?_
  refine Run.seq ?_
  unfold k0_part236
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part237
  refine Run.loadAny m20 fun _ => ?_
  refine Run.put m20 ?_
  refine Run.loadAny m19 fun _ => ?_
  refine Run.loadAny m20 fun _ => ?_
  refine Run.put m20 ?_
  refine R.ld1 (iv_t t) ?_
  refine R.ld1 (iv_t t) ?_
  refine Run.pur ?_
  refine Run.seq ?_
  unfold k0_part238
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.pur ?_
  refine Run.seq ?_
  unfold k0_part239
  refine Run.loadAny m20 fun _ => ?_
  refine Run.put m20 ?_
  refine R.ld1 (iv_t t) ?_
  refine R.ld1 (iv_t t) ?_
  refine Run.loadAny m19 fun _ => ?_
  refine Run.pur ?_
  refine Run.seq ?_
  unfold k0_part240
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine Run.loadAny m19 fun _ => ?_
  refine Run.loadAny m20 fun _ => ?_
  refine Run.put m20 ?_
  refine R.ld1 (iv_t t) ?_
  refine Run.pur ?_
  refine Run.pur ?_
  exact h _

end Cert.Kernel.Hand

end
-- ==== Proof.K.F261.lean ====
/-
  The whole body, stepped through: the starts, then four trips.
-/
module

public import proofs.«01_k».proof.Proof.K.F252
public import proofs.«01_k».proof.Proof.K.F253
public import proofs.«01_k».proof.Proof.K.F254
public import proofs.«01_k».proof.Proof.K.F255

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

/-- A counted loop, from an invariant of the contents and a resource at each trip. -/
theorem Run.loop {L : Scf.Loop 32} {hok : Scf.OK L.lb L.ub L.st} {body : Fin L.trips → PUnit → Prog (TpuEff nD τ sig (Elt F) Λ₀ .tc) PUnit} {β : Type}
    {k : PUnit → Prog (TpuEff nD τ sig (Elt F) Λ₀ .tc) β} {Q : β → sProp 𝕄} (I : ℕ → Cont F c → Prop) (X : ℕ → sProp 𝕄)
    (hb : ∀ t acc, Run c (X t.val) (I t.val) (body t acc) (fun _ => iprop(∃ C, ⌜I (t.val + 1) C⌝ ∗ OWN c C ∗ X (t.val + 1))))
    (h : Run c (X L.trips) (I L.trips) (k ⟨⟩) Q) :
    Run c (X 0) (I 0) (Scf.Loop.for L hok ⟨⟩ body >>= k) Q := by
  intro C hC
  have hw := Scf.wp_for_bind frame (wpE (defs₀ (F := F)) Variants.none (c : Thread nD τ) none) Set.univ L.lb L.ub L.st hok ⟨⟩ body
    (fun n _ => iprop(∃ C, ⌜I n C⌝ ∗ OWN c C ∗ X n)) (fun t acc => by
      iintro ⟨%C, %hC, HO, HX⟩
      iapply (hb t acc C hC)
      isplitl [HO]; · iexact HO
      iexact HX) (kk := k) (Q := Q)
  refine BIBase.Entails.trans ?_ ((sep_mono hw .rfl).trans wand_elim_left)
  iintro ⟨HO, HX⟩
  isplitl [HO HX]
  · iexists C
    isplitr; · ipureintro; exact hC
    isplitl [HO]; · iexact HO
    iexact HX
  iintro %acc ⟨%C', %hC', HO, HX⟩
  iapply (h C' hC')
  isplitl [HO]; · iexact HO
  iexact HX

set_option maxHeartbeats 4000000 in
/-- The frame of the body: from any contents it ends with all the transfers done. -/
theorem f261 (E : Env F c) :
    Run c (XP E (pro 0)) (fun _ => True) (k0_part261 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8) (fun _ => iprop(∃ C, OWN c C ∗ XP E (lp 16))) := by
  unfold k0_part261
  refine Run.seq ?_
  unfold k0_part256
  refine Run.len E 0 rfl ?_
  refine Run.assume (chk2 _) ?_
  refine Run.len E 0 rfl ?_
  refine Run.assume (chk1 _) ?_
  refine Run.enq0 E 0 0 rfl ?_
  refine Run.enq1 E 0 1 rfl ?_
  refine Run.pur ?_
  refine Run.seq ?_
  unfold k0_part257
  refine Run.enq2 E 0 2 rfl ?_
  refine Run.enq3 E 0 3 rfl ?_
  refine Run.len E 1 rfl ?_
  refine Run.assume (chk4 _) ?_
  refine Run.len E 1 rfl ?_
  refine Run.assume (chk3 _) ?_
  refine Run.pur ?_
  refine Run.seq ?_
  unfold k0_part258
  refine Run.enq0 E 1 4 rfl ?_
  refine Run.enq1 E 1 5 rfl ?_
  refine Run.enq2 E 1 6 rfl ?_
  refine Run.enq3 E 1 7 rfl ?_
  refine Run.len E 2 rfl ?_
  refine Run.assume (chk6 _) ?_
  refine Run.pur ?_
  refine Run.seq ?_
  unfold k0_part259
  refine Run.len E 2 rfl ?_
  refine Run.assume (chk5 _) ?_
  refine Run.enq0 E 2 8 rfl ?_
  refine Run.enq1 E 2 9 rfl ?_
  refine Run.enq2 E 2 10 rfl ?_
  refine Run.pur ?_
  refine Run.seq ?_
  unfold k0_part260
  refine Run.enq3 E 2 11 rfl ?_
  refine Run.len E 3 rfl ?_
  refine Run.assume (chk8 _) ?_
  refine Run.len E 3 rfl ?_
  refine Run.assume (chk7 _) ?_
  refine Run.enq0 E 3 12 rfl ?_
  refine Run.pur ?_
  refine Run.enq1 E 3 13 rfl ?_
  refine Run.enq2 E 3 14 rfl ?_
  refine Run.enq3 E 3 15 rfl ?_
  rw [show pro (15 + 1) = lp (4 * 0) from funext (by decide +kernel)]
  refine Run.loop (I := fun _ _ => True) (X := fun n => XP E (lp (4 * n))) (fun t _ => ?_) ?_
  · refine f252 E t _ _ _ _ fun r => ?_
    obtain ⟨_, _, _, _, _, _, _, _, _, _, _, _, _, _, _, _, _, _, _⟩ := r
    refine f253 E t _ _ _ _ _ _ _ _ _ _ _ _ _ fun r => ?_
    obtain ⟨_, _, _, _, _, _, _, _, _, _⟩ := r
    refine f254 E t _ _ _ _ _ _ _ _ _ _ _ _ _ _ _ _ _ _ fun r => ?_
    obtain ⟨_, _, _, _, _, _, _, _, _, _⟩ := r
    refine f255 E t _ _ _ _ _ _ _ _ _ _ _ _ _ fun r => ?_
    obtain ⟨_, _, _, _, _, _, _⟩ := r
    have R4 := res4 E (tb t)
    have R := R4.toRes
    refine Run.seq ?_
    unfold k0_part241
    refine R.ld1 (iv_t t) ?_
    refine Run.loadAny m19 fun _ => ?_
    refine Run.loadAny m20 fun _ => ?_
    refine Run.put m20 ?_
    refine Run.loadAny m19 fun _ => ?_
    refine Run.pur ?_
    refine Run.seq ?_
    unfold k0_part242
    refine Run.loadAny m20 fun _ => ?_
    refine Run.put m20 ?_
    refine Run.loadAny m19 fun _ => ?_
    refine Run.loadAny m20 fun _ => ?_
    refine Run.put m20 ?_
    refine Run.loadAny m19 fun _ => ?_
    refine Run.loadAny m20 fun _ => ?_
    refine Run.put m20 ?_
    refine R.ld1 (iv_t t) ?_
    refine R.ld1 (iv_t t) ?_
    refine Run.pur ?_
    refine Run.seq ?_
    unfold k0_part243
    refine Run.loadAny m19 fun _ => ?_
    refine Run.loadAny m20 fun _ => ?_
    refine Run.put m20 ?_
    refine Run.loadAny m19 fun _ => ?_
    refine Run.loadAny m20 fun _ => ?_
    refine Run.put m20 ?_
    refine Run.loadAny m19 fun _ => ?_
    refine Run.loadAny m20 fun _ => ?_
    refine Run.pur ?_
    refine Run.seq ?_
    unfold k0_part244
    refine Run.put m20 ?_
    refine Run.loadAny m19 fun _ => ?_
    refine Run.loadAny m20 fun _ => ?_
    refine Run.put m20 ?_
    refine R.ld1 (iv_t t) ?_
    refine R.ld1 (iv_t t) ?_
    refine Run.pur ?_
    refine Run.seq ?_
    unfold k0_part245
    refine Run.loadAny m19 fun _ => ?_
    refine Run.loadAny m20 fun _ => ?_
    refine Run.put m20 ?_
    refine Run.loadAny m19 fun _ => ?_
    refine Run.loadAny m20 fun _ => ?_
    refine Run.put m20 ?_
    refine Run.loadAny m19 fun _ => ?_
    refine Run.loadAny m20 fun _ => ?_
    refine Run.put m20 ?_
    refine Run.loadAny m19 fun _ => ?_
    refine Run.loadAny m20 fun _ => ?_
    refine Run.pur ?_
    refine Run.seq ?_
    unfold k0_part246
    refine Run.put m20 ?_
    refine R.ld1 (iv_t t) ?_
    refine R.ld1 (iv_t t) ?_
    refine Run.loadAny m19 fun _ => ?_
    refine Run.loadAny m20 fun _ => ?_
    refine Run.pur ?_
    refine Run.seq ?_
    unfold k0_part247
    refine Run.put m20 ?_
    refine Run.loadAny m19 fun _ => ?_
    refine Run.loadAny m20 fun _ => ?_
    refine Run.put m20 ?_
    refine Run.loadAny m19 fun _ => ?_
    refine Run.loadAny m20 fun _ => ?_
    refine Run.put m20 ?_
    refine Run.loadAny m19 fun _ => ?_
    refine Run.loadAny m20 fun _ => ?_
    refine Run.put m20 ?_
    refine R.ld1 (iv_t t) ?_
    refine R.ld1 (iv_t t) ?_
    refine Run.pur ?_
    refine Run.seq ?_
    unfold k0_part248
    refine Run.loadAny m19 fun _ => ?_
    refine Run.loadAny m20 fun _ => ?_
    refine Run.put m20 ?_
    refine Run.loadAny m19 fun _ => ?_
    refine Run.loadAny m20 fun _ => ?_
    refine Run.pur ?_
    refine Run.seq ?_
    unfold k0_part249
    refine Run.put m20 ?_
    refine Run.loadAny m19 fun _ => ?_
    refine Run.loadAny m20 fun _ => ?_
    refine Run.put m20 ?_
    refine Run.loadAny m19 fun _ => ?_
    refine Run.loadAny m20 fun _ => ?_
    refine Run.put m20 ?_
    refine R4.ld3 (iv_t t) ?_
    refine Run.loadAny m20 fun _ => ?_
    refine Run.pur ?_
    refine Run.seq ?_
    unfold k0_part250
    refine Run.loadAny m18 fun _ => ?_
    refine Run.put m18 ?_
    refine Run.loadAny m18 fun _ => ?_
    refine Run.put m18 ?_
    refine Run.loadAny m18 fun _ => ?_
    refine Run.put m18 ?_
    refine Run.loadAny m18 fun _ => ?_
    refine Run.put m18 ?_
    refine Run.pur ?_
    refine Run.seq ?_
    unfold k0_part251
    refine Run.loadAny m18 fun _ => ?_
    refine Run.put m18 ?_
    refine Run.loadAny m18 fun _ => ?_
    refine Run.put m18 ?_
    refine Run.loadAny m18 fun _ => ?_
    refine Run.put m18 ?_
    refine Run.loadAny m18 fun _ => ?_
    refine Run.put m18 ?_
    refine Run.loadAny m18 fun _ => ?_
    refine Run.pur ?_
    refine Run.loadAny m18 fun _ => ?_
    refine Run.loadAny m8 fun _ => ?_
    refine Run.put m8 ?_
    refine Run.ret fun C hC => ?_
    iintro ⟨HO, HX⟩
    iexists C
    isplitr; · ipureintro; trivial
    isplitl [HO]; · iexact HO
    iexact HX
  refine Run.ret fun C hC => ?_
  iintro ⟨HO, HX⟩
  iexists C
  isplitl [HO]; · iexact HO
  iexact HX

end Cert.Kernel.Hand

end
-- ==== Proof.K.Frame.lean ====
/-
  The frame: the region run with its results left unnamed.
-/
module

public import proofs.«01_k».proof.Proof.K.Enter
public import proofs.«01_k».proof.Proof.K.F261

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own sixteen cells. -/
abbrev osem0 : Fin 16 → SemLoc sig := fun j => cell ⟨j.val / 4, by omega⟩ ⟨j.val % 4, by omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7, 8, 9, 10, 11, 12, 13, 14, 15] (by decide) (by decide)]; rfl

/-- The operands left in HBM. -/
def H0 : Finset (Ref sig .tc) := {main_v0, main_v1, main_arg3, main_arg5}
theorem H0_sub : H0 ⊆ Pipeline.restRefs sig spec0 := by decide

/-- What the body reads. -/
def env (c : Dev nD) : Env F c :=
  ⟨iblk m c 0 t0_0, iblk m c 1 t0_0, iblk m c 2 t0_0, iblk m c 3 t0_0, V m c main_v0, V m c main_v1, V m c main_arg3, V m c main_arg5⟩

theorem hbmPts0_eq (c : Dev nD) :
    (bigSep H0 (fun b => ((c : Thread nD τ).loc b) ↦{fullShare} V m c b) : sProp 𝕄) = srcs (env m c) := by
  rw [BI.bigSep_eq_bigSepL_of_eq [main_v0, main_v1, main_arg3, main_arg5] (by decide) (by decide)]; rfl

/-- The four other scratch buffers, whole, at some contents. -/
def scrs (c : Dev nD) : sProp 𝕄 := iprop((∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f))

theorem scoped_eq (c : Dev nD) :
    (Pipeline.scopedRest (Ix := Unit) (Name := ℕ) (U := Pipeline.UD sig nD τ) (Lvl := ℕ) (Val := Elt F) spec0 c : sProp 𝕄)
      ⊣⊢ iprop(dsts c ∗ scrs c) := by
  rw [scopedRest0_eq]
  unfold dsts scrs
  constructor
  · iintro ⟨A0, A1, A2, A3, A4, A5, A6, A7⟩
    isplitl [A0 A1 A2 A3]
    · isplitl [A2]; · iexact A2
      isplitl [A3]; · iexact A3
      isplitl [A0]; · iexact A0
      iexact A1
    isplitl [A4]; · iexact A4
    isplitl [A5]; · iexact A5
    isplitl [A6]; · iexact A6
    iexact A7
  · iintro ⟨⟨A2, A3, A0, A1⟩, A4, A5, A6, A7⟩
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7

/-- The results are forgotten. -/
def forgets0 : Fin 9 → Bool := fun | 0 => false | 1 => false | 2 => false | 3 => false | _ => true

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨n + 4, h⟩ => Pipeline.Dat.unnamed (cfg := cfg0) ⟨n + 4, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by
      rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by
      rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by
      rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by
      rw [after0_3]; unfold Dat.blockOf iblk; rw [A_eq]; try rfl) t d).trans
    (by unfold Dat.fetched Dat.blockOf iblk; rw [A_eq]; try rfl)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- Everything at the body's start, flat: the same at its end. -/
def flat (c : Dev nD) : sProp 𝕄 := iprop((dsts c ∗ scrs c ∗ sems0 c ∗ srcs (env m c))
    ∗ (∃ r, prngReg c r) ∗ (∃ W, owes (c : Thread nD τ) 0 W)
    ∗ ((((c : Thread nD τ).loc cc0_stg0_0) ↦{fullShare} (env m c).f0) ∗ (((c : Thread nD τ).loc cc0_stg1_0) ↦{fullShare} (env m c).f1) ∗ (((c : Thread nD τ).loc cc0_stg2_0) ↦{fullShare} (env m c).f2) ∗ (((c : Thread nD τ).loc cc0_stg3_0) ↦{fullShare} (env m c).f3))
    ∗ ((∃ f, ((c : Thread nD τ).loc cc0_stg4_0) ↦{fullShare} f) ∗ (∃ f, ((c : Thread nD τ).loc cc0_stg5_0) ↦{fullShare} f) ∗ (∃ f, ((c : Thread nD τ).loc cc0_stg6_0) ↦{fullShare} f) ∗ (∃ f, ((c : Thread nD τ).loc cc0_stg7_0) ↦{fullShare} f) ∗ (∃ f, ((c : Thread nD τ).loc cc0_stg8_0) ↦{fullShare} f)))

theorem pre_flat (c : Dev nD) : bodyPre m c t0_0 ⊢ flat m c := by
  unfold bodyPre flat
  simp only [before0_0, before0_1, before0_2, before0_3]
  rw [show (dats m 0 c).Φ t0_0.castSucc = Pipeline.ΦD osem0 spec0 H0 (V m) c from rfl, Pipeline.ΦD_eq, ownSems00_eq, hbmPts0_eq]
  unfold Dat.owesAt Pipeline.owesWithin
  rw [show (dats m 0 c).owed t0_0.castSucc = 0 from rfl]
  rw [show st0_0 t0_0 = Memref.whole cc0_stg0_0 from rfl]
  rw [show st0_1 t0_0 = Memref.whole cc0_stg1_0 from rfl]
  rw [show st0_2 t0_0 = Memref.whole cc0_stg2_0 from rfl]
  rw [show st0_3 t0_0 = Memref.whole cc0_stg3_0 from rfl]
  rw [show st0_4 t0_0 = Memref.whole cc0_stg4_0 from rfl]
  rw [show st0_5 t0_0 = Memref.whole cc0_stg5_0 from rfl]
  rw [show st0_6 t0_0 = Memref.whole cc0_stg6_0 from rfl]
  rw [show st0_7 t0_0 = Memref.whole cc0_stg7_0 from rfl]
  rw [show st0_8 t0_0 = Memref.whole cc0_stg8_0 from rfl]
  simp only [owns_whole]
  iintro ⟨⟨HS, Hg, Hq, Hh⟩, ⟨%W, -, HW⟩, ⟨%d0, H0⟩, ⟨%d1, H1⟩, ⟨%d2, H2⟩, ⟨%d3, H3⟩, H4, H5, H6, H7, H8⟩
  ihave ⟨Hd, Hs⟩ := (scoped_eq c).1 $$ HS
  isplitl [Hd Hs Hq Hh]
  · isplitl [Hd]; · iexact Hd
    isplitl [Hs]; · iexact Hs
    isplitl [Hq]; · iexact Hq
    iexact Hh
  isplitl [Hg]; · iexact Hg
  isplitl [HW]; · iexists W; iexact HW
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  isplitl [H7]; · iexact H7
  iexact H8

theorem flat_post (c : Dev nD) : flat m c ⊢ bodyPost m c t0_0 := by
  unfold bodyPost flat
  rw [show (dats m 0 c).Φ t0_0.succ = Pipeline.ΦD osem0 spec0 H0 (V m) c from rfl, Pipeline.ΦD_eq, ownSems00_eq, hbmPts0_eq]
  unfold Dat.owesAt Pipeline.owesWithin
  rw [show (dats m 0 c).owed t0_0.succ = 0 from rfl]
  rw [show st0_0 t0_0 = Memref.whole cc0_stg0_0 from rfl]
  rw [show st0_1 t0_0 = Memref.whole cc0_stg1_0 from rfl]
  rw [show st0_2 t0_0 = Memref.whole cc0_stg2_0 from rfl]
  rw [show st0_3 t0_0 = Memref.whole cc0_stg3_0 from rfl]
  rw [show st0_4 t0_0 = Memref.whole cc0_stg4_0 from rfl]
  rw [show st0_5 t0_0 = Memref.whole cc0_stg5_0 from rfl]
  rw [show st0_6 t0_0 = Memref.whole cc0_stg6_0 from rfl]
  rw [show st0_7 t0_0 = Memref.whole cc0_stg7_0 from rfl]
  rw [show st0_8 t0_0 = Memref.whole cc0_stg8_0 from rfl]
  simp only [owns_whole]
  iintro ⟨⟨Hd, Hs, Hq, Hh⟩, Hg, ⟨%W, HW⟩, ⟨H0, H1, H2, H3⟩, H4, H5, H6, H7, H8⟩
  ihave HS := (scoped_eq c).2 $$ [Hd Hs]
  · isplitl [Hd]; · iexact Hd
    iexact Hs
  isplitl [HS Hg Hq Hh]
  · isplitl [HS]; · iexact HS
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem flat_in (c : Dev nD) : flat m c ⊢ iprop((∃ r, prngReg c r) ∗ ∃ C : Cont F c, OWN c C ∗ XP (env m c) (pro 0)) := by
  unfold flat XP scrs OWN
  iintro ⟨⟨Hd, ⟨S4, S5, S6, S7⟩, Hq, Hh⟩, Hg, HW, Hi, H4, H5, H6, H7, H8⟩
  isplitl [Hg]; · iexact Hg
  ihave ⟨%C, HO⟩ := ((Entails.of_eq (B0_list (fun b => iprop(∃ f, ((c : Thread nD τ).loc b) ↦{fullShare} f))).symm).trans (choose_cont B0 (V m c))) $$ [H4 H5 H6 H7 H8 S4 S5 S6 S7]
  · isplitl [H4]; · iexact H4
    isplitl [H5]; · iexact H5
    isplitl [H6]; · iexact H6
    isplitl [H7]; · iexact H7
    isplitl [H8]; · iexact H8
    isplitl [S4]; · iexact S4
    isplitl [S5]; · iexact S5
    isplitl [S6]; · iexact S6
    iexact S7
  iexists C
  isplitl [HO]; · iexact HO
  isplitl [HW]; · iexact HW
  isplitl [Hi]; · iexact Hi
  iapply (pool_in (env m c))
  isplitl [Hh]; · iexact Hh
  isplitl [Hd]; · iexact Hd
  iexact Hq

theorem flat_out (c : Dev nD) (C : Cont F c) : iprop((∃ r, prngReg c r) ∗ OWN c C ∗ XP (env m c) (lp 16)) ⊢ flat m c := by
  unfold flat XP OWN scrs
  rw [B0_list]
  iintro ⟨Hg, ⟨H4, H5, H6, H7, H8, S4, S5, S6, S7⟩, HW, Hi, HP⟩
  ihave ⟨Hh, Hd, Hq⟩ := (pool_out (env m c)) $$ HP
  isplitl [Hd S4 S5 S6 S7 Hq Hh]
  · isplitl [Hd]; · iexact Hd
    isplitl [S4 S5 S6 S7]
    · isplitl [S4]; · iexists _; iexact S4
      isplitl [S5]; · iexists _; iexact S5
      isplitl [S6]; · iexists _; iexact S6
      iexists _; iexact S7
    isplitl [Hq]; · iexact Hq
    iexact Hh
  isplitl [Hg]; · iexact Hg
  isplitl [HW]; · iexact HW
  isplitl [Hi]; · iexact Hi
  isplitl [H4]; · iexists _; iexact H4
  isplitl [H5]; · iexists _; iexact H5
  isplitl [H6]; · iexists _; iexact H6
  isplitl [H7]; · iexists _; iexact H7
  iexists _; iexact H8

theorem sound_body (c : Dev nD) (t : Fin cfg0.N) :
    bodyPre m c t ⊢ wp frame (wpE (defs₀ (F := F)) Variants.none c none) Set.univ (bodyAt0 t) (fun _ => bodyPost m c t) := by
  rw [fin_N0 t]
  refine (pre_flat m c).trans ((flat_in m c).trans ?_)
  iintro ⟨Hg, ⟨%C, HO, HX⟩⟩
  have hr : iprop(OWN c C ∗ XP (env m c) (pro 0)) ⊢ wp frame (wpE (defs₀ (F := F)) Variants.none (c : Thread nD τ) none) Set.univ (bodyAt0 t0_0)
      (fun _ => iprop(∃ C, OWN c C ∗ XP (env m c) (lp 16))) := by
    unfold bodyAt0 cc0_window_decode
    rw [wp_bind]
    refine (f261 (env m c) C trivial).trans (wp_mono _ _ _ fun _ => ?_)
    exact le_wp_ret _ _ _ _ (fun _ => iprop(∃ C, OWN c C ∗ XP (env m c) (lp 16)))
  iapply ((sep_mono_right hr).trans ((wp_frame_l _ _ _).trans (wp_mono _ _ _ fun _ => (sep_exists_left.1.trans (exists_elim fun C' => (flat_out m c C').trans (flat_post m c))))))
  isplitl [Hg]; · iexact Hg
  isplitl [HO]; · iexact HO
  iexact HX

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

theorem win_in {r : PUnit × MemSt nD τ sig (Elt F)} (h : Pipeline.RDat.FramePost (cfgs 0) (fun c => (dats m 0 c).toRForget forgets0) (V m) r)
    (c : Dev nD) (w : Fin cfg0.W) (hw : forgets0 w = false) (hi : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hi _).trans (A_eq m c w))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(win_in m h.1 c 1 rfl rfl).trans (V_main_arg0 m c),
      (win_in m h.1 c 2 rfl rfl).trans (V_main_arg1 m c),
      (win_in m h.1 c 3 rfl rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (win_in m h.1 c 0 rfl rfl).trans (V_main_arg7 m c)⟩, h.2⟩) (run_main m ρ)

end Cert.Kernel.Hand

end
-- ==== Proof.KI.Step.lean ====
/-
  Stepping through the kernel's body: what the trip of the loop owns, and one rule an operation.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The contents of every buffer of a core. -/
abbrev Cont (F : FTy → Type) (c : Dev nD) : Type := (b : Ref sig .tc) → Buf (Elt F) ((c : Thread nD τ).loc b)

/-- The buffers the body writes with vector stores. -/
def B0 : Finset (Ref sig .tc) :=
  {cc0_stg4_0, cc0_stg5_0, cc0_stg6_0, cc0_stg7_0, cc0_stg8_0, cc0_scratch4, cc0_scratch5, cc0_scratch6, cc0_scratch7}

/-- Those buffers, whole, holding `C`. -/
def OWN (c : Dev nD) (C : Cont F c) : sProp 𝕄 := bigSep B0 (fun b => ((c : Thread nD τ).loc b) ↦{fullShare} C b)

/-- The weakest precondition the body is proved at. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- From any contents satisfying `I`, and `X` besides, the program runs and ends in `Q`. -/
def Run (c : Dev nD) (X : sProp 𝕄) (I : Cont F c → Prop) {α : Type} (p : Prog (TpuEff nD τ sig (Elt F) Λ₀ .tc) α)
    (Q : α → sProp 𝕄) : Prop :=
  ∀ C, I C → iprop(OWN c C ∗ X) ⊢ WP c p Q

variable {c : Dev nD} {α β : Type}

theorem Run.pur {X : sProp 𝕄} {I : Cont F c → Prop} {a : α} {k : α → Prog (TpuEff nD τ sig (Elt F) Λ₀ .tc) β} {Q : β → sProp 𝕄}
    (h : Run c X I (k a) Q) : Run c X I (Pure.pure a) (fun x => WP c (k x) Q) := fun C hC =>
  (h C hC).trans (le_wp_ret _ _ _ a (fun x => WP c (k x) Q))

/-- A part's end, its results named. -/
theorem Run.purTo {X : sProp 𝕄} {I : Cont F c → Prop} {a : α} {k : α → Prog (TpuEff nD τ sig (Elt F) Λ₀ .tc) β} {Q : β → sProp 𝕄} (r : α) (e : a = r)
    (h : Run c X I (k r) Q) : Run c X I (Pure.pure a) (fun x => WP c (k x) Q) := by subst e; exact Run.pur h

theorem Run.seq {X : sProp 𝕄} {I : Cont F c → Prop} {p : Prog (TpuEff nD τ sig (Elt F) Λ₀ .tc) α} {k : α → Prog (TpuEff nD τ sig (Elt F) Λ₀ .tc) β}
    {Q : β → sProp 𝕄} (h : Run c X I p (fun x => WP c (k x) Q)) : Run c X I (p >>= k) Q := fun C hC => by
  unfold WP; rw [wp_bind]; exact h C hC

theorem Run.ret {X : sProp 𝕄} {I : Cont F c → Prop} {a : α} {Q : α → sProp 𝕄} (h : ∀ C, I C → iprop(OWN c C ∗ X) ⊢ Q a) : Run c X I (Pure.pure a) Q := by
  intro C hC
  exact (h C hC).trans (le_wp_ret _ _ _ a _)

theorem Run.weaken {X : sProp 𝕄} {I I' : Cont F c → Prop} {p : Prog (TpuEff nD τ sig (Elt F) Λ₀ .tc) α} {Q : α → sProp 𝕄} (hI : ∀ C, I C → I' C)
    (h : Run c X I' p Q) : Run c X I p Q := fun C hC => h C (hI C hC)

theorem Run.of {X : sProp 𝕄} {I : Cont F c → Prop} {a : Prop} {p : Prog (TpuEff nD τ sig (Elt F) Λ₀ .tc) α} {Q : α → sProp 𝕄}
    (h : a → Run c X I p Q) (ha : a) : Run c X I p Q := h ha

/-- An `assume`, at a proposition that holds. -/
theorem Run.assume {X : sProp 𝕄} {I : Cont F c → Prop} {P : Prop} {d : Decidable P} {k : PLift P → Prog (TpuEff nD τ sig (Elt F) Λ₀ .tc) β} {Q : β → sProp 𝕄}
    (hP : P) (h : Run c X I (k ⟨hP⟩) Q) : Run c X I (Prog.lift (.assume P d) >>= k) Q := fun C hC => by
  have hw := wp_assume (defs := defs₀ (F := F)) (Γ := .empty) Variants.none (c : Thread nD τ) none Set.univ
    (k := fun u => Prog.ret u) (Q := fun x => WP c (k x) Q) (d := d) hP
  unfold WP; rw [wp_bind]
  refine (h C hC).trans (BIBase.Entails.trans ?_ hw)
  exact le_wp_ret _ _ _ _ (fun x => WP c (k x) Q)

/-- A load from a buffer `X` holds. -/
theorem Run.loadX {X : sProp 𝕄} {I : Cont F c → Prop} {cs : CoreSpace} {s : Shape} {e : EltTy} {m : Memref sig .tc cs s e} {r : LoadRect s} {hl : m.view.LoadsAt r}
    {k : (r.shape.Idx → Elt F e) → Prog (TpuEff nD τ sig (Elt F) Λ₀ .tc) β} {Q : β → sProp 𝕄}
    {S : Finset (Idx (m.view.loc (c : Thread nD τ)))} {q : PosShare TreeShare} {f : Buf (Elt F) (m.view.loc (c : Thread nD τ))}
    (hX : X ⊢ iprop((m.view.loc (c : Thread nD τ) ↦[S]{q} f) ∗ ((m.view.loc (c : Thread nD τ) ↦[S]{q} f) -∗ X)))
    (hS : m.view.setOn r.set ⊆ S) (h : Run c X I (k (m.view.readAt (Elt F) r f)) Q) :
    Run c X I (Prog.lift (.load m r hl) >>= k) Q := fun C hC => by
  unfold WP; rw [wp_bind]
  refine (sep_mono_right hX).trans ?_
  iintro ⟨HO, HM, HX⟩
  iapply (wp_load _ _ _ _ (r := r) (hl := hl) hS) $$ HM
  iintro HM
  rw [wp_ret]; imodintro
  iapply (h C hC)
  isplitl [HO]; · iexact HO
  iapply HX $$ HM

/-- A word read from scalar memory `X` holds. -/
theorem Run.smemX {X : sProp 𝕄} {I : Cont F c → Prop} {s : Shape} {e : EltTy} {m : Memref sig .tc .smem s e} {r : Rect s} {h1 : r.shape.numel = 1} {hp : e.packing = 1}
    {k : Elt F e → Prog (TpuEff nD τ sig (Elt F) Λ₀ .tc) β} {Q : β → sProp 𝕄}
    {q : PosShare TreeShare} {f : Buf (Elt F) ((m.access r).loc (c : Thread nD τ))}
    (hX : X ⊢ iprop(((m.access r).loc (c : Thread nD τ) ↦{q} f) ∗ (((m.access r).loc (c : Thread nD τ) ↦{q} f) -∗ X)))
    (h : Run c X I (k ((m.access r).read (Elt F) f (Shape.Idx.first (h1.symm ▸ Nat.one_pos)))) Q) :
    Run c X I (smemLoad m r h1 hp >>= k) Q := fun C hC => by
  unfold WP smemLoad; rw [wp_bind]
  refine (sep_mono_right hX).trans ?_
  iintro ⟨HO, HM, HX⟩
  iapply (wp_smemLoadElt _ _ _ _ (m := m) (r := r) (Finset.subset_univ _)) $$ HM
  iintro HM
  rw [wp_ret]; imodintro
  iapply (h C hC)
  isplitl [HO]; · iexact HO
  iapply HX $$ HM

theorem own_take (C : Cont F c) {b : Ref sig .tc} (hb : b ∈ B0) :
    OWN c C ⊢ iprop((((c : Thread nD τ).loc b) ↦{fullShare} C b)
      ∗ (∀ f, (((c : Thread nD τ).loc b) ↦{fullShare} f) -∗ OWN c (Function.update C b f))) := by
  unfold OWN
  rw [bigSep_erase hb]
  refine sep_mono_right (forall_intro fun f => ?_)
  refine BIClass.wand_intro ?_
  refine sep_comm.1.trans ?_
  rw [bigSep_erase (Φ := fun b' => ((c : Thread nD τ).loc b') ↦{fullShare} Function.update C b f b') hb, Function.update_self]
  refine sep_mono_right (Entails.of_eq (bigSep_congr fun b' hb' => ?_))
  rw [Function.update_of_ne (Finset.ne_of_mem_erase hb')]

/-- A load whose value is known from the contents' invariant. -/
theorem Run.load {X : sProp 𝕄} {I : Cont F c → Prop} {cs : CoreSpace} {s : Shape} {e : EltTy} {m : Memref sig .tc cs s e} {r : LoadRect s} {hl : m.view.LoadsAt r}
    {k : (r.shape.Idx → Elt F e) → Prog (TpuEff nD τ sig (Elt F) Λ₀ .tc) β} {Q : β → sProp 𝕄}
    (hb : m.view.ref ∈ B0) {v : r.shape.Idx → Elt F e} (hv : ∀ C, I C → m.view.readAt (Elt F) r (C m.view.ref) = v)
    (h : Run c X I (k v) Q) :
    Run c X I (Prog.lift (.load m r hl) >>= k) Q := fun C hC => by
  unfold WP; rw [wp_bind]
  refine (sep_mono_left (own_take C hb)).trans ?_
  iintro ⟨⟨HM, HO⟩, HX⟩
  iapply (wp_load _ _ _ _ (m := m) (r := r) (hl := hl) (Finset.subset_univ _)) $$ HM
  iintro HM
  rw [wp_ret]; imodintro
  rw [hv C hC]
  iapply (h C hC)
  isplitl [HO HM]
  · ihave HO := HO $$ HM
    rw [Function.update_eq_self]
    iexact HO
  iexact HX

/-- A load whose value nothing uses. -/
theorem Run.loadAny {X : sProp 𝕄} {I : Cont F c → Prop} {cs : CoreSpace} {s : Shape} {e : EltTy} {m : Memref sig .tc cs s e} {r : LoadRect s} {hl : m.view.LoadsAt r}
    {k : (r.shape.Idx → Elt F e) → Prog (TpuEff nD τ sig (Elt F) Λ₀ .tc) β} {Q : β → sProp 𝕄}
    (hb : m.view.ref ∈ B0) (h : ∀ v, Run c X I (k v) Q) :
    Run c X I (Prog.lift (.load m r hl) >>= k) Q := fun C hC =>
  Run.load (I := fun C' => C' = C) hb (v := m.view.readAt (Elt F) r (C m.view.ref)) (fun _ h => h ▸ rfl)
    (fun C' hC' => h _ C' (hC' ▸ hC)) C rfl

/-- A store. -/
theorem Run.store {X : sProp 𝕄} {I I' : Cont F c → Prop} {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) β} {Q : β → sProp 𝕄}
    (hb : m.view.ref ∈ B0)
    (hI : ∀ C, I C → I' (Function.update C m.view.ref ((m.access r).write (Elt F) (C m.view.ref) w Finset.univ)))
    (h : Run c X I' (k ⟨⟩) Q) :
    Run c X I (Prog.lift (.store m r w Finset.univ hx hm) >>= k) Q := fun C hC => by
  unfold WP; rw [wp_bind]
  refine (sep_mono_left (own_take C hb)).trans ?_
  refine (sep_mono_left (sep_mono_left (wp_store (defs := defs₀ (F := F)) (Γ := .empty) Variants.none (c : Thread nD τ) none Set.univ
    (m := m) (r := r) (w := w) (hx := hx) (hm := hm) (f := C m.view.ref) (k := fun u => Prog.ret u)
    (Q := fun x => WP c (k x) Q) (Finset.subset_univ _)))).trans ?_
  iintro ⟨⟨HW, HO⟩, HX⟩
  iapply HW
  iintro HM
  rw [wp_ret]; imodintro
  iapply (h _ (hI C hC))
  isplitl [HO HM]
  · iapply HO $$ HM
  iexact HX

end Cert.KernelIdeal.Hand

end
-- ==== Proof.KI.Words.lean ====
/-
  The window's start as the kernel computes it, and the conditions on it the kernel assumes: they hold of every word.
-/
module

public import proofs.«01_k».proof.Proof.Gen.KernelIdeal.Points

@[expose] public section

noncomputable section

namespace Cert.KernelIdeal.Hand

open Cert.KernelIdeal Cert.KernelIdeal.Gen
open Idealize.ShloMosaic

/-- The window's first token, clamped to `[0, 3072]`. -/
def stW (w : BitVec 32) : BitVec 32 := Scalar.minsi (Scalar.maxsi (Scalar.subi w 1023#32) 0#32) 3072#32

/-- The scales' first token: that one rounded down to a multiple of 128, at most 2944. -/
def ssW (w : BitVec 32) : BitVec 32 := Scalar.minsi (Scalar.shli (Scalar.shrsi (stW w) 7#32) 7#32) 2944#32

theorem clamp_le (x : BitVec 32) : (IntOp.minsi (IntOp.maxsi x 0#32) 3072#32).toNat ≤ 3072 := by
  unfold IntOp.minsi IntOp.maxsi
  simp only [BitVec.slt_eq_decide, BitVec.toInt_eq_toNat_cond, decide_eq_true_eq]
  have := x.isLt
  repeat' split
  all_goals simp_all
  all_goals omega

theorem stW_le (w : BitVec 32) : (stW w).toNat ≤ 3072 := clamp_le _

theorem shr7 (x : BitVec 32) (h : x.toNat ≤ 3072) : (Scalar.shrsi x 7#32).toNat = x.toNat / 128 := by
  have hm : x.msb = false := by rw [BitVec.msb_eq_decide]; simp; omega
  unfold Scalar.shrsi IntOp.shrsi
  rw [if_pos (by decide)]
  unfold BitVec.sshiftRight'
  rw [BitVec.sshiftRight_eq_of_msb_false hm]
  simp [Nat.shiftRight_eq_div_pow]

theorem shl7 (x : BitVec 32) (h : x.toNat ≤ 24) : (Scalar.shli x 7#32).toNat = x.toNat * 128 := by
  unfold Scalar.shli IntOp.shli
  rw [if_pos (by decide)]
  simp [Nat.shiftLeft_eq]
  omega

theorem ssW_eq (w : BitVec 32) : (ssW w).toNat = min ((stW w).toNat / 128 * 128) 2944 := by
  have h := stW_le w
  have h1 := shr7 _ h
  have h2 := shl7 (Scalar.shrsi (stW w) 7#32) (by omega)
  unfold ssW Scalar.minsi IntOp.minsi
  simp only [BitVec.slt_eq_decide, BitVec.toInt_eq_toNat_cond, decide_eq_true_eq, h2, h1]
  have e : (2944#32).toNat = 2944 := rfl
  simp only [e]
  repeat' split
  all_goals first | omega | (rw [if_pos (by omega)]; omega) | (rw [if_neg (by omega)]; omega) | skip

theorem ssW_le (w : BitVec 32) : (ssW w).toNat ≤ 2944 := by rw [ssW_eq]; exact Nat.min_le_right _ _
theorem ssW_dvd (w : BitVec 32) : 128 ∣ (ssW w).toNat := by rw [ssW_eq]; have := stW_le w; omega

theorem inb_ss (b : ℕ) (hb : b < 4) (w : BitVec 32) (a : Fin 3) :
    (![b, 0, (ssW w).toNat] : Fin 3 → ℕ) a + S1x8x1152.size a ≤ S4x8x4096.size a := by
  have := ssW_le w
  fin_cases a <;> simp [S1x8x1152, S4x8x4096] <;> omega

theorem inb_st (b : ℕ) (hb : b < 4) (w : BitVec 32) (a : Fin 4) :
    (![b, (stW w).toNat, 0, 0] : Fin 4 → ℕ) a + S1x1024x8x256.size a ≤ S4x4096x8x256.size a := by
  have := stW_le w
  fin_cases a <;> simp [S1x1024x8x256, S4x4096x8x256] <;> omega

theorem iv_t (t : Fin k0_t1_loop.trips) : (Scf.iv 0#32 1#32 t).toNat = t.val := by revert t; decide +kernel
theorem t_lt (t : Fin k0_t1_loop.trips) : t.val < 4 := by revert t; decide +kernel

theorem words_st {off : Fin 4 → ℕ} (h : ∀ a, off a + S1x1024x8x256.size a ≤ S4x4096x8x256.size a) (h0 : off 2 = 0) :
    (Rect.unit (s := S4x4096x8x256) off S1x1024x8x256.size h).WholeWords (EltTy.packing .i8) :=
  Or.inr ⟨by decide, rfl, h0, rfl⟩

theorem chk1 (w : BitVec 32) : k0_chk1 w := ⟨ssW_dvd w, inb_ss 0 (by decide) w⟩
theorem chk3 (w : BitVec 32) : k0_chk3 w := ⟨ssW_dvd w, inb_ss 1 (by decide) w⟩
theorem chk5 (w : BitVec 32) : k0_chk5 w := ⟨ssW_dvd w, inb_ss 2 (by decide) w⟩
theorem chk7 (w : BitVec 32) : k0_chk7 w := ⟨ssW_dvd w, inb_ss 3 (by decide) w⟩
theorem chk2 (w : BitVec 32) : k0_chk2 w := ⟨inb_st 0 (by decide) w, fun h => words_st h rfl⟩
theorem chk4 (w : BitVec 32) : k0_chk4 w := ⟨inb_st 1 (by decide) w, fun h => words_st h rfl⟩
theorem chk6 (w : BitVec 32) : k0_chk6 w := ⟨inb_st 2 (by decide) w, fun h => words_st h rfl⟩
theorem chk8 (w : BitVec 32) : k0_chk8 w := ⟨inb_st 3 (by decide) w, fun h => words_st h rfl⟩
theorem off16_eq (t : Fin k0_t1_loop.trips) (w : BitVec 32) : k0_off16 t w = ![t.val, 0, (ssW w).toNat] := by
  rw [← iv_t t]; rfl
theorem off20_eq (t : Fin k0_t1_loop.trips) (w : BitVec 32) : k0_off20 t w = ![t.val, (stW w).toNat, 0, 0] := by
  rw [← iv_t t]; rfl
theorem chk9 (t : Fin k0_t1_loop.trips) (w : BitVec 32) : k0_chk9 t w := ⟨ssW_dvd w, by rw [off16_eq]; exact inb_ss t (t_lt t) w⟩
theorem chk10 (t : Fin k0_t1_loop.trips) (w : BitVec 32) : k0_chk10 t w :=
  ⟨by rw [off20_eq]; exact inb_st t (t_lt t) w, fun h => words_st h (by rw [off20_eq]; rfl)⟩

end Cert.KernelIdeal.Hand

end
-- ==== Proof.KI.Slots.lean ====
/-
  The sixteen transfers: what a window's cell, its destination row and its source rows hold before the start, in
  flight, and after the wait; one rule for a start and one for a wait.
-/
module

public import proofs.«01_k».proof.Proof.KI.Step
public import proofs.«01_k».proof.Proof.KI.Words
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The cell `k` of the kernel's semaphore array, row major. -/
def cell (b i : Fin 4) : SemLoc sig := SemLoc.dma (⟨9 + 4 * b.val + i.val, by show _ < 25; omega⟩)

inductive Ph | idle | fly | done
deriving DecidableEq

/-- What one transfer's cell, destination and source hold at a phase. -/
def Slot (c : Dev nD) (s d : Ref sig .tc) (sm : SemLoc sig) (N : ℕ) (RS : Finset (Idx ((c : Thread nD τ).loc s)))
    (RD : Finset (Idx ((c : Thread nD τ).loc d))) (fs : Buf (Elt F) ((c : Thread nD τ).loc s)) (G : Buf (Elt F) ((c : Thread nD τ).loc d)) :
    Ph → sProp 𝕄
  | .idle => iprop((((c : Thread nD τ).loc s) ↦[RS]{fullShare} fs) ∗ (∃ fd, (((c : Thread nD τ).loc d) ↦[RD]{fullShare} fd)) ∗ semVal ((c : Thread nD τ), sm) 0)
  | .fly => iprop(∃ S : Finset (Idx ((c : Thread nD τ).loc s)), ⌜S ⊆ RS⌝
      ∗ Flight (countersEmb (U := Pipeline.UD sig nD τ)) (c : Thread nD τ) sm () N
          iprop((((c : Thread nD τ).loc d) ↦[RD]{fullShare} G) ∗ (((c : Thread nD τ).loc s) ↦[S]{fullShare} fs))
      ∗ (((c : Thread nD τ).loc s) ↦[RS \ S]{fullShare} fs))
  | .done => iprop((((c : Thread nD τ).loc s) ↦[RS]{fullShare} fs) ∗ (((c : Thread nD τ).loc d) ↦[RD]{fullShare} G) ∗ semVal ((c : Thread nD τ), sm) 0)

variable {c : Dev nD} {α β : Type}

/-- A start: the slot goes from idle to in flight. -/
theorem Run.enq {X X' : sProp 𝕄} {I : Cont F c → Prop} {s0 : Shape} {e : EltTy} {sp sp' : Space} {src : Memref sig .tc sp s0 e} {dst : Memref sig .tc sp' s0 e}
    {sm : SemLoc sig} {h1 : src.view.WordExact} {h2 : dst.view.WordExact} {h3 : DmaTarget.Typed (nD := nD) (τ := τ) (p := Proc.tc) sp sm (.here dst)}
    {k : PUnit → Prog (TpuEff nD τ sig (Elt F) Λ₀ .tc) β} {Q : β → sProp 𝕄} {N : ℕ}
    {RS : Finset (Idx (src.view.loc (c : Thread nD τ)))} {RD : Finset (Idx (dst.view.loc (c : Thread nD τ)))}
    {fs : Buf (Elt F) (src.view.loc (c : Thread nD τ))} {G : Buf (Elt F) (dst.view.loc (c : Thread nD τ))}
    (hX : X ⊢ iprop(Slot c src.view.ref dst.view.ref sm N RS RD fs G .idle ∗ (Slot c src.view.ref dst.view.ref sm N RS RD fs G .fly -∗ X')))
    (hN : dst.view.amount sm = N) (hN0 : 0 < N) (hRS : src.view.set ⊆ RS) (hRD : dst.view.set = RD)
    (hG : ∃ g0, G = dst.view.write (Elt F) g0 (src.view.read (Elt F) fs) Finset.univ)
    (h : Run c X' I (k ⟨⟩) Q) :
    Run c X I (Prog.lift (TpuEff.enqueueDma (p := Proc.tc) src (.here dst) sm h1 h2 h3) >>= k) Q := fun C hC => by
  unfold WP; rw [wp_bind]
  refine (sep_mono_right hX).trans ?_
  unfold Slot
  iintro ⟨HO, ⟨Hs, ⟨%fd, Hd⟩, Hv⟩, HX⟩
  ihave ⟨Hs, Hr⟩ := (pointsTo_split_subset hRS).1 $$ Hs
  iapply (wp_dmaLocal (countersEmb (U := Pipeline.UD sig nD τ)) Variants.none (c : Thread nD τ) none (src := src) (dst := dst) (via := ReadAs.same)
    (sm := sm) (defs := defs₀ (F := F)) (fs := fs) (fd := fd) (Sd := RD) () N hN hN0 (le_of_eq hRD)) $$ [Hs Hd Hv]
  · isplitl [Hs]; · iexact Hs
    isplitl [Hd]; · iexact Hd
    iexact Hv
  iintro HF
  rw [wp_ret]; imodintro
  iapply (h C hC)
  isplitl [HO]; · iexact HO
  iapply HX
  iexists src.view.set
  isplitr; · ipureintro; exact hRS
  isplitl [HF]
  · iapply (Flight_mono _ _ ?_) $$ HF
    obtain ⟨g0, rfl⟩ := hG
    refine sep_mono_left (Entails.of_eq (pointsTo_congr fun i hi => ?_))
    rw [← hRD] at hi
    refine View.write_congr (fun x _ _ => rfl) fun hn => absurd ?_ hn
    exact hi
  iexact Hr

/-- A wait: the slot goes from in flight to done. -/
theorem Run.wait {X X' : sProp 𝕄} {I : Cont F c → Prop} {s0 s1 : Shape} {e e1 : EltTy} {sp sp' : Space} {src : Memref sig .tc sp s1 e1} {dst : Memref sig .tc sp' s0 e}
    {sem : DmaSem sig} {sm : SemLoc sig} {h1 : src.view.WordExact} {h2 : dst.view.WordExact}
    {k : PUnit → Prog (TpuEff nD τ sig (Elt F) Λ₀ .tc) β} {Q : β → sProp 𝕄} {N : ℕ} {s d : Ref sig .tc}
    {RS : Finset (Idx ((c : Thread nD τ).loc s))} {RD : Finset (Idx ((c : Thread nD τ).loc d))}
    {fs : Buf (Elt F) ((c : Thread nD τ).loc s)} {G : Buf (Elt F) ((c : Thread nD τ).loc d)}
    (hX : X ⊢ iprop((∃ W, owes (c : Thread nD τ) 0 W) ∗ Slot c s d sm N RS RD fs G .fly
      ∗ ((∃ W, owes (c : Thread nD τ) 0 W) -∗ Slot c s d sm N RS RD fs G .done -∗ X')))
    (hs : SemLoc.dma sem = sm) (hN : dst.view.dmaCredit = N)
    (h : Run c X' I (k ⟨⟩) Q) :
    Run c X I (Prog.lift (.waitDma2 sem src dst h1 h2) >>= k) Q := fun C hC => by
  subst hs
  unfold WP; rw [wp_bind]
  refine (sep_mono_right hX).trans ?_
  unfold Slot
  iintro ⟨HO, ⟨%W, HW⟩, ⟨%S, %hS, HF, Hr⟩, HX⟩
  iapply (wp_waitLocal (countersEmb (U := Pipeline.UD sig nD τ)) Variants.none (c : Thread nD τ) none (srcw := src) (dstw := dst)
    (defs := defs₀ (F := F)) () hN) $$ [HF HW]
  · isplitl [HF]; · iexact HF
    iexact HW
  iintro ⟨⟨Hd, Hs⟩, Hv, HW⟩
  rw [wp_ret]; imodintro
  iapply (h C hC)
  isplitl [HO]; · iexact HO
  ihave HX := HX $$ [HW]
  · iexists _; iexact HW
  iapply HX
  isplitl [Hs Hr]
  · iapply (pointsTo_split_subset hS).2
    isplitl [Hs]; · iexact Hs
    iexact Hr
  isplitl [Hd]; · iexact Hd
  iexact Hv

end Cert.KernelIdeal.Hand

end
-- ==== Proof.KI.Pool.lean ====
/-
  The buffers the body reads and the sixteen transfers, together: the resource the stepping rules carry, and the
  kernel's own starts, waits and loads over it.
-/
module

public import proofs.«01_k».proof.Proof.KI.Slots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- What the body reads: the four staged operands and the four it leaves in HBM. -/
structure Env (F : FTy → Type) (c : Dev nD) where
  f0 : Buf (Elt F) ((c : Thread nD τ).loc cc0_stg0_0)
  f1 : Buf (Elt F) ((c : Thread nD τ).loc cc0_stg1_0)
  f2 : Buf (Elt F) ((c : Thread nD τ).loc cc0_stg2_0)
  f3 : Buf (Elt F) ((c : Thread nD τ).loc cc0_stg3_0)
  s0 : Buf (Elt F) ((c : Thread nD τ).loc main_v0)
  s1 : Buf (Elt F) ((c : Thread nD τ).loc main_v1)
  s2 : Buf (Elt F) ((c : Thread nD τ).loc main_arg3)
  s3 : Buf (Elt F) ((c : Thread nD τ).loc main_arg5)

variable {c : Dev nD} {α β : Type}

theorem inb_len (b : Fin 4) (a : Fin 1) : (![b.val] : Fin 1 → ℕ) a + S1.size a ≤ S4.size a := by
  revert b a; decide

/-- The length of sequence `b`. -/
def wd (E : Env F c) (b : Fin 4) : BitVec 32 :=
  ((Memref.whole cc0_stg0_0 : Memref sig .tc .smem S4 .i32).access (Rect.unit (s := S4) ![b.val] S1.size (inb_len b))).read (Elt F) E.f0
    (Shape.Idx.first (numel1_S1.symm ▸ Nat.one_pos))

theorem inb_d3 (b : Fin 4) (a : Fin 3) : (![b.val, 0, 0] : Fin 3 → ℕ) a + S1x8x1152.size a ≤ S4x8x1152.size a := by
  revert b a; decide
theorem inb_d4 (b : Fin 4) (a : Fin 4) : (![b.val, 0, 0, 0] : Fin 4 → ℕ) a + S1x1024x8x256.size a ≤ S4x1024x8x256.size a := by
  revert b a; decide

/-- A window of a sequence's scales. -/
abbrev srcS (m : Memref sig .tc .hbm S4x8x4096 .f32) (b : Fin 4) (w : BitVec 32) : Memref sig .tc .hbm S8x1152 .f32 :=
  (m.slice (Rect.unit (s := S4x8x4096) ![b.val, 0, (ssW w).toNat] S1x8x1152.size (inb_ss b b.isLt w)) (fun _ => rfl)).squeeze S8x1152 squeezes_S1x8x1152_S8x1152
/-- Its row of the scratch. -/
abbrev dstS (m : Memref sig .tc .vmem S4x8x1152 .f32) (b : Fin 4) : Memref sig .tc .vmem S8x1152 .f32 :=
  (m.slice (Rect.unit (s := S4x8x1152) ![b.val, 0, 0] S1x8x1152.size (inb_d3 b)) (fun _ => rfl)).squeeze S8x1152 squeezes_S1x8x1152_S8x1152
/-- A window of a sequence's codes. -/
abbrev srcC (m : Memref sig .tc .hbm S4x4096x8x256 .i8) (b : Fin 4) (w : BitVec 32) : Memref sig .tc .hbm S1024x8x256 .i8 :=
  (m.slice (Rect.unit (s := S4x4096x8x256) ![b.val, (stW w).toNat, 0, 0] S1x1024x8x256.size (inb_st b b.isLt w)) (fun _ => rfl)).squeeze S1024x8x256 squeezes_S1x1024x8x256_S1024x8x256
/-- Its row of the scratch. -/
abbrev dstC (m : Memref sig .tc .vmem S4x1024x8x256 .i8) (b : Fin 4) : Memref sig .tc .vmem S1024x8x256 .i8 :=
  (m.slice (Rect.unit (s := S4x1024x8x256) ![b.val, 0, 0, 0] S1x1024x8x256.size (inb_d4 b)) (fun _ => rfl)).squeeze S1024x8x256 squeezes_S1x1024x8x256_S1024x8x256

/-- What a transfer leaves in its row. -/
def G0 (E : Env F c) (b : Fin 4) : Buf (Elt F) ((c : Thread nD τ).loc cc0_scratch2) :=
  (dstS (Memref.whole cc0_scratch2) b).view.write (Elt F) (fun _ => (Scalar.ofBits .f32 0#32 : F .f32)) ((srcS (Memref.whole main_v0) b (wd E b)).view.read (Elt F) E.s0) Finset.univ
def G1 (E : Env F c) (b : Fin 4) : Buf (Elt F) ((c : Thread nD τ).loc cc0_scratch3) :=
  (dstS (Memref.whole cc0_scratch3) b).view.write (Elt F) (fun _ => (Scalar.ofBits .f32 0#32 : F .f32)) ((srcS (Memref.whole main_v1) b (wd E b)).view.read (Elt F) E.s1) Finset.univ
def G2 (E : Env F c) (b : Fin 4) : Buf (Elt F) ((c : Thread nD τ).loc cc0_scratch0) :=
  (dstC (Memref.whole cc0_scratch0) b).view.write (Elt F) (fun _ => (0 : BitVec 8)) ((srcC (Memref.whole main_arg3) b (wd E b)).view.read (Elt F) E.s2) Finset.univ
def G3 (E : Env F c) (b : Fin 4) : Buf (Elt F) ((c : Thread nD τ).loc cc0_scratch1) :=
  (dstC (Memref.whole cc0_scratch1) b).view.write (Elt F) (fun _ => (0 : BitVec 8)) ((srcC (Memref.whole main_arg5) b (wd E b)).view.read (Elt F) E.s3) Finset.univ

/-- The elements whose leading coordinate is `b`. -/
def row (s : Shape) (h : 0 < s.rank) (b : ℕ) : Finset s.Idx := Finset.univ.filter fun i => (i ⟨0, h⟩).val = b

abbrev NS : ℕ := (dstS (Memref.whole cc0_scratch2) 0).view.dmaCredit
abbrev NC : ℕ := (dstC (Memref.whole cc0_scratch0) 0).view.dmaCredit

/-- The slot of operand `i`, sequence `b`. -/
def slotAt (E : Env F c) (b i : Fin 4) (ph : Ph) : sProp 𝕄 :=
  match i with
  | 0 => Slot c main_v0 cc0_scratch2 (cell b 0) NS (row S4x8x4096 (by decide) b) (row S4x8x1152 (by decide) b) E.s0 (G0 E b) ph
  | 1 => Slot c main_v1 cc0_scratch3 (cell b 1) NS (row S4x8x4096 (by decide) b) (row S4x8x1152 (by decide) b) E.s1 (G1 E b) ph
  | 2 => Slot c main_arg3 cc0_scratch0 (cell b 2) NC (row S4x4096x8x256 (by decide) b) (row S4x1024x8x256 (by decide) b) E.s2 (G2 E b) ph
  | 3 => Slot c main_arg5 cc0_scratch1 (cell b 3) NC (row S4x4096x8x256 (by decide) b) (row S4x1024x8x256 (by decide) b) E.s3 (G3 E b) ph

/-- All sixteen. -/
def pool (E : Env F c) (ph : Fin 4 × Fin 4 → Ph) : sProp 𝕄 := bigSep Finset.univ fun p => slotAt E p.1 p.2 (ph p)

theorem pool_step (E : Env F c) (p : Fin 4 × Fin 4) {ph ph' : Fin 4 × Fin 4 → Ph} (h : ∀ p', p' ≠ p → ph p' = ph' p') :
    pool E ph ⊢ iprop(slotAt E p.1 p.2 (ph p) ∗ (slotAt E p.1 p.2 (ph' p) -∗ pool E ph')) := by
  unfold pool
  rw [bigSep_erase (Finset.mem_univ p)]
  refine sep_mono_right (BIClass.wand_intro (sep_comm.1.trans ?_))
  rw [bigSep_erase (Φ := fun p => slotAt E p.1 p.2 (ph' p)) (Finset.mem_univ p)]
  refine sep_mono_right (Entails.of_eq (bigSep_congr fun p' hp' => ?_))
  rw [h p' (Finset.ne_of_mem_erase hp')]

/-- After `n` starts. -/
def pro (n : ℕ) (p : Fin 4 × Fin 4) : Ph := if 4 * p.1.val + p.2.val < n then .fly else .idle
/-- After `n` waits. -/
def lp (n : ℕ) (p : Fin 4 × Fin 4) : Ph := if 4 * p.1.val + p.2.val < n then .done else .fly

/-- Everything the body carries beside the buffers it writes. -/
def XP (E : Env F c) (ph : Fin 4 × Fin 4 → Ph) : sProp 𝕄 :=
  iprop((∃ W, owes (c : Thread nD τ) 0 W)
    ∗ ((((c : Thread nD τ).loc cc0_stg0_0) ↦{fullShare} E.f0) ∗ (((c : Thread nD τ).loc cc0_stg1_0) ↦{fullShare} E.f1)
      ∗ (((c : Thread nD τ).loc cc0_stg2_0) ↦{fullShare} E.f2) ∗ (((c : Thread nD τ).loc cc0_stg3_0) ↦{fullShare} E.f3))
    ∗ pool E ph)

theorem XP_f0 (E : Env F c) (ph) : XP E ph ⊢ iprop((((c : Thread nD τ).loc cc0_stg0_0) ↦{fullShare} E.f0)
    ∗ ((((c : Thread nD τ).loc cc0_stg0_0) ↦{fullShare} E.f0) -∗ XP E ph)) := by
  unfold XP
  iintro ⟨HW, ⟨H0, H1, H2, H3⟩, HP⟩
  isplitl [H0]; · iexact H0
  iintro H0
  isplitl [HW]; · iexact HW
  isplitl [H0 H1 H2 H3]
  · isplitl [H0]; · iexact H0
    isplitl [H1]; · iexact H1
    isplitl [H2]; · iexact H2
    iexact H3
  iexact HP

theorem XP_f1 (E : Env F c) (ph) : XP E ph ⊢ iprop((((c : Thread nD τ).loc cc0_stg1_0) ↦{fullShare} E.f1)
    ∗ ((((c : Thread nD τ).loc cc0_stg1_0) ↦{fullShare} E.f1) -∗ XP E ph)) := by
  unfold XP
  iintro ⟨HW, ⟨H0, H1, H2, H3⟩, HP⟩
  isplitl [H1]; · iexact H1
  iintro H1
  isplitl [HW]; · iexact HW
  isplitl [H0 H1 H2 H3]
  · isplitl [H0]; · iexact H0
    isplitl [H1]; · iexact H1
    isplitl [H2]; · iexact H2
    iexact H3
  iexact HP

theorem XP_f2 (E : Env F c) (ph) : XP E ph ⊢ iprop((((c : Thread nD τ).loc cc0_stg2_0) ↦{fullShare} E.f2)
    ∗ ((((c : Thread nD τ).loc cc0_stg2_0) ↦{fullShare} E.f2) -∗ XP E ph)) := by
  unfold XP
  iintro ⟨HW, ⟨H0, H1, H2, H3⟩, HP⟩
  isplitl [H2]; · iexact H2
  iintro H2
  isplitl [HW]; · iexact HW
  isplitl [H0 H1 H2 H3]
  · isplitl [H0]; · iexact H0
    isplitl [H1]; · iexact H1
    isplitl [H2]; · iexact H2
    iexact H3
  iexact HP

theorem XP_f3 (E : Env F c) (ph) : XP E ph ⊢ iprop((((c : Thread nD τ).loc cc0_stg3_0) ↦{fullShare} E.f3)
    ∗ ((((c : Thread nD τ).loc cc0_stg3_0) ↦{fullShare} E.f3) -∗ XP E ph)) := by
  unfold XP
  iintro ⟨HW, ⟨H0, H1, H2, H3⟩, HP⟩
  isplitl [H3]; · iexact H3
  iintro H3
  isplitl [HW]; · iexact HW
  isplitl [H0 H1 H2 H3]
  · isplitl [H0]; · iexact H0
    isplitl [H1]; · iexact H1
    isplitl [H2]; · iexact H2
    iexact H3
  iexact HP

theorem XP_slot (E : Env F c) (p : Fin 4 × Fin 4) {ph ph' : Fin 4 × Fin 4 → Ph} (h : ∀ p', p' ≠ p → ph p' = ph' p') :
    XP E ph ⊢ iprop(slotAt E p.1 p.2 (ph p) ∗ (slotAt E p.1 p.2 (ph' p) -∗ XP E ph')) := by
  unfold XP
  iintro ⟨HW, HS, HP⟩
  ihave ⟨H, HP⟩ := (pool_step E p h) $$ HP
  isplitl [H]; · iexact H
  iintro H
  isplitl [HW]; · iexact HW
  isplitl [HS]; · iexact HS
  iapply HP $$ H

theorem XP_wait (E : Env F c) (p : Fin 4 × Fin 4) {ph ph' : Fin 4 × Fin 4 → Ph} (h : ∀ p', p' ≠ p → ph p' = ph' p') :
    XP E ph ⊢ iprop((∃ W, owes (c : Thread nD τ) 0 W) ∗ slotAt E p.1 p.2 (ph p)
      ∗ ((∃ W, owes (c : Thread nD τ) 0 W) -∗ slotAt E p.1 p.2 (ph' p) -∗ XP E ph')) := by
  unfold XP
  iintro ⟨HW, HS, HP⟩
  ihave ⟨H, HP⟩ := (pool_step E p h) $$ HP
  isplitl [HW]; · iexact HW
  isplitl [H]; · iexact H
  iintro HW H
  isplitl [HW]; · iexact HW
  isplitl [HS]; · iexact HS
  iapply HP $$ H

theorem pro_step (b i : Fin 4) (n : ℕ) (hn : 4 * b.val + i.val = n) : ∀ p', p' ≠ (b, i) → pro n p' = pro (n + 1) p' := by
  intro p' h
  have : 4 * p'.1.val + p'.2.val ≠ n := fun e => h (Prod.ext (Fin.ext (by have := p'.2.isLt; have := i.isLt; show p'.1.val = b.val; omega)) (Fin.ext (by have := p'.2.isLt; have := i.isLt; show p'.2.val = i.val; omega)))
  unfold pro
  exact if_congr (by omega) rfl rfl

theorem lp_step (b i : Fin 4) (n : ℕ) (hn : 4 * b.val + i.val = n) : ∀ p', p' ≠ (b, i) → lp n p' = lp (n + 1) p' := by
  intro p' h
  have : 4 * p'.1.val + p'.2.val ≠ n := fun e => h (Prod.ext (Fin.ext (by have := p'.2.isLt; have := i.isLt; show p'.1.val = b.val; omega)) (Fin.ext (by have := p'.2.isLt; have := i.isLt; show p'.2.val = i.val; omega)))
  unfold lp
  exact if_congr (by omega) rfl rfl

theorem pro_idle (b i : Fin 4) (n : ℕ) (hn : 4 * b.val + i.val = n) : pro n (b, i) = .idle := if_neg (by simp; omega)
theorem pro_fly (b i : Fin 4) (n : ℕ) (hn : 4 * b.val + i.val = n) : pro (n + 1) (b, i) = .fly := if_pos (by simp; omega)
theorem lp_fly (b i : Fin 4) (n : ℕ) (hn : 4 * b.val + i.val = n) : lp n (b, i) = .fly := if_neg (by simp; omega)
theorem lp_done (b i : Fin 4) (n : ℕ) (hn : 4 * b.val + i.val < n) : lp n (b, i) = .done := if_pos (by simp; omega)

/-! ## The starts -/

theorem XP_enq (E : Env F c) (b i : Fin 4) (n : ℕ) (hn : 4 * b.val + i.val = n) :
    XP E (pro n) ⊢ iprop(slotAt E b i .idle ∗ (slotAt E b i .fly -∗ XP E (pro (n + 1)))) := by
  have h := XP_slot E (b, i) (pro_step b i n hn)
  rw [pro_idle b i n hn, pro_fly b i n hn] at h
  exact h

theorem XP_lp (E : Env F c) (b i : Fin 4) (n : ℕ) (hn : 4 * b.val + i.val = n) :
    XP E (lp n) ⊢ iprop((∃ W, owes (c : Thread nD τ) 0 W) ∗ slotAt E b i .fly
      ∗ ((∃ W, owes (c : Thread nD τ) 0 W) -∗ slotAt E b i .done -∗ XP E (lp (n + 1)))) := by
  have h := XP_wait E (b, i) (lp_step b i n hn)
  rw [lp_fly b i n hn, lp_done b i (n + 1) (by omega)] at h
  exact h

theorem unit_sub_row {s : Shape} {off size : Fin s.rank → ℕ} {inb} (h : 0 < s.rank) (b : ℕ) (ho : off ⟨0, h⟩ = b) (hs : size ⟨0, h⟩ = 1) :
    (Rect.unit (s := s) off size inb).set ⊆ row s h b := fun i hi => by
  have := Rect.mem_set_unit.mp hi ⟨0, h⟩
  exact Finset.mem_filter.mpr ⟨Finset.mem_univ _, by omega⟩

theorem unit_eq_row {s : Shape} {off size : Fin s.rank → ℕ} {inb} (h : 0 < s.rank) (b : ℕ) (ho : off ⟨0, h⟩ = b) (hs : size ⟨0, h⟩ = 1)
    (hz : ∀ a : Fin s.rank, a ≠ ⟨0, h⟩ → off a = 0 ∧ size a = s.size a) :
    (Rect.unit (s := s) off size inb).set = row s h b := by
  refine (unit_sub_row h b ho hs).antisymm fun i hi => Rect.mem_set_unit.mpr fun a => ?_
  have hb := (Finset.mem_filter.mp hi).2
  by_cases ha : a = ⟨0, h⟩
  · subst ha; omega
  · have := hz a ha; have := (i a).isLt; omega

theorem src_row0 (b : Fin 4) (w : BitVec 32) : (srcS (Memref.whole main_v0) b w).view.set ⊆ row S4x8x4096 (by decide) b := by
  rw [View.set_reshape]; erw [View.set_slice_whole]; exact unit_sub_row _ _ rfl rfl
theorem src_row1 (b : Fin 4) (w : BitVec 32) : (srcS (Memref.whole main_v1) b w).view.set ⊆ row S4x8x4096 (by decide) b := by
  rw [View.set_reshape]; erw [View.set_slice_whole]; exact unit_sub_row _ _ rfl rfl
theorem src_row2 (b : Fin 4) (w : BitVec 32) : (srcC (Memref.whole main_arg3) b w).view.set ⊆ row S4x4096x8x256 (by decide) b := by
  rw [View.set_reshape]; erw [View.set_slice_whole]; exact unit_sub_row _ _ rfl rfl
theorem src_row3 (b : Fin 4) (w : BitVec 32) : (srcC (Memref.whole main_arg5) b w).view.set ⊆ row S4x4096x8x256 (by decide) b := by
  rw [View.set_reshape]; erw [View.set_slice_whole]; exact unit_sub_row _ _ rfl rfl

theorem zr3 (b : ℕ) : ∀ a : Fin 3, a ≠ 0 → (![b, 0, 0] : Fin 3 → ℕ) a = 0 ∧ S1x8x1152.size a = S4x8x1152.size a := by
  intro a h; fin_cases a; · exact absurd rfl h
  · exact ⟨rfl, rfl⟩
  · exact ⟨rfl, rfl⟩
theorem zr4 (b : ℕ) : ∀ a : Fin 4, a ≠ 0 → (![b, 0, 0, 0] : Fin 4 → ℕ) a = 0 ∧ S1x1024x8x256.size a = S4x1024x8x256.size a := by
  intro a h; fin_cases a; · exact absurd rfl h
  · exact ⟨rfl, rfl⟩
  · exact ⟨rfl, rfl⟩
  · exact ⟨rfl, rfl⟩

theorem dst_row0 (b : Fin 4) : (dstS (Memref.whole cc0_scratch2) b).view.set = row S4x8x1152 (by decide) b := by
  rw [View.set_reshape]; erw [View.set_slice_whole]; exact unit_eq_row _ _ rfl rfl (zr3 b)
theorem dst_row1 (b : Fin 4) : (dstS (Memref.whole cc0_scratch3) b).view.set = row S4x8x1152 (by decide) b := by
  rw [View.set_reshape]; erw [View.set_slice_whole]; exact unit_eq_row _ _ rfl rfl (zr3 b)
theorem dst_row2 (b : Fin 4) : (dstC (Memref.whole cc0_scratch0) b).view.set = row S4x1024x8x256 (by decide) b := by
  rw [View.set_reshape]; erw [View.set_slice_whole]; exact unit_eq_row _ _ rfl rfl (zr4 b)
theorem dst_row3 (b : Fin 4) : (dstC (Memref.whole cc0_scratch1) b).view.set = row S4x1024x8x256 (by decide) b := by
  rw [View.set_reshape]; erw [View.set_slice_whole]; exact unit_eq_row _ _ rfl rfl (zr4 b)

variable {k : PUnit → Prog (TpuEff nD τ sig (Elt F) Λ₀ .tc) β}

theorem NS_pos : 0 < NS := by decide +kernel
theorem NC_pos : 0 < NC := by decide +kernel

/-- Start the key scales' copy. -/
theorem Run.enq0 {I : Cont F c → Prop} {Q : β → sProp 𝕄} (E : Env F c) (b : Fin 4) (n : ℕ) (hn : 4 * b.val + (0 : Fin 4).val = n) {h1 h2 h3} (h : Run c (XP E (pro (n + 1))) I (k ⟨⟩) Q) :
    Run c (XP E (pro n)) I (Prog.lift (TpuEff.enqueueDma (p := Proc.tc) (srcS (Memref.whole main_v0) b (wd E b)) (.here (dstS (Memref.whole cc0_scratch2) b)) (cell b 0) h1 h2 h3) >>= k) Q :=
  Run.enq (N := NS) (XP_enq E b 0 n hn) rfl NS_pos (src_row0 _ _) (dst_row0 b) ⟨_, rfl⟩ h
/-- Start the value scales' copy. -/
theorem Run.enq1 {I : Cont F c → Prop} {Q : β → sProp 𝕄} (E : Env F c) (b : Fin 4) (n : ℕ) (hn : 4 * b.val + (1 : Fin 4).val = n) {h1 h2 h3} (h : Run c (XP E (pro (n + 1))) I (k ⟨⟩) Q) :
    Run c (XP E (pro n)) I (Prog.lift (TpuEff.enqueueDma (p := Proc.tc) (srcS (Memref.whole main_v1) b (wd E b)) (.here (dstS (Memref.whole cc0_scratch3) b)) (cell b 1) h1 h2 h3) >>= k) Q :=
  Run.enq (N := NS) (XP_enq E b 1 n hn) rfl NS_pos (src_row1 _ _) (dst_row1 b) ⟨_, rfl⟩ h
/-- Start the key codes' copy. -/
theorem Run.enq2 {I : Cont F c → Prop} {Q : β → sProp 𝕄} (E : Env F c) (b : Fin 4) (n : ℕ) (hn : 4 * b.val + (2 : Fin 4).val = n) {h1 h2 h3} (h : Run c (XP E (pro (n + 1))) I (k ⟨⟩) Q) :
    Run c (XP E (pro n)) I (Prog.lift (TpuEff.enqueueDma (p := Proc.tc) (srcC (Memref.whole main_arg3) b (wd E b)) (.here (dstC (Memref.whole cc0_scratch0) b)) (cell b 2) h1 h2 h3) >>= k) Q :=
  Run.enq (N := NC) (XP_enq E b 2 n hn) rfl NC_pos (src_row2 _ _) (dst_row2 b) ⟨_, rfl⟩ h
/-- Start the value codes' copy. -/
theorem Run.enq3 {I : Cont F c → Prop} {Q : β → sProp 𝕄} (E : Env F c) (b : Fin 4) (n : ℕ) (hn : 4 * b.val + (3 : Fin 4).val = n) {h1 h2 h3} (h : Run c (XP E (pro (n + 1))) I (k ⟨⟩) Q) :
    Run c (XP E (pro n)) I (Prog.lift (TpuEff.enqueueDma (p := Proc.tc) (srcC (Memref.whole main_arg5) b (wd E b)) (.here (dstC (Memref.whole cc0_scratch1) b)) (cell b 3) h1 h2 h3) >>= k) Q :=
  Run.enq (N := NC) (XP_enq E b 3 n hn) rfl NC_pos (src_row3 _ _) (dst_row3 b) ⟨_, rfl⟩ h

/-- A length read. -/
theorem Run.len {I : Cont F c → Prop} {Q : β → sProp 𝕄} {k : BitVec 32 → Prog (TpuEff nD τ sig (Elt F) Λ₀ .tc) β} (E : Env F c) {ph} (b : Fin 4) {off : Fin 1 → ℕ} (ho : off = ![b.val]) {inb : ∀ a, off a + S1.size a ≤ S4.size a} {h1 hp}
    (h : Run c (XP E ph) I (k (wd E b)) Q) :
    Run c (XP E ph) I (smemLoad (Memref.whole cc0_stg0_0 : Memref sig .tc .smem S4 .i32) (Rect.unit (s := S4) off S1.size inb) h1 hp >>= k) Q := by
  subst ho
  exact Run.smemX (XP_f0 E ph) h

/-! ## The waits -/

abbrev tb (t : Fin k0_t1_loop.trips) : Fin 4 := ⟨t.val, t_lt t⟩

theorem Run.wt {I : Cont F c → Prop} {Q : β → sProp 𝕄} (E : Env F c) (b i : Fin 4) (n : ℕ) (hn : 4 * b.val + i.val = n) {s0 s1 : Shape} {e e1 : EltTy} {sp sp' : Space} {src : Memref sig .tc sp s1 e1} {dst : Memref sig .tc sp' s0 e}
    {sem : DmaSem sig} {h1 : src.view.WordExact} {h2 : dst.view.WordExact}
    (hs : SemLoc.dma sem = cell b i) (hN : dst.view.dmaCredit = if i.val < 2 then NS else NC)
    (h : Run c (XP E (lp (n + 1))) I (k ⟨⟩) Q) :
    Run c (XP E (lp n)) I (Prog.lift (.waitDma2 sem src dst h1 h2) >>= k) Q := by
  have hx := XP_lp E b i n hn
  revert hs hN hx
  match i with
  | 0 => exact fun hs hN hx => Run.wait hx hs hN h
  | 1 => exact fun hs hN hx => Run.wait hx hs hN h
  | 2 => exact fun hs hN hx => Run.wait hx hs hN h
  | 3 => exact fun hs hN hx => Run.wait hx hs hN h

theorem sem14 (t : Fin k0_t1_loop.trips) : SemLoc.dma ((cc0_scratch8.slice (Rect.unit (s := S4x4) (k0_off14 t) S1x1.size (k0_off14_inb t))).squeeze S_ squeezes_S1x1_S_).sem = cell (tb t) 0 := by
  revert t; decide +kernel
theorem sem17 (t : Fin k0_t1_loop.trips) : SemLoc.dma ((cc0_scratch8.slice (Rect.unit (s := S4x4) (k0_off17 t) S1x1.size (k0_off17_inb t))).squeeze S_ squeezes_S1x1_S_).sem = cell (tb t) 1 := by
  revert t; decide +kernel
theorem sem18 (t : Fin k0_t1_loop.trips) : SemLoc.dma ((cc0_scratch8.slice (Rect.unit (s := S4x4) (k0_off18 t) S1x1.size (k0_off18_inb t))).squeeze S_ squeezes_S1x1_S_).sem = cell (tb t) 2 := by
  revert t; decide +kernel
theorem sem38 (t : Fin k0_t1_loop.trips) : SemLoc.dma ((cc0_scratch8.slice (Rect.unit (s := S4x4) (k0_off38 t) S1x1.size (k0_off38_inb t))).squeeze S_ squeezes_S1x1_S_).sem = cell (tb t) 3 := by
  revert t; decide +kernel

/-! ## The loads of what the waits delivered -/

/-- What a part may load: the staged operands, and the rows of trip `t` the waits have delivered. -/
structure Res (X : sProp 𝕄) (E : Env F c) (b : Fin 4) : Prop where
  f1 : X ⊢ iprop((((c : Thread nD τ).loc cc0_stg1_0) ↦{fullShare} E.f1) ∗ ((((c : Thread nD τ).loc cc0_stg1_0) ↦{fullShare} E.f1) -∗ X))
  f2 : X ⊢ iprop((((c : Thread nD τ).loc cc0_stg2_0) ↦{fullShare} E.f2) ∗ ((((c : Thread nD τ).loc cc0_stg2_0) ↦{fullShare} E.f2) -∗ X))
  f3 : X ⊢ iprop((((c : Thread nD τ).loc cc0_stg3_0) ↦{fullShare} E.f3) ∗ ((((c : Thread nD τ).loc cc0_stg3_0) ↦{fullShare} E.f3) -∗ X))
  g0 : X ⊢ iprop((((c : Thread nD τ).loc cc0_scratch2) ↦[row S4x8x1152 (by decide) b]{fullShare} G0 E b) ∗ ((((c : Thread nD τ).loc cc0_scratch2) ↦[row S4x8x1152 (by decide) b]{fullShare} G0 E b) -∗ X))
  g1 : X ⊢ iprop((((c : Thread nD τ).loc cc0_scratch3) ↦[row S4x8x1152 (by decide) b]{fullShare} G1 E b) ∗ ((((c : Thread nD τ).loc cc0_scratch3) ↦[row S4x8x1152 (by decide) b]{fullShare} G1 E b) -∗ X))
  g2 : X ⊢ iprop((((c : Thread nD τ).loc cc0_scratch0) ↦[row S4x1024x8x256 (by decide) b]{fullShare} G2 E b) ∗ ((((c : Thread nD τ).loc cc0_scratch0) ↦[row S4x1024x8x256 (by decide) b]{fullShare} G2 E b) -∗ X))

/-- And the value codes' rows, after the fourth wait. -/
structure Res3 (X : sProp 𝕄) (E : Env F c) (b : Fin 4) : Prop extends Res X E b where
  g3 : X ⊢ iprop((((c : Thread nD τ).loc cc0_scratch1) ↦[row S4x1024x8x256 (by decide) b]{fullShare} G3 E b) ∗ ((((c : Thread nD τ).loc cc0_scratch1) ↦[row S4x1024x8x256 (by decide) b]{fullShare} G3 E b) -∗ X))

theorem XP_done (E : Env F c) (b i : Fin 4) (n : ℕ) (hn : 4 * b.val + i.val < n) :
    XP E (lp n) ⊢ iprop(slotAt E b i .done ∗ (slotAt E b i .done -∗ XP E (lp n))) := by
  have h := XP_slot E (b, i) (ph := lp n) (ph' := lp n) fun _ _ => rfl
  rw [lp_done b i n hn] at h
  exact h

theorem slot_dst {s d : Ref sig .tc} {sm : SemLoc sig} {N : ℕ} {RS : Finset (Idx ((c : Thread nD τ).loc s))}
    {RD : Finset (Idx ((c : Thread nD τ).loc d))} {fs : Buf (Elt F) ((c : Thread nD τ).loc s)} {G : Buf (Elt F) ((c : Thread nD τ).loc d)} {X : sProp 𝕄}
    (h : X ⊢ iprop(Slot c s d sm N RS RD fs G .done ∗ (Slot c s d sm N RS RD fs G .done -∗ X))) :
    X ⊢ iprop((((c : Thread nD τ).loc d) ↦[RD]{fullShare} G) ∗ ((((c : Thread nD τ).loc d) ↦[RD]{fullShare} G) -∗ X)) := by
  refine h.trans ?_
  unfold Slot
  iintro ⟨⟨Hs, Hd, Hv⟩, HX⟩
  isplitl [Hd]; · iexact Hd
  iintro Hd
  iapply HX
  isplitl [Hs]; · iexact Hs
  isplitl [Hd]; · iexact Hd
  iexact Hv

theorem res3 (E : Env F c) (b : Fin 4) : Res (XP E (lp (4 * b.val + 3))) E b where
  f1 := XP_f1 E _
  f2 := XP_f2 E _
  f3 := XP_f3 E _
  g0 := slot_dst (N := NS) (XP_done E b 0 _ (by simp))
  g1 := slot_dst (N := NS) (XP_done E b 1 _ (by simp))
  g2 := slot_dst (N := NC) (XP_done E b 2 _ (by simp))
theorem res4 (E : Env F c) (b : Fin 4) : Res3 (XP E (lp (4 * b.val + 4))) E b where
  f1 := XP_f1 E _
  f2 := XP_f2 E _
  f3 := XP_f3 E _
  g0 := slot_dst (N := NS) (XP_done E b 0 _ (by simp))
  g1 := slot_dst (N := NS) (XP_done E b 1 _ (by simp))
  g2 := slot_dst (N := NC) (XP_done E b 2 _ (by simp))
  g3 := slot_dst (N := NC) (XP_done E b 3 _ (by simp))

theorem whole_setOn_sub_row (m : Ref sig .tc) {off size : Fin m.ty.shape.rank → ℕ} {inb} (h : 0 < m.ty.shape.rank) (b : ℕ) (ho : off ⟨0, h⟩ = b) (hs : size ⟨0, h⟩ = 1) :
    (View.whole m).setOn (Rect.unit (s := m.ty.shape) off size inb).toLoadRect.set ⊆ row m.ty.shape h b :=
  fun i hi => by obtain ⟨x, hx, rfl⟩ := Finset.mem_map.mp hi; exact unit_sub_row h b ho hs hx

theorem Res.ld0 {X : sProp 𝕄} {I : Cont F c → Prop} {E : Env F c} {b : Fin 4} (R : Res X E b) {off : Fin 3 → ℕ} {inb : ∀ a, off a + S1x8x128.size a ≤ S4x8x1152.size a} (ho : off 0 = b.val)
    {hl} {k : (S1x8x128.Idx → Elt F .f32) → Prog (TpuEff nD τ sig (Elt F) Λ₀ .tc) β} {Q : β → sProp 𝕄}
    (h : Run c X I (k ((Memref.whole cc0_scratch2 : Memref sig .tc .vmem S4x8x1152 .f32).view.readAt (Elt F) (Rect.unit (s := S4x8x1152) off S1x8x128.size inb).toLoadRect (G0 E b))) Q) :
    Run c X I (Prog.lift (.load (Memref.whole cc0_scratch2 : Memref sig .tc .vmem S4x8x1152 .f32) (Rect.unit (s := S4x8x1152) off S1x8x128.size inb).toLoadRect hl) >>= k) Q :=
  Run.loadX R.g0 (whole_setOn_sub_row cc0_scratch2 _ _ ho rfl) h
theorem Res.ld1 {X : sProp 𝕄} {I : Cont F c → Prop} {E : Env F c} {b : Fin 4} (R : Res X E b) {off : Fin 3 → ℕ} {inb : ∀ a, off a + S1x8x128.size a ≤ S4x8x1152.size a} (ho : off 0 = b.val)
    {hl} {k : (S1x8x128.Idx → Elt F .f32) → Prog (TpuEff nD τ sig (Elt F) Λ₀ .tc) β} {Q : β → sProp 𝕄}
    (h : Run c X I (k ((Memref.whole cc0_scratch3 : Memref sig .tc .vmem S4x8x1152 .f32).view.readAt (Elt F) (Rect.unit (s := S4x8x1152) off S1x8x128.size inb).toLoadRect (G1 E b))) Q) :
    Run c X I (Prog.lift (.load (Memref.whole cc0_scratch3 : Memref sig .tc .vmem S4x8x1152 .f32) (Rect.unit (s := S4x8x1152) off S1x8x128.size inb).toLoadRect hl) >>= k) Q :=
  Run.loadX R.g1 (whole_setOn_sub_row cc0_scratch3 _ _ ho rfl) h
theorem Res.ld2 {X : sProp 𝕄} {I : Cont F c → Prop} {E : Env F c} {b : Fin 4} (R : Res X E b) {off : Fin 4 → ℕ} {inb : ∀ a, off a + S1x128x8x256.size a ≤ S4x1024x8x256.size a} (ho : off 0 = b.val)
    {hl} {k : (S1x128x8x256.Idx → Elt F .i8) → Prog (TpuEff nD τ sig (Elt F) Λ₀ .tc) β} {Q : β → sProp 𝕄}
    (h : Run c X I (k ((Memref.whole cc0_scratch0 : Memref sig .tc .vmem S4x1024x8x256 .i8).view.readAt (Elt F) (Rect.unit (s := S4x1024x8x256) off S1x128x8x256.size inb).toLoadRect (G2 E b))) Q) :
    Run c X I (Prog.lift (.load (Memref.whole cc0_scratch0 : Memref sig .tc .vmem S4x1024x8x256 .i8) (Rect.unit (s := S4x1024x8x256) off S1x128x8x256.size inb).toLoadRect hl) >>= k) Q :=
  Run.loadX R.g2 (whole_setOn_sub_row cc0_scratch0 _ _ ho rfl) h
theorem Res3.ld3 {X : sProp 𝕄} {I : Cont F c → Prop} {E : Env F c} {b : Fin 4} (R : Res3 X E b) {off : Fin 4 → ℕ} {inb : ∀ a, off a + S1x128x8x256.size a ≤ S4x1024x8x256.size a} (ho : off 0 = b.val)
    {hl} {k : (S1x128x8x256.Idx → Elt F .i8) → Prog (TpuEff nD τ sig (Elt F) Λ₀ .tc) β} {Q : β → sProp 𝕄}
    (h : Run c X I (k ((Memref.whole cc0_scratch1 : Memref sig .tc .vmem S4x1024x8x256 .i8).view.readAt (Elt F) (Rect.unit (s := S4x1024x8x256) off S1x128x8x256.size inb).toLoadRect (G3 E b))) Q) :
    Run c X I (Prog.lift (.load (Memref.whole cc0_scratch1 : Memref sig .tc .vmem S4x1024x8x256 .i8) (Rect.unit (s := S4x1024x8x256) off S1x128x8x256.size inb).toLoadRect hl) >>= k) Q :=
  Run.loadX R.g3 (whole_setOn_sub_row cc0_scratch1 _ _ ho rfl) h

theorem offb (t : Fin k0_t1_loop.trips) : (![(Scalar.indexCast (Scf.iv 0#32 1#32 t) : Index).toNat] : Fin 1 → ℕ) = ![(tb t).val] := by
  revert t; decide +kernel

theorem m8 : cc0_stg4_0 ∈ B0 := by decide
theorem m9 : cc0_stg5_0 ∈ B0 := by decide
theorem m10 : cc0_stg6_0 ∈ B0 := by decide
theorem m11 : cc0_stg7_0 ∈ B0 := by decide
theorem m12 : cc0_stg8_0 ∈ B0 := by decide
theorem m17 : cc0_scratch4 ∈ B0 := by decide
theorem m18 : cc0_scratch5 ∈ B0 := by decide
theorem m19 : cc0_scratch6 ∈ B0 := by decide
theorem m20 : cc0_scratch7 ∈ B0 := by decide

end Cert.KernelIdeal.Hand

end
-- ==== Proof.KI.Enter.lean ====
/-
  Entering and leaving the region: the sixteen slots from the whole buffers and back.
-/
module

public import proofs.«01_k».proof.Proof.Gen.KernelIdeal.Frame
public import proofs.«01_k».proof.Proof.KI.Pool

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows of a buffer with leading extent four are disjoint and fill it. -/
theorem row_disj (s : Shape) (h : 0 < s.rank) : ∀ t ∈ (Finset.univ : Finset (Fin 4)), ∀ t' ∈ (Finset.univ : Finset (Fin 4)), t ≠ t' →
    Disjoint (row s h t.val) (row s h t'.val) := by
  intro t _ t' _ hne
  rw [Finset.disjoint_left]
  intro i hi hi'
  simp only [row, Finset.mem_filter] at hi hi'
  exact hne (Fin.ext (hi.2.symm.trans hi'.2))

theorem row_mem (s : Shape) (h : 0 < s.rank) (h4 : s.size ⟨0, h⟩ = 4) (i : s.Idx) : ∃ t : Fin 4, i ∈ row s h t.val :=
  ⟨⟨(i ⟨0, h⟩).val, by have := (i ⟨0, h⟩).isLt; omega⟩, by simp only [row, Finset.mem_filter, Finset.mem_univ, true_and]⟩

theorem four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

variable {c : Dev nD}

/-- A whole buffer as its four rows. -/
theorem rows_eq {ℓ : Loc nD τ sig} (K : Fin 4 → Finset (Idx ℓ)) (hd : ∀ t ∈ (Finset.univ : Finset (Fin 4)), ∀ t' ∈ (Finset.univ : Finset (Fin 4)), t ≠ t' → Disjoint (K t) (K t'))
    (hu : ∀ i, ∃ t, i ∈ K t) (f : Buf (Elt F) ℓ) :
    (ℓ ↦{fullShare} f : sProp 𝕄) = iprop((ℓ ↦[K 0]{fullShare} f) ∗ (ℓ ↦[K 1]{fullShare} f) ∗ (ℓ ↦[K 2]{fullShare} f) ∗ (ℓ ↦[K 3]{fullShare} f)) := by
  rw [← four (fun t => (ℓ ↦[K t]{fullShare} f : sProp 𝕄)), ← pointsTo_biUnion _ _ hd, show Finset.univ.biUnion K = Finset.univ from Finset.eq_univ_of_forall fun i => Finset.mem_biUnion.mpr ((hu i).imp fun t h => ⟨Finset.mem_univ t, h⟩)]

/-- Four rows at their own contents, as one buffer. -/
theorem rows_join {ℓ : Loc nD τ sig} (K : Fin 4 → Finset (Idx ℓ)) (hd : ∀ t ∈ (Finset.univ : Finset (Fin 4)), ∀ t' ∈ (Finset.univ : Finset (Fin 4)), t ≠ t' → Disjoint (K t) (K t'))
    (hu : ∀ i, ∃ t, i ∈ K t) (f : Fin 4 → Buf (Elt F) ℓ) :
    iprop((ℓ ↦[K 0]{fullShare} f 0) ∗ (ℓ ↦[K 1]{fullShare} f 1) ∗ (ℓ ↦[K 2]{fullShare} f 2) ∗ (ℓ ↦[K 3]{fullShare} f 3))
      ⊢ (iprop(∃ g, ℓ ↦{fullShare} g) : sProp 𝕄) := by
  rw [← four (fun t => (ℓ ↦[K t]{fullShare} f t : sProp 𝕄))]
  refine (pointsTo_biUnion_join _ _ f (f 0) hd).trans ?_
  rw [show Finset.univ.biUnion K = Finset.univ from Finset.eq_univ_of_forall fun i => Finset.mem_biUnion.mpr ((hu i).imp fun t h => ⟨Finset.mem_univ t, h⟩)]
  iintro ⟨%g, -, H⟩
  iexists g; iexact H

/-- Some contents of each of several buffers, as contents of them all. -/
theorem choose_cont (S : Finset (Ref sig .tc)) (C0 : Cont F c) :
    (bigSep S (fun b => iprop(∃ f, ((c : Thread nD τ).loc b) ↦{fullShare} f)) : sProp 𝕄)
      ⊢ iprop(∃ C : Cont F c, bigSep S (fun b => ((c : Thread nD τ).loc b) ↦{fullShare} C b)) := by
  classical
  induction S using Finset.induction_on with
  | empty =>
    rw [bigSep_empty]
    iintro H; iexists C0; rw [bigSep_empty]; iexact H
  | insert a S ha ih =>
    rw [bigSep_insert ha]
    show iprop((∃ f, ((c : Thread nD τ).loc a) ↦{fullShare} f) ∗ bigSep S (fun b => iprop(∃ f, ((c : Thread nD τ).loc b) ↦{fullShare} f))) ⊢ _
    iintro ⟨⟨%f, Hf⟩, HS⟩
    ihave ⟨%C, HS⟩ := ih $$ HS
    iexists (Function.update C a f)
    have e : (bigSep S (fun b => ((c : Thread nD τ).loc b) ↦{fullShare} Function.update C a f b) : sProp 𝕄) = bigSep S (fun b => ((c : Thread nD τ).loc b) ↦{fullShare} C b) :=
      bigSep_congr fun b hb => by
        have hne : b ≠ a := by rintro rfl; exact ha hb
        rw [Function.update_of_ne hne]
    have e2 : (bigSep (insert a S) (fun b => ((c : Thread nD τ).loc b) ↦{fullShare} Function.update C a f b) : sProp 𝕄)
        = iprop((((c : Thread nD τ).loc a) ↦{fullShare} f) ∗ bigSep S (fun b => ((c : Thread nD τ).loc b) ↦{fullShare} C b)) := by
      rw [bigSep_insert ha, Function.update_self, e]; rfl
    rw [e2]
    isplitl [Hf]; · iexact Hf
    iexact HS

theorem B0_list {M : Type} [URA M] (Φ : Ref sig .tc → sProp M) : bigSep B0 Φ = iprop(Φ cc0_stg4_0 ∗ Φ cc0_stg5_0 ∗ Φ cc0_stg6_0 ∗ Φ cc0_stg7_0 ∗ Φ cc0_stg8_0
    ∗ Φ cc0_scratch4 ∗ Φ cc0_scratch5 ∗ Φ cc0_scratch6 ∗ Φ cc0_scratch7) := by
  rw [BI.bigSep_eq_bigSepL_of_eq [cc0_stg4_0, cc0_stg5_0, cc0_stg6_0, cc0_stg7_0, cc0_stg8_0, cc0_scratch4, cc0_scratch5, cc0_scratch6, cc0_scratch7] (by decide) (by decide)]; rfl

abbrev K_src0 (c : Dev nD) (t : Fin 4) : Finset (Idx ((c : Thread nD τ).loc main_v0)) := row S4x8x4096 (by decide) t.val
theorem D_src0 (c : Dev nD) : ∀ t ∈ (Finset.univ : Finset (Fin 4)), ∀ t' ∈ (Finset.univ : Finset (Fin 4)), t ≠ t' → Disjoint (K_src0 c t) (K_src0 c t') := row_disj S4x8x4096 _
theorem U_src0 (c : Dev nD) : ∀ i, ∃ t, i ∈ K_src0 c t := row_mem S4x8x4096 _ (by decide)

abbrev K_src1 (c : Dev nD) (t : Fin 4) : Finset (Idx ((c : Thread nD τ).loc main_v1)) := row S4x8x4096 (by decide) t.val
theorem D_src1 (c : Dev nD) : ∀ t ∈ (Finset.univ : Finset (Fin 4)), ∀ t' ∈ (Finset.univ : Finset (Fin 4)), t ≠ t' → Disjoint (K_src1 c t) (K_src1 c t') := row_disj S4x8x4096 _
theorem U_src1 (c : Dev nD) : ∀ i, ∃ t, i ∈ K_src1 c t := row_mem S4x8x4096 _ (by decide)

abbrev K_src2 (c : Dev nD) (t : Fin 4) : Finset (Idx ((c : Thread nD τ).loc main_arg3)) := row S4x4096x8x256 (by decide) t.val
theorem D_src2 (c : Dev nD) : ∀ t ∈ (Finset.univ : Finset (Fin 4)), ∀ t' ∈ (Finset.univ : Finset (Fin 4)), t ≠ t' → Disjoint (K_src2 c t) (K_src2 c t') := row_disj S4x4096x8x256 _
theorem U_src2 (c : Dev nD) : ∀ i, ∃ t, i ∈ K_src2 c t := row_mem S4x4096x8x256 _ (by decide)

abbrev K_src3 (c : Dev nD) (t : Fin 4) : Finset (Idx ((c : Thread nD τ).loc main_arg5)) := row S4x4096x8x256 (by decide) t.val
theorem D_src3 (c : Dev nD) : ∀ t ∈ (Finset.univ : Finset (Fin 4)), ∀ t' ∈ (Finset.univ : Finset (Fin 4)), t ≠ t' → Disjoint (K_src3 c t) (K_src3 c t') := row_disj S4x4096x8x256 _
theorem U_src3 (c : Dev nD) : ∀ i, ∃ t, i ∈ K_src3 c t := row_mem S4x4096x8x256 _ (by decide)

abbrev K_dst0 (c : Dev nD) (t : Fin 4) : Finset (Idx ((c : Thread nD τ).loc cc0_scratch2)) := row S4x8x1152 (by decide) t.val
theorem D_dst0 (c : Dev nD) : ∀ t ∈ (Finset.univ : Finset (Fin 4)), ∀ t' ∈ (Finset.univ : Finset (Fin 4)), t ≠ t' → Disjoint (K_dst0 c t) (K_dst0 c t') := row_disj S4x8x1152 _
theorem U_dst0 (c : Dev nD) : ∀ i, ∃ t, i ∈ K_dst0 c t := row_mem S4x8x1152 _ (by decide)

abbrev K_dst1 (c : Dev nD) (t : Fin 4) : Finset (Idx ((c : Thread nD τ).loc cc0_scratch3)) := row S4x8x1152 (by decide) t.val
theorem D_dst1 (c : Dev nD) : ∀ t ∈ (Finset.univ : Finset (Fin 4)), ∀ t' ∈ (Finset.univ : Finset (Fin 4)), t ≠ t' → Disjoint (K_dst1 c t) (K_dst1 c t') := row_disj S4x8x1152 _
theorem U_dst1 (c : Dev nD) : ∀ i, ∃ t, i ∈ K_dst1 c t := row_mem S4x8x1152 _ (by decide)

abbrev K_dst2 (c : Dev nD) (t : Fin 4) : Finset (Idx ((c : Thread nD τ).loc cc0_scratch0)) := row S4x1024x8x256 (by decide) t.val
theorem D_dst2 (c : Dev nD) : ∀ t ∈ (Finset.univ : Finset (Fin 4)), ∀ t' ∈ (Finset.univ : Finset (Fin 4)), t ≠ t' → Disjoint (K_dst2 c t) (K_dst2 c t') := row_disj S4x1024x8x256 _
theorem U_dst2 (c : Dev nD) : ∀ i, ∃ t, i ∈ K_dst2 c t := row_mem S4x1024x8x256 _ (by decide)

abbrev K_dst3 (c : Dev nD) (t : Fin 4) : Finset (Idx ((c : Thread nD τ).loc cc0_scratch1)) := row S4x1024x8x256 (by decide) t.val
theorem D_dst3 (c : Dev nD) : ∀ t ∈ (Finset.univ : Finset (Fin 4)), ∀ t' ∈ (Finset.univ : Finset (Fin 4)), t ≠ t' → Disjoint (K_dst3 c t) (K_dst3 c t') := row_disj S4x1024x8x256 _
theorem U_dst3 (c : Dev nD) : ∀ i, ∃ t, i ∈ K_dst3 c t := row_mem S4x1024x8x256 _ (by decide)

/-- The sixteen slots, one by one. -/
theorem pool_list (E : Env F c) (ph : Fin 4 × Fin 4 → Ph) : pool E ph = iprop(slotAt E 0 0 (ph (0, 0)) ∗ slotAt E 0 1 (ph (0, 1)) ∗ slotAt E 0 2 (ph (0, 2)) ∗ slotAt E 0 3 (ph (0, 3)) ∗ slotAt E 1 0 (ph (1, 0)) ∗ slotAt E 1 1 (ph (1, 1)) ∗ slotAt E 1 2 (ph (1, 2)) ∗ slotAt E 1 3 (ph (1, 3)) ∗ slotAt E 2 0 (ph (2, 0)) ∗ slotAt E 2 1 (ph (2, 1)) ∗ slotAt E 2 2 (ph (2, 2)) ∗ slotAt E 2 3 (ph (2, 3)) ∗ slotAt E 3 0 (ph (3, 0)) ∗ slotAt E 3 1 (ph (3, 1)) ∗ slotAt E 3 2 (ph (3, 2)) ∗ slotAt E 3 3 (ph (3, 3))) := by
  unfold pool
  rw [bigSep_univ_eq_bigSepL [(0, 0), (0, 1), (0, 2), (0, 3), (1, 0), (1, 1), (1, 2), (1, 3), (2, 0), (2, 1), (2, 2), (2, 3), (3, 0), (3, 1), (3, 2), (3, 3)] (by decide) (by decide)]; rfl

/-- The sixteen cells, at zero. -/
def sems0 (c : Dev nD) : sProp 𝕄 := iprop(semVal ((c : Thread nD τ), cell 0 0) 0 ∗ semVal ((c : Thread nD τ), cell 0 1) 0 ∗ semVal ((c : Thread nD τ), cell 0 2) 0 ∗ semVal ((c : Thread nD τ), cell 0 3) 0 ∗ semVal ((c : Thread nD τ), cell 1 0) 0 ∗ semVal ((c : Thread nD τ), cell 1 1) 0 ∗ semVal ((c : Thread nD τ), cell 1 2) 0 ∗ semVal ((c : Thread nD τ), cell 1 3) 0 ∗ semVal ((c : Thread nD τ), cell 2 0) 0 ∗ semVal ((c : Thread nD τ), cell 2 1) 0 ∗ semVal ((c : Thread nD τ), cell 2 2) 0 ∗ semVal ((c : Thread nD τ), cell 2 3) 0 ∗ semVal ((c : Thread nD τ), cell 3 0) 0 ∗ semVal ((c : Thread nD τ), cell 3 1) 0 ∗ semVal ((c : Thread nD τ), cell 3 2) 0 ∗ semVal ((c : Thread nD τ), cell 3 3) 0)

/-- The sources and the cells, whole. -/
def srcs (E : Env F c) : sProp 𝕄 := iprop((((c : Thread nD τ).loc main_v0) ↦{fullShare} E.s0) ∗ (((c : Thread nD τ).loc main_v1) ↦{fullShare} E.s1) ∗ (((c : Thread nD τ).loc main_arg3) ↦{fullShare} E.s2) ∗ (((c : Thread nD τ).loc main_arg5) ↦{fullShare} E.s3))
/-- The destinations, whole, at some contents. -/
def dsts (c : Dev nD) : sProp 𝕄 := iprop((∃ f, ((c : Thread nD τ).loc cc0_scratch2) ↦{fullShare} f) ∗ (∃ f, ((c : Thread nD τ).loc cc0_scratch3) ↦{fullShare} f) ∗ (∃ f, ((c : Thread nD τ).loc cc0_scratch0) ↦{fullShare} f) ∗ (∃ f, ((c : Thread nD τ).loc cc0_scratch1) ↦{fullShare} f))

theorem pool_idle (E : Env F c) : pool E (pro 0) = iprop(((((c : Thread nD τ).loc main_v0) ↦[K_src0 c 0]{fullShare} E.s0) ∗ (∃ fd, ((c : Thread nD τ).loc cc0_scratch2) ↦[K_dst0 c 0]{fullShare} fd) ∗ semVal ((c : Thread nD τ), cell 0 0) 0)
    ∗ ((((c : Thread nD τ).loc main_v1) ↦[K_src1 c 0]{fullShare} E.s1) ∗ (∃ fd, ((c : Thread nD τ).loc cc0_scratch3) ↦[K_dst1 c 0]{fullShare} fd) ∗ semVal ((c : Thread nD τ), cell 0 1) 0)
    ∗ ((((c : Thread nD τ).loc main_arg3) ↦[K_src2 c 0]{fullShare} E.s2) ∗ (∃ fd, ((c : Thread nD τ).loc cc0_scratch0) ↦[K_dst2 c 0]{fullShare} fd) ∗ semVal ((c : Thread nD τ), cell 0 2) 0)
    ∗ ((((c : Thread nD τ).loc main_arg5) ↦[K_src3 c 0]{fullShare} E.s3) ∗ (∃ fd, ((c : Thread nD τ).loc cc0_scratch1) ↦[K_dst3 c 0]{fullShare} fd) ∗ semVal ((c : Thread nD τ), cell 0 3) 0)
    ∗ ((((c : Thread nD τ).loc main_v0) ↦[K_src0 c 1]{fullShare} E.s0) ∗ (∃ fd, ((c : Thread nD τ).loc cc0_scratch2) ↦[K_dst0 c 1]{fullShare} fd) ∗ semVal ((c : Thread nD τ), cell 1 0) 0)
    ∗ ((((c : Thread nD τ).loc main_v1) ↦[K_src1 c 1]{fullShare} E.s1) ∗ (∃ fd, ((c : Thread nD τ).loc cc0_scratch3) ↦[K_dst1 c 1]{fullShare} fd) ∗ semVal ((c : Thread nD τ), cell 1 1) 0)
    ∗ ((((c : Thread nD τ).loc main_arg3) ↦[K_src2 c 1]{fullShare} E.s2) ∗ (∃ fd, ((c : Thread nD τ).loc cc0_scratch0) ↦[K_dst2 c 1]{fullShare} fd) ∗ semVal ((c : Thread nD τ), cell 1 2) 0)
    ∗ ((((c : Thread nD τ).loc main_arg5) ↦[K_src3 c 1]{fullShare} E.s3) ∗ (∃ fd, ((c : Thread nD τ).loc cc0_scratch1) ↦[K_dst3 c 1]{fullShare} fd) ∗ semVal ((c : Thread nD τ), cell 1 3) 0)
    ∗ ((((c : Thread nD τ).loc main_v0) ↦[K_src0 c 2]{fullShare} E.s0) ∗ (∃ fd, ((c : Thread nD τ).loc cc0_scratch2) ↦[K_dst0 c 2]{fullShare} fd) ∗ semVal ((c : Thread nD τ), cell 2 0) 0)
    ∗ ((((c : Thread nD τ).loc main_v1) ↦[K_src1 c 2]{fullShare} E.s1) ∗ (∃ fd, ((c : Thread nD τ).loc cc0_scratch3) ↦[K_dst1 c 2]{fullShare} fd) ∗ semVal ((c : Thread nD τ), cell 2 1) 0)
    ∗ ((((c : Thread nD τ).loc main_arg3) ↦[K_src2 c 2]{fullShare} E.s2) ∗ (∃ fd, ((c : Thread nD τ).loc cc0_scratch0) ↦[K_dst2 c 2]{fullShare} fd) ∗ semVal ((c : Thread nD τ), cell 2 2) 0)
    ∗ ((((c : Thread nD τ).loc main_arg5) ↦[K_src3 c 2]{fullShare} E.s3) ∗ (∃ fd, ((c : Thread nD τ).loc cc0_scratch1) ↦[K_dst3 c 2]{fullShare} fd) ∗ semVal ((c : Thread nD τ), cell 2 3) 0)
    ∗ ((((c : Thread nD τ).loc main_v0) ↦[K_src0 c 3]{fullShare} E.s0) ∗ (∃ fd, ((c : Thread nD τ).loc cc0_scratch2) ↦[K_dst0 c 3]{fullShare} fd) ∗ semVal ((c : Thread nD τ), cell 3 0) 0)
    ∗ ((((c : Thread nD τ).loc main_v1) ↦[K_src1 c 3]{fullShare} E.s1) ∗ (∃ fd, ((c : Thread nD τ).loc cc0_scratch3) ↦[K_dst1 c 3]{fullShare} fd) ∗ semVal ((c : Thread nD τ), cell 3 1) 0)
    ∗ ((((c : Thread nD τ).loc main_arg3) ↦[K_src2 c 3]{fullShare} E.s2) ∗ (∃ fd, ((c : Thread nD τ).loc cc0_scratch0) ↦[K_dst2 c 3]{fullShare} fd) ∗ semVal ((c : Thread nD τ), cell 3 2) 0)
    ∗ ((((c : Thread nD τ).loc main_arg5) ↦[K_src3 c 3]{fullShare} E.s3) ∗ (∃ fd, ((c : Thread nD τ).loc cc0_scratch1) ↦[K_dst3 c 3]{fullShare} fd) ∗ semVal ((c : Thread nD τ), cell 3 3) 0)) := pool_list E _

theorem pool_done (E : Env F c) : pool E (lp 16) = iprop(((((c : Thread nD τ).loc main_v0) ↦[K_src0 c 0]{fullShare} E.s0) ∗ (((c : Thread nD τ).loc cc0_scratch2) ↦[K_dst0 c 0]{fullShare} G0 E 0) ∗ semVal ((c : Thread nD τ), cell 0 0) 0)
    ∗ ((((c : Thread nD τ).loc main_v1) ↦[K_src1 c 0]{fullShare} E.s1) ∗ (((c : Thread nD τ).loc cc0_scratch3) ↦[K_dst1 c 0]{fullShare} G1 E 0) ∗ semVal ((c : Thread nD τ), cell 0 1) 0)
    ∗ ((((c : Thread nD τ).loc main_arg3) ↦[K_src2 c 0]{fullShare} E.s2) ∗ (((c : Thread nD τ).loc cc0_scratch0) ↦[K_dst2 c 0]{fullShare} G2 E 0) ∗ semVal ((c : Thread nD τ), cell 0 2) 0)
    ∗ ((((c : Thread nD τ).loc main_arg5) ↦[K_src3 c 0]{fullShare} E.s3) ∗ (((c : Thread nD τ).loc cc0_scratch1) ↦[K_dst3 c 0]{fullShare} G3 E 0) ∗ semVal ((c : Thread nD τ), cell 0 3) 0)
    ∗ ((((c : Thread nD τ).loc main_v0) ↦[K_src0 c 1]{fullShare} E.s0) ∗ (((c : Thread nD τ).loc cc0_scratch2) ↦[K_dst0 c 1]{fullShare} G0 E 1) ∗ semVal ((c : Thread nD τ), cell 1 0) 0)
    ∗ ((((c : Thread nD τ).loc main_v1) ↦[K_src1 c 1]{fullShare} E.s1) ∗ (((c : Thread nD τ).loc cc0_scratch3) ↦[K_dst1 c 1]{fullShare} G1 E 1) ∗ semVal ((c : Thread nD τ), cell 1 1) 0)
    ∗ ((((c : Thread nD τ).loc main_arg3) ↦[K_src2 c 1]{fullShare} E.s2) ∗ (((c : Thread nD τ).loc cc0_scratch0) ↦[K_dst2 c 1]{fullShare} G2 E 1) ∗ semVal ((c : Thread nD τ), cell 1 2) 0)
    ∗ ((((c : Thread nD τ).loc main_arg5) ↦[K_src3 c 1]{fullShare} E.s3) ∗ (((c : Thread nD τ).loc cc0_scratch1) ↦[K_dst3 c 1]{fullShare} G3 E 1) ∗ semVal ((c : Thread nD τ), cell 1 3) 0)
    ∗ ((((c : Thread nD τ).loc main_v0) ↦[K_src0 c 2]{fullShare} E.s0) ∗ (((c : Thread nD τ).loc cc0_scratch2) ↦[K_dst0 c 2]{fullShare} G0 E 2) ∗ semVal ((c : Thread nD τ), cell 2 0) 0)
    ∗ ((((c : Thread nD τ).loc main_v1) ↦[K_src1 c 2]{fullShare} E.s1) ∗ (((c : Thread nD τ).loc cc0_scratch3) ↦[K_dst1 c 2]{fullShare} G1 E 2) ∗ semVal ((c : Thread nD τ), cell 2 1) 0)
    ∗ ((((c : Thread nD τ).loc main_arg3) ↦[K_src2 c 2]{fullShare} E.s2) ∗ (((c : Thread nD τ).loc cc0_scratch0) ↦[K_dst2 c 2]{fullShare} G2 E 2) ∗ semVal ((c : Thread nD τ), cell 2 2) 0)
    ∗ ((((c : Thread nD τ).loc main_arg5) ↦[K_src3 c 2]{fullShare} E.s3) ∗ (((c : Thread nD τ).loc cc0_scratch1) ↦[K_dst3 c 2]{fullShare} G3 E 2) ∗ semVal ((c : Thread nD τ), cell 2 3) 0)
    ∗ ((((c : Thread nD τ).loc main_v0) ↦[K_src0 c 3]{fullShare} E.s0) ∗ (((c : Thread nD τ).loc cc0_scratch2) ↦[K_dst0 c 3]{fullShare} G0 E 3) ∗ semVal ((c : Thread nD τ), cell 3 0) 0)
    ∗ ((((c : Thread nD τ).loc main_v1) ↦[K_src1 c 3]{fullShare} E.s1) ∗ (((c : Thread nD τ).loc cc0_scratch3) ↦[K_dst1 c 3]{fullShare} G1 E 3) ∗ semVal ((c : Thread nD τ), cell 3 1) 0)
    ∗ ((((c : Thread nD τ).loc main_arg3) ↦[K_src2 c 3]{fullShare} E.s2) ∗ (((c : Thread nD τ).loc cc0_scratch0) ↦[K_dst2 c 3]{fullShare} G2 E 3) ∗ semVal ((c : Thread nD τ), cell 3 2) 0)
    ∗ ((((c : Thread nD τ).loc main_arg5) ↦[K_src3 c 3]{fullShare} E.s3) ∗ (((c : Thread nD τ).loc cc0_scratch1) ↦[K_dst3 c 3]{fullShare} G3 E 3) ∗ semVal ((c : Thread nD τ), cell 3 3) 0)) := pool_list E _

theorem pool_in (E : Env F c) : iprop(srcs E ∗ dsts c ∗ sems0 c) ⊢ pool E (pro 0) := by
  rw [pool_idle]
  unfold srcs dsts sems0
  rw [rows_eq (ℓ := ((c : Thread nD τ).loc main_v0)) (K_src0 c) (D_src0 c) (U_src0 c) E.s0]
  rw [rows_eq (ℓ := ((c : Thread nD τ).loc main_v1)) (K_src1 c) (D_src1 c) (U_src1 c) E.s1]
  rw [rows_eq (ℓ := ((c : Thread nD τ).loc main_arg3)) (K_src2 c) (D_src2 c) (U_src2 c) E.s2]
  rw [rows_eq (ℓ := ((c : Thread nD τ).loc main_arg5)) (K_src3 c) (D_src3 c) (U_src3 c) E.s3]
  iintro ⟨⟨⟨HS00, HS10, HS20, HS30⟩, ⟨HS01, HS11, HS21, HS31⟩, ⟨HS02, HS12, HS22, HS32⟩, ⟨HS03, HS13, HS23, HS33⟩⟩, ⟨⟨%d0, HD0⟩, ⟨%d1, HD1⟩, ⟨%d2, HD2⟩, ⟨%d3, HD3⟩⟩, ⟨HV00, HV01, HV02, HV03, HV10, HV11, HV12, HV13, HV20, HV21, HV22, HV23, HV30, HV31, HV32, HV33⟩⟩
  ihave ⟨HD00, HD10, HD20, HD30⟩ := (Entails.of_eq (rows_eq (ℓ := ((c : Thread nD τ).loc cc0_scratch2)) (K_dst0 c) (D_dst0 c) (U_dst0 c) d0)) $$ HD0
  ihave ⟨HD01, HD11, HD21, HD31⟩ := (Entails.of_eq (rows_eq (ℓ := ((c : Thread nD τ).loc cc0_scratch3)) (K_dst1 c) (D_dst1 c) (U_dst1 c) d1)) $$ HD1
  ihave ⟨HD02, HD12, HD22, HD32⟩ := (Entails.of_eq (rows_eq (ℓ := ((c : Thread nD τ).loc cc0_scratch0)) (K_dst2 c) (D_dst2 c) (U_dst2 c) d2)) $$ HD2
  ihave ⟨HD03, HD13, HD23, HD33⟩ := (Entails.of_eq (rows_eq (ℓ := ((c : Thread nD τ).loc cc0_scratch1)) (K_dst3 c) (D_dst3 c) (U_dst3 c) d3)) $$ HD3
  isplitl [HS00 HD00 HV00]
  · isplitl [HS00]; · iexact HS00
    isplitl [HD00]; · iexists _; iexact HD00
    iexact HV00
  isplitl [HS01 HD01 HV01]
  · isplitl [HS01]; · iexact HS01
    isplitl [HD01]; · iexists _; iexact HD01
    iexact HV01
  isplitl [HS02 HD02 HV02]
  · isplitl [HS02]; · iexact HS02
    isplitl [HD02]; · iexists _; iexact HD02
    iexact HV02
  isplitl [HS03 HD03 HV03]
  · isplitl [HS03]; · iexact HS03
    isplitl [HD03]; · iexists _; iexact HD03
    iexact HV03
  isplitl [HS10 HD10 HV10]
  · isplitl [HS10]; · iexact HS10
    isplitl [HD10]; · iexists _; iexact HD10
    iexact HV10
  isplitl [HS11 HD11 HV11]
  · isplitl [HS11]; · iexact HS11
    isplitl [HD11]; · iexists _; iexact HD11
    iexact HV11
  isplitl [HS12 HD12 HV12]
  · isplitl [HS12]; · iexact HS12
    isplitl [HD12]; · iexists _; iexact HD12
    iexact HV12
  isplitl [HS13 HD13 HV13]
  · isplitl [HS13]; · iexact HS13
    isplitl [HD13]; · iexists _; iexact HD13
    iexact HV13
  isplitl [HS20 HD20 HV20]
  · isplitl [HS20]; · iexact HS20
    isplitl [HD20]; · iexists _; iexact HD20
    iexact HV20
  isplitl [HS21 HD21 HV21]
  · isplitl [HS21]; · iexact HS21
    isplitl [HD21]; · iexists _; iexact HD21
    iexact HV21
  isplitl [HS22 HD22 HV22]
  · isplitl [HS22]; · iexact HS22
    isplitl [HD22]; · iexists _; iexact HD22
    iexact HV22
  isplitl [HS23 HD23 HV23]
  · isplitl [HS23]; · iexact HS23
    isplitl [HD23]; · iexists _; iexact HD23
    iexact HV23
  isplitl [HS30 HD30 HV30]
  · isplitl [HS30]; · iexact HS30
    isplitl [HD30]; · iexists _; iexact HD30
    iexact HV30
  isplitl [HS31 HD31 HV31]
  · isplitl [HS31]; · iexact HS31
    isplitl [HD31]; · iexists _; iexact HD31
    iexact HV31
  isplitl [HS32 HD32 HV32]
  · isplitl [HS32]; · iexact HS32
    isplitl [HD32]; · iexists _; iexact HD32
    iexact HV32
  isplitl [HS33]; · iexact HS33
  isplitl [HD33]; · iexists _; iexact HD33
  iexact HV33

theorem pool_out (E : Env F c) : pool E (lp 16) ⊢ iprop(srcs E ∗ dsts c ∗ sems0 c) := by
  rw [pool_done]
  unfold srcs dsts sems0
  rw [rows_eq (ℓ := ((c : Thread nD τ).loc main_v0)) (K_src0 c) (D_src0 c) (U_src0 c) E.s0]
  rw [rows_eq (ℓ := ((c : Thread nD τ).loc main_v1)) (K_src1 c) (D_src1 c) (U_src1 c) E.s1]
  rw [rows_eq (ℓ := ((c : Thread nD τ).loc main_arg3)) (K_src2 c) (D_src2 c) (U_src2 c) E.s2]
  rw [rows_eq (ℓ := ((c : Thread nD τ).loc main_arg5)) (K_src3 c) (D_src3 c) (U_src3 c) E.s3]
  iintro ⟨⟨HS00, HD00, HV00⟩, ⟨HS01, HD01, HV01⟩, ⟨HS02, HD02, HV02⟩, ⟨HS03, HD03, HV03⟩, ⟨HS10, HD10, HV10⟩, ⟨HS11, HD11, HV11⟩, ⟨HS12, HD12, HV12⟩, ⟨HS13, HD13, HV13⟩, ⟨HS20, HD20, HV20⟩, ⟨HS21, HD21, HV21⟩, ⟨HS22, HD22, HV22⟩, ⟨HS23, HD23, HV23⟩, ⟨HS30, HD30, HV30⟩, ⟨HS31, HD31, HV31⟩, ⟨HS32, HD32, HV32⟩, ⟨HS33, HD33, HV33⟩⟩
  ihave HD0 := (rows_join (ℓ := ((c : Thread nD τ).loc cc0_scratch2)) (K_dst0 c) (D_dst0 c) (U_dst0 c) (G0 E)) $$ [HD00 HD10 HD20 HD30]
  · isplitl [HD00]; · iexact HD00
    isplitl [HD10]; · iexact HD10
    isplitl [HD20]; · iexact HD20
    iexact HD30
  ihave HD1 := (rows_join (ℓ := ((c : Thread nD τ).loc cc0_scratch3)) (K_dst1 c) (D_dst1 c) (U_dst1 c) (G1 E)) $$ [HD01 HD11 HD21 HD31]
  · isplitl [HD01]; · iexact HD01
    isplitl [HD11]; · iexact HD11
    isplitl [HD21]; · iexact HD21
    iexact HD31
  ihave HD2 := (rows_join (ℓ := ((c : Thread nD τ).loc cc0_scratch0)) (K_dst2 c) (D_dst2 c) (U_dst2 c) (G2 E)) $$ [HD02 HD12 HD22 HD32]
  · isplitl [HD02]; · iexact HD02
    isplitl [HD12]; · iexact HD12
    isplitl [HD22]; · iexact HD22
    iexact HD32
  ihave HD3 := (rows_join (ℓ := ((c : Thread nD τ).loc cc0_scratch1)) (K_dst3 c) (D_dst3 c) (U_dst3 c) (G3 E)) $$ [HD03 HD13 HD23 HD33]
  · isplitl [HD03]; · iexact HD03
    isplitl [HD13]; · iexact HD13
    isplitl [HD23]; · iexact HD23
    iexact HD33
  isplitl [HS00 HS10 HS20 HS30 HS01 HS11 HS21 HS31 HS02 HS12 HS22 HS32 HS03 HS13 HS23 HS33]
  · isplitl [HS00 HS10 HS20 HS30]
    · isplitl [HS00]; · iexact HS00
      isplitl [HS10]; · iexact HS10
      isplitl [HS20]; · iexact HS20
      iexact HS30
    isplitl [HS01 HS11 HS21 HS31]
    · isplitl [HS01]; · iexact HS01
      isplitl [HS11]; · iexact HS11
      isplitl [HS21]; · iexact HS21
      iexact HS31
    isplitl [HS02 HS12 HS22 HS32]
    · isplitl [HS02]; · iexact HS02
      isplitl [HS12]; · iexact HS12
      isplitl [HS22]; · iexact HS22
      iexact HS32
    isplitl [HS03]; · iexact HS03
    isplitl [HS13]; · iexact HS13
    isplitl [HS23]; · iexact HS23
    iexact HS33
  isplitl [HD0 HD1 HD2 HD3]
  · isplitl [HD0]; · iexact HD0
    isplitl [HD1]; · iexact HD1
    isplitl [HD2]; · iexact HD2
    iexact HD3
  isplitl [HV00]; · iexact HV00
  isplitl [HV01]; · iexact HV01
  isplitl [HV02]; · iexact HV02
  isplitl [HV03]; · iexact HV03
  isplitl [HV10]; · iexact HV10
  isplitl [HV11]; · iexact HV11
  isplitl [HV12]; · iexact HV12
  isplitl [HV13]; · iexact HV13
  isplitl [HV20]; · iexact HV20
  isplitl [HV21]; · iexact HV21
  isplitl [HV22]; · iexact HV22
  isplitl [HV23]; · iexact HV23
  isplitl [HV30]; · iexact HV30
  isplitl [HV31]; · iexact HV31
  isplitl [HV32]; · iexact HV32
  iexact HV33

end Cert.KernelIdeal.Hand

end
-- ==== Proof.KI.Held.lean ====
/-
  What the trips of the loop leave in the buffers of the codes and the scales of the new keys and values.
-/
module

public import proofs.«01_k».proof.Proof.KI.Pool

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A sequence's row of an array of rows of keys or values, and of an array of scales. -/
abbrev r11 (t : Fin k0_t1_loop.trips) : Rect S4x1x8x256 := Rect.unit (s := S4x1x8x256) (k0_off11 t) S1x1x8x256.size (k0_off11_inb t)
abbrev r12 (t : Fin k0_t1_loop.trips) : Rect S4x1x8 := Rect.unit (s := S4x1x8) (k0_off12 t) S1x1x8.size (k0_off12_inb t)

/-- A sequence's new keys (or values), at f32. -/
def rowF (x : Vec F S1x1x8x256 .bf16) : FVec F S8x256 .f32 := extf .f32 (shapeCast S8x256 x shapeCasts_S1x1x8x256_S8x256) bitsLt_bf16_f32

/-- The largest magnitude of each head's vector, and the scale. -/
def amaxF (y : FVec F S8x256 .f32) : FVec F S8 .f32 := multiReduction .maximumf [1] S8 (absf y) 0xFF800000#32 reduces_S8x256_S8 (.inl rfl) rfl
def scaleF (y : FVec F S8x256 .f32) : FVec F S8 .f32 :=
  select (cmpf .ogt (amaxF y) (broadcast S8 (Scalar.ofBits .f32 0x00000000#32))) (divf (amaxF y) (broadcast S8 (Scalar.ofBits .f32 0x42FE0000#32))) (broadcast S8 (Scalar.ofBits .f32 0x3F800000#32))

/-- The codes, as floats. -/
def codesF (y : FVec F S8x256 .f32) : FVec F S8x256 .f32 :=
  minimumf (broadcast S8x256 (Scalar.ofBits .f32 0x42FE0000#32)) (maximumf (broadcast S8x256 (Scalar.ofBits .f32 0xC2FE0000#32))
    (roundeven (divf y (broadcastTo S8x256 (shapeCast S8x1 (scaleF y) shapeCasts_S8_S8x1) broadcasts_S8x1_S8x256))))

/-- The rows stored: the codes and the scales. -/
def codesRow (x : Vec F S1x1x8x256 .bf16) : Vec F S1x1x8x256 .i8 := shapeCast S1x1x8x256 (fptosi 8 (codesF (rowF x))) shapeCasts_S8x256_S1x1x8x256
def scaleRow (x : Vec F S1x1x8x256 .bf16) : Vec F S1x1x8 .f32 := shapeCast S1x1x8 (scaleF (rowF x)) shapeCasts_S8_S1x1x8

theorem mem_unit {s : Shape} {off size : Fin s.rank → ℕ} (inb : ∀ a, off a + size a ≤ s.size a) {i : s.Idx} (h : i ∈ (Rect.unit (s := s) off size inb).set) (a : Fin s.rank) (ha : size a = 1) :
    (i a).val = off a := by
  rw [← Rect.map_emb_univ] at h
  obtain ⟨y, -, rfl⟩ := Finset.mem_map.mp h
  show off a + 1 * (y a).val = off a
  have h1 : (y a).val < size a := (y a).isLt
  omega

theorem off11_0 (t : Fin k0_t1_loop.trips) : k0_off11 t 0 = t.val := by revert t; decide +kernel
theorem off12_0 (t : Fin k0_t1_loop.trips) : k0_off12 t 0 = t.val := by revert t; decide +kernel

theorem disj11 {t u : Fin k0_t1_loop.trips} (h : t ≠ u) : Disjoint (r11 t).set (r11 u).set := by
  rw [Finset.disjoint_left]
  intro i hi hi'
  have e := (mem_unit _ hi 0 rfl).symm.trans (mem_unit _ hi' 0 rfl)
  rw [off11_0, off11_0] at e
  exact h (Fin.ext e)
theorem disj12 {t u : Fin k0_t1_loop.trips} (h : t ≠ u) : Disjoint (r12 t).set (r12 u).set := by
  rw [Finset.disjoint_left]
  intro i hi hi'
  have e := (mem_unit _ hi 0 rfl).symm.trans (mem_unit _ hi' 0 rfl)
  rw [off12_0, off12_0] at e
  exact h (Fin.ext e)

/-- Rows of a buffer stored one by one: the row just stored reads as its payload, the earlier ones as before. -/
theorem row_step {b : Ref sig .tc} {T : ℕ} (r : Fin T → Rect b.ty.shape) (hd : ∀ {t u : Fin T}, t ≠ u → Disjoint (r t).set (r u).set)
    (p : (t : Fin T) → (r t).shape.Idx → Elt F b.ty.elt) (f : b.ty.Contents (Elt F)) (t : Fin T) (w : (r t).shape.Idx → Elt F b.ty.elt) (hw : w = p t)
    (h : ∀ u : Fin T, u.val < t.val → ((View.whole b).slice (r u)).read (Elt F) f = p u) (u : Fin T) (hu : u.val < t.val + 1) :
    ((View.whole b).slice (r u)).read (Elt F) (((View.whole b).slice (r t)).write (Elt F) f w Finset.univ) = p u := by
  by_cases e : u = t
  · subst e; subst hw; exact View.read_write_univ _ _
  · rw [View.read_slice_write_slice_of_disjoint]
    · exact h u (by have : u.val ≠ t.val := fun h' => e (Fin.ext h'); omega)
    · rw [View.setOn_univ, View.set_slice_whole, View.set_slice_whole]; exact hd e

variable {c : Dev nD}

/-- The first `n5` rows of the key codes, `n6` of the key scales, `n7` of the value codes and `n8` of the value scales are what
    they are to be. -/
structure Held (E : Env F c) (n5 n6 n7 n8 : ℕ) (C : Cont F c) : Prop where
  kc : ∀ u : Fin k0_t1_loop.trips, u.val < n5 → ((View.whole cc0_stg5_0).slice (r11 u)).read (Elt F) (C cc0_stg5_0) = codesRow (((View.whole cc0_stg2_0).readAt (Elt F) (r11 u).toLoadRect E.f2))
  ks : ∀ u : Fin k0_t1_loop.trips, u.val < n6 → ((View.whole cc0_stg6_0).slice (r12 u)).read (Elt F) (C cc0_stg6_0) = scaleRow (((View.whole cc0_stg2_0).readAt (Elt F) (r11 u).toLoadRect E.f2))
  vc : ∀ u : Fin k0_t1_loop.trips, u.val < n7 → ((View.whole cc0_stg7_0).slice (r11 u)).read (Elt F) (C cc0_stg7_0) = codesRow (((View.whole cc0_stg3_0).readAt (Elt F) (r11 u).toLoadRect E.f3))
  vs : ∀ u : Fin k0_t1_loop.trips, u.val < n8 → ((View.whole cc0_stg8_0).slice (r12 u)).read (Elt F) (C cc0_stg8_0) = scaleRow (((View.whole cc0_stg3_0).readAt (Elt F) (r11 u).toLoadRect E.f3))

/-- The same number of rows of each. -/
abbrev HeldN (E : Env F c) (n : ℕ) : Cont F c → Prop := Held E n n n n

theorem Held.zero (E : Env F c) (C : Cont F c) : HeldN E 0 C :=
  ⟨fun _ h => absurd h (Nat.not_lt_zero _), fun _ h => absurd h (Nat.not_lt_zero _), fun _ h => absurd h (Nat.not_lt_zero _), fun _ h => absurd h (Nat.not_lt_zero _)⟩

variable {E : Env F c} {n5 n6 n7 n8 : ℕ} {C : Cont F c}

/-- A store elsewhere. -/
theorem Held.other {b : Ref sig .tc} {f : Buf (Elt F) ((c : Thread nD τ).loc b)} (h5 : cc0_stg5_0 ≠ b) (h6 : cc0_stg6_0 ≠ b) (h7 : cc0_stg7_0 ≠ b) (h8 : cc0_stg8_0 ≠ b)
    (H : Held E n5 n6 n7 n8 C) : Held E n5 n6 n7 n8 (Function.update C b f) where
  kc u hu := by rw [Function.update_of_ne h5]; exact H.kc u hu
  ks u hu := by rw [Function.update_of_ne h6]; exact H.ks u hu
  vc u hu := by rw [Function.update_of_ne h7]; exact H.vc u hu
  vs u hu := by rw [Function.update_of_ne h8]; exact H.vs u hu

theorem Held.w8 {f : Buf (Elt F) ((c : Thread nD τ).loc cc0_stg4_0)} (H : Held E n5 n6 n7 n8 C) : Held E n5 n6 n7 n8 (Function.update C cc0_stg4_0 f) :=
  H.other (by decide) (by decide) (by decide) (by decide)
theorem Held.w17 {f : Buf (Elt F) ((c : Thread nD τ).loc cc0_scratch4)} (H : Held E n5 n6 n7 n8 C) : Held E n5 n6 n7 n8 (Function.update C cc0_scratch4 f) :=
  H.other (by decide) (by decide) (by decide) (by decide)
theorem Held.w18 {f : Buf (Elt F) ((c : Thread nD τ).loc cc0_scratch5)} (H : Held E n5 n6 n7 n8 C) : Held E n5 n6 n7 n8 (Function.update C cc0_scratch5 f) :=
  H.other (by decide) (by decide) (by decide) (by decide)
theorem Held.w19 {f : Buf (Elt F) ((c : Thread nD τ).loc cc0_scratch6)} (H : Held E n5 n6 n7 n8 C) : Held E n5 n6 n7 n8 (Function.update C cc0_scratch6 f) :=
  H.other (by decide) (by decide) (by decide) (by decide)
theorem Held.w20 {f : Buf (Elt F) ((c : Thread nD τ).loc cc0_scratch7)} (H : Held E n5 n6 n7 n8 C) : Held E n5 n6 n7 n8 (Function.update C cc0_scratch7 f) :=
  H.other (by decide) (by decide) (by decide) (by decide)

/-- The stores of a row. -/
theorem Held.w9 (t : Fin k0_t1_loop.trips) {w : (r11 t).shape.Idx → Elt F .i8} (hw : w = codesRow (((View.whole cc0_stg2_0).readAt (Elt F) (r11 t).toLoadRect E.f2)))
    (H : Held E t.val n6 n7 n8 C) :
    Held E (t.val + 1) n6 n7 n8 (Function.update C cc0_stg5_0 (((View.whole cc0_stg5_0).slice (r11 t)).write (Elt F) (C cc0_stg5_0) w Finset.univ)) where
  kc u hu := by
    rw [Function.update_self]
    exact row_step (b := cc0_stg5_0) r11 disj11 (fun u => codesRow (((View.whole cc0_stg2_0).readAt (Elt F) (r11 u).toLoadRect E.f2))) _ t w hw H.kc u hu
  ks u hu := by rw [Function.update_of_ne (by decide)]; exact H.ks u hu
  vc u hu := by rw [Function.update_of_ne (by decide)]; exact H.vc u hu
  vs u hu := by rw [Function.update_of_ne (by decide)]; exact H.vs u hu
theorem Held.w11 (t : Fin k0_t1_loop.trips) {w : (r11 t).shape.Idx → Elt F .i8} (hw : w = codesRow (((View.whole cc0_stg3_0).readAt (Elt F) (r11 t).toLoadRect E.f3)))
    (H : Held E n5 n6 t.val n8 C) :
    Held E n5 n6 (t.val + 1) n8 (Function.update C cc0_stg7_0 (((View.whole cc0_stg7_0).slice (r11 t)).write (Elt F) (C cc0_stg7_0) w Finset.univ)) where
  vc u hu := by
    rw [Function.update_self]
    exact row_step (b := cc0_stg7_0) r11 disj11 (fun u => codesRow (((View.whole cc0_stg3_0).readAt (Elt F) (r11 u).toLoadRect E.f3))) _ t w hw H.vc u hu
  kc u hu := by rw [Function.update_of_ne (by decide)]; exact H.kc u hu
  ks u hu := by rw [Function.update_of_ne (by decide)]; exact H.ks u hu
  vs u hu := by rw [Function.update_of_ne (by decide)]; exact H.vs u hu
theorem Held.w10 (t : Fin k0_t1_loop.trips) {w : (r12 t).shape.Idx → Elt F .f32} (hw : w = scaleRow (((View.whole cc0_stg2_0).readAt (Elt F) (r11 t).toLoadRect E.f2)))
    (H : Held E n5 t.val n7 n8 C) :
    Held E n5 (t.val + 1) n7 n8 (Function.update C cc0_stg6_0 (((View.whole cc0_stg6_0).slice (r12 t)).write (Elt F) (C cc0_stg6_0) w Finset.univ)) where
  ks u hu := by
    rw [Function.update_self]
    exact row_step (b := cc0_stg6_0) r12 disj12 (fun u => scaleRow (((View.whole cc0_stg2_0).readAt (Elt F) (r11 u).toLoadRect E.f2))) _ t w hw H.ks u hu
  kc u hu := by rw [Function.update_of_ne (by decide)]; exact H.kc u hu
  vc u hu := by rw [Function.update_of_ne (by decide)]; exact H.vc u hu
  vs u hu := by rw [Function.update_of_ne (by decide)]; exact H.vs u hu
theorem Held.w12 (t : Fin k0_t1_loop.trips) {w : (r12 t).shape.Idx → Elt F .f32} (hw : w = scaleRow (((View.whole cc0_stg3_0).readAt (Elt F) (r11 t).toLoadRect E.f3)))
    (H : Held E n5 n6 n7 t.val C) :
    Held E n5 n6 n7 (t.val + 1) (Function.update C cc0_stg8_0 (((View.whole cc0_stg8_0).slice (r12 t)).write (Elt F) (C cc0_stg8_0) w Finset.univ)) where
  vs u hu := by
    rw [Function.update_self]
    exact row_step (b := cc0_stg8_0) r12 disj12 (fun u => scaleRow (((View.whole cc0_stg3_0).readAt (Elt F) (r11 u).toLoadRect E.f3))) _ t w hw H.vs u hu
  kc u hu := by rw [Function.update_of_ne (by decide)]; exact H.kc u hu
  ks u hu := by rw [Function.update_of_ne (by decide)]; exact H.ks u hu
  vc u hu := by rw [Function.update_of_ne (by decide)]; exact H.vc u hu

end Cert.KernelIdeal.Hand

end
-- ==== Proof.KI.Spec.lean ====
/-
  What one trip of the loop computes of a sequence: the query, the scores, their exponentials, the sums and the output.
-/
module

public import proofs.«01_k».proof.Proof.KI.Held

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The rectangles stored and loaded, by number -/

theorem inb17 (h : ℕ) (a : Fin 3) : (![h % 2, 0, 0] : Fin 3 → ℕ) a + S1x32x128.size a ≤ S2x32x128.size a := by
  have h2 := Nat.mod_lt h (show 0 < 2 by decide)
  revert a; generalize h % 2 = x at *; revert x; decide
/-- A plane of the query's (or the output's) scratch. -/
abbrev r17 (h : ℕ) : Rect S2x32x128 := Rect.unit (s := S2x32x128) ![h % 2, 0, 0] S1x32x128.size (inb17 h)

theorem inb18 (k : ℕ) (a : Fin 3) : S1x8x128.size a = 0 ∨ (![k % 2, k / 2 % 4, 0] : Fin 3 → ℕ) a + (![1, 4, 1] : Fin 3 → ℕ) a * (S1x8x128.size a - 1) < S2x32x128.size a := by
  have h2 := Nat.mod_lt k (show 0 < 2 by decide)
  have h3 := Nat.mod_lt (k / 2) (show 0 < 4 by decide)
  revert a; generalize k % 2 = x at *; generalize k / 2 % 4 = y at *; revert x y; decide

/-- The rows of one group of heads in a plane: `k` is twice the group plus the plane. -/
abbrev l18 (k : ℕ) : LoadRect S2x32x128 := ⟨![k % 2, k / 2 % 4, 0], S1x8x128.size, ![1, 4, 1], inb18 k⟩
abbrev r18 (k : ℕ) : Rect S2x32x128 := ⟨l18 k, spos_1_4_1⟩

theorem inb19 (k : ℕ) (a : Fin 2) : (![8 * (k % 4), 128 * (k / 4 % 64)] : Fin 2 → ℕ) a + S8x128.size a ≤ S32x8192.size a := by
  have h2 := Nat.mod_lt k (show 0 < 4 by decide)
  have h3 := Nat.mod_lt (k / 4) (show 0 < 64 by decide)
  match a with
  | 0 => show 8 * (k % 4) + 8 ≤ 32; omega
  | 1 => show 128 * (k / 4 % 64) + 128 ≤ 8192; omega
/-- The scores of a tile and a group: `k` is four times the tile plus the group. -/
abbrev r19 (k : ℕ) : Rect S32x8192 := Rect.unit (s := S32x8192) ![8 * (k % 4), 128 * (k / 4 % 64)] S8x128.size (inb19 k)

theorem inb20 (k : ℕ) (a : Fin 2) : (![8 * (k % 4), 128 * (k / 4 % 8)] : Fin 2 → ℕ) a + S8x128.size a ≤ S32x1024.size a := by
  have h2 := Nat.mod_lt k (show 0 < 4 by decide)
  have h3 := Nat.mod_lt (k / 4) (show 0 < 8 by decide)
  match a with
  | 0 => show 8 * (k % 4) + 8 ≤ 32; omega
  | 1 => show 128 * (k / 4 % 8) + 128 ≤ 1024; omega
/-- The weights of a tile of a chunk and a group. -/
abbrev r20 (k : ℕ) : Rect S32x1024 := Rect.unit (s := S32x1024) ![8 * (k % 4), 128 * (k / 4 % 8)] S8x128.size (inb20 k)

theorem slices20 (k : ℕ) : S32x1024.Slices ![8 * (k % 4), 128 * (k / 4 % 8)] S8x128 := ⟨rfl, inb20 k⟩
theorem slicesA (g : ℕ) : S32x256.Slices ![8 * (g % 4), 0] S8x256 := ⟨rfl, fun a => by
  have h2 := Nat.mod_lt g (show 0 < 4 by decide)
  match a with
  | 0 => show 8 * (g % 4) + 8 ≤ 32; omega
  | 1 => exact Nat.le_refl _⟩
theorem slicesX (h : ℕ) : S32x256.Slices ![0, 128 * (h % 2)] S32x128 := ⟨rfl, fun a => by
  have h2 := Nat.mod_lt h (show 0 < 2 by decide)
  match a with
  | 0 => exact Nat.le_refl _
  | 1 => show 128 * (h % 2) + 128 ≤ 256; omega⟩
theorem slicesO (h : ℕ) : S8x256.Slices ![0, 128 * (h % 2)] S8x128 := ⟨rfl, fun a => by
  have h2 := Nat.mod_lt h (show 0 < 2 by decide)
  match a with
  | 0 => exact Nat.le_refl _
  | 1 => show 128 * (h % 2) + 128 ≤ 256; omega⟩

/-- A trip's number, as the body computes offsets from it. -/
abbrev tn (t : Fin k0_t1_loop.trips) : ℕ := (Scalar.indexCast (Scf.iv 0#32 1#32 t) : Index).toNat
theorem tn_eq (t : Fin k0_t1_loop.trips) : tn t = t.val := by revert t; decide +kernel

theorem inbS (t : Fin k0_t1_loop.trips) (i : ℕ) (a : Fin 3) : (![tn t, 0, 128 * (i % 9)] : Fin 3 → ℕ) a + S1x8x128.size a ≤ S4x8x1152.size a := by
  have h2 := Nat.mod_lt i (show 0 < 9 by decide)
  have h3 := t_lt t
  have h4 := tn_eq t
  match a with
  | 0 => show tn t + 1 ≤ 4; omega
  | 1 => exact Nat.le_refl _
  | 2 => show 128 * (i % 9) + 128 ≤ 1152; omega
/-- A piece of 128 tokens of a sequence's scales. -/
abbrev rS (t : Fin k0_t1_loop.trips) (i : ℕ) : Rect S4x8x1152 := Rect.unit (s := S4x8x1152) ![tn t, 0, 128 * (i % 9)] S1x8x128.size (inbS t i)
theorem inbC (t : Fin k0_t1_loop.trips) (i : ℕ) (a : Fin 4) : (![tn t, 128 * (i % 8), 0, 0] : Fin 4 → ℕ) a + S1x128x8x256.size a ≤ S4x1024x8x256.size a := by
  have h2 := Nat.mod_lt i (show 0 < 8 by decide)
  have h3 := t_lt t
  have h4 := tn_eq t
  match a with
  | 0 => show tn t + 1 ≤ 4; omega
  | 1 => show 128 * (i % 8) + 128 ≤ 1024; omega
  | 2 => exact Nat.le_refl _
  | 3 => exact Nat.le_refl _
/-- A chunk of 128 tokens of a sequence's codes. -/
abbrev rC (t : Fin k0_t1_loop.trips) (i : ℕ) : Rect S4x1024x8x256 := Rect.unit (s := S4x1024x8x256) ![tn t, 128 * (i % 8), 0, 0] S1x128x8x256.size (inbC t i)
/-- A sequence's row of the queries and of the outputs. -/
abbrev r13 (t : Fin k0_t1_loop.trips) : Rect S4x1x32x256 := Rect.unit (s := S4x1x32x256) (k0_off13 t) S1x1x32x256.size (k0_off13_inb t)
abbrev r40 (t : Fin k0_t1_loop.trips) : Rect S4x1x32x256 := Rect.unit (s := S4x1x32x256) (k0_off40 t) S1x1x32x256.size (k0_off40_inb t)

variable {c : Dev nD} (E : Env F c) (t : Fin k0_t1_loop.trips)

/-! ## The query and the new token's scores -/

/-- The sequence's query, at f32. -/
def xF : FVec F S32x256 .f32 := extf .f32 (shapeCast S32x256 ((View.whole cc0_stg1_0).readAt (Elt F) (r13 t).toLoadRect E.f1) shapeCasts_S1x1x32x256_S32x256) bitsLt_bf16_f32
/-- A half of its columns. -/
def pay17 (h : ℕ) : FVec F S1x32x128 .f32 := shapeCast S1x32x128 (extractStridedSlice S32x128 ![0, 128 * (h % 2)] (xF E t) (slicesX h)) shapeCasts_S32x128_S1x32x128
/-- The rows of a group. -/
def ld17 (k : ℕ) : FVec F S1x8x128 .f32 := fun y => pay17 E t (k % 2) fun
  | ⟨0, _⟩ => (0 : Fin 1)
  | ⟨1, _⟩ => (⟨k / 2 % 4 + 4 * (y 1).val, by have := Nat.mod_lt (k / 2) (show 0 < 4 by decide); have : (y 1).val < 8 := (y 1).isLt; omega⟩ : Fin 32)
  | ⟨2, _⟩ => (y 2 : Fin 128)
def qgF (g : ℕ) : FVec F S8x256 .f32 :=
  concatenate S8x256 1 [⟨S8x128, shapeCast S8x128 (ld17 E t (2 * g)) shapeCasts_S1x8x128_S8x128⟩, ⟨S8x128, shapeCast S8x128 (ld17 E t (2 * g + 1)) shapeCasts_S1x8x128_S8x128⟩] concatenates_S8x128_S8x128_S8x256_d1
def qF : FVec F S32x256 .bf16 :=
  truncf .bf16 (concatenate S32x256 0 [⟨S8x256, qgF E t 0⟩, ⟨S8x256, qgF E t 1⟩, ⟨S8x256, qgF E t 2⟩, ⟨S8x256, qgF E t 3⟩] concatenates_S8x256_S8x256_S8x256_S8x256_S32x256_d0) bitsLt_bf16_f32

/-- The new keys and values. -/
def knF : FVec F S8x256 .f32 := rowF ((View.whole cc0_stg2_0).readAt (Elt F) (r11 t).toLoadRect E.f2)
def vnF : FVec F S8x256 .f32 := rowF ((View.whole cc0_stg3_0).readAt (Elt F) (r11 t).toLoadRect E.f3)

/-- The new token's scores for a group of heads. -/
def snF (g : ℕ) : FVec F S8x1 .f32 :=
  mulf (mulf (shapeCast S8x1 (multiReduction .add [1] S8 (mulf (qgF E t g) (codesF (knF E t))) 0x00000000#32 reduces_S8x256_S8 (.inl rfl) rfl) shapeCasts_S8_S8x1)
    (shapeCast S8x1 (scaleF (knF E t)) shapeCasts_S8_S8x1)) (broadcast S8x1 (Scalar.ofBits .f32 0x3D800000#32))

/-! ## The lanes of a tile -/

def laneF : IVec S8x128 32 := iota .tc S8x128 32 [1] iota_S8x128_d1_w32
/-- The lanes whose head is the row's. -/
def ownF : IVec S8x128 1 := cmpi .eq (andi laneF (broadcast S8x128 7#32)) (iota .tc S8x128 32 [0] iota_S8x128_d0_w32)
/-- A lane's token in its tile. -/
def ltokF : IVec S8x128 32 := shrsi laneF (broadcast S8x128 3#32)

/-- The first token of the sequence's window, and how far it lies in the copied scales. -/
def stF : BitVec 32 := Scalar.minsi (Scalar.maxsi (Scalar.subi (wd E (tb t)) 1023#32) 0#32) 3072#32
def offF : BitVec 32 := Scalar.subi (stF E t) (Scalar.minsi (Scalar.shli (Scalar.shrsi (stF E t) 7#32) 7#32) 2944#32)

def tokF (j : ℕ) : IVec S8x128 32 := addi ltokF (broadcast S8x128 (Scalar.addi (stF E t) (BitVec.ofNat 32 (16 * j))))
/-- The lanes of a tile that the row sees. -/
def visF (j : ℕ) : IVec S8x128 1 :=
  andi (andi ownF (cmpi .slt (tokF E t j) (broadcast S8x128 (wd E (tb t))))) (cmpi .slt (subi (broadcast S8x128 (wd E (tb t))) (tokF E t j)) (broadcast S8x128 1024#32))

def posF (j : ℕ) : IVec S8x128 32 := addi ltokF (broadcast S8x128 (Scalar.addi (offF E t) (BitVec.ofNat 32 (16 * (j % 8)))))
def wrapInF (p : IVec S8x128 32) : IVec S8x128x1 32 :=
  shapeCast S8x128x1 (select (cmpi .slt (andi p (broadcast S8x128 127#32)) (broadcast S8x128 0#32))
    (addi (andi p (broadcast S8x128 127#32)) (broadcast S8x128 128#32)) (andi p (broadcast S8x128 127#32))) shapeCasts_S8x128_S8x128x1
def wrapF (p : IVec S8x128 32) : IVec S8x128 32 := shapeCast S8x128 (wrapInF p) shapeCasts_S8x128x1_S8x128
/-- Two pieces of scales, spread over the lanes of a tile. -/
def spreadF (lo hi : FVec F S8x128 .f32) (p : IVec S8x128 32) : FVec F S8x128 .f32 :=
  select (cmpi .slt p (broadcast S8x128 128#32)) (dynamicGather 1 lo (wrapF p)) (dynamicGather 1 hi (wrapF p))
/-- A piece of the copied scales of the keys, and of the values. -/
def pieceK (i : ℕ) : FVec F S8x128 .f32 := shapeCast S8x128 ((View.whole cc0_scratch2).readAt (Elt F) (rS t i).toLoadRect (G0 E (tb t))) shapeCasts_S1x8x128_S8x128
def pieceV (i : ℕ) : FVec F S8x128 .f32 := shapeCast S8x128 ((View.whole cc0_scratch3).readAt (Elt F) (rS t i).toLoadRect (G1 E (tb t))) shapeCasts_S1x8x128_S8x128
def ksF (j : ℕ) : FVec F S8x128 .f32 := spreadF (pieceK E t (j / 8)) (pieceK E t (j / 8 + 1)) (posF E t j)
def vsF (j : ℕ) : FVec F S8x128 .f32 := spreadF (pieceV E t (j / 8)) (pieceV E t (j / 8 + 1)) (posF E t j)

/-! ## The scores -/

/-- A chunk of codes as a matrix. -/
def matF (x : Vec F S1x128x8x256 .i8) : FVec F S1024x256 .bf16 :=
  shapeCast S1024x256 (sitofp .bf16 (shapeCast S128x8x256 x shapeCasts_S1x128x8x256_S128x8x256)) shapeCasts_S128x8x256_S1024x256
def kcF (i : ℕ) : FVec F S1024x256 .bf16 := matF ((View.whole cc0_scratch0).readAt (Elt F) (rC t i).toLoadRect (G2 E (tb t)))
def vcF (i : ℕ) : FVec F S1024x256 .bf16 := matF ((View.whole cc0_scratch1).readAt (Elt F) (rC t i).toLoadRect (G3 E (tb t)))

def dotsF (i : ℕ) : FVec F S32x1024 .f32 :=
  matmul dot_S32x256_S1024x256_S32x1024_1_1_0_0_n_n none (qF E t) (kcF E t i) (constant S32x1024 .f32 0x00000000#32)

/-- The scores of a tile and a group. -/
def sgF (k : ℕ) : FVec F S8x128 .f32 :=
  select (visF E t (k / 4)) (mulf (mulf (extractStridedSlice S8x128 ![8 * (k % 4), 128 * (k / 4 % 8)] (dotsF E t (k / 4 / 8)) (slices20 k)) (ksF E t (k / 4)))
    (broadcast S8x128 (Scalar.ofBits .f32 0x3D800000#32))) (broadcast S8x128 (Scalar.ofBits .f32 0xFF800000#32))
def pay19 (k : ℕ) : FVec F S8x128 .f32 := shapeCast S8x128 (sgF E t k) shapeCasts_S8x128_S8x128

/-- The running maximum of a group after `n` tiles, and the maximum. -/
def mxF (g n : ℕ) : FVec F S8x128 .f32 :=
  Nat.rec (motive := fun _ => FVec F S8x128 .f32) (broadcastTo S8x128 (shapeCast S8x1 (snF E t g) shapeCasts_S8x1_S8x1) broadcasts_S8x1_S8x128)
    (fun j a => maximumf a (sgF E t (4 * j + g))) n
def mF (g : ℕ) : FVec F S8x1 .f32 := shapeCast S8x1 (multiReduction .maximumf [1] S8 (mxF E t g 64) 0xFF800000#32 reduces_S8x128_S8 (.inl rfl) rfl) shapeCasts_S8_S8x1

/-! ## The weights -/

def eF (k : ℕ) : FVec F S8x128 .f32 := exp (subf (pay19 E t k) (broadcastTo S8x128 (mF E t (k % 4)) broadcasts_S8x1_S8x128))
def pay20 (k : ℕ) : FVec F S8x128 .f32 := shapeCast S8x128 (mulf (eF E t k) (vsF E t (k / 4))) shapeCasts_S8x128_S8x128
/-- The sum of a group's weights after `n` tiles. -/
def lF (g n : ℕ) : FVec F S8x128 .f32 :=
  Nat.rec (motive := fun _ => FVec F S8x128 .f32) (broadcast S8x128 (Scalar.ofBits .f32 0x00000000#32)) (fun j a => addf a (eF E t (4 * j + g))) n
/-- The weights of a chunk. -/
def pF (i : ℕ) : FVec F S32x1024 .f32 := fun y => pay20 E t (32 * i + (4 * ((y 1).val / 128) + (y 0).val / 8)) fun
  | ⟨0, _⟩ => (⟨(y 0).val % 8, Nat.mod_lt _ (by decide)⟩ : Fin 8)
  | ⟨1, _⟩ => (⟨(y 1).val % 128, Nat.mod_lt _ (by decide)⟩ : Fin 128)
def accF (n : ℕ) : FVec F S32x256 .f32 :=
  Nat.rec (motive := fun _ => FVec F S32x256 .f32) (broadcast S32x256 (Scalar.ofBits .f32 0x00000000#32))
    (fun i a => addf a (matmul dot_S32x1024_S1024x256_S32x256_1_0_0_1_n_n none (truncf .bf16 (pF E t i) bitsLt_bf16_f32) (vcF E t i) (constant S32x256 .f32 0x00000000#32))) n

/-! ## The output -/

def enF (g : ℕ) : FVec F S8x1 .f32 := exp (subf (snF E t g) (mF E t g))
def oF (g : ℕ) : FVec F S8x256 .f32 :=
  divf (addf (extractStridedSlice S8x256 ![8 * (g % 4), 0] (accF E t 8) (slicesA g))
      (mulf (broadcastTo S8x256 (extf .f32 (truncf .bf16 (mulf (enF E t g) (shapeCast S8x1 (scaleF (vnF E t)) shapeCasts_S8_S8x1)) bitsLt_bf16_f32) bitsLt_bf16_f32) broadcasts_S8x1_S8x256) (codesF (vnF E t))))
    (broadcastTo S8x256 (addf (shapeCast S8x1 (multiReduction .add [1] S8 (lF E t g 64) 0x00000000#32 reduces_S8x128_S8 (.inl rfl) rfl) shapeCasts_S8_S8x1) (enF E t g)) broadcasts_S8x1_S8x256)
def pay18 (k : ℕ) : FVec F S1x8x128 .f32 := shapeCast S1x8x128 (extractStridedSlice S8x128 ![0, 128 * (k % 2)] (oF E t (k / 2)) (slicesO k)) shapeCasts_S8x128_S1x8x128
/-- A half of the columns of the output. -/
def ld18 (h : ℕ) : FVec F S1x32x128 .f32 := fun y => pay18 E t (2 * ((y 1).val % 4) + h) fun
  | ⟨0, _⟩ => (0 : Fin 1)
  | ⟨1, _⟩ => (⟨(y 1).val / 4, by have : (y 1).val < 32 := (y 1).isLt; omega⟩ : Fin 8)
  | ⟨2, _⟩ => (y 2 : Fin 128)
/-- The row stored. -/
def outRow : Vec F S1x1x32x256 .bf16 :=
  shapeCast S1x1x32x256 (truncf .bf16 (concatenate S32x256 1 [⟨S32x128, shapeCast S32x128 (ld18 E t 0) shapeCasts_S1x32x128_S32x128⟩, ⟨S32x128, shapeCast S32x128 (ld18 E t 1) shapeCasts_S1x32x128_S32x128⟩] concatenates_S32x128_S32x128_S32x256_d1) bitsLt_bf16_f32) shapeCasts_S32x256_S1x1x32x256

end Cert.KernelIdeal.Hand

end
-- ==== Proof.KI.Inv.lean ====
/-
  What a trip of the loop has left in its scratch buffers, and in the buffer of the outputs.
-/
module

public import proofs.«01_k».proof.Proof.KI.Spec

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Which rectangles are disjoint -/

theorem disj_unit {s : Shape} {o z o' z' : Fin s.rank → ℕ} (i : ∀ a, o a + z a ≤ s.size a) (i' : ∀ a, o' a + z' a ≤ s.size a) (a : Fin s.rank)
    (h : o a + z a ≤ o' a ∨ o' a + z' a ≤ o a) : Disjoint (Rect.unit (s := s) o z i).set (Rect.unit (s := s) o' z' i').set := by
  rw [Finset.disjoint_left]
  intro x hx hx'
  rw [← Rect.map_emb_univ] at hx hx'
  obtain ⟨y, -, e⟩ := Finset.mem_map.mp hx
  obtain ⟨y', -, e'⟩ := Finset.mem_map.mp hx'
  have h1 : (y a).val < z a := (y a).isLt
  have h2 : (y' a).val < z' a := (y' a).isLt
  have e1 : (x a).val = o a + 1 * (y a).val := by rw [← e]; rfl
  have e2 : (x a).val = o' a + 1 * (y' a).val := by rw [← e']; rfl
  omega

theorem disj17 {k u : Fin 2} (h : k ≠ u) : Disjoint (r17 k.val).set (r17 u.val).set := by
  refine disj_unit _ _ 0 ?_
  show k.val % 2 + 1 ≤ u.val % 2 ∨ u.val % 2 + 1 ≤ k.val % 2
  have := Fin.val_ne_of_ne h
  omega
theorem disj19 {k u : Fin 256} (h : k ≠ u) : Disjoint (r19 k.val).set (r19 u.val).set := by
  have := Fin.val_ne_of_ne h
  by_cases e : k.val % 4 = u.val % 4
  · refine disj_unit _ _ 1 ?_
    show 128 * (k.val / 4 % 64) + 128 ≤ 128 * (u.val / 4 % 64) ∨ 128 * (u.val / 4 % 64) + 128 ≤ 128 * (k.val / 4 % 64)
    omega
  · refine disj_unit _ _ 0 ?_
    show 8 * (k.val % 4) + 8 ≤ 8 * (u.val % 4) ∨ 8 * (u.val % 4) + 8 ≤ 8 * (k.val % 4)
    omega
theorem disj20 {k u : Fin 32} (h : k ≠ u) : Disjoint (r20 k.val).set (r20 u.val).set := by
  have := Fin.val_ne_of_ne h
  by_cases e : k.val % 4 = u.val % 4
  · refine disj_unit _ _ 1 ?_
    show 128 * (k.val / 4 % 8) + 128 ≤ 128 * (u.val / 4 % 8) ∨ 128 * (u.val / 4 % 8) + 128 ≤ 128 * (k.val / 4 % 8)
    omega
  · refine disj_unit _ _ 0 ?_
    show 8 * (k.val % 4) + 8 ≤ 8 * (u.val % 4) ∨ 8 * (u.val % 4) + 8 ≤ 8 * (k.val % 4)
    omega
theorem disj18 {k u : Fin 8} (h : k ≠ u) : Disjoint (r18 k.val).set (r18 u.val).set := by
  have := Fin.val_ne_of_ne h
  rw [Finset.disjoint_left]
  intro x hx hx'
  rw [← Rect.map_emb_univ] at hx hx'
  obtain ⟨y, -, e⟩ := Finset.mem_map.mp hx
  obtain ⟨y', -, e'⟩ := Finset.mem_map.mp hx'
  have h1 : (y 0).val < 1 := (y 0).isLt
  have h2 : (y' 0).val < 1 := (y' 0).isLt
  have e1 : (x 0).val = k.val % 2 + 1 * (y 0).val := by rw [← e]; rfl
  have e2 : (x 0).val = u.val % 2 + 1 * (y' 0).val := by rw [← e']; rfl
  have e3 : (x 1).val = k.val / 2 % 4 + 4 * (y 1).val := by rw [← e]; rfl
  have e4 : (x 1).val = u.val / 2 % 4 + 4 * (y' 1).val := by rw [← e']; rfl
  omega

theorem off40_0 (t : Fin k0_t1_loop.trips) : k0_off40 t 0 = t.val := by revert t; decide +kernel
theorem disj40 {t u : Fin k0_t1_loop.trips} (h : t ≠ u) : Disjoint (r40 t).set (r40 u).set := by
  rw [Finset.disjoint_left]
  intro i hi hi'
  have e := (mem_unit _ hi 0 rfl).symm.trans (mem_unit _ hi' 0 rfl)
  rw [off40_0, off40_0] at e
  exact h (Fin.ext e)

variable {c : Dev nD}

/-! ## The invariant -/

/-- The first `n` rectangles of a buffer hold what they are to hold. -/
def Rows (b : Ref sig .tc) {T : ℕ} (r : Fin T → Rect b.ty.shape) (p : (t : Fin T) → (r t).shape.Idx → Elt F b.ty.elt) (n : ℕ) (f : b.ty.Contents (Elt F)) : Prop :=
  ∀ u : Fin T, u.val < n → ((View.whole b).slice (r u)).read (Elt F) f = p u

theorem Rows.step {b : Ref sig .tc} {T : ℕ} {r : Fin T → Rect b.ty.shape} {p : (t : Fin T) → (r t).shape.Idx → Elt F b.ty.elt} {f : b.ty.Contents (Elt F)}
    (hd : ∀ {t u : Fin T}, t ≠ u → Disjoint (r t).set (r u).set) (t : Fin T) {w : (r t).shape.Idx → Elt F b.ty.elt} (hw : w = p t) (h : Rows b r p t.val f) :
    Rows b r p (t.val + 1) (((View.whole b).slice (r t)).write (Elt F) f w Finset.univ) := fun u hu => row_step r hd p f t w hw h u hu

/-- In trip `t`: so many rows of the output, halves of the query, tiles of scores, tiles of weights of chunk `ch` and pieces of the
    sequence's output are stored. -/
structure Aux (E : Env F c) (t : Fin k0_t1_loop.trips) (nO n17 n19 ch n20 n18 : ℕ) (C : Cont F c) : Prop where
  out : Rows cc0_stg4_0 r40 (outRow E) nO (C cc0_stg4_0)
  xf : Rows cc0_scratch4 (fun k : Fin 2 => r17 k.val) (fun k => pay17 E t k.val) n17 (C cc0_scratch4)
  sc : Rows cc0_scratch6 (fun k : Fin 256 => r19 k.val) (fun k => pay19 E t k.val) n19 (C cc0_scratch6)
  pr : Rows cc0_scratch7 (fun k : Fin 32 => r20 k.val) (fun k => pay20 E t (32 * ch + k.val)) n20 (C cc0_scratch7)
  of : Rows cc0_scratch5 (fun k : Fin 8 => r18 k.val) (fun k => pay18 E t k.val) n18 (C cc0_scratch5)

/-- With the rows of codes and scales. -/
def St (E : Env F c) (t : Fin k0_t1_loop.trips) (n5 n6 n7 n8 nO n17 n19 ch n20 n18 : ℕ) (C : Cont F c) : Prop :=
  Held E n5 n6 n7 n8 C ∧ Aux E t nO n17 n19 ch n20 n18 C
/-- The same number of each of those. -/
abbrev StN (E : Env F c) (t : Fin k0_t1_loop.trips) (n nO n17 n19 ch n20 n18 : ℕ) : Cont F c → Prop := St E t n n n n nO n17 n19 ch n20 n18

variable {E : Env F c} {t : Fin k0_t1_loop.trips} {n5 n6 n7 n8 nO n17 n19 ch n20 n18 : ℕ} {C : Cont F c}

theorem St.start (t : Fin k0_t1_loop.trips) {n : ℕ} (H : Held E n n n n C) (h : Rows cc0_stg4_0 r40 (outRow E) n (C cc0_stg4_0)) :
    StN E t n n 0 0 0 0 0 C :=
  ⟨H, h, fun _ h => absurd h (Nat.not_lt_zero _), fun _ h => absurd h (Nat.not_lt_zero _), fun _ h => absurd h (Nat.not_lt_zero _), fun _ h => absurd h (Nat.not_lt_zero _)⟩

/-- A new chunk. -/
theorem St.next (H : St E t n5 n6 n7 n8 nO n17 n19 ch n20 n18 C) : St E t n5 n6 n7 n8 nO n17 n19 (ch + 1) 0 n18 C :=
  ⟨H.1, H.2.out, H.2.xf, H.2.sc, fun _ h => absurd h (Nat.not_lt_zero _), H.2.of⟩

theorem Aux.other {b : Ref sig .tc} {f : Buf (Elt F) ((c : Thread nD τ).loc b)} (h4 : cc0_stg4_0 ≠ b) (h5 : cc0_scratch4 ≠ b) (h6 : cc0_scratch6 ≠ b) (h7 : cc0_scratch7 ≠ b) (h8 : cc0_scratch5 ≠ b)
    (H : Aux E t nO n17 n19 ch n20 n18 C) : Aux E t nO n17 n19 ch n20 n18 (Function.update C b f) where
  out := by rw [Function.update_of_ne h4]; exact H.out
  xf := by rw [Function.update_of_ne h5]; exact H.xf
  sc := by rw [Function.update_of_ne h6]; exact H.sc
  pr := by rw [Function.update_of_ne h7]; exact H.pr
  of := by rw [Function.update_of_ne h8]; exact H.of

/-! ## The stores -/

theorem St.w9 (H : St E t t.val n6 n7 n8 nO n17 n19 ch n20 n18 C) {w : (r11 t).shape.Idx → Elt F .i8} (hw : w = codesRow (((View.whole cc0_stg2_0).readAt (Elt F) (r11 t).toLoadRect E.f2))) :
    St E t (t.val + 1) n6 n7 n8 nO n17 n19 ch n20 n18 (Function.update C cc0_stg5_0 (((View.whole cc0_stg5_0).slice (r11 t)).write (Elt F) (C cc0_stg5_0) w Finset.univ)) :=
  ⟨H.1.w9 t hw, H.2.other (by decide) (by decide) (by decide) (by decide) (by decide)⟩
theorem St.w10 (H : St E t n5 t.val n7 n8 nO n17 n19 ch n20 n18 C) {w : (r12 t).shape.Idx → Elt F .f32} (hw : w = scaleRow (((View.whole cc0_stg2_0).readAt (Elt F) (r11 t).toLoadRect E.f2))) :
    St E t n5 (t.val + 1) n7 n8 nO n17 n19 ch n20 n18 (Function.update C cc0_stg6_0 (((View.whole cc0_stg6_0).slice (r12 t)).write (Elt F) (C cc0_stg6_0) w Finset.univ)) :=
  ⟨H.1.w10 t hw, H.2.other (by decide) (by decide) (by decide) (by decide) (by decide)⟩
theorem St.w11 (H : St E t n5 n6 t.val n8 nO n17 n19 ch n20 n18 C) {w : (r11 t).shape.Idx → Elt F .i8} (hw : w = codesRow (((View.whole cc0_stg3_0).readAt (Elt F) (r11 t).toLoadRect E.f3))) :
    St E t n5 n6 (t.val + 1) n8 nO n17 n19 ch n20 n18 (Function.update C cc0_stg7_0 (((View.whole cc0_stg7_0).slice (r11 t)).write (Elt F) (C cc0_stg7_0) w Finset.univ)) :=
  ⟨H.1.w11 t hw, H.2.other (by decide) (by decide) (by decide) (by decide) (by decide)⟩
theorem St.w12 (H : St E t n5 n6 n7 t.val nO n17 n19 ch n20 n18 C) {w : (r12 t).shape.Idx → Elt F .f32} (hw : w = scaleRow (((View.whole cc0_stg3_0).readAt (Elt F) (r11 t).toLoadRect E.f3))) :
    St E t n5 n6 n7 (t.val + 1) nO n17 n19 ch n20 n18 (Function.update C cc0_stg8_0 (((View.whole cc0_stg8_0).slice (r12 t)).write (Elt F) (C cc0_stg8_0) w Finset.univ)) :=
  ⟨H.1.w12 t hw, H.2.other (by decide) (by decide) (by decide) (by decide) (by decide)⟩

theorem St.w8 (H : St E t n5 n6 n7 n8 t.val n17 n19 ch n20 n18 C) {w : (r40 t).shape.Idx → Elt F .bf16} (hw : w = outRow E t) :
    St E t n5 n6 n7 n8 (t.val + 1) n17 n19 ch n20 n18 (Function.update C cc0_stg4_0 (((View.whole cc0_stg4_0).slice (r40 t)).write (Elt F) (C cc0_stg4_0) w Finset.univ)) :=
  ⟨H.1.w8, by rw [Function.update_self]; exact Rows.step disj40 t hw H.2.out, by rw [Function.update_of_ne (by decide)]; exact H.2.xf,
    by rw [Function.update_of_ne (by decide)]; exact H.2.sc, by rw [Function.update_of_ne (by decide)]; exact H.2.pr, by rw [Function.update_of_ne (by decide)]; exact H.2.of⟩
theorem St.w17 (k : Fin 2) (H : St E t n5 n6 n7 n8 nO k.val n19 ch n20 n18 C) {w : (r17 k.val).shape.Idx → Elt F .f32} (hw : w = pay17 E t k.val) :
    St E t n5 n6 n7 n8 nO (k.val + 1) n19 ch n20 n18 (Function.update C cc0_scratch4 (((View.whole cc0_scratch4).slice (r17 k.val)).write (Elt F) (C cc0_scratch4) w Finset.univ)) :=
  ⟨H.1.w17, by rw [Function.update_of_ne (by decide)]; exact H.2.out,
    by rw [Function.update_self]; exact Rows.step (b := cc0_scratch4) (r := fun k : Fin 2 => r17 k.val) (p := fun k => pay17 E t k.val) disj17 k hw H.2.xf,
    by rw [Function.update_of_ne (by decide)]; exact H.2.sc, by rw [Function.update_of_ne (by decide)]; exact H.2.pr, by rw [Function.update_of_ne (by decide)]; exact H.2.of⟩
theorem St.w19 (k : Fin 256) (H : St E t n5 n6 n7 n8 nO n17 k.val ch n20 n18 C) {w : (r19 k.val).shape.Idx → Elt F .f32} (hw : w = pay19 E t k.val) :
    St E t n5 n6 n7 n8 nO n17 (k.val + 1) ch n20 n18 (Function.update C cc0_scratch6 (((View.whole cc0_scratch6).slice (r19 k.val)).write (Elt F) (C cc0_scratch6) w Finset.univ)) :=
  ⟨H.1.w19, by rw [Function.update_of_ne (by decide)]; exact H.2.out, by rw [Function.update_of_ne (by decide)]; exact H.2.xf,
    by rw [Function.update_self]; exact Rows.step (b := cc0_scratch6) (r := fun k : Fin 256 => r19 k.val) (p := fun k => pay19 E t k.val) disj19 k hw H.2.sc,
    by rw [Function.update_of_ne (by decide)]; exact H.2.pr, by rw [Function.update_of_ne (by decide)]; exact H.2.of⟩
theorem St.w20 (k : Fin 32) (H : St E t n5 n6 n7 n8 nO n17 n19 ch k.val n18 C) {w : (r20 k.val).shape.Idx → Elt F .f32} (hw : w = pay20 E t (32 * ch + k.val)) :
    St E t n5 n6 n7 n8 nO n17 n19 ch (k.val + 1) n18 (Function.update C cc0_scratch7 (((View.whole cc0_scratch7).slice (r20 k.val)).write (Elt F) (C cc0_scratch7) w Finset.univ)) :=
  ⟨H.1.w20, by rw [Function.update_of_ne (by decide)]; exact H.2.out, by rw [Function.update_of_ne (by decide)]; exact H.2.xf, by rw [Function.update_of_ne (by decide)]; exact H.2.sc,
    by rw [Function.update_self]; exact Rows.step (b := cc0_scratch7) (r := fun k : Fin 32 => r20 k.val) (p := fun k => pay20 E t (32 * ch + k.val)) disj20 k hw H.2.pr,
    by rw [Function.update_of_ne (by decide)]; exact H.2.of⟩
theorem St.w18 (k : Fin 8) (H : St E t n5 n6 n7 n8 nO n17 n19 ch n20 k.val C) {w : (r18 k.val).shape.Idx → Elt F .f32} (hw : w = pay18 E t k.val) :
    St E t n5 n6 n7 n8 nO n17 n19 ch n20 (k.val + 1) (Function.update C cc0_scratch5 (((View.whole cc0_scratch5).slice (r18 k.val)).write (Elt F) (C cc0_scratch5) w Finset.univ)) :=
  ⟨H.1.w18, by rw [Function.update_of_ne (by decide)]; exact H.2.out, by rw [Function.update_of_ne (by decide)]; exact H.2.xf, by rw [Function.update_of_ne (by decide)]; exact H.2.sc,
    by rw [Function.update_of_ne (by decide)]; exact H.2.pr,
    by rw [Function.update_self]; exact Rows.step (b := cc0_scratch5) (r := fun k : Fin 8 => r18 k.val) (p := fun k => pay18 E t k.val) disj18 k hw H.2.of⟩

/-! ## The loads -/

theorem Rows.at {b : Ref sig .tc} {T : ℕ} {r : Fin T → Rect b.ty.shape} {p : (t : Fin T) → (r t).shape.Idx → Elt F b.ty.elt} {n : ℕ} {f : b.ty.Contents (Elt F)}
    (h : Rows b r p n f) (u : Fin T) (hu : u.val < n) (y : (r u).shape.Idx) : (View.whole b).read (Elt F) f ((r u).emb y) = p u y := congrFun (h u hu) y

theorem St.ld19 (k : ℕ) (H : St E t n5 n6 n7 n8 nO n17 n19 ch n20 n18 C) (hk : k < n19 := by decide) (h : k < 256 := by decide) :
    (View.whole cc0_scratch6).readAt (Elt F) (r19 k).toLoadRect (C cc0_scratch6) = pay19 E t k := H.2.sc ⟨k, h⟩ hk
theorem St.ld17 (k : Fin 8) (H : St E t n5 n6 n7 n8 nO 2 n19 ch n20 n18 C) :
    (View.whole cc0_scratch4).readAt (Elt F) (l18 k.val) (C cc0_scratch4) = ld17 E t k.val := by
  funext y
  have hy : (y 1).val < 8 := (y 1).isLt
  have hy0 : (y 0).val < 1 := (y 0).isLt
  have h2 := Nat.mod_lt k.val (show 0 < 2 by decide)
  refine Eq.trans ?_ (Rows.at H.2.xf ⟨k.val % 2, h2⟩ h2 _)
  refine congrArg ((View.whole cc0_scratch4).read (Elt F) (C cc0_scratch4)) (funext fun a => Fin.ext ?_)
  match a with
  | 0 => show k.val % 2 + 1 * (y 0).val = k.val % 2 % 2 + 1 * 0; omega
  | 1 => show k.val / 2 % 4 + 4 * (y 1).val = 0 + 1 * (k.val / 2 % 4 + 4 * (y 1).val); omega
  | 2 => show 0 + 1 * (y 2).val = 0 + 1 * (y 2).val; rfl
theorem St.ld20 (H : St E t n5 n6 n7 n8 nO n17 n19 ch 32 n18 C) {inb} :
    (View.whole cc0_scratch7).readAt (Elt F) (Rect.unit (s := S32x1024) ![0, 0] S32x1024.size inb).toLoadRect (C cc0_scratch7) = pF E t ch := by
  funext y
  have h0 : (y 0).val < 32 := (y 0).isLt
  have h1 : (y 1).val < 1024 := (y 1).isLt
  refine Eq.trans ?_ (Rows.at H.2.pr ⟨4 * ((y 1).val / 128) + (y 0).val / 8, by omega⟩ (by show 4 * ((y 1).val / 128) + (y 0).val / 8 < 32; omega) _)
  refine congrArg ((View.whole cc0_scratch7).read (Elt F) (C cc0_scratch7)) (funext fun a => Fin.ext ?_)
  match a with
  | 0 => show 0 + 1 * (y 0).val = 8 * ((4 * ((y 1).val / 128) + (y 0).val / 8) % 4) + 1 * ((y 0).val % 8); omega
  | 1 => show 0 + 1 * (y 1).val = 128 * ((4 * ((y 1).val / 128) + (y 0).val / 8) / 4 % 8) + 1 * ((y 1).val % 128); omega
theorem St.ld18 (h : Fin 2) (H : St E t n5 n6 n7 n8 nO n17 n19 ch n20 8 C) :
    (View.whole cc0_scratch5).readAt (Elt F) (r17 h.val).toLoadRect (C cc0_scratch5) = ld18 E t h.val := by
  funext y
  have h0 : (y 0).val < 1 := (y 0).isLt
  have h1 : (y 1).val < 32 := (y 1).isLt
  have h2 := h.isLt
  refine Eq.trans ?_ (Rows.at H.2.of ⟨2 * ((y 1).val % 4) + h.val, by omega⟩ (by show 2 * ((y 1).val % 4) + h.val < 8; omega) _)
  refine congrArg ((View.whole cc0_scratch5).read (Elt F) (C cc0_scratch5)) (funext fun a => Fin.ext ?_)
  match a with
  | 0 => show h.val % 2 + 1 * (y 0).val = (2 * ((y 1).val % 4) + h.val) % 2 + 1 * 0; omega
  | 1 => show 0 + 1 * (y 1).val = (2 * ((y 1).val % 4) + h.val) / 2 % 4 + 4 * ((y 1).val / 4); omega
  | 2 => show 0 + 1 * (y 2).val = 0 + 1 * (y 2).val; rfl

/-! The same, with the number of the store or load and its bound apart. -/

theorem St.s17 (k : ℕ) {w : (r17 k).shape.Idx → Elt F .f32} (H : St E t n5 n6 n7 n8 nO k n19 ch n20 n18 C) (hk : k < 2 := by decide) (hw : w = pay17 E t k := by exact rfl) :
    St E t n5 n6 n7 n8 nO (k + 1) n19 ch n20 n18 (Function.update C cc0_scratch4 (((View.whole cc0_scratch4).slice (r17 k)).write (Elt F) (C cc0_scratch4) w Finset.univ)) := St.w17 ⟨k, hk⟩ H hw
theorem St.s19 (k : ℕ) {w : (r19 k).shape.Idx → Elt F .f32} (H : St E t n5 n6 n7 n8 nO n17 k ch n20 n18 C) (hk : k < 256 := by decide) (hw : w = pay19 E t k := by exact rfl) :
    St E t n5 n6 n7 n8 nO n17 (k + 1) ch n20 n18 (Function.update C cc0_scratch6 (((View.whole cc0_scratch6).slice (r19 k)).write (Elt F) (C cc0_scratch6) w Finset.univ)) := St.w19 ⟨k, hk⟩ H hw
theorem St.s20 (k : ℕ) {w : (r20 k).shape.Idx → Elt F .f32} (H : St E t n5 n6 n7 n8 nO n17 n19 ch k n18 C) (hk : k < 32 := by decide) (hw : w = pay20 E t (32 * ch + k) := by exact rfl) :
    St E t n5 n6 n7 n8 nO n17 n19 ch (k + 1) n18 (Function.update C cc0_scratch7 (((View.whole cc0_scratch7).slice (r20 k)).write (Elt F) (C cc0_scratch7) w Finset.univ)) := St.w20 ⟨k, hk⟩ H hw
theorem St.s18 (k : ℕ) {w : (r18 k).shape.Idx → Elt F .f32} (H : St E t n5 n6 n7 n8 nO n17 n19 ch n20 k C) (hk : k < 8 := by decide) (hw : w = pay18 E t k := by exact rfl) :
    St E t n5 n6 n7 n8 nO n17 n19 ch n20 (k + 1) (Function.update C cc0_scratch5 (((View.whole cc0_scratch5).slice (r18 k)).write (Elt F) (C cc0_scratch5) w Finset.univ)) := St.w18 ⟨k, hk⟩ H hw
theorem St.g17 (k : ℕ) (hk : k < 8) (H : St E t n5 n6 n7 n8 nO 2 n19 ch n20 n18 C) :
    (View.whole cc0_scratch4).readAt (Elt F) (l18 k) (C cc0_scratch4) = Hand.ld17 E t k := St.ld17 ⟨k, hk⟩ H
theorem St.g18 (h : ℕ) (hk : h < 2) (H : St E t n5 n6 n7 n8 nO n17 n19 ch n20 8 C) :
    (View.whole cc0_scratch5).readAt (Elt F) (r17 h).toLoadRect (C cc0_scratch5) = Hand.ld18 E t h := St.ld18 ⟨h, hk⟩ H

end Cert.KernelIdeal.Hand

end
-- ==== Proof.KI.F252.lean ====
/-
  The first quarter of a trip, stepped through.
-/
module

public import proofs.«01_k».proof.Proof.KI.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 40000000 in
/-- From what the invariant says at its start to what it says at its end, with the values it hands on. -/
theorem f252 (E : Env F c) (t : Fin k0_t1_loop.trips) {β : Type} {k : _ → Prog (TpuEff nD τ sig (Elt F) Λ₀ .tc) β} {Q : β → sProp 𝕄} :
    Run c (XP E (lp (4 * (tb t).val + 3))) (StN E t (t.val + 1) t.val 2 108 0 0 0) (k ⟨(Scf.iv 0#32 1#32 t), (wd E (tb t)), (chk10 t _), (wd E (tb t)), (stF E t), (offF E t), (scaleF (vnF E t)), (codesF (vnF E t)), (qF E t), (snF E t 0), (snF E t 1), (snF E t 2), (snF E t 3), (dotsF E t 3), (mxF E t 0 27), (mxF E t 1 27), (mxF E t 2 27), (mxF E t 3 27), (tokF E t 27)⟩) Q →
    Run c (XP E (lp (4 * (tb t).val))) (StN E t t.val t.val 0 0 0 0 0) (k0_part252 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 ownF ltokF 0#32 1#32 t >>= k) Q := by
  intro h
  refine Run.seq ?_
  unfold k0_part252
  refine Run.seq ?_
  unfold k0_part1
  refine Run.len E (tb t) (offb t) ?_
  refine Run.assume (chk10 t _) ?_
  refine Run.len E (tb t) (offb t) ?_
  refine Run.assume (chk9 t _) ?_
  refine Run.len E (tb t) (offb t) ?_
  refine Run.len E (tb t) (offb t) ?_
  refine Run.len E (tb t) (offb t) ?_
  refine Run.loadX (XP_f2 E _) (Finset.subset_univ _) ?_
  refine Run.purTo ⟨_, _, _, _, _, _, (stF E t), (offF E t), (knF E t)⟩ rfl ?_
  refine Run.seq ?_
  unfold k0_part2
  refine Run.loadX (XP_f3 E _) (Finset.subset_univ _) ?_
  refine Run.loadAny m9 fun _ => ?_
  refine Run.store (I' := St E t (t.val + 1) t.val t.val t.val t.val 0 0 0 0 0) m9 (fun _ H => St.w9 H (by exact rfl)) ?_
  refine Run.purTo ⟨(scaleF (knF E t)), (codesF (knF E t)), (scaleF (vnF E t)), (codesF (vnF E t)), _⟩ rfl ?_
  refine Run.seq ?_
  unfold k0_part3
  refine Run.loadAny m11 fun _ => ?_
  refine Run.store (I' := St E t (t.val + 1) t.val (t.val + 1) t.val t.val 0 0 0 0 0) m11 (fun _ H => St.w11 H (by exact rfl)) ?_
  refine Run.loadAny m10 fun _ => ?_
  refine Run.store (I' := St E t (t.val + 1) (t.val + 1) (t.val + 1) t.val t.val 0 0 0 0 0) m10 (fun _ H => St.w10 H (by exact rfl)) ?_
  refine Run.loadAny m12 fun _ => ?_
  refine Run.store (I' := StN E t (t.val + 1) t.val 0 0 0 0 0) m12 (fun _ H => St.w12 H (by exact rfl)) ?_
  refine Run.loadX (XP_f1 E _) (Finset.subset_univ _) ?_
  refine Run.loadAny m17 fun _ => ?_
  refine Run.store (I' := StN E t (t.val + 1) t.val 1 0 0 0 0) m17 (fun _ H => St.s17 0 H) ?_
  refine Run.loadAny m17 fun _ => ?_
  refine Run.store (I' := StN E t (t.val + 1) t.val 2 0 0 0 0) m17 (fun _ H => St.s17 1 H) ?_
  refine Run.load (v := ld17 E t 0) m17 (fun _ H => St.g17 0 (by decide) H) ?_
  refine Run.load (v := ld17 E t 1) m17 (fun _ H => St.g17 1 (by decide) H) ?_
  refine Run.load (v := ld17 E t 2) m17 (fun _ H => St.g17 2 (by decide) H) ?_
  refine Run.purTo ⟨(qgF E t 0), _⟩ rfl ?_
  refine Run.seq ?_
  unfold k0_part4
  refine Run.load (v := ld17 E t 3) m17 (fun _ H => St.g17 3 (by decide) H) ?_
  refine Run.load (v := ld17 E t 4) m17 (fun _ H => St.g17 4 (by decide) H) ?_
  refine Run.load (v := ld17 E t 5) m17 (fun _ H => St.g17 5 (by decide) H) ?_
  refine Run.load (v := ld17 E t 6) m17 (fun _ H => St.g17 6 (by decide) H) ?_
  refine Run.load (v := ld17 E t 7) m17 (fun _ H => St.g17 7 (by decide) H) ?_
  refine Run.purTo ⟨(qF E t), (snF E t 0), (snF E t 1), (snF E t 2), _⟩ rfl ?_
  refine Run.seq ?_
  unfold k0_part5
  refine Run.wt E (tb t) 0 (4 * (tb t).val + 0) rfl (sem14 t) rfl ?_
  refine Run.wt E (tb t) 1 (4 * (tb t).val + 1) rfl (sem17 t) rfl ?_
  refine Run.wt E (tb t) 2 (4 * (tb t).val + 2) rfl (sem18 t) rfl ?_
  have R := res3 E (tb t)
  refine R.ld2 (iv_t t) ?_
  refine Run.purTo ⟨(snF E t 3), (mxF E t 0 0), (mxF E t 1 0), (mxF E t 2 0), (mxF E t 3 0), (dotsF E t 0), _⟩ rfl ?_
  refine Run.seq ?_
  unfold k0_part6
  refine R.ld0 (iv_t t) ?_
  refine R.ld0 (iv_t t) ?_
  refine Run.purTo ⟨(visF E t 0), (ksF E t 0)⟩ rfl ?_
  refine Run.seq ?_
  unfold k0_part7
  refine Run.loadAny m19 fun _ => ?_
  refine Run.store (I' := StN E t (t.val + 1) t.val 2 1 0 0 0) m19 (fun _ H => St.s19 0 H) ?_
  refine Run.loadAny m19 fun _ => ?_
  refine Run.store (I' := StN E t (t.val + 1) t.val 2 2 0 0 0) m19 (fun _ H => St.s19 1 H) ?_
  refine Run.loadAny m19 fun _ => ?_
  refine Run.store (I' := StN E t (t.val + 1) t.val 2 3 0 0 0) m19 (fun _ H => St.s19 2 H) ?_
  refine Run.loadAny m19 fun _ => ?_
  refine Run.store (I' := StN E t (t.val + 1) t.val 2 4 0 0 0) m19 (fun _ H => St.s19 3 H) ?_
  refine Run.purTo ⟨(mxF E t 0 1), (mxF E t 1 1), (mxF E t 2 1), (mxF E t 3 1)⟩ rfl ?_
  refine Run.seq ?_
  unfold k0_part8
  refine R.ld0 (iv_t t) ?_
  refine R.ld0 (iv_t t) ?_
  refine Run.purTo ⟨(visF E t 1), _, _, _⟩ rfl ?_
  refine Run.seq ?_
  unfold k0_part9
  refine Run.loadAny m19 fun _ => ?_
  refine Run.store (I' := StN E t (t.val + 1) t.val 2 5 0 0 0) m19 (fun _ H => St.s19 4 H) ?_
  refine Run.loadAny m19 fun _ => ?_
  refine Run.store (I' := StN E t (t.val + 1) t.val 2 6 0 0 0) m19 (fun _ H => St.s19 5 H) ?_
  refine Run.loadAny m19 fun _ => ?_
  refine Run.store (I' := StN E t (t.val + 1) t.val 2 7 0 0 0) m19 (fun _ H => St.s19 6 H) ?_
  refine Run.loadAny m19 fun _ => ?_
  refine Run.store (I' := StN E t (t.val + 1) t.val 2 8 0 0 0) m19 (fun _ H => St.s19 7 H) ?_
  refine Run.purTo ⟨(mxF E t 0 2), (mxF E t 1 2), (mxF E t 2 2), (sgF E t 7)⟩ rfl ?_
  refine Run.seq ?_
  unfold k0_part10
  refine R.ld0 (iv_t t) ?_
  refine R.ld0 (iv_t t) ?_
  refine Run.purTo ⟨(mxF E t 3 2), (visF E t 2), (posF E t 2), _, _, _⟩ rfl ?_
  refine Run.seq ?_
  unfold k0_part11
  refine Run.loadAny m19 fun _ => ?_
  refine Run.store (I' := StN E t (t.val + 1) t.val 2 9 0 0 0) m19 (fun _ H => St.s19 8 H) ?_
  refine Run.loadAny m19 fun _ => ?_
  refine Run.store (I' := StN E t (t.val + 1) t.val 2 10 0 0 0) m19 (fun _ H => St.s19 9 H) ?_
  refine Run.loadAny m19 fun _ => ?_
  refine Run.store (I' := StN E t (t.val + 1) t.val 2 11 0 0 0) m19 (fun _ H => St.s19 10 H) ?_
  refine Run.loadAny m19 fun _ => ?_
  refine Run.purTo ⟨(mxF E t 0 3), (mxF E t 1 3), (mxF E t 2 3), (sgF E t 11), _⟩ rfl ?_
  refine Run.seq ?_
  unfold k0_part12
  refine Run.store (I' := StN E t (t.val + 1) t.val 2 12 0 0 0) m19 (fun _ H => St.s19 11 H) ?_
  refine R.ld0 (iv_t t) ?_
  refine R.ld0 (iv_t t) ?_
  refine Run.purTo ⟨(mxF E t 3 3), (visF E t 3), (posF E t 3), _, _, _⟩ rfl ?_
  refine Run.seq ?_
  unfold k0_part13
  refine Run.loadAny m19 fun _ => ?_
  refine Run.store (I' := StN E t (t.val + 1) t.val 2 13 0 0 0) m19 (fun _ H => St.s19 12 H) ?_
  refine Run.loadAny m19 fun _ => ?_
  refine Run.store (I' := StN E t (t.val + 1) t.val 2 14 0 0 0) m19 (fun _ H => St.s19 13 H) ?_
  refine Run.loadAny m19 fun _ => ?_
  refine Run.store (I' := StN E t (t.val + 1) t.val 2 15 0 0 0) m19 (fun _ H => St.s19 14 H) ?_
  refine Run.loadAny m19 fun _ => ?_
  refine Run.purTo ⟨(mxF E t 0 4), (mxF E t 1 4), (mxF E t 2 4), (sgF E t 15)⟩ rfl ?_
  refine Run.seq ?_
  unfold k0_part14
  refine Run.store (I' := StN E t (t.val + 1) t.val 2 16 0 0 0) m19 (fun _ H => St.s19 15 H) ?_
  refine R.ld0 (iv_t t) ?_
  refine R.ld0 (iv_t t) ?_
  refine Run.purTo ⟨(mxF E t 3 4), (visF E t 4), (posF E t 4), _, _⟩ rfl ?_
  refine Run.seq ?_
  unfold k0_part15
  refine Run.loadAny m19 fun _ => ?_
  refine Run.store (I' := StN E t (t.val + 1) t.val 2 17 0 0 0) m19 (fun _ H => St.s19 16 H) ?_
  refine Run.loadAny m19 fun _ => ?_
  refine Run.store (I' := StN E t (t.val + 1) t.val 2 18 0 0 0) m19 (fun _ H => St.s19 17 H) ?_
  refine Run.loadAny m19 fun _ => ?_
  refine Run.store (I' := StN E t (t.val + 1) t.val 2 19 0 0 0) m19 (fun _ H => St.s19 18 H) ?_
  refine Run.loadAny m19 fun _ => ?_
  refine Run.purTo ⟨(mxF E t 0 5), (mxF E t 1 5), (mxF E t 2 5), (sgF E t 19), _⟩ rfl ?_
  refine Run.seq ?_
  unfold k0_part16
  refine Run.store (I' := StN E t (t.val + 1) t.val 2 20 0 0 0) m19 (fun _ H => St.s19 19 H) ?_
  refine R.ld0 (iv_t t) ?_
  refine R.ld0 (iv_t t) ?_
  refine Run.purTo ⟨(mxF E t 3 5), (visF E t 5), (pieceK E t 1), (posF E t 5), _, (wrapF (posF E t 5))⟩ rfl ?_
  refine Run.seq ?_
  unfold k0_part17
  refine Run.loadAny m19 fun _ => ?_
  refine Run.store (I' := StN E t (t.val + 1) t.val 2 21 0 0 0) m19 (fun _ H => St.s19 20 H) ?_
  refine Run.loadAny m19 fun _ => ?_
  refine Run.store (I' := StN E t (t.val + 1) t.val 2 22 0 0 0) m19 (fun _ H => St.s19 21 H) ?_
  refine Run.loadAny m19 fun _ => ?_
  refine Run.store (I' := StN E t (t.val + 1) t.val 2 23 0 0 0) m19 (fun _ H => St.s19 22 H) ?_
  refine Run.purTo ⟨(mxF E t 0 6), (mxF E t 1 6), (mxF E t 2 6), (sgF E t 23)⟩ rfl ?_
  refine Run.seq ?_
  unfold k0_part18
  refine Run.loadAny m19 fun _ => ?_
  refine Run.store (I' := StN E t (t.val + 1) t.val 2 24 0 0 0) m19 (fun _ H => St.s19 23 H) ?_
  refine R.ld0 (iv_t t) ?_
  refine R.ld0 (iv_t t) ?_
  refine Run.purTo ⟨(mxF E t 3 6), (visF E t 6), (pieceK E t 1), (posF E t 6), _, (wrapInF (posF E t 6))⟩ rfl ?_
  refine Run.seq ?_
  unfold k0_part19
  refine Run.loadAny m19 fun _ => ?_
  refine Run.store (I' := StN E t (t.val + 1) t.val 2 25 0 0 0) m19 (fun _ H => St.s19 24 H) ?_
  refine Run.loadAny m19 fun _ => ?_
  refine Run.store (I' := StN E t (t.val + 1) t.val 2 26 0 0 0) m19 (fun _ H => St.s19 25 H) ?_
  refine Run.loadAny m19 fun _ => ?_
  refine Run.store (I' := StN E t (t.val + 1) t.val 2 27 0 0 0) m19 (fun _ H => St.s19 26 H) ?_
  refine Run.purTo ⟨(mxF E t 0 7), (mxF E t 1 7), (mxF E t 2 7), (sgF E t 27)⟩ rfl ?_
  refine Run.seq ?_
  unfold k0_part20
  refine Run.loadAny m19 fun _ => ?_
  refine Run.store (I' := StN E t (t.val + 1) t.val 2 28 0 0 0) m19 (fun _ H => St.s19 27 H) ?_
  refine R.ld0 (iv_t t) ?_
  refine R.ld0 (iv_t t) ?_
  refine Run.purTo ⟨(mxF E t 3 7), (visF E t 7), (pieceK E t 1), (posF E t 7), _, _⟩ rfl ?_
  refine Run.seq ?_
  unfold k0_part21
  refine Run.loadAny m19 fun _ => ?_
  refine Run.store (I' := StN E t (t.val + 1) t.val 2 29 0 0 0) m19 (fun _ H => St.s19 28 H) ?_
  refine Run.loadAny m19 fun _ => ?_
  refine Run.store (I' := StN E t (t.val + 1) t.val 2 30 0 0 0) m19 (fun _ H => St.s19 29 H) ?_
  refine Run.loadAny m19 fun _ => ?_
  refine Run.store (I' := StN E t (t.val + 1) t.val 2 31 0 0 0) m19 (fun _ H => St.s19 30 H) ?_
  refine Run.purTo ⟨(mxF E t 0 8), (mxF E t 1 8), (mxF E t 2 8), (sgF E t 31)⟩ rfl ?_
  refine Run.seq ?_
  unfold k0_part22
  refine Run.loadAny m19 fun _ => ?_
  refine Run.store (I' := StN E t (t.val + 1) t.val 2 32 0 0 0) m19 (fun _ H => St.s19 31 H) ?_
  refine R.ld2 (iv_t t) ?_
  refine R.ld0 (iv_t t) ?_
  refine R.ld0 (iv_t t) ?_
  refine Run.purTo ⟨(mxF E t 3 8), (dotsF E t 1), (visF E t 8), (pieceK E t 1), (pieceK E t 2), (posF E t 8), (wrapF (posF E t 8))⟩ rfl ?_
  refine Run.seq ?_
  unfold k0_part23
  refine Run.loadAny m19 fun _ => ?_
  refine Run.store (I' := StN E t (t.val + 1) t.val 2 33 0 0 0) m19 (fun _ H => St.s19 32 H) ?_
  refine Run.loadAny m19 fun _ => ?_
  refine Run.store (I' := StN E t (t.val + 1) t.val 2 34 0 0 0) m19 (fun _ H => St.s19 33 H) ?_
  refine Run.loadAny m19 fun _ => ?_
  refine Run.purTo ⟨(ksF E t 8), (mxF E t 0 9), (mxF E t 1 9), (sgF E t 34)⟩ rfl ?_
  refine Run.seq ?_
  unfold k0_part24
  refine Run.store (I' := StN E t (t.val + 1) t.val 2 35 0 0 0) m19 (fun _ H => St.s19 34 H) ?_
  refine Run.loadAny m19 fun _ => ?_
  refine Run.store (I' := StN E t (t.val + 1) t.val 2 36 0 0 0) m19 (fun _ H => St.s19 35 H) ?_
  refine R.ld0 (iv_t t) ?_
  refine R.ld0 (iv_t t) ?_
  refine Run.purTo ⟨(mxF E t 2 9), (mxF E t 3 9), (visF E t 9), (pieceK E t 1), (pieceK E t 2), (posF E t 9), (wrapInF (posF E t 9))⟩ rfl ?_
  refine Run.seq ?_
  unfold k0_part25
  refine Run.loadAny m19 fun _ => ?_
  refine Run.store (I' := StN E t (t.val + 1) t.val 2 37 0 0 0) m19 (fun _ H => St.s19 36 H) ?_
  refine Run.loadAny m19 fun _ => ?_
  refine Run.store (I' := StN E t (t.val + 1) t.val 2 38 0 0 0) m19 (fun _ H => St.s19 37 H) ?_
  refine Run.loadAny m19 fun _ => ?_
  refine Run.purTo ⟨(ksF E t 9), (mxF E t 0 10), (mxF E t 1 10), (sgF E t 38), _⟩ rfl ?_
  refine Run.seq ?_
  unfold k0_part26
  refine Run.store (I' := StN E t (t.val + 1) t.val 2 39 0 0 0) m19 (fun _ H => St.s19 38 H) ?_
  refine Run.loadAny m19 fun _ => ?_
  refine Run.store (I' := StN E t (t.val + 1) t.val 2 40 0 0 0) m19 (fun _ H => St.s19 39 H) ?_
  refine R.ld0 (iv_t t) ?_
  refine R.ld0 (iv_t t) ?_
  refine Run.purTo ⟨(mxF E t 2 10), (mxF E t 3 10), (visF E t 10), (pieceK E t 1), (pieceK E t 2), (posF E t 10), _⟩ rfl ?_
  refine Run.seq ?_
  unfold k0_part27
  refine Run.loadAny m19 fun _ => ?_
  refine Run.store (I' := StN E t (t.val + 1) t.val 2 41 0 0 0) m19 (fun _ H => St.s19 40 H) ?_
  refine Run.loadAny m19 fun _ => ?_
  refine Run.store (I' := StN E t (t.val + 1) t.val 2 42 0 0 0) m19 (fun _ H => St.s19 41 H) ?_
  refine Run.purTo ⟨(ksF E t 10), (mxF E t 0 11), (mxF E t 1 11), (sgF E t 42)⟩ rfl ?_
  refine Run.seq ?_
  unfold k0_part28
  refine Run.loadAny m19 fun _ => ?_
  refine Run.store (I' := StN E t (t.val + 1) t.val 2 43 0 0 0) m19 (fun _ H => St.s19 42 H) ?_
  refine Run.loadAny m19 fun _ => ?_
  refine Run.store (I' := StN E t (t.val + 1) t.val 2 44 0 0 0) m19 (fun _ H => St.s19 43 H) ?_
  refine R.ld0 (iv_t t) ?_
  refine R.ld0 (iv_t t) ?_
  refine Run.purTo ⟨(mxF E t 2 11), (mxF E t 3 11), (visF E t 11), (pieceK E t 1), (pieceK E t 2), (posF E t 11), _, _, _⟩ rfl ?_
  refine Run.seq ?_
  unfold k0_part29
  refine Run.loadAny m19 fun _ => ?_
  refine Run.store (I' := StN E t (t.val + 1) t.val 2 45 0 0 0) m19 (fun _ H => St.s19 44 H) ?_
  refine Run.loadAny m19 fun _ => ?_
  refine Run.store (I' := StN E t (t.val + 1) t.val 2 46 0 0 0) m19 (fun _ H => St.s19 45 H) ?_
  refine Run.purTo ⟨(ksF E t 11), (mxF E t 0 12), (mxF E t 1 12), (sgF E t 46)⟩ rfl ?_
  refine Run.seq ?_
  unfold k0_part30
  refine Run.loadAny m19 fun _ => ?_
  refine Run.store (I' := StN E t (t.val + 1) t.val 2 47 0 0 0) m19 (fun _ H => St.s19 46 H) ?_
  refine Run.loadAny m19 fun _ => ?_
  refine Run.store (I' := StN E t (t.val + 1) t.val 2 48 0 0 0) m19 (fun _ H => St.s19 47 H) ?_
  refine R.ld0 (iv_t t) ?_
  refine R.ld0 (iv_t t) ?_
  refine Run.purTo ⟨(mxF E t 2 12), (mxF E t 3 12), (visF E t 12), (pieceK E t 1), (pieceK E t 2), (posF E t 12), _, _, _⟩ rfl ?_
  refine Run.seq ?_
  unfold k0_part31
  refine Run.loadAny m19 fun _ => ?_
  refine Run.store (I' := StN E t (t.val + 1) t.val 2 49 0 0 0) m19 (fun _ H => St.s19 48 H) ?_
  refine Run.loadAny m19 fun _ => ?_
  refine Run.store (I' := StN E t (t.val + 1) t.val 2 50 0 0 0) m19 (fun _ H => St.s19 49 H) ?_
  refine Run.purTo ⟨(ksF E t 12), (mxF E t 0 13), (mxF E t 1 13), (sgF E t 50)⟩ rfl ?_
  refine Run.seq ?_
  unfold k0_part32
  refine Run.loadAny m19 fun _ => ?_
  refine Run.store (I' := StN E t (t.val + 1) t.val 2 51 0 0 0) m19 (fun _ H => St.s19 50 H) ?_
  refine Run.loadAny m19 fun _ => ?_
  refine Run.store (I' := StN E t (t.val + 1) t.val 2 52 0 0 0) m19 (fun _ H => St.s19 51 H) ?_
  refine R.ld0 (iv_t t) ?_
  refine R.ld0 (iv_t t) ?_
  refine Run.purTo ⟨(mxF E t 2 13), (mxF E t 3 13), (visF E t 13), (pieceK E t 1), (pieceK E t 2), (posF E t 13), _, _, _⟩ rfl ?_
  refine Run.seq ?_
  unfold k0_part33
  refine Run.loadAny m19 fun _ => ?_
  refine Run.store (I' := StN E t (t.val + 1) t.val 2 53 0 0 0) m19 (fun _ H => St.s19 52 H) ?_
  refine Run.loadAny m19 fun _ => ?_
  refine Run.store (I' := StN E t (t.val + 1) t.val 2 54 0 0 0) m19 (fun _ H => St.s19 53 H) ?_
  refine Run.purTo ⟨(ksF E t 13), (mxF E t 0 14), (mxF E t 1 14), _, _⟩ rfl ?_
  refine Run.seq ?_
  unfold k0_part34
  refine Run.loadAny m19 fun _ => ?_
  refine Run.store (I' := StN E t (t.val + 1) t.val 2 55 0 0 0) m19 (fun _ H => St.s19 54 H) ?_
  refine Run.loadAny m19 fun _ => ?_
  refine Run.store (I' := StN E t (t.val + 1) t.val 2 56 0 0 0) m19 (fun _ H => St.s19 55 H) ?_
  refine R.ld0 (iv_t t) ?_
  refine R.ld0 (iv_t t) ?_
  refine Run.purTo ⟨(mxF E t 2 14), (mxF E t 3 14), (visF E t 14), (pieceK E t 1), (pieceK E t 2), (posF E t 14), _, _⟩ rfl ?_
  refine Run.seq ?_
  unfold k0_part35
  refine Run.loadAny m19 fun _ => ?_
  refine Run.store (I' := StN E t (t.val + 1) t.val 2 57 0 0 0) m19 (fun _ H => St.s19 56 H) ?_
  refine Run.loadAny m19 fun _ => ?_
  refine Run.store (I' := StN E t (t.val + 1) t.val 2 58 0 0 0) m19 (fun _ H => St.s19 57 H) ?_
  refine Run.purTo ⟨(ksF E t 14), (mxF E t 0 15), (mxF E t 1 15), _, _⟩ rfl ?_
  refine Run.seq ?_
  unfold k0_part36
  refine Run.loadAny m19 fun _ => ?_
  refine Run.store (I' := StN E t (t.val + 1) t.val 2 59 0 0 0) m19 (fun _ H => St.s19 58 H) ?_
  refine Run.loadAny m19 fun _ => ?_
  refine Run.store (I' := StN E t (t.val + 1) t.val 2 60 0 0 0) m19 (fun _ H => St.s19 59 H) ?_
  refine R.ld0 (iv_t t) ?_
  refine R.ld0 (iv_t t) ?_
  refine Run.purTo ⟨(mxF E t 2 15), (mxF E t 3 15), (visF E t 15), (pieceK E t 1), (pieceK E t 2), (posF E t 15), _, _⟩ rfl ?_
  refine Run.seq ?_
  unfold k0_part37
  refine Run.loadAny m19 fun _ => ?_
  refine Run.store (I' := StN E t (t.val + 1) t.val 2 61 0 0 0) m19 (fun _ H => St.s19 60 H) ?_
  refine Run.loadAny m19 fun _ => ?_
  refine Run.store (I' := StN E t (t.val + 1) t.val 2 62 0 0 0) m19 (fun _ H => St.s19 61 H) ?_
  refine Run.purTo ⟨(ksF E t 15), (mxF E t 0 16), (mxF E t 1 16), _⟩ rfl ?_
  refine Run.seq ?_
  unfold k0_part38
  refine Run.loadAny m19 fun _ => ?_
  refine Run.store (I' := StN E t (t.val + 1) t.val 2 63 0 0 0) m19 (fun _ H => St.s19 62 H) ?_
  refine Run.loadAny m19 fun _ => ?_
  refine Run.store (I' := StN E t (t.val + 1) t.val 2 64 0 0 0) m19 (fun _ H => St.s19 63 H) ?_
  refine R.ld2 (iv_t t) ?_
  refine R.ld0 (iv_t t) ?_
  refine Run.purTo ⟨(mxF E t 2 16), (mxF E t 3 16), (dotsF E t 2), (visF E t 16), (pieceK E t 2)⟩ rfl ?_
  refine Run.seq ?_
  unfold k0_part39
  refine R.ld0 (iv_t t) ?_
  refine Run.loadAny m19 fun _ => ?_
  refine Run.store (I' := StN E t (t.val + 1) t.val 2 65 0 0 0) m19 (fun _ H => St.s19 64 H) ?_
  refine Run.purTo ⟨(ksF E t 16), (mxF E t 0 17), (sgF E t 65)⟩ rfl ?_
  refine Run.seq ?_
  unfold k0_part40
  refine Run.loadAny m19 fun _ => ?_
  refine Run.store (I' := StN E t (t.val + 1) t.val 2 66 0 0 0) m19 (fun _ H => St.s19 65 H) ?_
  refine Run.loadAny m19 fun _ => ?_
  refine Run.store (I' := StN E t (t.val + 1) t.val 2 67 0 0 0) m19 (fun _ H => St.s19 66 H) ?_
  refine Run.loadAny m19 fun _ => ?_
  refine Run.store (I' := StN E t (t.val + 1) t.val 2 68 0 0 0) m19 (fun _ H => St.s19 67 H) ?_
  refine R.ld0 (iv_t t) ?_
  refine Run.purTo ⟨(mxF E t 1 17), (mxF E t 2 17), (mxF E t 3 17), (visF E t 17), (pieceK E t 2), _⟩ rfl ?_
  refine Run.seq ?_
  unfold k0_part41
  refine R.ld0 (iv_t t) ?_
  refine Run.loadAny m19 fun _ => ?_
  refine Run.store (I' := StN E t (t.val + 1) t.val 2 69 0 0 0) m19 (fun _ H => St.s19 68 H) ?_
  refine Run.purTo ⟨(ksF E t 17), (mxF E t 0 18), (sgF E t 69)⟩ rfl ?_
  refine Run.seq ?_
  unfold k0_part42
  refine Run.loadAny m19 fun _ => ?_
  refine Run.store (I' := StN E t (t.val + 1) t.val 2 70 0 0 0) m19 (fun _ H => St.s19 69 H) ?_
  refine Run.loadAny m19 fun _ => ?_
  refine Run.store (I' := StN E t (t.val + 1) t.val 2 71 0 0 0) m19 (fun _ H => St.s19 70 H) ?_
  refine Run.loadAny m19 fun _ => ?_
  refine Run.store (I' := StN E t (t.val + 1) t.val 2 72 0 0 0) m19 (fun _ H => St.s19 71 H) ?_
  refine R.ld0 (iv_t t) ?_
  refine Run.purTo ⟨(mxF E t 1 18), (mxF E t 2 18), (mxF E t 3 18), (visF E t 18), (pieceK E t 2), _⟩ rfl ?_
  refine Run.seq ?_
  unfold k0_part43
  refine R.ld0 (iv_t t) ?_
  refine Run.loadAny m19 fun _ => ?_
  refine Run.store (I' := StN E t (t.val + 1) t.val 2 73 0 0 0) m19 (fun _ H => St.s19 72 H) ?_
  refine Run.purTo ⟨(ksF E t 18), (mxF E t 0 19), _, _⟩ rfl ?_
  refine Run.seq ?_
  unfold k0_part44
  refine Run.loadAny m19 fun _ => ?_
  refine Run.store (I' := StN E t (t.val + 1) t.val 2 74 0 0 0) m19 (fun _ H => St.s19 73 H) ?_
  refine Run.loadAny m19 fun _ => ?_
  refine Run.store (I' := StN E t (t.val + 1) t.val 2 75 0 0 0) m19 (fun _ H => St.s19 74 H) ?_
  refine Run.loadAny m19 fun _ => ?_
  refine Run.store (I' := StN E t (t.val + 1) t.val 2 76 0 0 0) m19 (fun _ H => St.s19 75 H) ?_
  refine R.ld0 (iv_t t) ?_
  refine Run.purTo ⟨(mxF E t 1 19), (mxF E t 2 19), (mxF E t 3 19), (visF E t 19), (pieceK E t 2), _⟩ rfl ?_
  refine Run.seq ?_
  unfold k0_part45
  refine R.ld0 (iv_t t) ?_
  refine Run.loadAny m19 fun _ => ?_
  refine Run.store (I' := StN E t (t.val + 1) t.val 2 77 0 0 0) m19 (fun _ H => St.s19 76 H) ?_
  refine Run.purTo ⟨(ksF E t 19), (mxF E t 0 20), _, _⟩ rfl ?_
  refine Run.seq ?_
  unfold k0_part46
  refine Run.loadAny m19 fun _ => ?_
  refine Run.store (I' := StN E t (t.val + 1) t.val 2 78 0 0 0) m19 (fun _ H => St.s19 77 H) ?_
  refine Run.loadAny m19 fun _ => ?_
  refine Run.store (I' := StN E t (t.val + 1) t.val 2 79 0 0 0) m19 (fun _ H => St.s19 78 H) ?_
  refine Run.loadAny m19 fun _ => ?_
  refine Run.store (I' := StN E t (t.val + 1) t.val 2 80 0 0 0) m19 (fun _ H => St.s19 79 H) ?_
  refine R.ld0 (iv_t t) ?_
  refine Run.purTo ⟨(mxF E t 1 20), (mxF E t 2 20), (mxF E t 3 20), (visF E t 20), (pieceK E t 2), _⟩ rfl ?_
  refine Run.seq ?_
  unfold k0_part47
  refine R.ld0 (iv_t t) ?_
  refine Run.loadAny m19 fun _ => ?_
  refine Run.store (I' := StN E t (t.val + 1) t.val 2 81 0 0 0) m19 (fun _ H => St.s19 80 H) ?_
  refine Run.purTo ⟨(ksF E t 20), (mxF E t 0 21), _⟩ rfl ?_
  refine Run.seq ?_
  unfold k0_part48
  refine Run.loadAny m19 fun _ => ?_
  refine Run.store (I' := StN E t (t.val + 1) t.val 2 82 0 0 0) m19 (fun _ H => St.s19 81 H) ?_
  refine Run.loadAny m19 fun _ => ?_
  refine Run.store (I' := StN E t (t.val + 1) t.val 2 83 0 0 0) m19 (fun _ H => St.s19 82 H) ?_
  refine Run.loadAny m19 fun _ => ?_
  refine Run.store (I' := StN E t (t.val + 1) t.val 2 84 0 0 0) m19 (fun _ H => St.s19 83 H) ?_
  refine R.ld0 (iv_t t) ?_
  refine Run.purTo ⟨(mxF E t 1 21), (mxF E t 2 21), (mxF E t 3 21), (visF E t 21), (pieceK E t 2)⟩ rfl ?_
  refine Run.seq ?_
  unfold k0_part49
  refine R.ld0 (iv_t t) ?_
  refine Run.loadAny m19 fun _ => ?_
  refine Run.store (I' := StN E t (t.val + 1) t.val 2 85 0 0 0) m19 (fun _ H => St.s19 84 H) ?_
  refine Run.purTo ⟨(ksF E t 21), (mxF E t 0 22), _, _⟩ rfl ?_
  refine Run.seq ?_
  unfold k0_part50
  refine Run.loadAny m19 fun _ => ?_
  refine Run.store (I' := StN E t (t.val + 1) t.val 2 86 0 0 0) m19 (fun _ H => St.s19 85 H) ?_
  refine Run.loadAny m19 fun _ => ?_
  refine Run.store (I' := StN E t (t.val + 1) t.val 2 87 0 0 0) m19 (fun _ H => St.s19 86 H) ?_
  refine Run.loadAny m19 fun _ => ?_
  refine Run.store (I' := StN E t (t.val + 1) t.val 2 88 0 0 0) m19 (fun _ H => St.s19 87 H) ?_
  refine R.ld0 (iv_t t) ?_
  refine Run.purTo ⟨(mxF E t 1 22), (mxF E t 2 22), (mxF E t 3 22), (visF E t 22), _⟩ rfl ?_
  refine Run.seq ?_
  unfold k0_part51
  refine R.ld0 (iv_t t) ?_
  refine Run.loadAny m19 fun _ => ?_
  refine Run.store (I' := StN E t (t.val + 1) t.val 2 89 0 0 0) m19 (fun _ H => St.s19 88 H) ?_
  refine Run.purTo ⟨(ksF E t 22), (mxF E t 0 23), _, _⟩ rfl ?_
  refine Run.seq ?_
  unfold k0_part52
  refine Run.loadAny m19 fun _ => ?_
  refine Run.store (I' := StN E t (t.val + 1) t.val 2 90 0 0 0) m19 (fun _ H => St.s19 89 H) ?_
  refine Run.loadAny m19 fun _ => ?_
  refine Run.store (I' := StN E t (t.val + 1) t.val 2 91 0 0 0) m19 (fun _ H => St.s19 90 H) ?_
  refine Run.loadAny m19 fun _ => ?_
  refine Run.store (I' := StN E t (t.val + 1) t.val 2 92 0 0 0) m19 (fun _ H => St.s19 91 H) ?_
  refine Run.purTo ⟨(mxF E t 1 23), (mxF E t 2 23), (mxF E t 3 23), (visF E t 23)⟩ rfl ?_
  refine Run.seq ?_
  unfold k0_part53
  refine R.ld0 (iv_t t) ?_
  refine R.ld0 (iv_t t) ?_
  refine Run.loadAny m19 fun _ => ?_
  refine Run.store (I' := StN E t (t.val + 1) t.val 2 93 0 0 0) m19 (fun _ H => St.s19 92 H) ?_
  refine Run.purTo ⟨(ksF E t 23), (mxF E t 0 24), _⟩ rfl ?_
  refine Run.seq ?_
  unfold k0_part54
  refine Run.loadAny m19 fun _ => ?_
  refine Run.store (I' := StN E t (t.val + 1) t.val 2 94 0 0 0) m19 (fun _ H => St.s19 93 H) ?_
  refine Run.loadAny m19 fun _ => ?_
  refine Run.store (I' := StN E t (t.val + 1) t.val 2 95 0 0 0) m19 (fun _ H => St.s19 94 H) ?_
  refine Run.loadAny m19 fun _ => ?_
  refine Run.store (I' := StN E t (t.val + 1) t.val 2 96 0 0 0) m19 (fun _ H => St.s19 95 H) ?_
  refine R.ld2 (iv_t t) ?_
  refine Run.purTo ⟨(mxF E t 1 24), (mxF E t 2 24), (mxF E t 3 24), (dotsF E t 3), (tokF E t 24), _⟩ rfl ?_
  refine Run.seq ?_
  unfold k0_part55
  refine R.ld0 (iv_t t) ?_
  refine R.ld0 (iv_t t) ?_
  refine Run.purTo ⟨(visF E t 24), (ksF E t 24), _, _⟩ rfl ?_
  refine Run.seq ?_
  unfold k0_part56
  refine Run.loadAny m19 fun _ => ?_
  refine Run.store (I' := StN E t (t.val + 1) t.val 2 97 0 0 0) m19 (fun _ H => St.s19 96 H) ?_
  refine Run.loadAny m19 fun _ => ?_
  refine Run.store (I' := StN E t (t.val + 1) t.val 2 98 0 0 0) m19 (fun _ H => St.s19 97 H) ?_
  refine Run.loadAny m19 fun _ => ?_
  refine Run.store (I' := StN E t (t.val + 1) t.val 2 99 0 0 0) m19 (fun _ H => St.s19 98 H) ?_
  refine Run.loadAny m19 fun _ => ?_
  refine Run.store (I' := StN E t (t.val + 1) t.val 2 100 0 0 0) m19 (fun _ H => St.s19 99 H) ?_
  refine Run.purTo ⟨(mxF E t 0 25), (mxF E t 1 25), (mxF E t 2 25), (mxF E t 3 25), (tokF E t 25), _⟩ rfl ?_
  refine Run.seq ?_
  unfold k0_part57
  refine R.ld0 (iv_t t) ?_
  refine R.ld0 (iv_t t) ?_
  refine Run.purTo ⟨(visF E t 25), (ksF E t 25), _⟩ rfl ?_
  refine Run.seq ?_
  unfold k0_part58
  refine Run.loadAny m19 fun _ => ?_
  refine Run.store (I' := StN E t (t.val + 1) t.val 2 101 0 0 0) m19 (fun _ H => St.s19 100 H) ?_
  refine Run.loadAny m19 fun _ => ?_
  refine Run.store (I' := StN E t (t.val + 1) t.val 2 102 0 0 0) m19 (fun _ H => St.s19 101 H) ?_
  refine Run.loadAny m19 fun _ => ?_
  refine Run.store (I' := StN E t (t.val + 1) t.val 2 103 0 0 0) m19 (fun _ H => St.s19 102 H) ?_
  refine Run.loadAny m19 fun _ => ?_
  refine Run.store (I' := StN E t (t.val + 1) t.val 2 104 0 0 0) m19 (fun _ H => St.s19 103 H) ?_
  refine Run.purTo ⟨(mxF E t 0 26), (mxF E t 1 26), (mxF E t 2 26), (mxF E t 3 26), (tokF E t 26), _⟩ rfl ?_
  refine Run.seq ?_
  unfold k0_part59
  refine R.ld0 (iv_t t) ?_
  refine R.ld0 (iv_t t) ?_
  refine Run.purTo ⟨(visF E t 26), (ksF E t 26), _, _⟩ rfl ?_
  refine Run.seq ?_
  unfold k0_part60
  refine Run.loadAny m19 fun _ => ?_
  refine Run.store (I' := StN E t (t.val + 1) t.val 2 105 0 0 0) m19 (fun _ H => St.s19 104 H) ?_
  refine Run.loadAny m19 fun _ => ?_
  refine Run.store (I' := StN E t (t.val + 1) t.val 2 106 0 0 0) m19 (fun _ H => St.s19 105 H) ?_
  refine Run.loadAny m19 fun _ => ?_
  refine Run.store (I' := StN E t (t.val + 1) t.val 2 107 0 0 0) m19 (fun _ H => St.s19 106 H) ?_
  refine Run.loadAny m19 fun _ => ?_
  refine Run.store (I' := StN E t (t.val + 1) t.val 2 108 0 0 0) m19 (fun _ H => St.s19 107 H) ?_
  refine Run.purTo ⟨(mxF E t 0 27), (mxF E t 1 27), (mxF E t 2 27), (mxF E t 3 27), (tokF E t 27)⟩ rfl ?_
  refine Run.pur ?_
  exact h

end Cert.KernelIdeal.Hand

end
-- ==== Proof.KI.F253.lean ====
/-
  The second quarter of a trip, stepped through.
-/
module

public import proofs.«01_k».proof.Proof.KI.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 40000000 in
/-- From what the invariant says at its start to what it says at its end, with the values it hands on. -/
theorem f253 (E : Env F c) (t : Fin k0_t1_loop.trips) {β : Type} {k : _ → Prog (TpuEff nD τ sig (Elt F) Λ₀ .tc) β} {Q : β → sProp 𝕄} :
    Run c (XP E (lp (4 * (tb t).val + 3))) (StN E t (t.val + 1) t.val 2 224 0 0 0) (k ⟨(mxF E t 0 56), (mxF E t 1 56), (mxF E t 2 56), (mxF E t 3 56), (dotsF E t 7), (visF E t 56), (pieceK E t 8), (posF E t 56), (dynamicGather 1 (pieceK E t 7) (wrapF (posF E t 56))), (wrapInF (posF E t 56))⟩) Q →
    Run c (XP E (lp (4 * (tb t).val + 3))) (StN E t (t.val + 1) t.val 2 108 0 0 0) (k0_part253 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 ownF ltokF t (Scf.iv 0#32 1#32 t) (wd E (tb t)) (stF E t) (offF E t) (qF E t) (dotsF E t 3) (mxF E t 0 27) (mxF E t 1 27) (mxF E t 2 27) (mxF E t 3 27) (tokF E t 27) >>= k) Q := by
  intro h
  have R := res3 E (tb t)
  refine Run.seq ?_
  unfold k0_part253
  refine Run.seq ?_
  unfold k0_part61
  refine R.ld0 (iv_t t) ?_
  refine R.ld0 (iv_t t) ?_
  refine Run.purTo ⟨(visF E t 27), (ksF E t 27), _, _⟩ rfl ?_
  refine Run.seq ?_
  unfold k0_part62
  refine Run.loadAny m19 fun _ => ?_
  refine Run.store (I' := StN E t (t.val + 1) t.val 2 109 0 0 0) m19 (fun _ H => St.s19 108 H) ?_
  refine Run.loadAny m19 fun _ => ?_
  refine Run.store (I' := StN E t (t.val + 1) t.val 2 110 0 0 0) m19 (fun _ H => St.s19 109 H) ?_
  refine Run.loadAny m19 fun _ => ?_
  refine Run.store (I' := StN E t (t.val + 1) t.val 2 111 0 0 0) m19 (fun _ H => St.s19 110 H) ?_
  refine Run.loadAny m19 fun _ => ?_
  refine Run.store (I' := StN E t (t.val + 1) t.val 2 112 0 0 0) m19 (fun _ H => St.s19 111 H) ?_
  refine Run.purTo ⟨(mxF E t 0 28), (mxF E t 1 28), (mxF E t 2 28), (mxF E t 3 28), _⟩ rfl ?_
  refine Run.seq ?_
  unfold k0_part63
  refine R.ld0 (iv_t t) ?_
  refine R.ld0 (iv_t t) ?_
  refine Run.purTo ⟨(visF E t 28), (ksF E t 28), _⟩ rfl ?_
  refine Run.seq ?_
  unfold k0_part64
  refine Run.loadAny m19 fun _ => ?_
  refine Run.store (I' := StN E t (t.val + 1) t.val 2 113 0 0 0) m19 (fun _ H => St.s19 112 H) ?_
  refine Run.loadAny m19 fun _ => ?_
  refine Run.store (I' := StN E t (t.val + 1) t.val 2 114 0 0 0) m19 (fun _ H => St.s19 113 H) ?_
  refine Run.loadAny m19 fun _ => ?_
  refine Run.store (I' := StN E t (t.val + 1) t.val 2 115 0 0 0) m19 (fun _ H => St.s19 114 H) ?_
  refine Run.loadAny m19 fun _ => ?_
  refine Run.store (I' := StN E t (t.val + 1) t.val 2 116 0 0 0) m19 (fun _ H => St.s19 115 H) ?_
  refine Run.purTo ⟨(mxF E t 0 29), (mxF E t 1 29), (mxF E t 2 29), (mxF E t 3 29), _⟩ rfl ?_
  refine Run.seq ?_
  unfold k0_part65
  refine R.ld0 (iv_t t) ?_
  refine R.ld0 (iv_t t) ?_
  refine Run.purTo ⟨(visF E t 29), (ksF E t 29), _⟩ rfl ?_
  refine Run.seq ?_
  unfold k0_part66
  refine Run.loadAny m19 fun _ => ?_
  refine Run.store (I' := StN E t (t.val + 1) t.val 2 117 0 0 0) m19 (fun _ H => St.s19 116 H) ?_
  refine Run.loadAny m19 fun _ => ?_
  refine Run.store (I' := StN E t (t.val + 1) t.val 2 118 0 0 0) m19 (fun _ H => St.s19 117 H) ?_
  refine Run.loadAny m19 fun _ => ?_
  refine Run.store (I' := StN E t (t.val + 1) t.val 2 119 0 0 0) m19 (fun _ H => St.s19 118 H) ?_
  refine Run.loadAny m19 fun _ => ?_
  refine Run.store (I' := StN E t (t.val + 1) t.val 2 120 0 0 0) m19 (fun _ H => St.s19 119 H) ?_
  refine Run.purTo ⟨(mxF E t 0 30), (mxF E t 1 30), (mxF E t 2 30), (mxF E t 3 30), _⟩ rfl ?_
  refine Run.seq ?_
  unfold k0_part67
  refine R.ld0 (iv_t t) ?_
  refine R.ld0 (iv_t t) ?_
  refine Run.purTo ⟨(visF E t 30), (ksF E t 30)⟩ rfl ?_
  refine Run.seq ?_
  unfold k0_part68
  refine Run.loadAny m19 fun _ => ?_
  refine Run.store (I' := StN E t (t.val + 1) t.val 2 121 0 0 0) m19 (fun _ H => St.s19 120 H) ?_
  refine Run.loadAny m19 fun _ => ?_
  refine Run.store (I' := StN E t (t.val + 1) t.val 2 122 0 0 0) m19 (fun _ H => St.s19 121 H) ?_
  refine Run.loadAny m19 fun _ => ?_
  refine Run.store (I' := StN E t (t.val + 1) t.val 2 123 0 0 0) m19 (fun _ H => St.s19 122 H) ?_
  refine Run.loadAny m19 fun _ => ?_
  refine Run.store (I' := StN E t (t.val + 1) t.val 2 124 0 0 0) m19 (fun _ H => St.s19 123 H) ?_
  refine Run.purTo ⟨(mxF E t 0 31), (mxF E t 1 31), (mxF E t 2 31), (mxF E t 3 31)⟩ rfl ?_
  refine Run.seq ?_
  unfold k0_part69
  refine R.ld0 (iv_t t) ?_
  refine R.ld0 (iv_t t) ?_
  refine Run.purTo ⟨(visF E t 31), _, _, _⟩ rfl ?_
  refine Run.seq ?_
  unfold k0_part70
  refine Run.loadAny m19 fun _ => ?_
  refine Run.store (I' := StN E t (t.val + 1) t.val 2 125 0 0 0) m19 (fun _ H => St.s19 124 H) ?_
  refine Run.loadAny m19 fun _ => ?_
  refine Run.store (I' := StN E t (t.val + 1) t.val 2 126 0 0 0) m19 (fun _ H => St.s19 125 H) ?_
  refine Run.loadAny m19 fun _ => ?_
  refine Run.store (I' := StN E t (t.val + 1) t.val 2 127 0 0 0) m19 (fun _ H => St.s19 126 H) ?_
  refine Run.loadAny m19 fun _ => ?_
  refine Run.store (I' := StN E t (t.val + 1) t.val 2 128 0 0 0) m19 (fun _ H => St.s19 127 H) ?_
  refine Run.purTo ⟨(mxF E t 0 32), (mxF E t 1 32), (mxF E t 2 32), (sgF E t 127)⟩ rfl ?_
  refine Run.seq ?_
  unfold k0_part71
  refine R.ld2 (iv_t t) ?_
  refine R.ld0 (iv_t t) ?_
  refine R.ld0 (iv_t t) ?_
  refine Run.purTo ⟨(mxF E t 3 32), (dotsF E t 4), (visF E t 32), (pieceK E t 5), (posF E t 32), _, _, _⟩ rfl ?_
  refine Run.seq ?_
  unfold k0_part72
  refine Run.loadAny m19 fun _ => ?_
  refine Run.store (I' := StN E t (t.val + 1) t.val 2 129 0 0 0) m19 (fun _ H => St.s19 128 H) ?_
  refine Run.loadAny m19 fun _ => ?_
  refine Run.store (I' := StN E t (t.val + 1) t.val 2 130 0 0 0) m19 (fun _ H => St.s19 129 H) ?_
  refine Run.loadAny m19 fun _ => ?_
  refine Run.store (I' := StN E t (t.val + 1) t.val 2 131 0 0 0) m19 (fun _ H => St.s19 130 H) ?_
  refine Run.purTo ⟨(mxF E t 0 33), (mxF E t 1 33), (mxF E t 2 33), _, _⟩ rfl ?_
  refine Run.seq ?_
  unfold k0_part73
  refine Run.loadAny m19 fun _ => ?_
  refine Run.store (I' := StN E t (t.val + 1) t.val 2 132 0 0 0) m19 (fun _ H => St.s19 131 H) ?_
  refine R.ld0 (iv_t t) ?_
  refine R.ld0 (iv_t t) ?_
  refine Run.purTo ⟨(mxF E t 3 33), (visF E t 33), (pieceK E t 5), (posF E t 33), _, _, _⟩ rfl ?_
  refine Run.seq ?_
  unfold k0_part74
  refine Run.loadAny m19 fun _ => ?_
  refine Run.store (I' := StN E t (t.val + 1) t.val 2 133 0 0 0) m19 (fun _ H => St.s19 132 H) ?_
  refine Run.loadAny m19 fun _ => ?_
  refine Run.store (I' := StN E t (t.val + 1) t.val 2 134 0 0 0) m19 (fun _ H => St.s19 133 H) ?_
  refine Run.loadAny m19 fun _ => ?_
  refine Run.store (I' := StN E t (t.val + 1) t.val 2 135 0 0 0) m19 (fun _ H => St.s19 134 H) ?_
  refine Run.purTo ⟨(mxF E t 0 34), (mxF E t 1 34), (mxF E t 2 34), _⟩ rfl ?_
  refine Run.seq ?_
  unfold k0_part75
  refine Run.loadAny m19 fun _ => ?_
  refine Run.store (I' := StN E t (t.val + 1) t.val 2 136 0 0 0) m19 (fun _ H => St.s19 135 H) ?_
  refine R.ld0 (iv_t t) ?_
  refine R.ld0 (iv_t t) ?_
  refine Run.purTo ⟨(mxF E t 3 34), (visF E t 34), (pieceK E t 5), (posF E t 34), _, _⟩ rfl ?_
  refine Run.seq ?_
  unfold k0_part76
  refine Run.loadAny m19 fun _ => ?_
  refine Run.store (I' := StN E t (t.val + 1) t.val 2 137 0 0 0) m19 (fun _ H => St.s19 136 H) ?_
  refine Run.loadAny m19 fun _ => ?_
  refine Run.store (I' := StN E t (t.val + 1) t.val 2 138 0 0 0) m19 (fun _ H => St.s19 137 H) ?_
  refine Run.loadAny m19 fun _ => ?_
  refine Run.store (I' := StN E t (t.val + 1) t.val 2 139 0 0 0) m19 (fun _ H => St.s19 138 H) ?_
  refine Run.purTo ⟨(ksF E t 34), (mxF E t 0 35), (mxF E t 1 35), (mxF E t 2 35), _⟩ rfl ?_
  refine Run.seq ?_
  unfold k0_part77
  refine Run.loadAny m19 fun _ => ?_
  refine Run.store (I' := StN E t (t.val + 1) t.val 2 140 0 0 0) m19 (fun _ H => St.s19 139 H) ?_
  refine R.ld0 (iv_t t) ?_
  refine R.ld0 (iv_t t) ?_
  refine Run.purTo ⟨(mxF E t 3 35), (visF E t 35), (pieceK E t 5), (posF E t 35), _, _⟩ rfl ?_
  refine Run.seq ?_
  unfold k0_part78
  refine Run.loadAny m19 fun _ => ?_
  refine Run.store (I' := StN E t (t.val + 1) t.val 2 141 0 0 0) m19 (fun _ H => St.s19 140 H) ?_
  refine Run.loadAny m19 fun _ => ?_
  refine Run.store (I' := StN E t (t.val + 1) t.val 2 142 0 0 0) m19 (fun _ H => St.s19 141 H) ?_
  refine Run.loadAny m19 fun _ => ?_
  refine Run.store (I' := StN E t (t.val + 1) t.val 2 143 0 0 0) m19 (fun _ H => St.s19 142 H) ?_
  refine Run.purTo ⟨(ksF E t 35), (mxF E t 0 36), (mxF E t 1 36), (mxF E t 2 36)⟩ rfl ?_
  refine Run.seq ?_
  unfold k0_part79
  refine Run.loadAny m19 fun _ => ?_
  refine Run.store (I' := StN E t (t.val + 1) t.val 2 144 0 0 0) m19 (fun _ H => St.s19 143 H) ?_
  refine R.ld0 (iv_t t) ?_
  refine R.ld0 (iv_t t) ?_
  refine Run.purTo ⟨(mxF E t 3 36), (visF E t 36), (pieceK E t 5), (posF E t 36), _, _⟩ rfl ?_
  refine Run.seq ?_
  unfold k0_part80
  refine Run.loadAny m19 fun _ => ?_
  refine Run.store (I' := StN E t (t.val + 1) t.val 2 145 0 0 0) m19 (fun _ H => St.s19 144 H) ?_
  refine Run.loadAny m19 fun _ => ?_
  refine Run.store (I' := StN E t (t.val + 1) t.val 2 146 0 0 0) m19 (fun _ H => St.s19 145 H) ?_
  refine Run.loadAny m19 fun _ => ?_
  refine Run.store (I' := StN E t (t.val + 1) t.val 2 147 0 0 0) m19 (fun _ H => St.s19 146 H) ?_
  refine Run.purTo ⟨(ksF E t 36), (mxF E t 0 37), (mxF E t 1 37), (sgF E t 146)⟩ rfl ?_
  refine Run.seq ?_
  unfold k0_part81
  refine Run.loadAny m19 fun _ => ?_
  refine Run.store (I' := StN E t (t.val + 1) t.val 2 148 0 0 0) m19 (fun _ H => St.s19 147 H) ?_
  refine R.ld0 (iv_t t) ?_
  refine R.ld0 (iv_t t) ?_
  refine Run.purTo ⟨(mxF E t 2 37), (mxF E t 3 37), (visF E t 37), (pieceK E t 5), (posF E t 37), _⟩ rfl ?_
  refine Run.seq ?_
  unfold k0_part82
  refine Run.loadAny m19 fun _ => ?_
  refine Run.store (I' := StN E t (t.val + 1) t.val 2 149 0 0 0) m19 (fun _ H => St.s19 148 H) ?_
  refine Run.loadAny m19 fun _ => ?_
  refine Run.store (I' := StN E t (t.val + 1) t.val 2 150 0 0 0) m19 (fun _ H => St.s19 149 H) ?_
  refine Run.loadAny m19 fun _ => ?_
  refine Run.purTo ⟨(ksF E t 37), (mxF E t 0 38), (mxF E t 1 38), (sgF E t 150), _⟩ rfl ?_
  refine Run.seq ?_
  unfold k0_part83
  refine Run.store (I' := StN E t (t.val + 1) t.val 2 151 0 0 0) m19 (fun _ H => St.s19 150 H) ?_
  refine Run.loadAny m19 fun _ => ?_
  refine Run.store (I' := StN E t (t.val + 1) t.val 2 152 0 0 0) m19 (fun _ H => St.s19 151 H) ?_
  refine R.ld0 (iv_t t) ?_
  refine R.ld0 (iv_t t) ?_
  refine Run.purTo ⟨(mxF E t 2 38), (mxF E t 3 38), (visF E t 38), (pieceK E t 4), (pieceK E t 5), (posF E t 38), (wrapF (posF E t 38))⟩ rfl ?_
  refine Run.seq ?_
  unfold k0_part84
  refine Run.loadAny m19 fun _ => ?_
  refine Run.store (I' := StN E t (t.val + 1) t.val 2 153 0 0 0) m19 (fun _ H => St.s19 152 H) ?_
  refine Run.loadAny m19 fun _ => ?_
  refine Run.store (I' := StN E t (t.val + 1) t.val 2 154 0 0 0) m19 (fun _ H => St.s19 153 H) ?_
  refine Run.loadAny m19 fun _ => ?_
  refine Run.purTo ⟨(ksF E t 38), (mxF E t 0 39), (mxF E t 1 39), (sgF E t 154)⟩ rfl ?_
  refine Run.seq ?_
  unfold k0_part85
  refine Run.store (I' := StN E t (t.val + 1) t.val 2 155 0 0 0) m19 (fun _ H => St.s19 154 H) ?_
  refine Run.loadAny m19 fun _ => ?_
  refine Run.store (I' := StN E t (t.val + 1) t.val 2 156 0 0 0) m19 (fun _ H => St.s19 155 H) ?_
  refine R.ld0 (iv_t t) ?_
  refine R.ld0 (iv_t t) ?_
  refine Run.purTo ⟨(mxF E t 2 39), (mxF E t 3 39), (visF E t 39), (pieceK E t 4), (pieceK E t 5), (posF E t 39), (wrapInF (posF E t 39))⟩ rfl ?_
  refine Run.seq ?_
  unfold k0_part86
  refine Run.loadAny m19 fun _ => ?_
  refine Run.store (I' := StN E t (t.val + 1) t.val 2 157 0 0 0) m19 (fun _ H => St.s19 156 H) ?_
  refine Run.loadAny m19 fun _ => ?_
  refine Run.store (I' := StN E t (t.val + 1) t.val 2 158 0 0 0) m19 (fun _ H => St.s19 157 H) ?_
  refine Run.loadAny m19 fun _ => ?_
  refine Run.purTo ⟨(ksF E t 39), (mxF E t 0 40), (mxF E t 1 40), (sgF E t 158), _⟩ rfl ?_
  refine Run.seq ?_
  unfold k0_part87
  refine Run.store (I' := StN E t (t.val + 1) t.val 2 159 0 0 0) m19 (fun _ H => St.s19 158 H) ?_
  refine Run.loadAny m19 fun _ => ?_
  refine Run.store (I' := StN E t (t.val + 1) t.val 2 160 0 0 0) m19 (fun _ H => St.s19 159 H) ?_
  refine R.ld2 (iv_t t) ?_
  refine R.ld0 (iv_t t) ?_
  refine R.ld0 (iv_t t) ?_
  refine Run.purTo ⟨(mxF E t 2 40), (mxF E t 3 40), (dotsF E t 5), (visF E t 40), (pieceK E t 5), (pieceK E t 6), (posF E t 40)⟩ rfl ?_
  refine Run.seq ?_
  unfold k0_part88
  refine Run.loadAny m19 fun _ => ?_
  refine Run.store (I' := StN E t (t.val + 1) t.val 2 161 0 0 0) m19 (fun _ H => St.s19 160 H) ?_
  refine Run.loadAny m19 fun _ => ?_
  refine Run.store (I' := StN E t (t.val + 1) t.val 2 162 0 0 0) m19 (fun _ H => St.s19 161 H) ?_
  refine Run.purTo ⟨(ksF E t 40), (mxF E t 0 41), (mxF E t 1 41)⟩ rfl ?_
  refine Run.seq ?_
  unfold k0_part89
  refine Run.loadAny m19 fun _ => ?_
  refine Run.store (I' := StN E t (t.val + 1) t.val 2 163 0 0 0) m19 (fun _ H => St.s19 162 H) ?_
  refine Run.loadAny m19 fun _ => ?_
  refine Run.store (I' := StN E t (t.val + 1) t.val 2 164 0 0 0) m19 (fun _ H => St.s19 163 H) ?_
  refine R.ld0 (iv_t t) ?_
  refine R.ld0 (iv_t t) ?_
  refine Run.purTo ⟨(mxF E t 2 41), (mxF E t 3 41), (visF E t 41), (pieceK E t 5), (pieceK E t 6), _⟩ rfl ?_
  refine Run.seq ?_
  unfold k0_part90
  refine Run.loadAny m19 fun _ => ?_
  refine Run.store (I' := StN E t (t.val + 1) t.val 2 165 0 0 0) m19 (fun _ H => St.s19 164 H) ?_
  refine Run.loadAny m19 fun _ => ?_
  refine Run.store (I' := StN E t (t.val + 1) t.val 2 166 0 0 0) m19 (fun _ H => St.s19 165 H) ?_
  refine Run.purTo ⟨(ksF E t 41), (mxF E t 0 42), (sgF E t 165)⟩ rfl ?_
  refine Run.seq ?_
  unfold k0_part91
  refine Run.loadAny m19 fun _ => ?_
  refine Run.store (I' := StN E t (t.val + 1) t.val 2 167 0 0 0) m19 (fun _ H => St.s19 166 H) ?_
  refine Run.loadAny m19 fun _ => ?_
  refine Run.store (I' := StN E t (t.val + 1) t.val 2 168 0 0 0) m19 (fun _ H => St.s19 167 H) ?_
  refine R.ld0 (iv_t t) ?_
  refine R.ld0 (iv_t t) ?_
  refine Run.purTo ⟨(mxF E t 1 42), (mxF E t 2 42), (mxF E t 3 42), (visF E t 42), (pieceK E t 5), (pieceK E t 6), _⟩ rfl ?_
  refine Run.seq ?_
  unfold k0_part92
  refine Run.loadAny m19 fun _ => ?_
  refine Run.store (I' := StN E t (t.val + 1) t.val 2 169 0 0 0) m19 (fun _ H => St.s19 168 H) ?_
  refine Run.loadAny m19 fun _ => ?_
  refine Run.purTo ⟨(ksF E t 42), (mxF E t 0 43), (sgF E t 169), _⟩ rfl ?_
  refine Run.seq ?_
  unfold k0_part93
  refine Run.store (I' := StN E t (t.val + 1) t.val 2 170 0 0 0) m19 (fun _ H => St.s19 169 H) ?_
  refine Run.loadAny m19 fun _ => ?_
  refine Run.store (I' := StN E t (t.val + 1) t.val 2 171 0 0 0) m19 (fun _ H => St.s19 170 H) ?_
  refine Run.loadAny m19 fun _ => ?_
  refine Run.store (I' := StN E t (t.val + 1) t.val 2 172 0 0 0) m19 (fun _ H => St.s19 171 H) ?_
  refine R.ld0 (iv_t t) ?_
  refine R.ld0 (iv_t t) ?_
  refine Run.purTo ⟨(mxF E t 1 43), (mxF E t 2 43), (mxF E t 3 43), (visF E t 43), (pieceK E t 5), (pieceK E t 6), _⟩ rfl ?_
  refine Run.seq ?_
  unfold k0_part94
  refine Run.loadAny m19 fun _ => ?_
  refine Run.store (I' := StN E t (t.val + 1) t.val 2 173 0 0 0) m19 (fun _ H => St.s19 172 H) ?_
  refine Run.loadAny m19 fun _ => ?_
  refine Run.purTo ⟨(ksF E t 43), (mxF E t 0 44), (sgF E t 173)⟩ rfl ?_
  refine Run.seq ?_
  unfold k0_part95
  refine Run.store (I' := StN E t (t.val + 1) t.val 2 174 0 0 0) m19 (fun _ H => St.s19 173 H) ?_
  refine Run.loadAny m19 fun _ => ?_
  refine Run.store (I' := StN E t (t.val + 1) t.val 2 175 0 0 0) m19 (fun _ H => St.s19 174 H) ?_
  refine Run.loadAny m19 fun _ => ?_
  refine Run.store (I' := StN E t (t.val + 1) t.val 2 176 0 0 0) m19 (fun _ H => St.s19 175 H) ?_
  refine R.ld0 (iv_t t) ?_
  refine R.ld0 (iv_t t) ?_
  refine Run.purTo ⟨(mxF E t 1 44), (mxF E t 2 44), (mxF E t 3 44), (visF E t 44), (pieceK E t 5), (pieceK E t 6)⟩ rfl ?_
  refine Run.seq ?_
  unfold k0_part96
  refine Run.loadAny m19 fun _ => ?_
  refine Run.store (I' := StN E t (t.val + 1) t.val 2 177 0 0 0) m19 (fun _ H => St.s19 176 H) ?_
  refine Run.loadAny m19 fun _ => ?_
  refine Run.purTo ⟨(ksF E t 44), (mxF E t 0 45), (sgF E t 177), _⟩ rfl ?_
  refine Run.seq ?_
  unfold k0_part97
  refine Run.store (I' := StN E t (t.val + 1) t.val 2 178 0 0 0) m19 (fun _ H => St.s19 177 H) ?_
  refine Run.loadAny m19 fun _ => ?_
  refine Run.store (I' := StN E t (t.val + 1) t.val 2 179 0 0 0) m19 (fun _ H => St.s19 178 H) ?_
  refine Run.loadAny m19 fun _ => ?_
  refine Run.store (I' := StN E t (t.val + 1) t.val 2 180 0 0 0) m19 (fun _ H => St.s19 179 H) ?_
  refine R.ld0 (iv_t t) ?_
  refine R.ld0 (iv_t t) ?_
  refine Run.purTo ⟨(mxF E t 1 45), (mxF E t 2 45), (mxF E t 3 45), (visF E t 45), (pieceK E t 5), _⟩ rfl ?_
  refine Run.seq ?_
  unfold k0_part98
  refine Run.loadAny m19 fun _ => ?_
  refine Run.store (I' := StN E t (t.val + 1) t.val 2 181 0 0 0) m19 (fun _ H => St.s19 180 H) ?_
  refine Run.purTo ⟨(ksF E t 45), (mxF E t 0 46), (sgF E t 181)⟩ rfl ?_
  refine Run.seq ?_
  unfold k0_part99
  refine Run.loadAny m19 fun _ => ?_
  refine Run.store (I' := StN E t (t.val + 1) t.val 2 182 0 0 0) m19 (fun _ H => St.s19 181 H) ?_
  refine Run.loadAny m19 fun _ => ?_
  refine Run.store (I' := StN E t (t.val + 1) t.val 2 183 0 0 0) m19 (fun _ H => St.s19 182 H) ?_
  refine Run.loadAny m19 fun _ => ?_
  refine Run.store (I' := StN E t (t.val + 1) t.val 2 184 0 0 0) m19 (fun _ H => St.s19 183 H) ?_
  refine R.ld0 (iv_t t) ?_
  refine Run.purTo ⟨(mxF E t 1 46), (mxF E t 2 46), (mxF E t 3 46), (visF E t 46), (pieceK E t 5)⟩ rfl ?_
  refine Run.seq ?_
  unfold k0_part100
  refine R.ld0 (iv_t t) ?_
  refine Run.loadAny m19 fun _ => ?_
  refine Run.store (I' := StN E t (t.val + 1) t.val 2 185 0 0 0) m19 (fun _ H => St.s19 184 H) ?_
  refine Run.purTo ⟨(ksF E t 46), (mxF E t 0 47), (sgF E t 185)⟩ rfl ?_
  refine Run.seq ?_
  unfold k0_part101
  refine Run.loadAny m19 fun _ => ?_
  refine Run.store (I' := StN E t (t.val + 1) t.val 2 186 0 0 0) m19 (fun _ H => St.s19 185 H) ?_
  refine Run.loadAny m19 fun _ => ?_
  refine Run.store (I' := StN E t (t.val + 1) t.val 2 187 0 0 0) m19 (fun _ H => St.s19 186 H) ?_
  refine Run.loadAny m19 fun _ => ?_
  refine Run.store (I' := StN E t (t.val + 1) t.val 2 188 0 0 0) m19 (fun _ H => St.s19 187 H) ?_
  refine R.ld0 (iv_t t) ?_
  refine Run.purTo ⟨(mxF E t 1 47), (mxF E t 2 47), (mxF E t 3 47), (visF E t 47), (pieceK E t 5), _⟩ rfl ?_
  refine Run.seq ?_
  unfold k0_part102
  refine R.ld0 (iv_t t) ?_
  refine Run.loadAny m19 fun _ => ?_
  refine Run.store (I' := StN E t (t.val + 1) t.val 2 189 0 0 0) m19 (fun _ H => St.s19 188 H) ?_
  refine Run.purTo ⟨(ksF E t 47), (mxF E t 0 48), (sgF E t 189)⟩ rfl ?_
  refine Run.seq ?_
  unfold k0_part103
  refine Run.loadAny m19 fun _ => ?_
  refine Run.store (I' := StN E t (t.val + 1) t.val 2 190 0 0 0) m19 (fun _ H => St.s19 189 H) ?_
  refine Run.loadAny m19 fun _ => ?_
  refine Run.store (I' := StN E t (t.val + 1) t.val 2 191 0 0 0) m19 (fun _ H => St.s19 190 H) ?_
  refine Run.loadAny m19 fun _ => ?_
  refine Run.store (I' := StN E t (t.val + 1) t.val 2 192 0 0 0) m19 (fun _ H => St.s19 191 H) ?_
  refine R.ld2 (iv_t t) ?_
  refine Run.purTo ⟨(mxF E t 1 48), (mxF E t 2 48), (mxF E t 3 48), (dotsF E t 6), (visF E t 48)⟩ rfl ?_
  refine Run.seq ?_
  unfold k0_part104
  refine R.ld0 (iv_t t) ?_
  refine R.ld0 (iv_t t) ?_
  refine Run.loadAny m19 fun _ => ?_
  refine Run.purTo ⟨(ksF E t 48), (sgF E t 192)⟩ rfl ?_
  refine Run.seq ?_
  unfold k0_part105
  refine Run.store (I' := StN E t (t.val + 1) t.val 2 193 0 0 0) m19 (fun _ H => St.s19 192 H) ?_
  refine Run.loadAny m19 fun _ => ?_
  refine Run.store (I' := StN E t (t.val + 1) t.val 2 194 0 0 0) m19 (fun _ H => St.s19 193 H) ?_
  refine Run.loadAny m19 fun _ => ?_
  refine Run.store (I' := StN E t (t.val + 1) t.val 2 195 0 0 0) m19 (fun _ H => St.s19 194 H) ?_
  refine Run.loadAny m19 fun _ => ?_
  refine Run.store (I' := StN E t (t.val + 1) t.val 2 196 0 0 0) m19 (fun _ H => St.s19 195 H) ?_
  refine Run.purTo ⟨(mxF E t 0 49), (mxF E t 1 49), (mxF E t 2 49), (mxF E t 3 49), _, _⟩ rfl ?_
  refine Run.seq ?_
  unfold k0_part106
  refine R.ld0 (iv_t t) ?_
  refine R.ld0 (iv_t t) ?_
  refine Run.loadAny m19 fun _ => ?_
  refine Run.purTo ⟨(visF E t 49), (ksF E t 49), (sgF E t 196), _⟩ rfl ?_
  refine Run.seq ?_
  unfold k0_part107
  refine Run.store (I' := StN E t (t.val + 1) t.val 2 197 0 0 0) m19 (fun _ H => St.s19 196 H) ?_
  refine Run.loadAny m19 fun _ => ?_
  refine Run.store (I' := StN E t (t.val + 1) t.val 2 198 0 0 0) m19 (fun _ H => St.s19 197 H) ?_
  refine Run.loadAny m19 fun _ => ?_
  refine Run.store (I' := StN E t (t.val + 1) t.val 2 199 0 0 0) m19 (fun _ H => St.s19 198 H) ?_
  refine Run.loadAny m19 fun _ => ?_
  refine Run.store (I' := StN E t (t.val + 1) t.val 2 200 0 0 0) m19 (fun _ H => St.s19 199 H) ?_
  refine Run.purTo ⟨(mxF E t 0 50), (mxF E t 1 50), (mxF E t 2 50), (mxF E t 3 50), _, _, _⟩ rfl ?_
  refine Run.seq ?_
  unfold k0_part108
  refine R.ld0 (iv_t t) ?_
  refine R.ld0 (iv_t t) ?_
  refine Run.purTo ⟨(visF E t 50), (ksF E t 50), (sgF E t 200)⟩ rfl ?_
  refine Run.seq ?_
  unfold k0_part109
  refine Run.loadAny m19 fun _ => ?_
  refine Run.store (I' := StN E t (t.val + 1) t.val 2 201 0 0 0) m19 (fun _ H => St.s19 200 H) ?_
  refine Run.loadAny m19 fun _ => ?_
  refine Run.store (I' := StN E t (t.val + 1) t.val 2 202 0 0 0) m19 (fun _ H => St.s19 201 H) ?_
  refine Run.loadAny m19 fun _ => ?_
  refine Run.store (I' := StN E t (t.val + 1) t.val 2 203 0 0 0) m19 (fun _ H => St.s19 202 H) ?_
  refine Run.loadAny m19 fun _ => ?_
  refine Run.store (I' := StN E t (t.val + 1) t.val 2 204 0 0 0) m19 (fun _ H => St.s19 203 H) ?_
  refine Run.purTo ⟨(mxF E t 0 51), (mxF E t 1 51), (mxF E t 2 51), (mxF E t 3 51), _, _, _⟩ rfl ?_
  refine Run.seq ?_
  unfold k0_part110
  refine R.ld0 (iv_t t) ?_
  refine R.ld0 (iv_t t) ?_
  refine Run.purTo ⟨(visF E t 51), (ksF E t 51), (sgF E t 204)⟩ rfl ?_
  refine Run.seq ?_
  unfold k0_part111
  refine Run.loadAny m19 fun _ => ?_
  refine Run.store (I' := StN E t (t.val + 1) t.val 2 205 0 0 0) m19 (fun _ H => St.s19 204 H) ?_
  refine Run.loadAny m19 fun _ => ?_
  refine Run.store (I' := StN E t (t.val + 1) t.val 2 206 0 0 0) m19 (fun _ H => St.s19 205 H) ?_
  refine Run.loadAny m19 fun _ => ?_
  refine Run.store (I' := StN E t (t.val + 1) t.val 2 207 0 0 0) m19 (fun _ H => St.s19 206 H) ?_
  refine Run.loadAny m19 fun _ => ?_
  refine Run.store (I' := StN E t (t.val + 1) t.val 2 208 0 0 0) m19 (fun _ H => St.s19 207 H) ?_
  refine Run.purTo ⟨(mxF E t 0 52), (mxF E t 1 52), (mxF E t 2 52), (mxF E t 3 52), _, _⟩ rfl ?_
  refine Run.seq ?_
  unfold k0_part112
  refine R.ld0 (iv_t t) ?_
  refine R.ld0 (iv_t t) ?_
  refine Run.purTo ⟨(visF E t 52), (ksF E t 52), (sgF E t 208)⟩ rfl ?_
  refine Run.seq ?_
  unfold k0_part113
  refine Run.loadAny m19 fun _ => ?_
  refine Run.store (I' := StN E t (t.val + 1) t.val 2 209 0 0 0) m19 (fun _ H => St.s19 208 H) ?_
  refine Run.loadAny m19 fun _ => ?_
  refine Run.store (I' := StN E t (t.val + 1) t.val 2 210 0 0 0) m19 (fun _ H => St.s19 209 H) ?_
  refine Run.loadAny m19 fun _ => ?_
  refine Run.store (I' := StN E t (t.val + 1) t.val 2 211 0 0 0) m19 (fun _ H => St.s19 210 H) ?_
  refine Run.loadAny m19 fun _ => ?_
  refine Run.store (I' := StN E t (t.val + 1) t.val 2 212 0 0 0) m19 (fun _ H => St.s19 211 H) ?_
  refine Run.purTo ⟨(mxF E t 0 53), (mxF E t 1 53), (mxF E t 2 53), (mxF E t 3 53), (tokF E t 53), _, _⟩ rfl ?_
  refine Run.seq ?_
  unfold k0_part114
  refine R.ld0 (iv_t t) ?_
  refine R.ld0 (iv_t t) ?_
  refine Run.purTo ⟨(visF E t 53), (ksF E t 53), _, _⟩ rfl ?_
  refine Run.seq ?_
  unfold k0_part115
  refine Run.loadAny m19 fun _ => ?_
  refine Run.store (I' := StN E t (t.val + 1) t.val 2 213 0 0 0) m19 (fun _ H => St.s19 212 H) ?_
  refine Run.loadAny m19 fun _ => ?_
  refine Run.store (I' := StN E t (t.val + 1) t.val 2 214 0 0 0) m19 (fun _ H => St.s19 213 H) ?_
  refine Run.loadAny m19 fun _ => ?_
  refine Run.store (I' := StN E t (t.val + 1) t.val 2 215 0 0 0) m19 (fun _ H => St.s19 214 H) ?_
  refine Run.loadAny m19 fun _ => ?_
  refine Run.store (I' := StN E t (t.val + 1) t.val 2 216 0 0 0) m19 (fun _ H => St.s19 215 H) ?_
  refine Run.purTo ⟨(mxF E t 0 54), (mxF E t 1 54), (mxF E t 2 54), (mxF E t 3 54), (tokF E t 54), _⟩ rfl ?_
  refine Run.seq ?_
  unfold k0_part116
  refine R.ld0 (iv_t t) ?_
  refine R.ld0 (iv_t t) ?_
  refine Run.purTo ⟨(visF E t 54), (ksF E t 54), _, _⟩ rfl ?_
  refine Run.seq ?_
  unfold k0_part117
  refine Run.loadAny m19 fun _ => ?_
  refine Run.store (I' := StN E t (t.val + 1) t.val 2 217 0 0 0) m19 (fun _ H => St.s19 216 H) ?_
  refine Run.loadAny m19 fun _ => ?_
  refine Run.store (I' := StN E t (t.val + 1) t.val 2 218 0 0 0) m19 (fun _ H => St.s19 217 H) ?_
  refine Run.loadAny m19 fun _ => ?_
  refine Run.store (I' := StN E t (t.val + 1) t.val 2 219 0 0 0) m19 (fun _ H => St.s19 218 H) ?_
  refine Run.loadAny m19 fun _ => ?_
  refine Run.store (I' := StN E t (t.val + 1) t.val 2 220 0 0 0) m19 (fun _ H => St.s19 219 H) ?_
  refine Run.purTo ⟨(mxF E t 0 55), (mxF E t 1 55), (mxF E t 2 55), (mxF E t 3 55), (tokF E t 55), _⟩ rfl ?_
  refine Run.seq ?_
  unfold k0_part118
  refine R.ld0 (iv_t t) ?_
  refine R.ld0 (iv_t t) ?_
  refine Run.purTo ⟨(visF E t 55), (ksF E t 55), _⟩ rfl ?_
  refine Run.seq ?_
  unfold k0_part119
  refine Run.loadAny m19 fun _ => ?_
  refine Run.store (I' := StN E t (t.val + 1) t.val 2 221 0 0 0) m19 (fun _ H => St.s19 220 H) ?_
  refine Run.loadAny m19 fun _ => ?_
  refine Run.store (I' := StN E t (t.val + 1) t.val 2 222 0 0 0) m19 (fun _ H => St.s19 221 H) ?_
  refine Run.loadAny m19 fun _ => ?_
  refine Run.store (I' := StN E t (t.val + 1) t.val 2 223 0 0 0) m19 (fun _ H => St.s19 222 H) ?_
  refine Run.loadAny m19 fun _ => ?_
  refine Run.store (I' := StN E t (t.val + 1) t.val 2 224 0 0 0) m19 (fun _ H => St.s19 223 H) ?_
  refine R.ld2 (iv_t t) ?_
  refine Run.purTo ⟨(mxF E t 0 56), (mxF E t 1 56), (mxF E t 2 56), (mxF E t 3 56), _⟩ rfl ?_
  refine Run.seq ?_
  unfold k0_part120
  refine R.ld0 (iv_t t) ?_
  refine R.ld0 (iv_t t) ?_
  refine Run.purTo ⟨(dotsF E t 7), (visF E t 56), (pieceK E t 8), (posF E t 56), _, (wrapInF (posF E t 56))⟩ rfl ?_
  refine Run.pur ?_
  exact h

end Cert.KernelIdeal.Hand

end
-- ==== Proof.KI.F254.lean ====
/-
  The third quarter of a trip, stepped through.
-/
module

public import proofs.«01_k».proof.Proof.KI.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 40000000 in
/-- From what the invariant says at its start to what it says at its end, with the values it hands on. -/
theorem f254 (E : Env F c) (t : Fin k0_t1_loop.trips) {β : Type} {k : _ → Prog (TpuEff nD τ sig (Elt F) Λ₀ .tc) β} {Q : β → sProp 𝕄} :
    Run c (XP E (lp (4 * (tb t).val + 4))) (StN E t (t.val + 1) t.val 2 256 3 4 0) (k ⟨(mF E t 0), (mF E t 1), (mF E t 2), (mF E t 3), (accF E t 3), (lF E t 0 25), (lF E t 1 25), (lF E t 2 25), (lF E t 3 25), (pieceV E t 3)⟩) Q →
    Run c (XP E (lp (4 * (tb t).val + 3))) (StN E t (t.val + 1) t.val 2 224 0 0 0) (k0_part254 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 ownF ltokF t (Scf.iv 0#32 1#32 t) (wd E (tb t)) (chk10 t _) (wd E (tb t)) (stF E t) (offF E t) (mxF E t 0 56) (mxF E t 1 56) (mxF E t 2 56) (mxF E t 3 56) (dotsF E t 7) (visF E t 56) (pieceK E t 8) (posF E t 56) (dynamicGather 1 (pieceK E t 7) (wrapF (posF E t 56))) (wrapInF (posF E t 56)) >>= k) Q := by
  intro h
  have R := res3 E (tb t)
  refine Run.seq ?_
  unfold k0_part254
  refine Run.seq ?_
  unfold k0_part121
  refine Run.loadAny m19 fun _ => ?_
  refine Run.store (I' := StN E t (t.val + 1) t.val 2 225 0 0 0) m19 (fun _ H => St.s19 224 H) ?_
  refine Run.loadAny m19 fun _ => ?_
  refine Run.store (I' := StN E t (t.val + 1) t.val 2 226 0 0 0) m19 (fun _ H => St.s19 225 H) ?_
  refine Run.loadAny m19 fun _ => ?_
  refine Run.store (I' := StN E t (t.val + 1) t.val 2 227 0 0 0) m19 (fun _ H => St.s19 226 H) ?_
  refine Run.purTo ⟨(mxF E t 0 57), (mxF E t 1 57), (mxF E t 2 57), (sgF E t 227)⟩ rfl ?_
  refine Run.seq ?_
  unfold k0_part122
  refine Run.loadAny m19 fun _ => ?_
  refine Run.store (I' := StN E t (t.val + 1) t.val 2 228 0 0 0) m19 (fun _ H => St.s19 227 H) ?_
  refine R.ld0 (iv_t t) ?_
  refine R.ld0 (iv_t t) ?_
  refine Run.purTo ⟨(mxF E t 3 57), (visF E t 57), (pieceK E t 8), (posF E t 57), _, _⟩ rfl ?_
  refine Run.seq ?_
  unfold k0_part123
  refine Run.loadAny m19 fun _ => ?_
  refine Run.store (I' := StN E t (t.val + 1) t.val 2 229 0 0 0) m19 (fun _ H => St.s19 228 H) ?_
  refine Run.loadAny m19 fun _ => ?_
  refine Run.store (I' := StN E t (t.val + 1) t.val 2 230 0 0 0) m19 (fun _ H => St.s19 229 H) ?_
  refine Run.loadAny m19 fun _ => ?_
  refine Run.store (I' := StN E t (t.val + 1) t.val 2 231 0 0 0) m19 (fun _ H => St.s19 230 H) ?_
  refine Run.purTo ⟨(mxF E t 0 58), (mxF E t 1 58), (mxF E t 2 58), (sgF E t 231)⟩ rfl ?_
  refine Run.seq ?_
  unfold k0_part124
  refine Run.loadAny m19 fun _ => ?_
  refine Run.store (I' := StN E t (t.val + 1) t.val 2 232 0 0 0) m19 (fun _ H => St.s19 231 H) ?_
  refine R.ld0 (iv_t t) ?_
  refine R.ld0 (iv_t t) ?_
  refine Run.purTo ⟨(mxF E t 3 58), (visF E t 58), (pieceK E t 8), (posF E t 58), _, _, _, _⟩ rfl ?_
  refine Run.seq ?_
  unfold k0_part125
  refine Run.loadAny m19 fun _ => ?_
  refine Run.store (I' := StN E t (t.val + 1) t.val 2 233 0 0 0) m19 (fun _ H => St.s19 232 H) ?_
  refine Run.loadAny m19 fun _ => ?_
  refine Run.store (I' := StN E t (t.val + 1) t.val 2 234 0 0 0) m19 (fun _ H => St.s19 233 H) ?_
  refine Run.loadAny m19 fun _ => ?_
  refine Run.store (I' := StN E t (t.val + 1) t.val 2 235 0 0 0) m19 (fun _ H => St.s19 234 H) ?_
  refine Run.purTo ⟨(mxF E t 0 59), (mxF E t 1 59), (mxF E t 2 59), _, _⟩ rfl ?_
  refine Run.seq ?_
  unfold k0_part126
  refine Run.loadAny m19 fun _ => ?_
  refine Run.store (I' := StN E t (t.val + 1) t.val 2 236 0 0 0) m19 (fun _ H => St.s19 235 H) ?_
  refine R.ld0 (iv_t t) ?_
  refine R.ld0 (iv_t t) ?_
  refine Run.purTo ⟨(mxF E t 3 59), (visF E t 59), (pieceK E t 8), (posF E t 59), _, _, _, _⟩ rfl ?_
  refine Run.seq ?_
  unfold k0_part127
  refine Run.loadAny m19 fun _ => ?_
  refine Run.store (I' := StN E t (t.val + 1) t.val 2 237 0 0 0) m19 (fun _ H => St.s19 236 H) ?_
  refine Run.loadAny m19 fun _ => ?_
  refine Run.store (I' := StN E t (t.val + 1) t.val 2 238 0 0 0) m19 (fun _ H => St.s19 237 H) ?_
  refine Run.loadAny m19 fun _ => ?_
  refine Run.store (I' := StN E t (t.val + 1) t.val 2 239 0 0 0) m19 (fun _ H => St.s19 238 H) ?_
  refine Run.purTo ⟨(mxF E t 0 60), (mxF E t 1 60), (mxF E t 2 60), _, _⟩ rfl ?_
  refine Run.seq ?_
  unfold k0_part128
  refine Run.loadAny m19 fun _ => ?_
  refine Run.store (I' := StN E t (t.val + 1) t.val 2 240 0 0 0) m19 (fun _ H => St.s19 239 H) ?_
  refine R.ld0 (iv_t t) ?_
  refine R.ld0 (iv_t t) ?_
  refine Run.purTo ⟨(mxF E t 3 60), (visF E t 60), (pieceK E t 8), (posF E t 60), _, _, _, _⟩ rfl ?_
  refine Run.seq ?_
  unfold k0_part129
  refine Run.loadAny m19 fun _ => ?_
  refine Run.store (I' := StN E t (t.val + 1) t.val 2 241 0 0 0) m19 (fun _ H => St.s19 240 H) ?_
  refine Run.loadAny m19 fun _ => ?_
  refine Run.store (I' := StN E t (t.val + 1) t.val 2 242 0 0 0) m19 (fun _ H => St.s19 241 H) ?_
  refine Run.loadAny m19 fun _ => ?_
  refine Run.store (I' := StN E t (t.val + 1) t.val 2 243 0 0 0) m19 (fun _ H => St.s19 242 H) ?_
  refine Run.purTo ⟨(mxF E t 0 61), (mxF E t 1 61), (mxF E t 2 61), _⟩ rfl ?_
  refine Run.seq ?_
  unfold k0_part130
  refine Run.loadAny m19 fun _ => ?_
  refine Run.store (I' := StN E t (t.val + 1) t.val 2 244 0 0 0) m19 (fun _ H => St.s19 243 H) ?_
  refine R.ld0 (iv_t t) ?_
  refine R.ld0 (iv_t t) ?_
  refine Run.purTo ⟨(mxF E t 3 61), (visF E t 61), (pieceK E t 8), (posF E t 61), _, _, _⟩ rfl ?_
  refine Run.seq ?_
  unfold k0_part131
  refine Run.loadAny m19 fun _ => ?_
  refine Run.store (I' := StN E t (t.val + 1) t.val 2 245 0 0 0) m19 (fun _ H => St.s19 244 H) ?_
  refine Run.loadAny m19 fun _ => ?_
  refine Run.store (I' := StN E t (t.val + 1) t.val 2 246 0 0 0) m19 (fun _ H => St.s19 245 H) ?_
  refine Run.loadAny m19 fun _ => ?_
  refine Run.store (I' := StN E t (t.val + 1) t.val 2 247 0 0 0) m19 (fun _ H => St.s19 246 H) ?_
  refine Run.purTo ⟨(mxF E t 0 62), (mxF E t 1 62), (mxF E t 2 62), _, _⟩ rfl ?_
  refine Run.seq ?_
  unfold k0_part132
  refine Run.loadAny m19 fun _ => ?_
  refine Run.store (I' := StN E t (t.val + 1) t.val 2 248 0 0 0) m19 (fun _ H => St.s19 247 H) ?_
  refine R.ld0 (iv_t t) ?_
  refine R.ld0 (iv_t t) ?_
  refine Run.purTo ⟨(mxF E t 3 62), (visF E t 62), (pieceK E t 8), (posF E t 62), _, _, _⟩ rfl ?_
  refine Run.seq ?_
  unfold k0_part133
  refine Run.loadAny m19 fun _ => ?_
  refine Run.store (I' := StN E t (t.val + 1) t.val 2 249 0 0 0) m19 (fun _ H => St.s19 248 H) ?_
  refine Run.loadAny m19 fun _ => ?_
  refine Run.store (I' := StN E t (t.val + 1) t.val 2 250 0 0 0) m19 (fun _ H => St.s19 249 H) ?_
  refine Run.loadAny m19 fun _ => ?_
  refine Run.store (I' := StN E t (t.val + 1) t.val 2 251 0 0 0) m19 (fun _ H => St.s19 250 H) ?_
  refine Run.purTo ⟨(mxF E t 0 63), (mxF E t 1 63), (mxF E t 2 63), _, _⟩ rfl ?_
  refine Run.seq ?_
  unfold k0_part134
  refine Run.loadAny m19 fun _ => ?_
  refine Run.store (I' := StN E t (t.val + 1) t.val 2 252 0 0 0) m19 (fun _ H => St.s19 251 H) ?_
  refine R.ld0 (iv_t t) ?_
  refine R.ld0 (iv_t t) ?_
  refine Run.purTo ⟨(mxF E t 3 63), (visF E t 63), (pieceK E t 8), (posF E t 63), _, _, _⟩ rfl ?_
  refine Run.seq ?_
  unfold k0_part135
  refine Run.loadAny m19 fun _ => ?_
  refine Run.store (I' := StN E t (t.val + 1) t.val 2 253 0 0 0) m19 (fun _ H => St.s19 252 H) ?_
  refine Run.loadAny m19 fun _ => ?_
  refine Run.store (I' := StN E t (t.val + 1) t.val 2 254 0 0 0) m19 (fun _ H => St.s19 253 H) ?_
  refine Run.loadAny m19 fun _ => ?_
  refine Run.store (I' := StN E t (t.val + 1) t.val 2 255 0 0 0) m19 (fun _ H => St.s19 254 H) ?_
  refine Run.purTo ⟨(mxF E t 0 64), (mxF E t 1 64), (mxF E t 2 64), _⟩ rfl ?_
  refine Run.seq ?_
  unfold k0_part136
  refine Run.loadAny m19 fun _ => ?_
  refine Run.store (I' := StN E t (t.val + 1) t.val 2 256 0 0 0) m19 (fun _ H => St.s19 255 H) ?_
  refine Run.wt E (tb t) 3 (4 * (tb t).val + 3) rfl (sem38 t) rfl ?_
  have R4 := res4 E (tb t)
  have R := R4.toRes
  refine R.ld1 (iv_t t) ?_
  refine Run.purTo ⟨(mF E t 0), (mF E t 1), (mF E t 2), (mF E t 3), (lF E t 0 0), (lF E t 1 0), (lF E t 2 0), (lF E t 3 0), (accF E t 0), (pieceV E t 0)⟩ rfl ?_
  refine Run.seq ?_
  unfold k0_part137
  refine R.ld1 (iv_t t) ?_
  refine Run.load (v := pay19 E t 0) m19 (fun _ H => St.ld19 0 H) ?_
  refine Run.loadAny m20 fun _ => ?_
  refine Run.store (I' := StN E t (t.val + 1) t.val 2 256 0 1 0) m20 (fun _ H => St.s20 0 H) ?_
  refine Run.load (v := pay19 E t 1) m19 (fun _ H => St.ld19 1 H) ?_
  refine Run.purTo ⟨(vsF E t 0), (lF E t 0 1), (lF E t 1 1), _⟩ rfl ?_
  refine Run.seq ?_
  unfold k0_part138
  refine Run.loadAny m20 fun _ => ?_
  refine Run.store (I' := StN E t (t.val + 1) t.val 2 256 0 2 0) m20 (fun _ H => St.s20 1 H) ?_
  refine Run.load (v := pay19 E t 2) m19 (fun _ H => St.ld19 2 H) ?_
  refine Run.loadAny m20 fun _ => ?_
  refine Run.store (I' := StN E t (t.val + 1) t.val 2 256 0 3 0) m20 (fun _ H => St.s20 2 H) ?_
  refine Run.load (v := pay19 E t 3) m19 (fun _ H => St.ld19 3 H) ?_
  refine Run.loadAny m20 fun _ => ?_
  refine Run.store (I' := StN E t (t.val + 1) t.val 2 256 0 4 0) m20 (fun _ H => St.s20 3 H) ?_
  refine R.ld1 (iv_t t) ?_
  refine R.ld1 (iv_t t) ?_
  refine Run.purTo ⟨(lF E t 2 1), (lF E t 3 1), (pieceV E t 0), (pieceV E t 1), (posF E t 1), _⟩ rfl ?_
  refine Run.seq ?_
  unfold k0_part139
  refine Run.load (v := pay19 E t 4) m19 (fun _ H => St.ld19 4 H) ?_
  refine Run.loadAny m20 fun _ => ?_
  refine Run.store (I' := StN E t (t.val + 1) t.val 2 256 0 5 0) m20 (fun _ H => St.s20 4 H) ?_
  refine Run.load (v := pay19 E t 5) m19 (fun _ H => St.ld19 5 H) ?_
  refine Run.loadAny m20 fun _ => ?_
  refine Run.store (I' := StN E t (t.val + 1) t.val 2 256 0 6 0) m20 (fun _ H => St.s20 5 H) ?_
  refine Run.load (v := pay19 E t 6) m19 (fun _ H => St.ld19 6 H) ?_
  refine Run.loadAny m20 fun _ => ?_
  refine Run.purTo ⟨(vsF E t 1), (lF E t 0 2), (lF E t 1 2), (lF E t 2 2), _⟩ rfl ?_
  refine Run.seq ?_
  unfold k0_part140
  refine Run.store (I' := StN E t (t.val + 1) t.val 2 256 0 7 0) m20 (fun _ H => St.s20 6 H) ?_
  refine Run.load (v := pay19 E t 7) m19 (fun _ H => St.ld19 7 H) ?_
  refine Run.loadAny m20 fun _ => ?_
  refine Run.store (I' := StN E t (t.val + 1) t.val 2 256 0 8 0) m20 (fun _ H => St.s20 7 H) ?_
  refine R.ld1 (iv_t t) ?_
  refine R.ld1 (iv_t t) ?_
  refine Run.purTo ⟨(lF E t 3 2), (posF E t 2), _, _⟩ rfl ?_
  refine Run.seq ?_
  unfold k0_part141
  refine Run.load (v := pay19 E t 8) m19 (fun _ H => St.ld19 8 H) ?_
  refine Run.loadAny m20 fun _ => ?_
  refine Run.store (I' := StN E t (t.val + 1) t.val 2 256 0 9 0) m20 (fun _ H => St.s20 8 H) ?_
  refine Run.load (v := pay19 E t 9) m19 (fun _ H => St.ld19 9 H) ?_
  refine Run.loadAny m20 fun _ => ?_
  refine Run.store (I' := StN E t (t.val + 1) t.val 2 256 0 10 0) m20 (fun _ H => St.s20 9 H) ?_
  refine Run.load (v := pay19 E t 10) m19 (fun _ H => St.ld19 10 H) ?_
  refine Run.loadAny m20 fun _ => ?_
  refine Run.store (I' := StN E t (t.val + 1) t.val 2 256 0 11 0) m20 (fun _ H => St.s20 10 H) ?_
  refine Run.load (v := pay19 E t 11) m19 (fun _ H => St.ld19 11 H) ?_
  refine Run.loadAny m20 fun _ => ?_
  refine Run.store (I' := StN E t (t.val + 1) t.val 2 256 0 12 0) m20 (fun _ H => St.s20 11 H) ?_
  refine Run.purTo ⟨(lF E t 0 3), (lF E t 1 3), (lF E t 2 3), (lF E t 3 3)⟩ rfl ?_
  refine Run.seq ?_
  unfold k0_part142
  refine R.ld1 (iv_t t) ?_
  refine R.ld1 (iv_t t) ?_
  refine Run.load (v := pay19 E t 12) m19 (fun _ H => St.ld19 12 H) ?_
  refine Run.loadAny m20 fun _ => ?_
  refine Run.purTo ⟨(vsF E t 3), (lF E t 0 4), _⟩ rfl ?_
  refine Run.seq ?_
  unfold k0_part143
  refine Run.store (I' := StN E t (t.val + 1) t.val 2 256 0 13 0) m20 (fun _ H => St.s20 12 H) ?_
  refine Run.load (v := pay19 E t 13) m19 (fun _ H => St.ld19 13 H) ?_
  refine Run.loadAny m20 fun _ => ?_
  refine Run.store (I' := StN E t (t.val + 1) t.val 2 256 0 14 0) m20 (fun _ H => St.s20 13 H) ?_
  refine Run.load (v := pay19 E t 14) m19 (fun _ H => St.ld19 14 H) ?_
  refine Run.loadAny m20 fun _ => ?_
  refine Run.store (I' := StN E t (t.val + 1) t.val 2 256 0 15 0) m20 (fun _ H => St.s20 14 H) ?_
  refine Run.load (v := pay19 E t 15) m19 (fun _ H => St.ld19 15 H) ?_
  refine Run.loadAny m20 fun _ => ?_
  refine Run.store (I' := StN E t (t.val + 1) t.val 2 256 0 16 0) m20 (fun _ H => St.s20 15 H) ?_
  refine R.ld1 (iv_t t) ?_
  refine R.ld1 (iv_t t) ?_
  refine Run.purTo ⟨(lF E t 1 4), (lF E t 2 4), (lF E t 3 4), (pieceV E t 0), (pieceV E t 1), _⟩ rfl ?_
  refine Run.seq ?_
  unfold k0_part144
  refine Run.load (v := pay19 E t 16) m19 (fun _ H => St.ld19 16 H) ?_
  refine Run.loadAny m20 fun _ => ?_
  refine Run.store (I' := StN E t (t.val + 1) t.val 2 256 0 17 0) m20 (fun _ H => St.s20 16 H) ?_
  refine Run.load (v := pay19 E t 17) m19 (fun _ H => St.ld19 17 H) ?_
  refine Run.loadAny m20 fun _ => ?_
  refine Run.store (I' := StN E t (t.val + 1) t.val 2 256 0 18 0) m20 (fun _ H => St.s20 17 H) ?_
  refine Run.purTo ⟨(vsF E t 4), (lF E t 0 5), (lF E t 1 5)⟩ rfl ?_
  refine Run.seq ?_
  unfold k0_part145
  refine Run.load (v := pay19 E t 18) m19 (fun _ H => St.ld19 18 H) ?_
  refine Run.loadAny m20 fun _ => ?_
  refine Run.store (I' := StN E t (t.val + 1) t.val 2 256 0 19 0) m20 (fun _ H => St.s20 18 H) ?_
  refine Run.load (v := pay19 E t 19) m19 (fun _ H => St.ld19 19 H) ?_
  refine Run.loadAny m20 fun _ => ?_
  refine Run.store (I' := StN E t (t.val + 1) t.val 2 256 0 20 0) m20 (fun _ H => St.s20 19 H) ?_
  refine R.ld1 (iv_t t) ?_
  refine R.ld1 (iv_t t) ?_
  refine Run.purTo ⟨(lF E t 2 5), (lF E t 3 5), (pieceV E t 1), (posF E t 5), _, _⟩ rfl ?_
  refine Run.seq ?_
  unfold k0_part146
  refine Run.load (v := pay19 E t 20) m19 (fun _ H => St.ld19 20 H) ?_
  refine Run.loadAny m20 fun _ => ?_
  refine Run.store (I' := StN E t (t.val + 1) t.val 2 256 0 21 0) m20 (fun _ H => St.s20 20 H) ?_
  refine Run.load (v := pay19 E t 21) m19 (fun _ H => St.ld19 21 H) ?_
  refine Run.loadAny m20 fun _ => ?_
  refine Run.store (I' := StN E t (t.val + 1) t.val 2 256 0 22 0) m20 (fun _ H => St.s20 21 H) ?_
  refine Run.load (v := pay19 E t 22) m19 (fun _ H => St.ld19 22 H) ?_
  refine Run.loadAny m20 fun _ => ?_
  refine Run.store (I' := StN E t (t.val + 1) t.val 2 256 0 23 0) m20 (fun _ H => St.s20 22 H) ?_
  refine Run.purTo ⟨(vsF E t 5), (lF E t 0 6), (lF E t 1 6), (lF E t 2 6)⟩ rfl ?_
  refine Run.seq ?_
  unfold k0_part147
  refine Run.load (v := pay19 E t 23) m19 (fun _ H => St.ld19 23 H) ?_
  refine Run.loadAny m20 fun _ => ?_
  refine Run.store (I' := StN E t (t.val + 1) t.val 2 256 0 24 0) m20 (fun _ H => St.s20 23 H) ?_
  refine R.ld1 (iv_t t) ?_
  refine R.ld1 (iv_t t) ?_
  refine Run.purTo ⟨(lF E t 3 6), (vsF E t 6)⟩ rfl ?_
  refine Run.seq ?_
  unfold k0_part148
  refine Run.load (v := pay19 E t 24) m19 (fun _ H => St.ld19 24 H) ?_
  refine Run.loadAny m20 fun _ => ?_
  refine Run.store (I' := StN E t (t.val + 1) t.val 2 256 0 25 0) m20 (fun _ H => St.s20 24 H) ?_
  refine Run.load (v := pay19 E t 25) m19 (fun _ H => St.ld19 25 H) ?_
  refine Run.loadAny m20 fun _ => ?_
  refine Run.store (I' := StN E t (t.val + 1) t.val 2 256 0 26 0) m20 (fun _ H => St.s20 25 H) ?_
  refine Run.load (v := pay19 E t 26) m19 (fun _ H => St.ld19 26 H) ?_
  refine Run.loadAny m20 fun _ => ?_
  refine Run.store (I' := StN E t (t.val + 1) t.val 2 256 0 27 0) m20 (fun _ H => St.s20 26 H) ?_
  refine Run.load (v := pay19 E t 27) m19 (fun _ H => St.ld19 27 H) ?_
  refine Run.loadAny m20 fun _ => ?_
  refine Run.store (I' := StN E t (t.val + 1) t.val 2 256 0 28 0) m20 (fun _ H => St.s20 27 H) ?_
  refine Run.purTo ⟨(lF E t 0 7), (lF E t 1 7), (lF E t 2 7), (lF E t 3 7), _⟩ rfl ?_
  refine Run.seq ?_
  unfold k0_part149
  refine R.ld1 (iv_t t) ?_
  refine R.ld1 (iv_t t) ?_
  refine Run.load (v := pay19 E t 28) m19 (fun _ H => St.ld19 28 H) ?_
  refine Run.loadAny m20 fun _ => ?_
  refine Run.store (I' := StN E t (t.val + 1) t.val 2 256 0 29 0) m20 (fun _ H => St.s20 28 H) ?_
  refine Run.purTo ⟨(vsF E t 7), (lF E t 0 8)⟩ rfl ?_
  refine Run.seq ?_
  unfold k0_part150
  refine Run.load (v := pay19 E t 29) m19 (fun _ H => St.ld19 29 H) ?_
  refine Run.loadAny m20 fun _ => ?_
  refine Run.store (I' := StN E t (t.val + 1) t.val 2 256 0 30 0) m20 (fun _ H => St.s20 29 H) ?_
  refine Run.load (v := pay19 E t 30) m19 (fun _ H => St.ld19 30 H) ?_
  refine Run.loadAny m20 fun _ => ?_
  refine Run.store (I' := StN E t (t.val + 1) t.val 2 256 0 31 0) m20 (fun _ H => St.s20 30 H) ?_
  refine Run.load (v := pay19 E t 31) m19 (fun _ H => St.ld19 31 H) ?_
  refine Run.loadAny m20 fun _ => ?_
  refine Run.store (I' := StN E t (t.val + 1) t.val 2 256 0 32 0) m20 (fun _ H => St.s20 31 H) ?_
  refine R4.ld3 (iv_t t) ?_
  refine Run.load (v := pF E t 0) m20 (fun _ H => St.ld20 H) ?_
  refine Run.weaken (I' := StN E t (t.val + 1) t.val 2 256 1 0 0) (fun _ H => St.next H) ?_
  refine Run.purTo ⟨(lF E t 1 8), (lF E t 2 8), (lF E t 3 8), (accF E t 1)⟩ rfl ?_
  refine Run.seq ?_
  unfold k0_part151
  refine R.ld1 (iv_t t) ?_
  refine R.ld1 (iv_t t) ?_
  refine Run.load (v := pay19 E t 32) m19 (fun _ H => St.ld19 32 H) ?_
  refine Run.loadAny m20 fun _ => ?_
  refine Run.store (I' := StN E t (t.val + 1) t.val 2 256 1 1 0) m20 (fun _ H => St.s20 0 H) ?_
  refine Run.load (v := pay19 E t 33) m19 (fun _ H => St.ld19 33 H) ?_
  refine Run.purTo ⟨(vsF E t 8), (lF E t 0 9), _⟩ rfl ?_
  refine Run.seq ?_
  unfold k0_part152
  refine Run.loadAny m20 fun _ => ?_
  refine Run.store (I' := StN E t (t.val + 1) t.val 2 256 1 2 0) m20 (fun _ H => St.s20 1 H) ?_
  refine Run.load (v := pay19 E t 34) m19 (fun _ H => St.ld19 34 H) ?_
  refine Run.loadAny m20 fun _ => ?_
  refine Run.store (I' := StN E t (t.val + 1) t.val 2 256 1 3 0) m20 (fun _ H => St.s20 2 H) ?_
  refine Run.load (v := pay19 E t 35) m19 (fun _ H => St.ld19 35 H) ?_
  refine Run.loadAny m20 fun _ => ?_
  refine Run.store (I' := StN E t (t.val + 1) t.val 2 256 1 4 0) m20 (fun _ H => St.s20 3 H) ?_
  refine R.ld1 (iv_t t) ?_
  refine R.ld1 (iv_t t) ?_
  refine Run.purTo ⟨(lF E t 1 9), (lF E t 2 9), (lF E t 3 9), (pieceV E t 1), (pieceV E t 2), (posF E t 9), _⟩ rfl ?_
  refine Run.seq ?_
  unfold k0_part153
  refine Run.load (v := pay19 E t 36) m19 (fun _ H => St.ld19 36 H) ?_
  refine Run.loadAny m20 fun _ => ?_
  refine Run.store (I' := StN E t (t.val + 1) t.val 2 256 1 5 0) m20 (fun _ H => St.s20 4 H) ?_
  refine Run.load (v := pay19 E t 37) m19 (fun _ H => St.ld19 37 H) ?_
  refine Run.loadAny m20 fun _ => ?_
  refine Run.store (I' := StN E t (t.val + 1) t.val 2 256 1 6 0) m20 (fun _ H => St.s20 5 H) ?_
  refine Run.load (v := pay19 E t 38) m19 (fun _ H => St.ld19 38 H) ?_
  refine Run.purTo ⟨(vsF E t 9), (lF E t 0 10), (lF E t 1 10), _⟩ rfl ?_
  refine Run.seq ?_
  unfold k0_part154
  refine Run.loadAny m20 fun _ => ?_
  refine Run.store (I' := StN E t (t.val + 1) t.val 2 256 1 7 0) m20 (fun _ H => St.s20 6 H) ?_
  refine Run.load (v := pay19 E t 39) m19 (fun _ H => St.ld19 39 H) ?_
  refine Run.loadAny m20 fun _ => ?_
  refine Run.store (I' := StN E t (t.val + 1) t.val 2 256 1 8 0) m20 (fun _ H => St.s20 7 H) ?_
  refine R.ld1 (iv_t t) ?_
  refine R.ld1 (iv_t t) ?_
  refine Run.purTo ⟨(lF E t 2 10), (lF E t 3 10), (pieceV E t 2), (posF E t 10), _, _, _⟩ rfl ?_
  refine Run.seq ?_
  unfold k0_part155
  refine Run.load (v := pay19 E t 40) m19 (fun _ H => St.ld19 40 H) ?_
  refine Run.loadAny m20 fun _ => ?_
  refine Run.store (I' := StN E t (t.val + 1) t.val 2 256 1 9 0) m20 (fun _ H => St.s20 8 H) ?_
  refine Run.load (v := pay19 E t 41) m19 (fun _ H => St.ld19 41 H) ?_
  refine Run.loadAny m20 fun _ => ?_
  refine Run.store (I' := StN E t (t.val + 1) t.val 2 256 1 10 0) m20 (fun _ H => St.s20 9 H) ?_
  refine Run.load (v := pay19 E t 42) m19 (fun _ H => St.ld19 42 H) ?_
  refine Run.loadAny m20 fun _ => ?_
  refine Run.store (I' := StN E t (t.val + 1) t.val 2 256 1 11 0) m20 (fun _ H => St.s20 10 H) ?_
  refine Run.load (v := pay19 E t 43) m19 (fun _ H => St.ld19 43 H) ?_
  refine Run.purTo ⟨(vsF E t 10), (lF E t 0 11), (lF E t 1 11), (lF E t 2 11), (eF E t 43), (lF E t 3 11)⟩ rfl ?_
  refine Run.seq ?_
  unfold k0_part156
  refine Run.loadAny m20 fun _ => ?_
  refine Run.store (I' := StN E t (t.val + 1) t.val 2 256 1 12 0) m20 (fun _ H => St.s20 11 H) ?_
  refine R.ld1 (iv_t t) ?_
  refine R.ld1 (iv_t t) ?_
  refine Run.load (v := pay19 E t 44) m19 (fun _ H => St.ld19 44 H) ?_
  refine Run.purTo ⟨(vsF E t 11), _⟩ rfl ?_
  refine Run.seq ?_
  unfold k0_part157
  refine Run.loadAny m20 fun _ => ?_
  refine Run.store (I' := StN E t (t.val + 1) t.val 2 256 1 13 0) m20 (fun _ H => St.s20 12 H) ?_
  refine Run.load (v := pay19 E t 45) m19 (fun _ H => St.ld19 45 H) ?_
  refine Run.loadAny m20 fun _ => ?_
  refine Run.store (I' := StN E t (t.val + 1) t.val 2 256 1 14 0) m20 (fun _ H => St.s20 13 H) ?_
  refine Run.load (v := pay19 E t 46) m19 (fun _ H => St.ld19 46 H) ?_
  refine Run.loadAny m20 fun _ => ?_
  refine Run.store (I' := StN E t (t.val + 1) t.val 2 256 1 15 0) m20 (fun _ H => St.s20 14 H) ?_
  refine Run.load (v := pay19 E t 47) m19 (fun _ H => St.ld19 47 H) ?_
  refine Run.loadAny m20 fun _ => ?_
  refine Run.store (I' := StN E t (t.val + 1) t.val 2 256 1 16 0) m20 (fun _ H => St.s20 15 H) ?_
  refine R.ld1 (iv_t t) ?_
  refine Run.purTo ⟨(lF E t 0 12), (lF E t 1 12), (lF E t 2 12), (lF E t 3 12), (pieceV E t 1), _⟩ rfl ?_
  refine Run.seq ?_
  unfold k0_part158
  refine R.ld1 (iv_t t) ?_
  refine Run.load (v := pay19 E t 48) m19 (fun _ H => St.ld19 48 H) ?_
  refine Run.loadAny m20 fun _ => ?_
  refine Run.store (I' := StN E t (t.val + 1) t.val 2 256 1 17 0) m20 (fun _ H => St.s20 16 H) ?_
  refine Run.load (v := pay19 E t 49) m19 (fun _ H => St.ld19 49 H) ?_
  refine Run.purTo ⟨(vsF E t 12), (lF E t 0 13), (eF E t 49), (lF E t 1 13)⟩ rfl ?_
  refine Run.seq ?_
  unfold k0_part159
  refine Run.loadAny m20 fun _ => ?_
  refine Run.store (I' := StN E t (t.val + 1) t.val 2 256 1 18 0) m20 (fun _ H => St.s20 17 H) ?_
  refine Run.load (v := pay19 E t 50) m19 (fun _ H => St.ld19 50 H) ?_
  refine Run.loadAny m20 fun _ => ?_
  refine Run.store (I' := StN E t (t.val + 1) t.val 2 256 1 19 0) m20 (fun _ H => St.s20 18 H) ?_
  refine Run.load (v := pay19 E t 51) m19 (fun _ H => St.ld19 51 H) ?_
  refine Run.loadAny m20 fun _ => ?_
  refine Run.store (I' := StN E t (t.val + 1) t.val 2 256 1 20 0) m20 (fun _ H => St.s20 19 H) ?_
  refine R.ld1 (iv_t t) ?_
  refine R.ld1 (iv_t t) ?_
  refine Run.purTo ⟨(lF E t 2 13), (lF E t 3 13), (pieceV E t 1), (pieceV E t 2), (posF E t 13), _, _, _⟩ rfl ?_
  refine Run.seq ?_
  unfold k0_part160
  refine Run.load (v := pay19 E t 52) m19 (fun _ H => St.ld19 52 H) ?_
  refine Run.loadAny m20 fun _ => ?_
  refine Run.store (I' := StN E t (t.val + 1) t.val 2 256 1 21 0) m20 (fun _ H => St.s20 20 H) ?_
  refine Run.load (v := pay19 E t 53) m19 (fun _ H => St.ld19 53 H) ?_
  refine Run.loadAny m20 fun _ => ?_
  refine Run.store (I' := StN E t (t.val + 1) t.val 2 256 1 22 0) m20 (fun _ H => St.s20 21 H) ?_
  refine Run.load (v := pay19 E t 54) m19 (fun _ H => St.ld19 54 H) ?_
  refine Run.purTo ⟨(vsF E t 13), (lF E t 0 14), (lF E t 1 14), (lF E t 2 14), _⟩ rfl ?_
  refine Run.seq ?_
  unfold k0_part161
  refine Run.loadAny m20 fun _ => ?_
  refine Run.store (I' := StN E t (t.val + 1) t.val 2 256 1 23 0) m20 (fun _ H => St.s20 22 H) ?_
  refine Run.load (v := pay19 E t 55) m19 (fun _ H => St.ld19 55 H) ?_
  refine Run.loadAny m20 fun _ => ?_
  refine Run.store (I' := StN E t (t.val + 1) t.val 2 256 1 24 0) m20 (fun _ H => St.s20 23 H) ?_
  refine R.ld1 (iv_t t) ?_
  refine R.ld1 (iv_t t) ?_
  refine Run.purTo ⟨(lF E t 3 14), (pieceV E t 2), (posF E t 14), _, _⟩ rfl ?_
  refine Run.seq ?_
  unfold k0_part162
  refine Run.load (v := pay19 E t 56) m19 (fun _ H => St.ld19 56 H) ?_
  refine Run.loadAny m20 fun _ => ?_
  refine Run.store (I' := StN E t (t.val + 1) t.val 2 256 1 25 0) m20 (fun _ H => St.s20 24 H) ?_
  refine Run.load (v := pay19 E t 57) m19 (fun _ H => St.ld19 57 H) ?_
  refine Run.loadAny m20 fun _ => ?_
  refine Run.store (I' := StN E t (t.val + 1) t.val 2 256 1 26 0) m20 (fun _ H => St.s20 25 H) ?_
  refine Run.load (v := pay19 E t 58) m19 (fun _ H => St.ld19 58 H) ?_
  refine Run.loadAny m20 fun _ => ?_
  refine Run.store (I' := StN E t (t.val + 1) t.val 2 256 1 27 0) m20 (fun _ H => St.s20 26 H) ?_
  refine Run.load (v := pay19 E t 59) m19 (fun _ H => St.ld19 59 H) ?_
  refine Run.loadAny m20 fun _ => ?_
  refine Run.purTo ⟨(lF E t 0 15), (lF E t 1 15), (lF E t 2 15), (lF E t 3 15), _, _⟩ rfl ?_
  refine Run.seq ?_
  unfold k0_part163
  refine Run.store (I' := StN E t (t.val + 1) t.val 2 256 1 28 0) m20 (fun _ H => St.s20 27 H) ?_
  refine R.ld1 (iv_t t) ?_
  refine R.ld1 (iv_t t) ?_
  refine Run.load (v := pay19 E t 60) m19 (fun _ H => St.ld19 60 H) ?_
  refine Run.purTo ⟨(vsF E t 15), (lF E t 0 16), _⟩ rfl ?_
  refine Run.seq ?_
  unfold k0_part164
  refine Run.loadAny m20 fun _ => ?_
  refine Run.store (I' := StN E t (t.val + 1) t.val 2 256 1 29 0) m20 (fun _ H => St.s20 28 H) ?_
  refine Run.load (v := pay19 E t 61) m19 (fun _ H => St.ld19 61 H) ?_
  refine Run.loadAny m20 fun _ => ?_
  refine Run.store (I' := StN E t (t.val + 1) t.val 2 256 1 30 0) m20 (fun _ H => St.s20 29 H) ?_
  refine Run.load (v := pay19 E t 62) m19 (fun _ H => St.ld19 62 H) ?_
  refine Run.loadAny m20 fun _ => ?_
  refine Run.store (I' := StN E t (t.val + 1) t.val 2 256 1 31 0) m20 (fun _ H => St.s20 30 H) ?_
  refine Run.load (v := pay19 E t 63) m19 (fun _ H => St.ld19 63 H) ?_
  refine Run.loadAny m20 fun _ => ?_
  refine Run.store (I' := StN E t (t.val + 1) t.val 2 256 1 32 0) m20 (fun _ H => St.s20 31 H) ?_
  refine R4.ld3 (iv_t t) ?_
  refine Run.load (v := pF E t 1) m20 (fun _ H => St.ld20 H) ?_
  refine Run.weaken (I' := StN E t (t.val + 1) t.val 2 256 2 0 0) (fun _ H => St.next H) ?_
  refine Run.purTo ⟨(lF E t 1 16), (lF E t 2 16), (lF E t 3 16), _, _, _⟩ rfl ?_
  refine Run.seq ?_
  unfold k0_part165
  refine R.ld1 (iv_t t) ?_
  refine R.ld1 (iv_t t) ?_
  refine Run.load (v := pay19 E t 64) m19 (fun _ H => St.ld19 64 H) ?_
  refine Run.purTo ⟨(accF E t 2), (vsF E t 16), (lF E t 0 17), _⟩ rfl ?_
  refine Run.seq ?_
  unfold k0_part166
  refine Run.loadAny m20 fun _ => ?_
  refine Run.store (I' := StN E t (t.val + 1) t.val 2 256 2 1 0) m20 (fun _ H => St.s20 0 H) ?_
  refine Run.load (v := pay19 E t 65) m19 (fun _ H => St.ld19 65 H) ?_
  refine Run.loadAny m20 fun _ => ?_
  refine Run.store (I' := StN E t (t.val + 1) t.val 2 256 2 2 0) m20 (fun _ H => St.s20 1 H) ?_
  refine Run.load (v := pay19 E t 66) m19 (fun _ H => St.ld19 66 H) ?_
  refine Run.loadAny m20 fun _ => ?_
  refine Run.store (I' := StN E t (t.val + 1) t.val 2 256 2 3 0) m20 (fun _ H => St.s20 2 H) ?_
  refine Run.load (v := pay19 E t 67) m19 (fun _ H => St.ld19 67 H) ?_
  refine Run.loadAny m20 fun _ => ?_
  refine Run.store (I' := StN E t (t.val + 1) t.val 2 256 2 4 0) m20 (fun _ H => St.s20 3 H) ?_
  refine R.ld1 (iv_t t) ?_
  refine R.ld1 (iv_t t) ?_
  refine Run.purTo ⟨(lF E t 1 17), (lF E t 2 17), (lF E t 3 17), (pieceV E t 2), (pieceV E t 3)⟩ rfl ?_
  refine Run.seq ?_
  unfold k0_part167
  refine Run.load (v := pay19 E t 68) m19 (fun _ H => St.ld19 68 H) ?_
  refine Run.loadAny m20 fun _ => ?_
  refine Run.store (I' := StN E t (t.val + 1) t.val 2 256 2 5 0) m20 (fun _ H => St.s20 4 H) ?_
  refine Run.load (v := pay19 E t 69) m19 (fun _ H => St.ld19 69 H) ?_
  refine Run.loadAny m20 fun _ => ?_
  refine Run.purTo ⟨(vsF E t 17), (lF E t 0 18), (lF E t 1 18), _⟩ rfl ?_
  refine Run.seq ?_
  unfold k0_part168
  refine Run.store (I' := StN E t (t.val + 1) t.val 2 256 2 6 0) m20 (fun _ H => St.s20 5 H) ?_
  refine Run.load (v := pay19 E t 70) m19 (fun _ H => St.ld19 70 H) ?_
  refine Run.loadAny m20 fun _ => ?_
  refine Run.store (I' := StN E t (t.val + 1) t.val 2 256 2 7 0) m20 (fun _ H => St.s20 6 H) ?_
  refine Run.load (v := pay19 E t 71) m19 (fun _ H => St.ld19 71 H) ?_
  refine Run.loadAny m20 fun _ => ?_
  refine Run.store (I' := StN E t (t.val + 1) t.val 2 256 2 8 0) m20 (fun _ H => St.s20 7 H) ?_
  refine R.ld1 (iv_t t) ?_
  refine R.ld1 (iv_t t) ?_
  refine Run.purTo ⟨(lF E t 2 18), (lF E t 3 18), (pieceV E t 2), (pieceV E t 3), (posF E t 18), (wrapF (posF E t 18))⟩ rfl ?_
  refine Run.seq ?_
  unfold k0_part169
  refine Run.load (v := pay19 E t 72) m19 (fun _ H => St.ld19 72 H) ?_
  refine Run.loadAny m20 fun _ => ?_
  refine Run.store (I' := StN E t (t.val + 1) t.val 2 256 2 9 0) m20 (fun _ H => St.s20 8 H) ?_
  refine Run.load (v := pay19 E t 73) m19 (fun _ H => St.ld19 73 H) ?_
  refine Run.loadAny m20 fun _ => ?_
  refine Run.store (I' := StN E t (t.val + 1) t.val 2 256 2 10 0) m20 (fun _ H => St.s20 9 H) ?_
  refine Run.load (v := pay19 E t 74) m19 (fun _ H => St.ld19 74 H) ?_
  refine Run.loadAny m20 fun _ => ?_
  refine Run.store (I' := StN E t (t.val + 1) t.val 2 256 2 11 0) m20 (fun _ H => St.s20 10 H) ?_
  refine Run.purTo ⟨(vsF E t 18), (lF E t 0 19), (lF E t 1 19), (lF E t 2 19)⟩ rfl ?_
  refine Run.seq ?_
  unfold k0_part170
  refine Run.load (v := pay19 E t 75) m19 (fun _ H => St.ld19 75 H) ?_
  refine Run.loadAny m20 fun _ => ?_
  refine Run.store (I' := StN E t (t.val + 1) t.val 2 256 2 12 0) m20 (fun _ H => St.s20 11 H) ?_
  refine R.ld1 (iv_t t) ?_
  refine R.ld1 (iv_t t) ?_
  refine Run.purTo ⟨(lF E t 3 19), (posF E t 19), _, _, _⟩ rfl ?_
  refine Run.seq ?_
  unfold k0_part171
  refine Run.load (v := pay19 E t 76) m19 (fun _ H => St.ld19 76 H) ?_
  refine Run.loadAny m20 fun _ => ?_
  refine Run.store (I' := StN E t (t.val + 1) t.val 2 256 2 13 0) m20 (fun _ H => St.s20 12 H) ?_
  refine Run.load (v := pay19 E t 77) m19 (fun _ H => St.ld19 77 H) ?_
  refine Run.loadAny m20 fun _ => ?_
  refine Run.store (I' := StN E t (t.val + 1) t.val 2 256 2 14 0) m20 (fun _ H => St.s20 13 H) ?_
  refine Run.load (v := pay19 E t 78) m19 (fun _ H => St.ld19 78 H) ?_
  refine Run.loadAny m20 fun _ => ?_
  refine Run.store (I' := StN E t (t.val + 1) t.val 2 256 2 15 0) m20 (fun _ H => St.s20 14 H) ?_
  refine Run.load (v := pay19 E t 79) m19 (fun _ H => St.ld19 79 H) ?_
  refine Run.loadAny m20 fun _ => ?_
  refine Run.store (I' := StN E t (t.val + 1) t.val 2 256 2 16 0) m20 (fun _ H => St.s20 15 H) ?_
  refine Run.purTo ⟨(lF E t 0 20), (lF E t 1 20), (lF E t 2 20), (lF E t 3 20), _⟩ rfl ?_
  refine Run.seq ?_
  unfold k0_part172
  refine R.ld1 (iv_t t) ?_
  refine R.ld1 (iv_t t) ?_
  refine Run.load (v := pay19 E t 80) m19 (fun _ H => St.ld19 80 H) ?_
  refine Run.loadAny m20 fun _ => ?_
  refine Run.store (I' := StN E t (t.val + 1) t.val 2 256 2 17 0) m20 (fun _ H => St.s20 16 H) ?_
  refine Run.purTo ⟨(vsF E t 20), (lF E t 0 21)⟩ rfl ?_
  refine Run.seq ?_
  unfold k0_part173
  refine Run.load (v := pay19 E t 81) m19 (fun _ H => St.ld19 81 H) ?_
  refine Run.loadAny m20 fun _ => ?_
  refine Run.store (I' := StN E t (t.val + 1) t.val 2 256 2 18 0) m20 (fun _ H => St.s20 17 H) ?_
  refine Run.load (v := pay19 E t 82) m19 (fun _ H => St.ld19 82 H) ?_
  refine Run.loadAny m20 fun _ => ?_
  refine Run.store (I' := StN E t (t.val + 1) t.val 2 256 2 19 0) m20 (fun _ H => St.s20 18 H) ?_
  refine Run.load (v := pay19 E t 83) m19 (fun _ H => St.ld19 83 H) ?_
  refine Run.loadAny m20 fun _ => ?_
  refine Run.store (I' := StN E t (t.val + 1) t.val 2 256 2 20 0) m20 (fun _ H => St.s20 19 H) ?_
  refine R.ld1 (iv_t t) ?_
  refine R.ld1 (iv_t t) ?_
  refine Run.purTo ⟨(lF E t 1 21), (lF E t 2 21), (lF E t 3 21), (pieceV E t 2), (pieceV E t 3), (posF E t 21)⟩ rfl ?_
  refine Run.seq ?_
  unfold k0_part174
  refine Run.load (v := pay19 E t 84) m19 (fun _ H => St.ld19 84 H) ?_
  refine Run.loadAny m20 fun _ => ?_
  refine Run.store (I' := StN E t (t.val + 1) t.val 2 256 2 21 0) m20 (fun _ H => St.s20 20 H) ?_
  refine Run.load (v := pay19 E t 85) m19 (fun _ H => St.ld19 85 H) ?_
  refine Run.loadAny m20 fun _ => ?_
  refine Run.store (I' := StN E t (t.val + 1) t.val 2 256 2 22 0) m20 (fun _ H => St.s20 21 H) ?_
  refine Run.purTo ⟨(vsF E t 21), (lF E t 0 22), (lF E t 1 22)⟩ rfl ?_
  refine Run.seq ?_
  unfold k0_part175
  refine Run.load (v := pay19 E t 86) m19 (fun _ H => St.ld19 86 H) ?_
  refine Run.loadAny m20 fun _ => ?_
  refine Run.store (I' := StN E t (t.val + 1) t.val 2 256 2 23 0) m20 (fun _ H => St.s20 22 H) ?_
  refine Run.load (v := pay19 E t 87) m19 (fun _ H => St.ld19 87 H) ?_
  refine Run.loadAny m20 fun _ => ?_
  refine Run.store (I' := StN E t (t.val + 1) t.val 2 256 2 24 0) m20 (fun _ H => St.s20 23 H) ?_
  refine R.ld1 (iv_t t) ?_
  refine R.ld1 (iv_t t) ?_
  refine Run.purTo ⟨(lF E t 2 22), (lF E t 3 22), (pieceV E t 3), (posF E t 22), _, _⟩ rfl ?_
  refine Run.seq ?_
  unfold k0_part176
  refine Run.load (v := pay19 E t 88) m19 (fun _ H => St.ld19 88 H) ?_
  refine Run.loadAny m20 fun _ => ?_
  refine Run.store (I' := StN E t (t.val + 1) t.val 2 256 2 25 0) m20 (fun _ H => St.s20 24 H) ?_
  refine Run.load (v := pay19 E t 89) m19 (fun _ H => St.ld19 89 H) ?_
  refine Run.loadAny m20 fun _ => ?_
  refine Run.store (I' := StN E t (t.val + 1) t.val 2 256 2 26 0) m20 (fun _ H => St.s20 25 H) ?_
  refine Run.load (v := pay19 E t 90) m19 (fun _ H => St.ld19 90 H) ?_
  refine Run.loadAny m20 fun _ => ?_
  refine Run.store (I' := StN E t (t.val + 1) t.val 2 256 2 27 0) m20 (fun _ H => St.s20 26 H) ?_
  refine Run.load (v := pay19 E t 91) m19 (fun _ H => St.ld19 91 H) ?_
  refine Run.purTo ⟨(vsF E t 22), (lF E t 0 23), (lF E t 1 23), (lF E t 2 23), _, _⟩ rfl ?_
  refine Run.seq ?_
  unfold k0_part177
  refine Run.loadAny m20 fun _ => ?_
  refine Run.store (I' := StN E t (t.val + 1) t.val 2 256 2 28 0) m20 (fun _ H => St.s20 27 H) ?_
  refine R.ld1 (iv_t t) ?_
  refine R.ld1 (iv_t t) ?_
  refine Run.purTo ⟨(lF E t 3 23), (vsF E t 23)⟩ rfl ?_
  refine Run.seq ?_
  unfold k0_part178
  refine Run.load (v := pay19 E t 92) m19 (fun _ H => St.ld19 92 H) ?_
  refine Run.loadAny m20 fun _ => ?_
  refine Run.store (I' := StN E t (t.val + 1) t.val 2 256 2 29 0) m20 (fun _ H => St.s20 28 H) ?_
  refine Run.load (v := pay19 E t 93) m19 (fun _ H => St.ld19 93 H) ?_
  refine Run.loadAny m20 fun _ => ?_
  refine Run.store (I' := StN E t (t.val + 1) t.val 2 256 2 30 0) m20 (fun _ H => St.s20 29 H) ?_
  refine Run.load (v := pay19 E t 94) m19 (fun _ H => St.ld19 94 H) ?_
  refine Run.loadAny m20 fun _ => ?_
  refine Run.store (I' := StN E t (t.val + 1) t.val 2 256 2 31 0) m20 (fun _ H => St.s20 30 H) ?_
  refine Run.load (v := pay19 E t 95) m19 (fun _ H => St.ld19 95 H) ?_
  refine Run.loadAny m20 fun _ => ?_
  refine Run.store (I' := StN E t (t.val + 1) t.val 2 256 2 32 0) m20 (fun _ H => St.s20 31 H) ?_
  refine R4.ld3 (iv_t t) ?_
  refine Run.purTo ⟨(lF E t 0 24), (lF E t 1 24), (lF E t 2 24), (lF E t 3 24), _⟩ rfl ?_
  refine Run.seq ?_
  unfold k0_part179
  refine Run.load (v := pF E t 2) m20 (fun _ H => St.ld20 H) ?_
  refine Run.weaken (I' := StN E t (t.val + 1) t.val 2 256 3 0 0) (fun _ H => St.next H) ?_
  refine R.ld1 (iv_t t) ?_
  refine R.ld1 (iv_t t) ?_
  refine Run.load (v := pay19 E t 96) m19 (fun _ H => St.ld19 96 H) ?_
  refine Run.purTo ⟨(accF E t 3), (vsF E t 24), _⟩ rfl ?_
  refine Run.seq ?_
  unfold k0_part180
  refine Run.loadAny m20 fun _ => ?_
  refine Run.store (I' := StN E t (t.val + 1) t.val 2 256 3 1 0) m20 (fun _ H => St.s20 0 H) ?_
  refine Run.load (v := pay19 E t 97) m19 (fun _ H => St.ld19 97 H) ?_
  refine Run.loadAny m20 fun _ => ?_
  refine Run.store (I' := StN E t (t.val + 1) t.val 2 256 3 2 0) m20 (fun _ H => St.s20 1 H) ?_
  refine Run.load (v := pay19 E t 98) m19 (fun _ H => St.ld19 98 H) ?_
  refine Run.loadAny m20 fun _ => ?_
  refine Run.store (I' := StN E t (t.val + 1) t.val 2 256 3 3 0) m20 (fun _ H => St.s20 2 H) ?_
  refine Run.load (v := pay19 E t 99) m19 (fun _ H => St.ld19 99 H) ?_
  refine Run.loadAny m20 fun _ => ?_
  refine Run.store (I' := StN E t (t.val + 1) t.val 2 256 3 4 0) m20 (fun _ H => St.s20 3 H) ?_
  refine R.ld1 (iv_t t) ?_
  refine Run.purTo ⟨(lF E t 0 25), (lF E t 1 25), (lF E t 2 25), (lF E t 3 25), (pieceV E t 3)⟩ rfl ?_
  refine Run.pur ?_
  exact h

end Cert.KernelIdeal.Hand

end
-- ==== Proof.KI.F255.lean ====
/-
  The last quarter of a trip, stepped through.
-/
module

public import proofs.«01_k».proof.Proof.KI.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

set_option maxHeartbeats 40000000 in
/-- From what the invariant says at its start to what it says at its end, with the values it hands on. -/
theorem f255 (E : Env F c) (t : Fin k0_t1_loop.trips) {β : Type} {k : _ → Prog (TpuEff nD τ sig (Elt F) Λ₀ .tc) β} {Q : β → sProp 𝕄} :
    Run c (XP E (lp (4 * (tb t).val + 4))) (StN E t (t.val + 1) t.val 2 256 7 12 0) (k ⟨(accF E t 7), (lF E t 0 59), (lF E t 1 59), (lF E t 2 59), (lF E t 3 59), (pieceV E t 7), 1024#32⟩) Q →
    Run c (XP E (lp (4 * (tb t).val + 4))) (StN E t (t.val + 1) t.val 2 256 3 4 0) (k0_part255 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 ltokF t (Scf.iv 0#32 1#32 t) (offF E t) (mF E t 0) (mF E t 1) (mF E t 2) (mF E t 3) (accF E t 3) (lF E t 0 25) (lF E t 1 25) (lF E t 2 25) (lF E t 3 25) (pieceV E t 3) >>= k) Q := by
  intro h
  have R4 := res4 E (tb t)
  have R := R4.toRes
  refine Run.seq ?_
  unfold k0_part255
  refine Run.seq ?_
  unfold k0_part181
  refine R.ld1 (iv_t t) ?_
  refine Run.load (v := pay19 E t 100) m19 (fun _ H => St.ld19 100 H) ?_
  refine Run.loadAny m20 fun _ => ?_
  refine Run.store (I' := StN E t (t.val + 1) t.val 2 256 3 5 0) m20 (fun _ H => St.s20 4 H) ?_
  refine Run.load (v := pay19 E t 101) m19 (fun _ H => St.ld19 101 H) ?_
  refine Run.purTo ⟨(vsF E t 25), (lF E t 0 26), _⟩ rfl ?_
  refine Run.seq ?_
  unfold k0_part182
  refine Run.loadAny m20 fun _ => ?_
  refine Run.store (I' := StN E t (t.val + 1) t.val 2 256 3 6 0) m20 (fun _ H => St.s20 5 H) ?_
  refine Run.load (v := pay19 E t 102) m19 (fun _ H => St.ld19 102 H) ?_
  refine Run.loadAny m20 fun _ => ?_
  refine Run.store (I' := StN E t (t.val + 1) t.val 2 256 3 7 0) m20 (fun _ H => St.s20 6 H) ?_
  refine Run.load (v := pay19 E t 103) m19 (fun _ H => St.ld19 103 H) ?_
  refine Run.loadAny m20 fun _ => ?_
  refine Run.store (I' := StN E t (t.val + 1) t.val 2 256 3 8 0) m20 (fun _ H => St.s20 7 H) ?_
  refine R.ld1 (iv_t t) ?_
  refine R.ld1 (iv_t t) ?_
  refine Run.purTo ⟨(lF E t 1 26), (lF E t 2 26), (lF E t 3 26), (pieceV E t 3), (pieceV E t 4), (posF E t 26), _, _⟩ rfl ?_
  refine Run.seq ?_
  unfold k0_part183
  refine Run.load (v := pay19 E t 104) m19 (fun _ H => St.ld19 104 H) ?_
  refine Run.loadAny m20 fun _ => ?_
  refine Run.store (I' := StN E t (t.val + 1) t.val 2 256 3 9 0) m20 (fun _ H => St.s20 8 H) ?_
  refine Run.load (v := pay19 E t 105) m19 (fun _ H => St.ld19 105 H) ?_
  refine Run.loadAny m20 fun _ => ?_
  refine Run.store (I' := StN E t (t.val + 1) t.val 2 256 3 10 0) m20 (fun _ H => St.s20 9 H) ?_
  refine Run.load (v := pay19 E t 106) m19 (fun _ H => St.ld19 106 H) ?_
  refine Run.purTo ⟨(vsF E t 26), (lF E t 0 27), (lF E t 1 27), (eF E t 106), (lF E t 2 27)⟩ rfl ?_
  refine Run.seq ?_
  unfold k0_part184
  refine Run.loadAny m20 fun _ => ?_
  refine Run.store (I' := StN E t (t.val + 1) t.val 2 256 3 11 0) m20 (fun _ H => St.s20 10 H) ?_
  refine Run.load (v := pay19 E t 107) m19 (fun _ H => St.ld19 107 H) ?_
  refine Run.loadAny m20 fun _ => ?_
  refine Run.store (I' := StN E t (t.val + 1) t.val 2 256 3 12 0) m20 (fun _ H => St.s20 11 H) ?_
  refine R.ld1 (iv_t t) ?_
  refine R.ld1 (iv_t t) ?_
  refine Run.purTo ⟨(lF E t 3 27), (pieceV E t 4), (posF E t 27), _, _, _, _⟩ rfl ?_
  refine Run.seq ?_
  unfold k0_part185
  refine Run.load (v := pay19 E t 108) m19 (fun _ H => St.ld19 108 H) ?_
  refine Run.loadAny m20 fun _ => ?_
  refine Run.store (I' := StN E t (t.val + 1) t.val 2 256 3 13 0) m20 (fun _ H => St.s20 12 H) ?_
  refine Run.load (v := pay19 E t 109) m19 (fun _ H => St.ld19 109 H) ?_
  refine Run.loadAny m20 fun _ => ?_
  refine Run.store (I' := StN E t (t.val + 1) t.val 2 256 3 14 0) m20 (fun _ H => St.s20 13 H) ?_
  refine Run.load (v := pay19 E t 110) m19 (fun _ H => St.ld19 110 H) ?_
  refine Run.loadAny m20 fun _ => ?_
  refine Run.store (I' := StN E t (t.val + 1) t.val 2 256 3 15 0) m20 (fun _ H => St.s20 14 H) ?_
  refine Run.load (v := pay19 E t 111) m19 (fun _ H => St.ld19 111 H) ?_
  refine Run.purTo ⟨(lF E t 0 28), (lF E t 1 28), (lF E t 2 28), (lF E t 3 28), _⟩ rfl ?_
  refine Run.seq ?_
  unfold k0_part186
  refine Run.loadAny m20 fun _ => ?_
  refine Run.store (I' := StN E t (t.val + 1) t.val 2 256 3 16 0) m20 (fun _ H => St.s20 15 H) ?_
  refine R.ld1 (iv_t t) ?_
  refine R.ld1 (iv_t t) ?_
  refine Run.load (v := pay19 E t 112) m19 (fun _ H => St.ld19 112 H) ?_
  refine Run.purTo ⟨(vsF E t 28), (eF E t 112), (lF E t 0 29)⟩ rfl ?_
  refine Run.seq ?_
  unfold k0_part187
  refine Run.loadAny m20 fun _ => ?_
  refine Run.store (I' := StN E t (t.val + 1) t.val 2 256 3 17 0) m20 (fun _ H => St.s20 16 H) ?_
  refine Run.load (v := pay19 E t 113) m19 (fun _ H => St.ld19 113 H) ?_
  refine Run.loadAny m20 fun _ => ?_
  refine Run.store (I' := StN E t (t.val + 1) t.val 2 256 3 18 0) m20 (fun _ H => St.s20 17 H) ?_
  refine Run.load (v := pay19 E t 114) m19 (fun _ H => St.ld19 114 H) ?_
  refine Run.loadAny m20 fun _ => ?_
  refine Run.store (I' := StN E t (t.val + 1) t.val 2 256 3 19 0) m20 (fun _ H => St.s20 18 H) ?_
  refine Run.load (v := pay19 E t 115) m19 (fun _ H => St.ld19 115 H) ?_
  refine Run.loadAny m20 fun _ => ?_
  refine Run.store (I' := StN E t (t.val + 1) t.val 2 256 3 20 0) m20 (fun _ H => St.s20 19 H) ?_
  refine R.ld1 (iv_t t) ?_
  refine Run.purTo ⟨(lF E t 1 29), (lF E t 2 29), (lF E t 3 29), (pieceV E t 3), _⟩ rfl ?_
  refine Run.seq ?_
  unfold k0_part188
  refine R.ld1 (iv_t t) ?_
  refine Run.load (v := pay19 E t 116) m19 (fun _ H => St.ld19 116 H) ?_
  refine Run.loadAny m20 fun _ => ?_
  refine Run.store (I' := StN E t (t.val + 1) t.val 2 256 3 21 0) m20 (fun _ H => St.s20 20 H) ?_
  refine Run.load (v := pay19 E t 117) m19 (fun _ H => St.ld19 117 H) ?_
  refine Run.purTo ⟨(vsF E t 29), (lF E t 0 30), (lF E t 1 30), _⟩ rfl ?_
  refine Run.seq ?_
  unfold k0_part189
  refine Run.loadAny m20 fun _ => ?_
  refine Run.store (I' := StN E t (t.val + 1) t.val 2 256 3 22 0) m20 (fun _ H => St.s20 21 H) ?_
  refine Run.load (v := pay19 E t 118) m19 (fun _ H => St.ld19 118 H) ?_
  refine Run.loadAny m20 fun _ => ?_
  refine Run.store (I' := StN E t (t.val + 1) t.val 2 256 3 23 0) m20 (fun _ H => St.s20 22 H) ?_
  refine Run.load (v := pay19 E t 119) m19 (fun _ H => St.ld19 119 H) ?_
  refine Run.loadAny m20 fun _ => ?_
  refine Run.store (I' := StN E t (t.val + 1) t.val 2 256 3 24 0) m20 (fun _ H => St.s20 23 H) ?_
  refine R.ld1 (iv_t t) ?_
  refine R.ld1 (iv_t t) ?_
  refine Run.purTo ⟨(lF E t 2 30), (lF E t 3 30), (pieceV E t 3), (pieceV E t 4), (posF E t 30), _, _, _⟩ rfl ?_
  refine Run.seq ?_
  unfold k0_part190
  refine Run.load (v := pay19 E t 120) m19 (fun _ H => St.ld19 120 H) ?_
  refine Run.loadAny m20 fun _ => ?_
  refine Run.store (I' := StN E t (t.val + 1) t.val 2 256 3 25 0) m20 (fun _ H => St.s20 24 H) ?_
  refine Run.load (v := pay19 E t 121) m19 (fun _ H => St.ld19 121 H) ?_
  refine Run.loadAny m20 fun _ => ?_
  refine Run.store (I' := StN E t (t.val + 1) t.val 2 256 3 26 0) m20 (fun _ H => St.s20 25 H) ?_
  refine Run.load (v := pay19 E t 122) m19 (fun _ H => St.ld19 122 H) ?_
  refine Run.loadAny m20 fun _ => ?_
  refine Run.purTo ⟨(vsF E t 30), (lF E t 0 31), (lF E t 1 31), (lF E t 2 31), _, _⟩ rfl ?_
  refine Run.seq ?_
  unfold k0_part191
  refine Run.store (I' := StN E t (t.val + 1) t.val 2 256 3 27 0) m20 (fun _ H => St.s20 26 H) ?_
  refine Run.load (v := pay19 E t 123) m19 (fun _ H => St.ld19 123 H) ?_
  refine Run.loadAny m20 fun _ => ?_
  refine Run.store (I' := StN E t (t.val + 1) t.val 2 256 3 28 0) m20 (fun _ H => St.s20 27 H) ?_
  refine R.ld1 (iv_t t) ?_
  refine R.ld1 (iv_t t) ?_
  refine Run.purTo ⟨(lF E t 3 31), (pieceV E t 4), (posF E t 31), _, (wrapF (posF E t 31))⟩ rfl ?_
  refine Run.seq ?_
  unfold k0_part192
  refine Run.load (v := pay19 E t 124) m19 (fun _ H => St.ld19 124 H) ?_
  refine Run.loadAny m20 fun _ => ?_
  refine Run.store (I' := StN E t (t.val + 1) t.val 2 256 3 29 0) m20 (fun _ H => St.s20 28 H) ?_
  refine Run.load (v := pay19 E t 125) m19 (fun _ H => St.ld19 125 H) ?_
  refine Run.loadAny m20 fun _ => ?_
  refine Run.store (I' := StN E t (t.val + 1) t.val 2 256 3 30 0) m20 (fun _ H => St.s20 29 H) ?_
  refine Run.load (v := pay19 E t 126) m19 (fun _ H => St.ld19 126 H) ?_
  refine Run.loadAny m20 fun _ => ?_
  refine Run.store (I' := StN E t (t.val + 1) t.val 2 256 3 31 0) m20 (fun _ H => St.s20 30 H) ?_
  refine Run.load (v := pay19 E t 127) m19 (fun _ H => St.ld19 127 H) ?_
  refine Run.loadAny m20 fun _ => ?_
  refine Run.purTo ⟨(lF E t 0 32), (lF E t 1 32), (lF E t 2 32), (lF E t 3 32), _⟩ rfl ?_
  refine Run.seq ?_
  unfold k0_part193
  refine Run.store (I' := StN E t (t.val + 1) t.val 2 256 3 32 0) m20 (fun _ H => St.s20 31 H) ?_
  refine R4.ld3 (iv_t t) ?_
  refine Run.load (v := pF E t 3) m20 (fun _ H => St.ld20 H) ?_
  refine Run.weaken (I' := StN E t (t.val + 1) t.val 2 256 4 0 0) (fun _ H => St.next H) ?_
  refine R.ld1 (iv_t t) ?_
  refine R.ld1 (iv_t t) ?_
  refine Run.purTo ⟨(accF E t 4), (posF E t 32), _, _⟩ rfl ?_
  refine Run.seq ?_
  unfold k0_part194
  refine Run.load (v := pay19 E t 128) m19 (fun _ H => St.ld19 128 H) ?_
  refine Run.loadAny m20 fun _ => ?_
  refine Run.store (I' := StN E t (t.val + 1) t.val 2 256 4 1 0) m20 (fun _ H => St.s20 0 H) ?_
  refine Run.load (v := pay19 E t 129) m19 (fun _ H => St.ld19 129 H) ?_
  refine Run.loadAny m20 fun _ => ?_
  refine Run.store (I' := StN E t (t.val + 1) t.val 2 256 4 2 0) m20 (fun _ H => St.s20 1 H) ?_
  refine Run.load (v := pay19 E t 130) m19 (fun _ H => St.ld19 130 H) ?_
  refine Run.loadAny m20 fun _ => ?_
  refine Run.store (I' := StN E t (t.val + 1) t.val 2 256 4 3 0) m20 (fun _ H => St.s20 2 H) ?_
  refine Run.load (v := pay19 E t 131) m19 (fun _ H => St.ld19 131 H) ?_
  refine Run.loadAny m20 fun _ => ?_
  refine Run.store (I' := StN E t (t.val + 1) t.val 2 256 4 4 0) m20 (fun _ H => St.s20 3 H) ?_
  refine Run.purTo ⟨(lF E t 0 33), (lF E t 1 33), (lF E t 2 33), (lF E t 3 33)⟩ rfl ?_
  refine Run.seq ?_
  unfold k0_part195
  refine R.ld1 (iv_t t) ?_
  refine R.ld1 (iv_t t) ?_
  refine Run.load (v := pay19 E t 132) m19 (fun _ H => St.ld19 132 H) ?_
  refine Run.loadAny m20 fun _ => ?_
  refine Run.purTo ⟨(vsF E t 33), (lF E t 0 34), _⟩ rfl ?_
  refine Run.seq ?_
  unfold k0_part196
  refine Run.store (I' := StN E t (t.val + 1) t.val 2 256 4 5 0) m20 (fun _ H => St.s20 4 H) ?_
  refine Run.load (v := pay19 E t 133) m19 (fun _ H => St.ld19 133 H) ?_
  refine Run.loadAny m20 fun _ => ?_
  refine Run.store (I' := StN E t (t.val + 1) t.val 2 256 4 6 0) m20 (fun _ H => St.s20 5 H) ?_
  refine Run.load (v := pay19 E t 134) m19 (fun _ H => St.ld19 134 H) ?_
  refine Run.loadAny m20 fun _ => ?_
  refine Run.store (I' := StN E t (t.val + 1) t.val 2 256 4 7 0) m20 (fun _ H => St.s20 6 H) ?_
  refine Run.load (v := pay19 E t 135) m19 (fun _ H => St.ld19 135 H) ?_
  refine Run.loadAny m20 fun _ => ?_
  refine Run.store (I' := StN E t (t.val + 1) t.val 2 256 4 8 0) m20 (fun _ H => St.s20 7 H) ?_
  refine R.ld1 (iv_t t) ?_
  refine R.ld1 (iv_t t) ?_
  refine Run.purTo ⟨(lF E t 1 34), (lF E t 2 34), (lF E t 3 34), (pieceV E t 4), (pieceV E t 5), _⟩ rfl ?_
  refine Run.seq ?_
  unfold k0_part197
  refine Run.load (v := pay19 E t 136) m19 (fun _ H => St.ld19 136 H) ?_
  refine Run.loadAny m20 fun _ => ?_
  refine Run.store (I' := StN E t (t.val + 1) t.val 2 256 4 9 0) m20 (fun _ H => St.s20 8 H) ?_
  refine Run.load (v := pay19 E t 137) m19 (fun _ H => St.ld19 137 H) ?_
  refine Run.loadAny m20 fun _ => ?_
  refine Run.store (I' := StN E t (t.val + 1) t.val 2 256 4 10 0) m20 (fun _ H => St.s20 9 H) ?_
  refine Run.purTo ⟨(vsF E t 34), (lF E t 0 35), (lF E t 1 35)⟩ rfl ?_
  refine Run.seq ?_
  unfold k0_part198
  refine Run.load (v := pay19 E t 138) m19 (fun _ H => St.ld19 138 H) ?_
  refine Run.loadAny m20 fun _ => ?_
  refine Run.store (I' := StN E t (t.val + 1) t.val 2 256 4 11 0) m20 (fun _ H => St.s20 10 H) ?_
  refine Run.load (v := pay19 E t 139) m19 (fun _ H => St.ld19 139 H) ?_
  refine Run.loadAny m20 fun _ => ?_
  refine Run.store (I' := StN E t (t.val + 1) t.val 2 256 4 12 0) m20 (fun _ H => St.s20 11 H) ?_
  refine R.ld1 (iv_t t) ?_
  refine R.ld1 (iv_t t) ?_
  refine Run.purTo ⟨(lF E t 2 35), (lF E t 3 35), (pieceV E t 5), (posF E t 35), _, _⟩ rfl ?_
  refine Run.seq ?_
  unfold k0_part199
  refine Run.load (v := pay19 E t 140) m19 (fun _ H => St.ld19 140 H) ?_
  refine Run.loadAny m20 fun _ => ?_
  refine Run.store (I' := StN E t (t.val + 1) t.val 2 256 4 13 0) m20 (fun _ H => St.s20 12 H) ?_
  refine Run.load (v := pay19 E t 141) m19 (fun _ H => St.ld19 141 H) ?_
  refine Run.loadAny m20 fun _ => ?_
  refine Run.store (I' := StN E t (t.val + 1) t.val 2 256 4 14 0) m20 (fun _ H => St.s20 13 H) ?_
  refine Run.load (v := pay19 E t 142) m19 (fun _ H => St.ld19 142 H) ?_
  refine Run.loadAny m20 fun _ => ?_
  refine Run.store (I' := StN E t (t.val + 1) t.val 2 256 4 15 0) m20 (fun _ H => St.s20 14 H) ?_
  refine Run.purTo ⟨(vsF E t 35), (lF E t 0 36), (lF E t 1 36), (lF E t 2 36)⟩ rfl ?_
  refine Run.seq ?_
  unfold k0_part200
  refine Run.load (v := pay19 E t 143) m19 (fun _ H => St.ld19 143 H) ?_
  refine Run.loadAny m20 fun _ => ?_
  refine Run.store (I' := StN E t (t.val + 1) t.val 2 256 4 16 0) m20 (fun _ H => St.s20 15 H) ?_
  refine R.ld1 (iv_t t) ?_
  refine R.ld1 (iv_t t) ?_
  refine Run.purTo ⟨(lF E t 3 36), (vsF E t 36)⟩ rfl ?_
  refine Run.seq ?_
  unfold k0_part201
  refine Run.load (v := pay19 E t 144) m19 (fun _ H => St.ld19 144 H) ?_
  refine Run.loadAny m20 fun _ => ?_
  refine Run.store (I' := StN E t (t.val + 1) t.val 2 256 4 17 0) m20 (fun _ H => St.s20 16 H) ?_
  refine Run.load (v := pay19 E t 145) m19 (fun _ H => St.ld19 145 H) ?_
  refine Run.loadAny m20 fun _ => ?_
  refine Run.store (I' := StN E t (t.val + 1) t.val 2 256 4 18 0) m20 (fun _ H => St.s20 17 H) ?_
  refine Run.load (v := pay19 E t 146) m19 (fun _ H => St.ld19 146 H) ?_
  refine Run.loadAny m20 fun _ => ?_
  refine Run.store (I' := StN E t (t.val + 1) t.val 2 256 4 19 0) m20 (fun _ H => St.s20 18 H) ?_
  refine Run.load (v := pay19 E t 147) m19 (fun _ H => St.ld19 147 H) ?_
  refine Run.loadAny m20 fun _ => ?_
  refine Run.store (I' := StN E t (t.val + 1) t.val 2 256 4 20 0) m20 (fun _ H => St.s20 19 H) ?_
  refine Run.purTo ⟨(lF E t 0 37), (lF E t 1 37), (lF E t 2 37), (lF E t 3 37), _⟩ rfl ?_
  refine Run.seq ?_
  unfold k0_part202
  refine R.ld1 (iv_t t) ?_
  refine R.ld1 (iv_t t) ?_
  refine Run.load (v := pay19 E t 148) m19 (fun _ H => St.ld19 148 H) ?_
  refine Run.loadAny m20 fun _ => ?_
  refine Run.store (I' := StN E t (t.val + 1) t.val 2 256 4 21 0) m20 (fun _ H => St.s20 20 H) ?_
  refine Run.purTo ⟨(vsF E t 37), (lF E t 0 38)⟩ rfl ?_
  refine Run.seq ?_
  unfold k0_part203
  refine Run.load (v := pay19 E t 149) m19 (fun _ H => St.ld19 149 H) ?_
  refine Run.loadAny m20 fun _ => ?_
  refine Run.store (I' := StN E t (t.val + 1) t.val 2 256 4 22 0) m20 (fun _ H => St.s20 21 H) ?_
  refine Run.load (v := pay19 E t 150) m19 (fun _ H => St.ld19 150 H) ?_
  refine Run.loadAny m20 fun _ => ?_
  refine Run.store (I' := StN E t (t.val + 1) t.val 2 256 4 23 0) m20 (fun _ H => St.s20 22 H) ?_
  refine Run.load (v := pay19 E t 151) m19 (fun _ H => St.ld19 151 H) ?_
  refine Run.loadAny m20 fun _ => ?_
  refine Run.store (I' := StN E t (t.val + 1) t.val 2 256 4 24 0) m20 (fun _ H => St.s20 23 H) ?_
  refine R.ld1 (iv_t t) ?_
  refine R.ld1 (iv_t t) ?_
  refine Run.purTo ⟨(lF E t 1 38), (lF E t 2 38), (lF E t 3 38), (pieceV E t 4), (pieceV E t 5), (posF E t 38), _⟩ rfl ?_
  refine Run.seq ?_
  unfold k0_part204
  refine Run.load (v := pay19 E t 152) m19 (fun _ H => St.ld19 152 H) ?_
  refine Run.loadAny m20 fun _ => ?_
  refine Run.store (I' := StN E t (t.val + 1) t.val 2 256 4 25 0) m20 (fun _ H => St.s20 24 H) ?_
  refine Run.load (v := pay19 E t 153) m19 (fun _ H => St.ld19 153 H) ?_
  refine Run.loadAny m20 fun _ => ?_
  refine Run.store (I' := StN E t (t.val + 1) t.val 2 256 4 26 0) m20 (fun _ H => St.s20 25 H) ?_
  refine Run.load (v := pay19 E t 154) m19 (fun _ H => St.ld19 154 H) ?_
  refine Run.purTo ⟨(vsF E t 38), (lF E t 0 39), (lF E t 1 39), _, _⟩ rfl ?_
  refine Run.seq ?_
  unfold k0_part205
  refine Run.loadAny m20 fun _ => ?_
  refine Run.store (I' := StN E t (t.val + 1) t.val 2 256 4 27 0) m20 (fun _ H => St.s20 26 H) ?_
  refine Run.load (v := pay19 E t 155) m19 (fun _ H => St.ld19 155 H) ?_
  refine Run.loadAny m20 fun _ => ?_
  refine Run.store (I' := StN E t (t.val + 1) t.val 2 256 4 28 0) m20 (fun _ H => St.s20 27 H) ?_
  refine R.ld1 (iv_t t) ?_
  refine R.ld1 (iv_t t) ?_
  refine Run.purTo ⟨(lF E t 2 39), (lF E t 3 39), (pieceV E t 5), (posF E t 39), _, _, _⟩ rfl ?_
  refine Run.seq ?_
  unfold k0_part206
  refine Run.load (v := pay19 E t 156) m19 (fun _ H => St.ld19 156 H) ?_
  refine Run.loadAny m20 fun _ => ?_
  refine Run.store (I' := StN E t (t.val + 1) t.val 2 256 4 29 0) m20 (fun _ H => St.s20 28 H) ?_
  refine Run.load (v := pay19 E t 157) m19 (fun _ H => St.ld19 157 H) ?_
  refine Run.loadAny m20 fun _ => ?_
  refine Run.store (I' := StN E t (t.val + 1) t.val 2 256 4 30 0) m20 (fun _ H => St.s20 29 H) ?_
  refine Run.load (v := pay19 E t 158) m19 (fun _ H => St.ld19 158 H) ?_
  refine Run.loadAny m20 fun _ => ?_
  refine Run.store (I' := StN E t (t.val + 1) t.val 2 256 4 31 0) m20 (fun _ H => St.s20 30 H) ?_
  refine Run.load (v := pay19 E t 159) m19 (fun _ H => St.ld19 159 H) ?_
  refine Run.purTo ⟨(vsF E t 39), (lF E t 0 40), (lF E t 1 40), (lF E t 2 40), (eF E t 159)⟩ rfl ?_
  refine Run.seq ?_
  unfold k0_part207
  refine Run.loadAny m20 fun _ => ?_
  refine Run.store (I' := StN E t (t.val + 1) t.val 2 256 4 32 0) m20 (fun _ H => St.s20 31 H) ?_
  refine R4.ld3 (iv_t t) ?_
  refine Run.load (v := pF E t 4) m20 (fun _ H => St.ld20 H) ?_
  refine Run.weaken (I' := StN E t (t.val + 1) t.val 2 256 5 0 0) (fun _ H => St.next H) ?_
  refine R.ld1 (iv_t t) ?_
  refine R.ld1 (iv_t t) ?_
  refine Run.purTo ⟨(lF E t 3 40), (accF E t 5), (pieceV E t 6), (posF E t 40), _, _, _⟩ rfl ?_
  refine Run.seq ?_
  unfold k0_part208
  refine Run.load (v := pay19 E t 160) m19 (fun _ H => St.ld19 160 H) ?_
  refine Run.loadAny m20 fun _ => ?_
  refine Run.store (I' := StN E t (t.val + 1) t.val 2 256 5 1 0) m20 (fun _ H => St.s20 0 H) ?_
  refine Run.load (v := pay19 E t 161) m19 (fun _ H => St.ld19 161 H) ?_
  refine Run.loadAny m20 fun _ => ?_
  refine Run.store (I' := StN E t (t.val + 1) t.val 2 256 5 2 0) m20 (fun _ H => St.s20 1 H) ?_
  refine Run.load (v := pay19 E t 162) m19 (fun _ H => St.ld19 162 H) ?_
  refine Run.loadAny m20 fun _ => ?_
  refine Run.store (I' := StN E t (t.val + 1) t.val 2 256 5 3 0) m20 (fun _ H => St.s20 2 H) ?_
  refine Run.load (v := pay19 E t 163) m19 (fun _ H => St.ld19 163 H) ?_
  refine Run.purTo ⟨(vsF E t 40), (lF E t 0 41), (lF E t 1 41), (lF E t 2 41), (eF E t 163), (lF E t 3 41)⟩ rfl ?_
  refine Run.seq ?_
  unfold k0_part209
  refine Run.loadAny m20 fun _ => ?_
  refine Run.store (I' := StN E t (t.val + 1) t.val 2 256 5 4 0) m20 (fun _ H => St.s20 3 H) ?_
  refine R.ld1 (iv_t t) ?_
  refine R.ld1 (iv_t t) ?_
  refine Run.load (v := pay19 E t 164) m19 (fun _ H => St.ld19 164 H) ?_
  refine Run.purTo ⟨(vsF E t 41), _⟩ rfl ?_
  refine Run.seq ?_
  unfold k0_part210
  refine Run.loadAny m20 fun _ => ?_
  refine Run.store (I' := StN E t (t.val + 1) t.val 2 256 5 5 0) m20 (fun _ H => St.s20 4 H) ?_
  refine Run.load (v := pay19 E t 165) m19 (fun _ H => St.ld19 165 H) ?_
  refine Run.loadAny m20 fun _ => ?_
  refine Run.store (I' := StN E t (t.val + 1) t.val 2 256 5 6 0) m20 (fun _ H => St.s20 5 H) ?_
  refine Run.load (v := pay19 E t 166) m19 (fun _ H => St.ld19 166 H) ?_
  refine Run.loadAny m20 fun _ => ?_
  refine Run.store (I' := StN E t (t.val + 1) t.val 2 256 5 7 0) m20 (fun _ H => St.s20 6 H) ?_
  refine Run.load (v := pay19 E t 167) m19 (fun _ H => St.ld19 167 H) ?_
  refine Run.loadAny m20 fun _ => ?_
  refine Run.store (I' := StN E t (t.val + 1) t.val 2 256 5 8 0) m20 (fun _ H => St.s20 7 H) ?_
  refine R.ld1 (iv_t t) ?_
  refine Run.purTo ⟨(lF E t 0 42), (lF E t 1 42), (lF E t 2 42), (lF E t 3 42), (pieceV E t 5), _⟩ rfl ?_
  refine Run.seq ?_
  unfold k0_part211
  refine R.ld1 (iv_t t) ?_
  refine Run.load (v := pay19 E t 168) m19 (fun _ H => St.ld19 168 H) ?_
  refine Run.loadAny m20 fun _ => ?_
  refine Run.store (I' := StN E t (t.val + 1) t.val 2 256 5 9 0) m20 (fun _ H => St.s20 8 H) ?_
  refine Run.load (v := pay19 E t 169) m19 (fun _ H => St.ld19 169 H) ?_
  refine Run.purTo ⟨(vsF E t 42), (lF E t 0 43), (eF E t 169), (lF E t 1 43)⟩ rfl ?_
  refine Run.seq ?_
  unfold k0_part212
  refine Run.loadAny m20 fun _ => ?_
  refine Run.store (I' := StN E t (t.val + 1) t.val 2 256 5 10 0) m20 (fun _ H => St.s20 9 H) ?_
  refine Run.load (v := pay19 E t 170) m19 (fun _ H => St.ld19 170 H) ?_
  refine Run.loadAny m20 fun _ => ?_
  refine Run.store (I' := StN E t (t.val + 1) t.val 2 256 5 11 0) m20 (fun _ H => St.s20 10 H) ?_
  refine Run.load (v := pay19 E t 171) m19 (fun _ H => St.ld19 171 H) ?_
  refine Run.loadAny m20 fun _ => ?_
  refine Run.store (I' := StN E t (t.val + 1) t.val 2 256 5 12 0) m20 (fun _ H => St.s20 11 H) ?_
  refine R.ld1 (iv_t t) ?_
  refine R.ld1 (iv_t t) ?_
  refine Run.purTo ⟨(lF E t 2 43), (lF E t 3 43), (pieceV E t 5), (pieceV E t 6), (posF E t 43), _, _, _⟩ rfl ?_
  refine Run.seq ?_
  unfold k0_part213
  refine Run.load (v := pay19 E t 172) m19 (fun _ H => St.ld19 172 H) ?_
  refine Run.loadAny m20 fun _ => ?_
  refine Run.store (I' := StN E t (t.val + 1) t.val 2 256 5 13 0) m20 (fun _ H => St.s20 12 H) ?_
  refine Run.load (v := pay19 E t 173) m19 (fun _ H => St.ld19 173 H) ?_
  refine Run.loadAny m20 fun _ => ?_
  refine Run.store (I' := StN E t (t.val + 1) t.val 2 256 5 14 0) m20 (fun _ H => St.s20 13 H) ?_
  refine Run.load (v := pay19 E t 174) m19 (fun _ H => St.ld19 174 H) ?_
  refine Run.purTo ⟨(vsF E t 43), (lF E t 0 44), (lF E t 1 44), (lF E t 2 44), _⟩ rfl ?_
  refine Run.seq ?_
  unfold k0_part214
  refine Run.loadAny m20 fun _ => ?_
  refine Run.store (I' := StN E t (t.val + 1) t.val 2 256 5 15 0) m20 (fun _ H => St.s20 14 H) ?_
  refine Run.load (v := pay19 E t 175) m19 (fun _ H => St.ld19 175 H) ?_
  refine Run.loadAny m20 fun _ => ?_
  refine Run.store (I' := StN E t (t.val + 1) t.val 2 256 5 16 0) m20 (fun _ H => St.s20 15 H) ?_
  refine R.ld1 (iv_t t) ?_
  refine R.ld1 (iv_t t) ?_
  refine Run.purTo ⟨(lF E t 3 44), (pieceV E t 6), (posF E t 44), _, _⟩ rfl ?_
  refine Run.seq ?_
  unfold k0_part215
  refine Run.load (v := pay19 E t 176) m19 (fun _ H => St.ld19 176 H) ?_
  refine Run.loadAny m20 fun _ => ?_
  refine Run.store (I' := StN E t (t.val + 1) t.val 2 256 5 17 0) m20 (fun _ H => St.s20 16 H) ?_
  refine Run.load (v := pay19 E t 177) m19 (fun _ H => St.ld19 177 H) ?_
  refine Run.loadAny m20 fun _ => ?_
  refine Run.store (I' := StN E t (t.val + 1) t.val 2 256 5 18 0) m20 (fun _ H => St.s20 17 H) ?_
  refine Run.load (v := pay19 E t 178) m19 (fun _ H => St.ld19 178 H) ?_
  refine Run.loadAny m20 fun _ => ?_
  refine Run.store (I' := StN E t (t.val + 1) t.val 2 256 5 19 0) m20 (fun _ H => St.s20 18 H) ?_
  refine Run.load (v := pay19 E t 179) m19 (fun _ H => St.ld19 179 H) ?_
  refine Run.loadAny m20 fun _ => ?_
  refine Run.purTo ⟨(lF E t 0 45), (lF E t 1 45), (lF E t 2 45), (lF E t 3 45), _, _⟩ rfl ?_
  refine Run.seq ?_
  unfold k0_part216
  refine Run.store (I' := StN E t (t.val + 1) t.val 2 256 5 20 0) m20 (fun _ H => St.s20 19 H) ?_
  refine R.ld1 (iv_t t) ?_
  refine R.ld1 (iv_t t) ?_
  refine Run.load (v := pay19 E t 180) m19 (fun _ H => St.ld19 180 H) ?_
  refine Run.purTo ⟨(vsF E t 45), (lF E t 0 46), _⟩ rfl ?_
  refine Run.seq ?_
  unfold k0_part217
  refine Run.loadAny m20 fun _ => ?_
  refine Run.store (I' := StN E t (t.val + 1) t.val 2 256 5 21 0) m20 (fun _ H => St.s20 20 H) ?_
  refine Run.load (v := pay19 E t 181) m19 (fun _ H => St.ld19 181 H) ?_
  refine Run.loadAny m20 fun _ => ?_
  refine Run.store (I' := StN E t (t.val + 1) t.val 2 256 5 22 0) m20 (fun _ H => St.s20 21 H) ?_
  refine Run.load (v := pay19 E t 182) m19 (fun _ H => St.ld19 182 H) ?_
  refine Run.loadAny m20 fun _ => ?_
  refine Run.store (I' := StN E t (t.val + 1) t.val 2 256 5 23 0) m20 (fun _ H => St.s20 22 H) ?_
  refine Run.load (v := pay19 E t 183) m19 (fun _ H => St.ld19 183 H) ?_
  refine Run.loadAny m20 fun _ => ?_
  refine Run.store (I' := StN E t (t.val + 1) t.val 2 256 5 24 0) m20 (fun _ H => St.s20 23 H) ?_
  refine R.ld1 (iv_t t) ?_
  refine R.ld1 (iv_t t) ?_
  refine Run.purTo ⟨(lF E t 1 46), (lF E t 2 46), (lF E t 3 46), (pieceV E t 5), _⟩ rfl ?_
  refine Run.seq ?_
  unfold k0_part218
  refine Run.load (v := pay19 E t 184) m19 (fun _ H => St.ld19 184 H) ?_
  refine Run.loadAny m20 fun _ => ?_
  refine Run.store (I' := StN E t (t.val + 1) t.val 2 256 5 25 0) m20 (fun _ H => St.s20 24 H) ?_
  refine Run.load (v := pay19 E t 185) m19 (fun _ H => St.ld19 185 H) ?_
  refine Run.loadAny m20 fun _ => ?_
  refine Run.purTo ⟨(vsF E t 46), (lF E t 0 47), (lF E t 1 47), _, _⟩ rfl ?_
  refine Run.seq ?_
  unfold k0_part219
  refine Run.store (I' := StN E t (t.val + 1) t.val 2 256 5 26 0) m20 (fun _ H => St.s20 25 H) ?_
  refine Run.load (v := pay19 E t 186) m19 (fun _ H => St.ld19 186 H) ?_
  refine Run.loadAny m20 fun _ => ?_
  refine Run.store (I' := StN E t (t.val + 1) t.val 2 256 5 27 0) m20 (fun _ H => St.s20 26 H) ?_
  refine Run.load (v := pay19 E t 187) m19 (fun _ H => St.ld19 187 H) ?_
  refine Run.loadAny m20 fun _ => ?_
  refine Run.store (I' := StN E t (t.val + 1) t.val 2 256 5 28 0) m20 (fun _ H => St.s20 27 H) ?_
  refine R.ld1 (iv_t t) ?_
  refine R.ld1 (iv_t t) ?_
  refine Run.purTo ⟨(lF E t 2 47), (lF E t 3 47), (pieceV E t 5), (pieceV E t 6), (posF E t 47), (wrapInF (posF E t 47))⟩ rfl ?_
  refine Run.seq ?_
  unfold k0_part220
  refine Run.load (v := pay19 E t 188) m19 (fun _ H => St.ld19 188 H) ?_
  refine Run.loadAny m20 fun _ => ?_
  refine Run.store (I' := StN E t (t.val + 1) t.val 2 256 5 29 0) m20 (fun _ H => St.s20 28 H) ?_
  refine Run.load (v := pay19 E t 189) m19 (fun _ H => St.ld19 189 H) ?_
  refine Run.loadAny m20 fun _ => ?_
  refine Run.store (I' := StN E t (t.val + 1) t.val 2 256 5 30 0) m20 (fun _ H => St.s20 29 H) ?_
  refine Run.load (v := pay19 E t 190) m19 (fun _ H => St.ld19 190 H) ?_
  refine Run.loadAny m20 fun _ => ?_
  refine Run.purTo ⟨(vsF E t 47), (lF E t 0 48), (lF E t 1 48), (lF E t 2 48), _⟩ rfl ?_
  refine Run.seq ?_
  unfold k0_part221
  refine Run.store (I' := StN E t (t.val + 1) t.val 2 256 5 31 0) m20 (fun _ H => St.s20 30 H) ?_
  refine Run.load (v := pay19 E t 191) m19 (fun _ H => St.ld19 191 H) ?_
  refine Run.loadAny m20 fun _ => ?_
  refine Run.store (I' := StN E t (t.val + 1) t.val 2 256 5 32 0) m20 (fun _ H => St.s20 31 H) ?_
  refine R4.ld3 (iv_t t) ?_
  refine Run.load (v := pF E t 5) m20 (fun _ H => St.ld20 H) ?_
  refine Run.weaken (I' := StN E t (t.val + 1) t.val 2 256 6 0 0) (fun _ H => St.next H) ?_
  refine R.ld1 (iv_t t) ?_
  refine R.ld1 (iv_t t) ?_
  refine Run.purTo ⟨(lF E t 3 48), (accF E t 6), (pieceV E t 6), (pieceV E t 7), (posF E t 48), (wrapF (posF E t 48))⟩ rfl ?_
  refine Run.seq ?_
  unfold k0_part222
  refine Run.load (v := pay19 E t 192) m19 (fun _ H => St.ld19 192 H) ?_
  refine Run.loadAny m20 fun _ => ?_
  refine Run.store (I' := StN E t (t.val + 1) t.val 2 256 6 1 0) m20 (fun _ H => St.s20 0 H) ?_
  refine Run.load (v := pay19 E t 193) m19 (fun _ H => St.ld19 193 H) ?_
  refine Run.loadAny m20 fun _ => ?_
  refine Run.store (I' := StN E t (t.val + 1) t.val 2 256 6 2 0) m20 (fun _ H => St.s20 1 H) ?_
  refine Run.load (v := pay19 E t 194) m19 (fun _ H => St.ld19 194 H) ?_
  refine Run.loadAny m20 fun _ => ?_
  refine Run.store (I' := StN E t (t.val + 1) t.val 2 256 6 3 0) m20 (fun _ H => St.s20 2 H) ?_
  refine Run.purTo ⟨(vsF E t 48), (lF E t 0 49), (lF E t 1 49), (lF E t 2 49)⟩ rfl ?_
  refine Run.seq ?_
  unfold k0_part223
  refine Run.load (v := pay19 E t 195) m19 (fun _ H => St.ld19 195 H) ?_
  refine Run.loadAny m20 fun _ => ?_
  refine Run.store (I' := StN E t (t.val + 1) t.val 2 256 6 4 0) m20 (fun _ H => St.s20 3 H) ?_
  refine R.ld1 (iv_t t) ?_
  refine R.ld1 (iv_t t) ?_
  refine Run.purTo ⟨(lF E t 3 49), (posF E t 49), _, _, _⟩ rfl ?_
  refine Run.seq ?_
  unfold k0_part224
  refine Run.load (v := pay19 E t 196) m19 (fun _ H => St.ld19 196 H) ?_
  refine Run.loadAny m20 fun _ => ?_
  refine Run.store (I' := StN E t (t.val + 1) t.val 2 256 6 5 0) m20 (fun _ H => St.s20 4 H) ?_
  refine Run.load (v := pay19 E t 197) m19 (fun _ H => St.ld19 197 H) ?_
  refine Run.loadAny m20 fun _ => ?_
  refine Run.store (I' := StN E t (t.val + 1) t.val 2 256 6 6 0) m20 (fun _ H => St.s20 5 H) ?_
  refine Run.load (v := pay19 E t 198) m19 (fun _ H => St.ld19 198 H) ?_
  refine Run.loadAny m20 fun _ => ?_
  refine Run.store (I' := StN E t (t.val + 1) t.val 2 256 6 7 0) m20 (fun _ H => St.s20 6 H) ?_
  refine Run.load (v := pay19 E t 199) m19 (fun _ H => St.ld19 199 H) ?_
  refine Run.loadAny m20 fun _ => ?_
  refine Run.store (I' := StN E t (t.val + 1) t.val 2 256 6 8 0) m20 (fun _ H => St.s20 7 H) ?_
  refine Run.purTo ⟨(lF E t 0 50), (lF E t 1 50), (lF E t 2 50), (lF E t 3 50), _⟩ rfl ?_
  refine Run.seq ?_
  unfold k0_part225
  refine R.ld1 (iv_t t) ?_
  refine R.ld1 (iv_t t) ?_
  refine Run.load (v := pay19 E t 200) m19 (fun _ H => St.ld19 200 H) ?_
  refine Run.loadAny m20 fun _ => ?_
  refine Run.store (I' := StN E t (t.val + 1) t.val 2 256 6 9 0) m20 (fun _ H => St.s20 8 H) ?_
  refine Run.purTo ⟨(vsF E t 50), (lF E t 0 51)⟩ rfl ?_
  refine Run.seq ?_
  unfold k0_part226
  refine Run.load (v := pay19 E t 201) m19 (fun _ H => St.ld19 201 H) ?_
  refine Run.loadAny m20 fun _ => ?_
  refine Run.store (I' := StN E t (t.val + 1) t.val 2 256 6 10 0) m20 (fun _ H => St.s20 9 H) ?_
  refine Run.load (v := pay19 E t 202) m19 (fun _ H => St.ld19 202 H) ?_
  refine Run.loadAny m20 fun _ => ?_
  refine Run.store (I' := StN E t (t.val + 1) t.val 2 256 6 11 0) m20 (fun _ H => St.s20 10 H) ?_
  refine Run.load (v := pay19 E t 203) m19 (fun _ H => St.ld19 203 H) ?_
  refine Run.loadAny m20 fun _ => ?_
  refine Run.store (I' := StN E t (t.val + 1) t.val 2 256 6 12 0) m20 (fun _ H => St.s20 11 H) ?_
  refine R.ld1 (iv_t t) ?_
  refine R.ld1 (iv_t t) ?_
  refine Run.purTo ⟨(lF E t 1 51), (lF E t 2 51), (lF E t 3 51), (pieceV E t 6), (pieceV E t 7), (posF E t 51)⟩ rfl ?_
  refine Run.seq ?_
  unfold k0_part227
  refine Run.load (v := pay19 E t 204) m19 (fun _ H => St.ld19 204 H) ?_
  refine Run.loadAny m20 fun _ => ?_
  refine Run.store (I' := StN E t (t.val + 1) t.val 2 256 6 13 0) m20 (fun _ H => St.s20 12 H) ?_
  refine Run.load (v := pay19 E t 205) m19 (fun _ H => St.ld19 205 H) ?_
  refine Run.loadAny m20 fun _ => ?_
  refine Run.store (I' := StN E t (t.val + 1) t.val 2 256 6 14 0) m20 (fun _ H => St.s20 13 H) ?_
  refine Run.purTo ⟨(vsF E t 51), (lF E t 0 52), (lF E t 1 52)⟩ rfl ?_
  refine Run.seq ?_
  unfold k0_part228
  refine Run.load (v := pay19 E t 206) m19 (fun _ H => St.ld19 206 H) ?_
  refine Run.loadAny m20 fun _ => ?_
  refine Run.store (I' := StN E t (t.val + 1) t.val 2 256 6 15 0) m20 (fun _ H => St.s20 14 H) ?_
  refine Run.load (v := pay19 E t 207) m19 (fun _ H => St.ld19 207 H) ?_
  refine Run.loadAny m20 fun _ => ?_
  refine Run.store (I' := StN E t (t.val + 1) t.val 2 256 6 16 0) m20 (fun _ H => St.s20 15 H) ?_
  refine R.ld1 (iv_t t) ?_
  refine R.ld1 (iv_t t) ?_
  refine Run.purTo ⟨(lF E t 2 52), (lF E t 3 52), (pieceV E t 7), (posF E t 52), _, _⟩ rfl ?_
  refine Run.seq ?_
  unfold k0_part229
  refine Run.load (v := pay19 E t 208) m19 (fun _ H => St.ld19 208 H) ?_
  refine Run.loadAny m20 fun _ => ?_
  refine Run.store (I' := StN E t (t.val + 1) t.val 2 256 6 17 0) m20 (fun _ H => St.s20 16 H) ?_
  refine Run.load (v := pay19 E t 209) m19 (fun _ H => St.ld19 209 H) ?_
  refine Run.loadAny m20 fun _ => ?_
  refine Run.store (I' := StN E t (t.val + 1) t.val 2 256 6 18 0) m20 (fun _ H => St.s20 17 H) ?_
  refine Run.load (v := pay19 E t 210) m19 (fun _ H => St.ld19 210 H) ?_
  refine Run.loadAny m20 fun _ => ?_
  refine Run.store (I' := StN E t (t.val + 1) t.val 2 256 6 19 0) m20 (fun _ H => St.s20 18 H) ?_
  refine Run.load (v := pay19 E t 211) m19 (fun _ H => St.ld19 211 H) ?_
  refine Run.purTo ⟨(vsF E t 52), (lF E t 0 53), (lF E t 1 53), (lF E t 2 53), _, _⟩ rfl ?_
  refine Run.seq ?_
  unfold k0_part230
  refine Run.loadAny m20 fun _ => ?_
  refine Run.store (I' := StN E t (t.val + 1) t.val 2 256 6 20 0) m20 (fun _ H => St.s20 19 H) ?_
  refine R.ld1 (iv_t t) ?_
  refine R.ld1 (iv_t t) ?_
  refine Run.purTo ⟨(lF E t 3 53), (vsF E t 53)⟩ rfl ?_
  refine Run.seq ?_
  unfold k0_part231
  refine Run.load (v := pay19 E t 212) m19 (fun _ H => St.ld19 212 H) ?_
  refine Run.loadAny m20 fun _ => ?_
  refine Run.store (I' := StN E t (t.val + 1) t.val 2 256 6 21 0) m20 (fun _ H => St.s20 20 H) ?_
  refine Run.load (v := pay19 E t 213) m19 (fun _ H => St.ld19 213 H) ?_
  refine Run.loadAny m20 fun _ => ?_
  refine Run.store (I' := StN E t (t.val + 1) t.val 2 256 6 22 0) m20 (fun _ H => St.s20 21 H) ?_
  refine Run.load (v := pay19 E t 214) m19 (fun _ H => St.ld19 214 H) ?_
  refine Run.loadAny m20 fun _ => ?_
  refine Run.store (I' := StN E t (t.val + 1) t.val 2 256 6 23 0) m20 (fun _ H => St.s20 22 H) ?_
  refine Run.load (v := pay19 E t 215) m19 (fun _ H => St.ld19 215 H) ?_
  refine Run.loadAny m20 fun _ => ?_
  refine Run.store (I' := StN E t (t.val + 1) t.val 2 256 6 24 0) m20 (fun _ H => St.s20 23 H) ?_
  refine R.ld1 (iv_t t) ?_
  refine Run.purTo ⟨(lF E t 0 54), (lF E t 1 54), (lF E t 2 54), (lF E t 3 54), _⟩ rfl ?_
  refine Run.seq ?_
  unfold k0_part232
  refine R.ld1 (iv_t t) ?_
  refine Run.load (v := pay19 E t 216) m19 (fun _ H => St.ld19 216 H) ?_
  refine Run.loadAny m20 fun _ => ?_
  refine Run.store (I' := StN E t (t.val + 1) t.val 2 256 6 25 0) m20 (fun _ H => St.s20 24 H) ?_
  refine Run.load (v := pay19 E t 217) m19 (fun _ H => St.ld19 217 H) ?_
  refine Run.purTo ⟨(vsF E t 54), (lF E t 0 55), _, _⟩ rfl ?_
  refine Run.seq ?_
  unfold k0_part233
  refine Run.loadAny m20 fun _ => ?_
  refine Run.store (I' := StN E t (t.val + 1) t.val 2 256 6 26 0) m20 (fun _ H => St.s20 25 H) ?_
  refine Run.load (v := pay19 E t 218) m19 (fun _ H => St.ld19 218 H) ?_
  refine Run.loadAny m20 fun _ => ?_
  refine Run.store (I' := StN E t (t.val + 1) t.val 2 256 6 27 0) m20 (fun _ H => St.s20 26 H) ?_
  refine Run.load (v := pay19 E t 219) m19 (fun _ H => St.ld19 219 H) ?_
  refine Run.loadAny m20 fun _ => ?_
  refine Run.store (I' := StN E t (t.val + 1) t.val 2 256 6 28 0) m20 (fun _ H => St.s20 27 H) ?_
  refine R.ld1 (iv_t t) ?_
  refine R.ld1 (iv_t t) ?_
  refine Run.purTo ⟨(lF E t 1 55), (lF E t 2 55), (lF E t 3 55), (pieceV E t 6), (pieceV E t 7), (posF E t 55), _, _⟩ rfl ?_
  refine Run.seq ?_
  unfold k0_part234
  refine Run.load (v := pay19 E t 220) m19 (fun _ H => St.ld19 220 H) ?_
  refine Run.loadAny m20 fun _ => ?_
  refine Run.store (I' := StN E t (t.val + 1) t.val 2 256 6 29 0) m20 (fun _ H => St.s20 28 H) ?_
  refine Run.load (v := pay19 E t 221) m19 (fun _ H => St.ld19 221 H) ?_
  refine Run.loadAny m20 fun _ => ?_
  refine Run.store (I' := StN E t (t.val + 1) t.val 2 256 6 30 0) m20 (fun _ H => St.s20 29 H) ?_
  refine Run.load (v := pay19 E t 222) m19 (fun _ H => St.ld19 222 H) ?_
  refine Run.purTo ⟨(vsF E t 55), (lF E t 0 56), (lF E t 1 56), (eF E t 222)⟩ rfl ?_
  refine Run.seq ?_
  unfold k0_part235
  refine Run.loadAny m20 fun _ => ?_
  refine Run.store (I' := StN E t (t.val + 1) t.val 2 256 6 31 0) m20 (fun _ H => St.s20 30 H) ?_
  refine Run.load (v := pay19 E t 223) m19 (fun _ H => St.ld19 223 H) ?_
  refine Run.loadAny m20 fun _ => ?_
  refine Run.store (I' := StN E t (t.val + 1) t.val 2 256 6 32 0) m20 (fun _ H => St.s20 31 H) ?_
  refine R4.ld3 (iv_t t) ?_
  refine Run.load (v := pF E t 6) m20 (fun _ H => St.ld20 H) ?_
  refine Run.weaken (I' := StN E t (t.val + 1) t.val 2 256 7 0 0) (fun _ H => St.next H) ?_
  refine R.ld1 (iv_t t) ?_
  refine R.ld1 (iv_t t) ?_
  refine Run.purTo ⟨(lF E t 2 56), (lF E t 3 56), (accF E t 7), (pieceV E t 7), (pieceV E t 8), (posF E t 56), _, _⟩ rfl ?_
  refine Run.seq ?_
  unfold k0_part236
  refine Run.load (v := pay19 E t 224) m19 (fun _ H => St.ld19 224 H) ?_
  refine Run.loadAny m20 fun _ => ?_
  refine Run.store (I' := StN E t (t.val + 1) t.val 2 256 7 1 0) m20 (fun _ H => St.s20 0 H) ?_
  refine Run.load (v := pay19 E t 225) m19 (fun _ H => St.ld19 225 H) ?_
  refine Run.loadAny m20 fun _ => ?_
  refine Run.store (I' := StN E t (t.val + 1) t.val 2 256 7 2 0) m20 (fun _ H => St.s20 1 H) ?_
  refine Run.load (v := pay19 E t 226) m19 (fun _ H => St.ld19 226 H) ?_
  refine Run.purTo ⟨(vsF E t 56), (lF E t 0 57), (lF E t 1 57), (eF E t 226), (lF E t 2 57)⟩ rfl ?_
  refine Run.seq ?_
  unfold k0_part237
  refine Run.loadAny m20 fun _ => ?_
  refine Run.store (I' := StN E t (t.val + 1) t.val 2 256 7 3 0) m20 (fun _ H => St.s20 2 H) ?_
  refine Run.load (v := pay19 E t 227) m19 (fun _ H => St.ld19 227 H) ?_
  refine Run.loadAny m20 fun _ => ?_
  refine Run.store (I' := StN E t (t.val + 1) t.val 2 256 7 4 0) m20 (fun _ H => St.s20 3 H) ?_
  refine R.ld1 (iv_t t) ?_
  refine R.ld1 (iv_t t) ?_
  refine Run.purTo ⟨(lF E t 3 57), (pieceV E t 8), (posF E t 57), _, _, _, _⟩ rfl ?_
  refine Run.seq ?_
  unfold k0_part238
  refine Run.load (v := pay19 E t 228) m19 (fun _ H => St.ld19 228 H) ?_
  refine Run.loadAny m20 fun _ => ?_
  refine Run.store (I' := StN E t (t.val + 1) t.val 2 256 7 5 0) m20 (fun _ H => St.s20 4 H) ?_
  refine Run.load (v := pay19 E t 229) m19 (fun _ H => St.ld19 229 H) ?_
  refine Run.loadAny m20 fun _ => ?_
  refine Run.store (I' := StN E t (t.val + 1) t.val 2 256 7 6 0) m20 (fun _ H => St.s20 5 H) ?_
  refine Run.load (v := pay19 E t 230) m19 (fun _ H => St.ld19 230 H) ?_
  refine Run.loadAny m20 fun _ => ?_
  refine Run.store (I' := StN E t (t.val + 1) t.val 2 256 7 7 0) m20 (fun _ H => St.s20 6 H) ?_
  refine Run.load (v := pay19 E t 231) m19 (fun _ H => St.ld19 231 H) ?_
  refine Run.purTo ⟨(lF E t 0 58), (lF E t 1 58), (lF E t 2 58), (lF E t 3 58), _⟩ rfl ?_
  refine Run.seq ?_
  unfold k0_part239
  refine Run.loadAny m20 fun _ => ?_
  refine Run.store (I' := StN E t (t.val + 1) t.val 2 256 7 8 0) m20 (fun _ H => St.s20 7 H) ?_
  refine R.ld1 (iv_t t) ?_
  refine R.ld1 (iv_t t) ?_
  refine Run.load (v := pay19 E t 232) m19 (fun _ H => St.ld19 232 H) ?_
  refine Run.purTo ⟨(vsF E t 58), (eF E t 232), (lF E t 0 59)⟩ rfl ?_
  refine Run.seq ?_
  unfold k0_part240
  refine Run.loadAny m20 fun _ => ?_
  refine Run.store (I' := StN E t (t.val + 1) t.val 2 256 7 9 0) m20 (fun _ H => St.s20 8 H) ?_
  refine Run.load (v := pay19 E t 233) m19 (fun _ H => St.ld19 233 H) ?_
  refine Run.loadAny m20 fun _ => ?_
  refine Run.store (I' := StN E t (t.val + 1) t.val 2 256 7 10 0) m20 (fun _ H => St.s20 9 H) ?_
  refine Run.load (v := pay19 E t 234) m19 (fun _ H => St.ld19 234 H) ?_
  refine Run.loadAny m20 fun _ => ?_
  refine Run.store (I' := StN E t (t.val + 1) t.val 2 256 7 11 0) m20 (fun _ H => St.s20 10 H) ?_
  refine Run.load (v := pay19 E t 235) m19 (fun _ H => St.ld19 235 H) ?_
  refine Run.loadAny m20 fun _ => ?_
  refine Run.store (I' := StN E t (t.val + 1) t.val 2 256 7 12 0) m20 (fun _ H => St.s20 11 H) ?_
  refine R.ld1 (iv_t t) ?_
  refine Run.purTo ⟨(lF E t 1 59), (lF E t 2 59), (lF E t 3 59), (pieceV E t 7), _⟩ rfl ?_
  refine Run.pur ?_
  exact h

end Cert.KernelIdeal.Hand

end
-- ==== Proof.KI.F261.lean ====
/-
  The whole body, stepped through: the starts, then four trips.
-/
module

public import proofs.«01_k».proof.Proof.KI.F252
public import proofs.«01_k».proof.Proof.KI.F253
public import proofs.«01_k».proof.Proof.KI.F254
public import proofs.«01_k».proof.Proof.KI.F255

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

/-- A counted loop, from an invariant of the contents and a resource at each trip. -/
theorem Run.loop {L : Scf.Loop 32} {hok : Scf.OK L.lb L.ub L.st} {body : Fin L.trips → PUnit → Prog (TpuEff nD τ sig (Elt F) Λ₀ .tc) PUnit} {β : Type}
    {k : PUnit → Prog (TpuEff nD τ sig (Elt F) Λ₀ .tc) β} {Q : β → sProp 𝕄} (I : ℕ → Cont F c → Prop) (X : ℕ → sProp 𝕄)
    (hb : ∀ t acc, Run c (X t.val) (I t.val) (body t acc) (fun _ => iprop(∃ C, ⌜I (t.val + 1) C⌝ ∗ OWN c C ∗ X (t.val + 1))))
    (h : Run c (X L.trips) (I L.trips) (k ⟨⟩) Q) :
    Run c (X 0) (I 0) (Scf.Loop.for L hok ⟨⟩ body >>= k) Q := by
  intro C hC
  have hw := Scf.wp_for_bind frame (wpE (defs₀ (F := F)) Variants.none (c : Thread nD τ) none) Set.univ L.lb L.ub L.st hok ⟨⟩ body
    (fun n _ => iprop(∃ C, ⌜I n C⌝ ∗ OWN c C ∗ X n)) (fun t acc => by
      iintro ⟨%C, %hC, HO, HX⟩
      iapply (hb t acc C hC)
      isplitl [HO]; · iexact HO
      iexact HX) (kk := k) (Q := Q)
  refine BIBase.Entails.trans ?_ ((sep_mono hw .rfl).trans wand_elim_left)
  iintro ⟨HO, HX⟩
  isplitl [HO HX]
  · iexists C
    isplitr; · ipureintro; exact hC
    isplitl [HO]; · iexact HO
    iexact HX
  iintro %acc ⟨%C', %hC', HO, HX⟩
  iapply (h C' hC')
  isplitl [HO]; · iexact HO
  iexact HX

set_option maxHeartbeats 40000000 in
/-- The frame of the body: from any contents it ends with all the transfers done. -/
theorem f261 (E : Env F c) :
    Run c (XP E (pro 0)) (fun C => HeldN E 0 C ∧ Rows cc0_stg4_0 r40 (outRow E) 0 (C cc0_stg4_0)) (k0_part261 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg3) (Memref.isWhole_whole _) (Memref.whole main_v0) (Memref.isWhole_whole _) (Memref.whole main_arg5) (Memref.isWhole_whole _) (Memref.whole main_v1) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8) (fun _ => iprop(∃ C, ⌜HeldN E 4 C ∧ Rows cc0_stg4_0 r40 (outRow E) 4 (C cc0_stg4_0)⌝ ∗ OWN c C ∗ XP E (lp 16))) := by
  unfold k0_part261
  refine Run.seq ?_
  unfold k0_part256
  refine Run.len E 0 rfl ?_
  refine Run.assume (chk2 _) ?_
  refine Run.len E 0 rfl ?_
  refine Run.assume (chk1 _) ?_
  refine Run.enq0 E 0 0 rfl ?_
  refine Run.enq1 E 0 1 rfl ?_
  refine Run.pur ?_
  refine Run.seq ?_
  unfold k0_part257
  refine Run.enq2 E 0 2 rfl ?_
  refine Run.enq3 E 0 3 rfl ?_
  refine Run.len E 1 rfl ?_
  refine Run.assume (chk4 _) ?_
  refine Run.len E 1 rfl ?_
  refine Run.assume (chk3 _) ?_
  refine Run.pur ?_
  refine Run.seq ?_
  unfold k0_part258
  refine Run.enq0 E 1 4 rfl ?_
  refine Run.enq1 E 1 5 rfl ?_
  refine Run.enq2 E 1 6 rfl ?_
  refine Run.enq3 E 1 7 rfl ?_
  refine Run.len E 2 rfl ?_
  refine Run.assume (chk6 _) ?_
  refine Run.pur ?_
  refine Run.seq ?_
  unfold k0_part259
  refine Run.len E 2 rfl ?_
  refine Run.assume (chk5 _) ?_
  refine Run.enq0 E 2 8 rfl ?_
  refine Run.enq1 E 2 9 rfl ?_
  refine Run.enq2 E 2 10 rfl ?_
  refine Run.pur ?_
  refine Run.seq ?_
  unfold k0_part260
  refine Run.enq3 E 2 11 rfl ?_
  refine Run.len E 3 rfl ?_
  refine Run.assume (chk8 _) ?_
  refine Run.len E 3 rfl ?_
  refine Run.assume (chk7 _) ?_
  refine Run.enq0 E 3 12 rfl ?_
  refine Run.pur ?_
  refine Run.enq1 E 3 13 rfl ?_
  refine Run.enq2 E 3 14 rfl ?_
  refine Run.enq3 E 3 15 rfl ?_
  rw [show pro (15 + 1) = lp (4 * 0) from funext (by decide +kernel)]
  refine Run.loop (I := fun n C => HeldN E n C ∧ Rows cc0_stg4_0 r40 (outRow E) n (C cc0_stg4_0)) (X := fun n => XP E (lp (4 * n))) (fun t _ => ?_) ?_
  · refine Run.weaken (I' := StN E t t.val t.val 0 0 0 0 0) (fun _ H => St.start t H.1 H.2) ?_
    refine f252 E t ?_
    refine f253 E t ?_
    refine f254 E t ?_
    refine f255 E t ?_
    have R4 := res4 E (tb t)
    have R := R4.toRes
    refine Run.seq ?_
    unfold k0_part241
    refine R.ld1 (iv_t t) ?_
    refine Run.load (v := pay19 E t 236) m19 (fun _ H => St.ld19 236 H) ?_
    refine Run.loadAny m20 fun _ => ?_
    refine Run.store (I' := StN E t (t.val + 1) t.val 2 256 7 13 0) m20 (fun _ H => St.s20 12 H) ?_
    refine Run.load (v := pay19 E t 237) m19 (fun _ H => St.ld19 237 H) ?_
    refine Run.purTo ⟨(vsF E t 59), (lF E t 0 60), (lF E t 1 60), _⟩ rfl ?_
    refine Run.seq ?_
    unfold k0_part242
    refine Run.loadAny m20 fun _ => ?_
    refine Run.store (I' := StN E t (t.val + 1) t.val 2 256 7 14 0) m20 (fun _ H => St.s20 13 H) ?_
    refine Run.load (v := pay19 E t 238) m19 (fun _ H => St.ld19 238 H) ?_
    refine Run.loadAny m20 fun _ => ?_
    refine Run.store (I' := StN E t (t.val + 1) t.val 2 256 7 15 0) m20 (fun _ H => St.s20 14 H) ?_
    refine Run.load (v := pay19 E t 239) m19 (fun _ H => St.ld19 239 H) ?_
    refine Run.loadAny m20 fun _ => ?_
    refine Run.store (I' := StN E t (t.val + 1) t.val 2 256 7 16 0) m20 (fun _ H => St.s20 15 H) ?_
    refine R.ld1 (iv_t t) ?_
    refine R.ld1 (iv_t t) ?_
    refine Run.purTo ⟨(lF E t 2 60), (lF E t 3 60), (pieceV E t 7), (pieceV E t 8), (posF E t 60), _, _, _⟩ rfl ?_
    refine Run.seq ?_
    unfold k0_part243
    refine Run.load (v := pay19 E t 240) m19 (fun _ H => St.ld19 240 H) ?_
    refine Run.loadAny m20 fun _ => ?_
    refine Run.store (I' := StN E t (t.val + 1) t.val 2 256 7 17 0) m20 (fun _ H => St.s20 16 H) ?_
    refine Run.load (v := pay19 E t 241) m19 (fun _ H => St.ld19 241 H) ?_
    refine Run.loadAny m20 fun _ => ?_
    refine Run.store (I' := StN E t (t.val + 1) t.val 2 256 7 18 0) m20 (fun _ H => St.s20 17 H) ?_
    refine Run.load (v := pay19 E t 242) m19 (fun _ H => St.ld19 242 H) ?_
    refine Run.loadAny m20 fun _ => ?_
    refine Run.purTo ⟨(vsF E t 60), (lF E t 0 61), (lF E t 1 61), (lF E t 2 61), _, _⟩ rfl ?_
    refine Run.seq ?_
    unfold k0_part244
    refine Run.store (I' := StN E t (t.val + 1) t.val 2 256 7 19 0) m20 (fun _ H => St.s20 18 H) ?_
    refine Run.load (v := pay19 E t 243) m19 (fun _ H => St.ld19 243 H) ?_
    refine Run.loadAny m20 fun _ => ?_
    refine Run.store (I' := StN E t (t.val + 1) t.val 2 256 7 20 0) m20 (fun _ H => St.s20 19 H) ?_
    refine R.ld1 (iv_t t) ?_
    refine R.ld1 (iv_t t) ?_
    refine Run.purTo ⟨(lF E t 3 61), (pieceV E t 8), (posF E t 61), _, (wrapF (posF E t 61))⟩ rfl ?_
    refine Run.seq ?_
    unfold k0_part245
    refine Run.load (v := pay19 E t 244) m19 (fun _ H => St.ld19 244 H) ?_
    refine Run.loadAny m20 fun _ => ?_
    refine Run.store (I' := StN E t (t.val + 1) t.val 2 256 7 21 0) m20 (fun _ H => St.s20 20 H) ?_
    refine Run.load (v := pay19 E t 245) m19 (fun _ H => St.ld19 245 H) ?_
    refine Run.loadAny m20 fun _ => ?_
    refine Run.store (I' := StN E t (t.val + 1) t.val 2 256 7 22 0) m20 (fun _ H => St.s20 21 H) ?_
    refine Run.load (v := pay19 E t 246) m19 (fun _ H => St.ld19 246 H) ?_
    refine Run.loadAny m20 fun _ => ?_
    refine Run.store (I' := StN E t (t.val + 1) t.val 2 256 7 23 0) m20 (fun _ H => St.s20 22 H) ?_
    refine Run.load (v := pay19 E t 247) m19 (fun _ H => St.ld19 247 H) ?_
    refine Run.loadAny m20 fun _ => ?_
    refine Run.purTo ⟨(lF E t 0 62), (lF E t 1 62), (lF E t 2 62), (lF E t 3 62), _⟩ rfl ?_
    refine Run.seq ?_
    unfold k0_part246
    refine Run.store (I' := StN E t (t.val + 1) t.val 2 256 7 24 0) m20 (fun _ H => St.s20 23 H) ?_
    refine R.ld1 (iv_t t) ?_
    refine R.ld1 (iv_t t) ?_
    refine Run.load (v := pay19 E t 248) m19 (fun _ H => St.ld19 248 H) ?_
    refine Run.loadAny m20 fun _ => ?_
    refine Run.purTo ⟨(vsF E t 62), (lF E t 0 63), _, _⟩ rfl ?_
    refine Run.seq ?_
    unfold k0_part247
    refine Run.store (I' := StN E t (t.val + 1) t.val 2 256 7 25 0) m20 (fun _ H => St.s20 24 H) ?_
    refine Run.load (v := pay19 E t 249) m19 (fun _ H => St.ld19 249 H) ?_
    refine Run.loadAny m20 fun _ => ?_
    refine Run.store (I' := StN E t (t.val + 1) t.val 2 256 7 26 0) m20 (fun _ H => St.s20 25 H) ?_
    refine Run.load (v := pay19 E t 250) m19 (fun _ H => St.ld19 250 H) ?_
    refine Run.loadAny m20 fun _ => ?_
    refine Run.store (I' := StN E t (t.val + 1) t.val 2 256 7 27 0) m20 (fun _ H => St.s20 26 H) ?_
    refine Run.load (v := pay19 E t 251) m19 (fun _ H => St.ld19 251 H) ?_
    refine Run.loadAny m20 fun _ => ?_
    refine Run.store (I' := StN E t (t.val + 1) t.val 2 256 7 28 0) m20 (fun _ H => St.s20 27 H) ?_
    refine R.ld1 (iv_t t) ?_
    refine R.ld1 (iv_t t) ?_
    refine Run.purTo ⟨(lF E t 1 63), (lF E t 2 63), (lF E t 3 63), (pieceV E t 7), (pieceV E t 8), _⟩ rfl ?_
    refine Run.seq ?_
    unfold k0_part248
    refine Run.load (v := pay19 E t 252) m19 (fun _ H => St.ld19 252 H) ?_
    refine Run.loadAny m20 fun _ => ?_
    refine Run.store (I' := StN E t (t.val + 1) t.val 2 256 7 29 0) m20 (fun _ H => St.s20 28 H) ?_
    refine Run.load (v := pay19 E t 253) m19 (fun _ H => St.ld19 253 H) ?_
    refine Run.loadAny m20 fun _ => ?_
    refine Run.purTo ⟨(vsF E t 63), (lF E t 0 64), (lF E t 1 64), _⟩ rfl ?_
    refine Run.seq ?_
    unfold k0_part249
    refine Run.store (I' := StN E t (t.val + 1) t.val 2 256 7 30 0) m20 (fun _ H => St.s20 29 H) ?_
    refine Run.load (v := pay19 E t 254) m19 (fun _ H => St.ld19 254 H) ?_
    refine Run.loadAny m20 fun _ => ?_
    refine Run.store (I' := StN E t (t.val + 1) t.val 2 256 7 31 0) m20 (fun _ H => St.s20 30 H) ?_
    refine Run.load (v := pay19 E t 255) m19 (fun _ H => St.ld19 255 H) ?_
    refine Run.loadAny m20 fun _ => ?_
    refine Run.store (I' := StN E t (t.val + 1) t.val 2 256 7 32 0) m20 (fun _ H => St.s20 31 H) ?_
    refine R4.ld3 (iv_t t) ?_
    refine Run.load (v := pF E t 7) m20 (fun _ H => St.ld20 H) ?_
    refine Run.weaken (I' := StN E t (t.val + 1) t.val 2 256 8 0 0) (fun _ H => St.next H) ?_
    refine Run.purTo ⟨(lF E t 2 64), (lF E t 3 64), (accF E t 8), (oF E t 0)⟩ rfl ?_
    refine Run.seq ?_
    unfold k0_part250
    refine Run.loadAny m18 fun _ => ?_
    refine Run.store (I' := StN E t (t.val + 1) t.val 2 256 8 0 1) m18 (fun _ H => St.s18 0 H) ?_
    refine Run.loadAny m18 fun _ => ?_
    refine Run.store (I' := StN E t (t.val + 1) t.val 2 256 8 0 2) m18 (fun _ H => St.s18 1 H) ?_
    refine Run.loadAny m18 fun _ => ?_
    refine Run.store (I' := StN E t (t.val + 1) t.val 2 256 8 0 3) m18 (fun _ H => St.s18 2 H) ?_
    refine Run.loadAny m18 fun _ => ?_
    refine Run.store (I' := StN E t (t.val + 1) t.val 2 256 8 0 4) m18 (fun _ H => St.s18 3 H) ?_
    refine Run.purTo ⟨_, _, _⟩ rfl ?_
    refine Run.seq ?_
    unfold k0_part251
    refine Run.loadAny m18 fun _ => ?_
    refine Run.store (I' := StN E t (t.val + 1) t.val 2 256 8 0 5) m18 (fun _ H => St.s18 4 H) ?_
    refine Run.loadAny m18 fun _ => ?_
    refine Run.store (I' := StN E t (t.val + 1) t.val 2 256 8 0 6) m18 (fun _ H => St.s18 5 H) ?_
    refine Run.loadAny m18 fun _ => ?_
    refine Run.store (I' := StN E t (t.val + 1) t.val 2 256 8 0 7) m18 (fun _ H => St.s18 6 H) ?_
    refine Run.loadAny m18 fun _ => ?_
    refine Run.store (I' := StN E t (t.val + 1) t.val 2 256 8 0 8) m18 (fun _ H => St.s18 7 H) ?_
    refine Run.load (v := ld18 E t 0) m18 (fun _ H => St.g18 0 (by decide) H) ?_
    refine Run.purTo _ rfl ?_
    refine Run.load (v := ld18 E t 1) m18 (fun _ H => St.g18 1 (by decide) H) ?_
    refine Run.loadAny m8 fun _ => ?_
    refine Run.store (I' := StN E t (t.val + 1) (t.val + 1) 2 256 8 0 8) m8 (fun _ H => St.w8 H (by exact rfl)) ?_
    refine Run.ret fun C hC => ?_
    iintro ⟨HO, HX⟩
    iexists C
    isplitr; · ipureintro; exact ⟨hC.1, hC.2.out⟩
    isplitl [HO]; · iexact HO
    iexact HX
  refine Run.ret fun C hC => ?_
  iintro ⟨HO, HX⟩
  iexists C
  isplitr; · ipureintro; exact hC
  isplitl [HO]; · iexact HO
  iexact HX

end Cert.KernelIdeal.Hand

end
-- ==== Proof.KI.Frame.lean ====
/-
  The frame: the region run with its results named.
-/
module

public import proofs.«01_k».proof.Proof.KI.Enter
public import proofs.«01_k».proof.Proof.KI.F261
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own sixteen cells. -/
abbrev osem0 : Fin 16 → SemLoc sig := fun j => cell ⟨j.val / 4, by omega⟩ ⟨j.val % 4, by omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7, 8, 9, 10, 11, 12, 13, 14, 15] (by decide) (by decide)]; rfl

/-- The operands left in HBM. -/
def H0 : Finset (Ref sig .tc) := {main_v0, main_v1, main_arg3, main_arg5}
theorem H0_sub : H0 ⊆ Pipeline.restRefs sig spec0 := by decide

/-- What the body reads. -/
def env (c : Dev nD) : Env F c :=
  ⟨iblk m c 0 t0_0, iblk m c 1 t0_0, iblk m c 2 t0_0, iblk m c 3 t0_0, V m c main_v0, V m c main_v1, V m c main_arg3, V m c main_arg5⟩

theorem hbmPts0_eq (c : Dev nD) :
    (bigSep H0 (fun b => ((c : Thread nD τ).loc b) ↦{fullShare} V m c b) : sProp 𝕄) = srcs (env m c) := by
  rw [BI.bigSep_eq_bigSepL_of_eq [main_v0, main_v1, main_arg3, main_arg5] (by decide) (by decide)]; rfl

/-- The four other scratch buffers, whole, at some contents. -/
def scrs (c : Dev nD) : sProp 𝕄 := iprop((∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f))

theorem scoped_eq (c : Dev nD) :
    (Pipeline.scopedRest (Ix := Unit) (Name := ℕ) (U := Pipeline.UD sig nD τ) (Lvl := ℕ) (Val := Elt F) spec0 c : sProp 𝕄)
      ⊣⊢ iprop(dsts c ∗ scrs c) := by
  rw [scopedRest0_eq]
  unfold dsts scrs
  constructor
  · iintro ⟨A0, A1, A2, A3, A4, A5, A6, A7⟩
    isplitl [A0 A1 A2 A3]
    · isplitl [A2]; · iexact A2
      isplitl [A3]; · iexact A3
      isplitl [A0]; · iexact A0
      iexact A1
    isplitl [A4]; · iexact A4
    isplitl [A5]; · iexact A5
    isplitl [A6]; · iexact A6
    iexact A7
  · iintro ⟨⟨A2, A3, A0, A1⟩, A4, A5, A6, A7⟩
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7

/-- The trip that stores an element's row, and the element's place in the row. -/
theorem trips_eq : k0_t1_loop.trips = 4 := by decide +kernel
abbrev trip (n : Fin 4) : Fin k0_t1_loop.trips := ⟨n.val, trips_eq.symm ▸ n.isLt⟩
abbrev in11 (i : S4x1x8x256.Idx) : S1x1x8x256.Idx := fun | ⟨0, _⟩ => (⟨0, by decide⟩ : Fin 1) | ⟨1, _⟩ => (⟨0, by decide⟩ : Fin 1) | ⟨2, _⟩ => (i 2 : Fin 8) | ⟨3, _⟩ => (i 3 : Fin 256)
abbrev in12 (i : S4x1x8.Idx) : S1x1x8.Idx := fun | ⟨0, _⟩ => (⟨0, by decide⟩ : Fin 1) | ⟨1, _⟩ => (⟨0, by decide⟩ : Fin 1) | ⟨2, _⟩ => (i 2 : Fin 8)

theorem emb11 (i : S4x1x8x256.Idx) : (r11 (trip (i 0))).emb (in11 i) = i := by
  funext a
  apply Fin.ext
  show k0_off11 (trip (i 0)) a + 1 * (in11 i a).val = (i a).val
  have h : k0_off11 (trip (i 0)) = ![(i 0).val, 0, 0, 0] := by
    have : ∀ t : Fin k0_t1_loop.trips, k0_off11 t = ![t.val, 0, 0, 0] := by decide +kernel
    exact this _
  rw [h]
  have h1 : (i 1).val < 1 := (i 1).isLt
  fin_cases a
  · simp [in11]
  · simp [in11]; omega
  · simp [in11]
  · simp [in11]
theorem emb12 (i : S4x1x8.Idx) : (r12 (trip (i 0))).emb (in12 i) = i := by
  funext a
  apply Fin.ext
  show k0_off12 (trip (i 0)) a + 1 * (in12 i a).val = (i a).val
  have h : k0_off12 (trip (i 0)) = ![(i 0).val, 0, 0] := by
    have : ∀ t : Fin k0_t1_loop.trips, k0_off12 t = ![t.val, 0, 0] := by decide +kernel
    exact this _
  rw [h]
  have h1 : (i 1).val < 1 := (i 1).isLt
  fin_cases a
  · simp [in12]
  · simp [in12]; omega
  · simp [in12]

/-- The codes and the scales of all the rows of an array of keys or values. -/
def codesAll (f : S4x1x8x256.Idx → Elt F .bf16) : S4x1x8x256.Idx → Elt F .i8 := fun i => codesRow (fun y => f ((r11 (trip (i 0))).emb y)) (in11 i)
def scaleAll (f : S4x1x8x256.Idx → Elt F .bf16) : S4x1x8.Idx → Elt F .f32 := fun i => scaleRow (fun y => f ((r11 (trip (i 0))).emb y)) (in12 i)

theorem Held.all5 {c : Dev nD} {E : Env F c} {C : Cont F c} (H : HeldN E 4 C) : C cc0_stg5_0 = codesAll E.f2 := by
  funext i
  refine Eq.trans (congrArg (C cc0_stg5_0) (emb11 i).symm) ?_
  exact congrFun (H.kc (trip (i 0)) (i 0).isLt) (in11 i)
theorem Held.all6 {c : Dev nD} {E : Env F c} {C : Cont F c} (H : HeldN E 4 C) : C cc0_stg6_0 = scaleAll E.f2 := by
  funext i
  refine Eq.trans (congrArg (C cc0_stg6_0) (emb12 i).symm) ?_
  exact congrFun (H.ks (trip (i 0)) (i 0).isLt) (in12 i)
theorem Held.all7 {c : Dev nD} {E : Env F c} {C : Cont F c} (H : HeldN E 4 C) : C cc0_stg7_0 = codesAll E.f3 := by
  funext i
  refine Eq.trans (congrArg (C cc0_stg7_0) (emb11 i).symm) ?_
  exact congrFun (H.vc (trip (i 0)) (i 0).isLt) (in11 i)
theorem Held.all8 {c : Dev nD} {E : Env F c} {C : Cont F c} (H : HeldN E 4 C) : C cc0_stg8_0 = scaleAll E.f3 := by
  funext i
  refine Eq.trans (congrArg (C cc0_stg8_0) (emb12 i).symm) ?_
  exact congrFun (H.vs (trip (i 0)) (i 0).isLt) (in12 i)

/-- The outputs of all the sequences: each row is what its trip stores. -/
abbrev in40 (i : S4x1x32x256.Idx) : S1x1x32x256.Idx := fun | ⟨0, _⟩ => (⟨0, by decide⟩ : Fin 1) | ⟨1, _⟩ => (⟨0, by decide⟩ : Fin 1) | ⟨2, _⟩ => (i 2 : Fin 32) | ⟨3, _⟩ => (i 3 : Fin 256)
theorem emb40 (i : S4x1x32x256.Idx) : (r40 (trip (i 0))).emb (in40 i) = i := by
  funext a
  apply Fin.ext
  show k0_off40 (trip (i 0)) a + 1 * (in40 i a).val = (i a).val
  have h : k0_off40 (trip (i 0)) = ![(i 0).val, 0, 0, 0] := by
    have : ∀ t : Fin k0_t1_loop.trips, k0_off40 t = ![t.val, 0, 0, 0] := by decide +kernel
    exact this _
  rw [h]
  have h1 : (i 1).val < 1 := (i 1).isLt
  fin_cases a
  · simp [in40]
  · simp [in40]; omega
  · simp [in40]
  · simp [in40]
def outAll {c : Dev nD} (E : Env F c) : S4x1x32x256.Idx → Elt F .bf16 := fun i => outRow E (trip (i 0)) (in40 i)
theorem Rows.all40 {c : Dev nD} {E : Env F c} {f : S4x1x32x256.Idx → Elt F .bf16} (H : Rows cc0_stg4_0 r40 (outRow E) 4 f) : f = outAll E := by
  funext i
  refine Eq.trans (congrArg f (emb40 i).symm) ?_
  exact congrFun (H (trip (i 0)) (i 0).isLt) (in40 i)

/-- Every result is named. -/
def forgets0 : Fin 9 → Bool := fun _ => false

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAll (env m c)
    | ⟨5, _⟩ => codesAll (env m c).f2
    | ⟨6, _⟩ => scaleAll (env m c).f2
    | ⟨7, _⟩ => codesAll (env m c).f3
    | ⟨8, _⟩ => scaleAll (env m c).f3
    | ⟨n + 9, h⟩ => Pipeline.Dat.unnamed (cfg := cfg0) ⟨n + 9, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by
      rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by
      rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by
      rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by
      rw [after0_3]; unfold Dat.blockOf iblk; rw [A_eq]; try rfl) t d).trans
    (by unfold Dat.fetched Dat.blockOf iblk; rw [A_eq]; try rfl)

theorem after0_4 (c : Dev nD) (t : Fin cfg0.N) : (dats m 0 c).after 4 t = outAll (env m c) := by dsimp only [dats]
theorem after0_5 (c : Dev nD) (t : Fin cfg0.N) : (dats m 0 c).after 5 t = codesAll (env m c).f2 := by dsimp only [dats]
theorem after0_6 (c : Dev nD) (t : Fin cfg0.N) : (dats m 0 c).after 6 t = scaleAll (env m c).f2 := by dsimp only [dats]
theorem after0_7 (c : Dev nD) (t : Fin cfg0.N) : (dats m 0 c).after 7 t = codesAll (env m c).f3 := by dsimp only [dats]
theorem after0_8 (c : Dev nD) (t : Fin cfg0.N) : (dats m 0 c).after 8 t = scaleAll (env m c).f3 := by dsimp only [dats]

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- Everything at the body's start, flat. -/
def flat (c : Dev nD) : sProp 𝕄 := iprop((dsts c ∗ scrs c ∗ sems0 c ∗ srcs (env m c))
    ∗ (∃ r, prngReg c r) ∗ (∃ W, owes (c : Thread nD τ) 0 W)
    ∗ ((((c : Thread nD τ).loc cc0_stg0_0) ↦{fullShare} (env m c).f0) ∗ (((c : Thread nD τ).loc cc0_stg1_0) ↦{fullShare} (env m c).f1) ∗ (((c : Thread nD τ).loc cc0_stg2_0) ↦{fullShare} (env m c).f2) ∗ (((c : Thread nD τ).loc cc0_stg3_0) ↦{fullShare} (env m c).f3))
    ∗ ((∃ f, ((c : Thread nD τ).loc cc0_stg4_0) ↦{fullShare} f) ∗ (∃ f, ((c : Thread nD τ).loc cc0_stg5_0) ↦{fullShare} f) ∗ (∃ f, ((c : Thread nD τ).loc cc0_stg6_0) ↦{fullShare} f) ∗ (∃ f, ((c : Thread nD τ).loc cc0_stg7_0) ↦{fullShare} f) ∗ (∃ f, ((c : Thread nD τ).loc cc0_stg8_0) ↦{fullShare} f)))

/-- Everything at the body's end, flat. -/
def flatE (c : Dev nD) : sProp 𝕄 := iprop((dsts c ∗ scrs c ∗ sems0 c ∗ srcs (env m c))
    ∗ (∃ r, prngReg c r) ∗ (∃ W, owes (c : Thread nD τ) 0 W)
    ∗ ((((c : Thread nD τ).loc cc0_stg0_0) ↦{fullShare} (env m c).f0) ∗ (((c : Thread nD τ).loc cc0_stg1_0) ↦{fullShare} (env m c).f1) ∗ (((c : Thread nD τ).loc cc0_stg2_0) ↦{fullShare} (env m c).f2) ∗ (((c : Thread nD τ).loc cc0_stg3_0) ↦{fullShare} (env m c).f3))
    ∗ ((((c : Thread nD τ).loc cc0_stg4_0) ↦{fullShare} (outAll (env m c) : Buf (Elt F) ((c : Thread nD τ).loc cc0_stg4_0))) ∗ (((c : Thread nD τ).loc cc0_stg5_0) ↦{fullShare} (codesAll (env m c).f2 : Buf (Elt F) ((c : Thread nD τ).loc cc0_stg5_0))) ∗ (((c : Thread nD τ).loc cc0_stg6_0) ↦{fullShare} (scaleAll (env m c).f2 : Buf (Elt F) ((c : Thread nD τ).loc cc0_stg6_0))) ∗ (((c : Thread nD τ).loc cc0_stg7_0) ↦{fullShare} (codesAll (env m c).f3 : Buf (Elt F) ((c : Thread nD τ).loc cc0_stg7_0))) ∗ (((c : Thread nD τ).loc cc0_stg8_0) ↦{fullShare} (scaleAll (env m c).f3 : Buf (Elt F) ((c : Thread nD τ).loc cc0_stg8_0)))))

theorem pre_flat (c : Dev nD) : bodyPre m c t0_0 ⊢ flat m c := by
  unfold bodyPre flat
  simp only [before0_0, before0_1, before0_2, before0_3]
  rw [show (dats m 0 c).Φ t0_0.castSucc = Pipeline.ΦD osem0 spec0 H0 (V m) c from rfl, Pipeline.ΦD_eq, ownSems00_eq, hbmPts0_eq]
  unfold Dat.owesAt Pipeline.owesWithin
  rw [show (dats m 0 c).owed t0_0.castSucc = 0 from rfl]
  rw [show st0_0 t0_0 = Memref.whole cc0_stg0_0 from rfl]
  rw [show st0_1 t0_0 = Memref.whole cc0_stg1_0 from rfl]
  rw [show st0_2 t0_0 = Memref.whole cc0_stg2_0 from rfl]
  rw [show st0_3 t0_0 = Memref.whole cc0_stg3_0 from rfl]
  rw [show st0_4 t0_0 = Memref.whole cc0_stg4_0 from rfl]
  rw [show st0_5 t0_0 = Memref.whole cc0_stg5_0 from rfl]
  rw [show st0_6 t0_0 = Memref.whole cc0_stg6_0 from rfl]
  rw [show st0_7 t0_0 = Memref.whole cc0_stg7_0 from rfl]
  rw [show st0_8 t0_0 = Memref.whole cc0_stg8_0 from rfl]
  simp only [owns_whole]
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave ⟨Hd, Hs⟩ := (scoped_eq c).1 $$ HS
  isplitl [Hd Hs Hq Hh]
  · isplitl [Hd]; · iexact Hd
    isplitl [Hs]; · iexact Hs
    isplitl [Hq]; · iexact Hq
    iexact Hh
  isplitl [Hg]; · iexact Hg
  isplitl [HW]; · iexists W; iexact HW
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [H6]; · iexists _; iexact H6
  isplitl [H7]; · iexists _; iexact H7
  iexists _; iexact H8

theorem flat_post (c : Dev nD) : flatE m c ⊢ bodyPost m c t0_0 := by
  unfold bodyPost flatE
  rw [after0_4, after0_5, after0_6, after0_7, after0_8]
  rw [show (dats m 0 c).Φ t0_0.succ = Pipeline.ΦD osem0 spec0 H0 (V m) c from rfl, Pipeline.ΦD_eq, ownSems00_eq, hbmPts0_eq]
  unfold Dat.owesAt Pipeline.owesWithin
  rw [show (dats m 0 c).owed t0_0.succ = 0 from rfl]
  rw [show st0_0 t0_0 = Memref.whole cc0_stg0_0 from rfl]
  rw [show st0_1 t0_0 = Memref.whole cc0_stg1_0 from rfl]
  rw [show st0_2 t0_0 = Memref.whole cc0_stg2_0 from rfl]
  rw [show st0_3 t0_0 = Memref.whole cc0_stg3_0 from rfl]
  rw [show st0_4 t0_0 = Memref.whole cc0_stg4_0 from rfl]
  rw [show st0_5 t0_0 = Memref.whole cc0_stg5_0 from rfl]
  rw [show st0_6 t0_0 = Memref.whole cc0_stg6_0 from rfl]
  rw [show st0_7 t0_0 = Memref.whole cc0_stg7_0 from rfl]
  rw [show st0_8 t0_0 = Memref.whole cc0_stg8_0 from rfl]
  simp only [owns_whole]
  iintro ⟨⟨Hd, Hs, Hq, Hh⟩, Hg, ⟨%W, HW⟩, ⟨H0, H1, H2, H3⟩, H4, H5, H6, H7, H8⟩
  ihave HS := (scoped_eq c).2 $$ [Hd Hs]
  · isplitl [Hd]; · iexact Hd
    iexact Hs
  isplitl [HS Hg Hq Hh]
  · isplitl [HS]; · iexact HS
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem flat_in (c : Dev nD) : flat m c ⊢ iprop((∃ r, prngReg c r) ∗ ∃ C : Cont F c, OWN c C ∗ XP (env m c) (pro 0)) := by
  unfold flat XP scrs OWN
  iintro ⟨⟨Hd, ⟨S4, S5, S6, S7⟩, Hq, Hh⟩, Hg, HW, Hi, H4, H5, H6, H7, H8⟩
  isplitl [Hg]; · iexact Hg
  ihave ⟨%C, HO⟩ := ((Entails.of_eq (B0_list (fun b => iprop(∃ f, ((c : Thread nD τ).loc b) ↦{fullShare} f))).symm).trans (choose_cont B0 (V m c))) $$ [H4 H5 H6 H7 H8 S4 S5 S6 S7]
  · isplitl [H4]; · iexact H4
    isplitl [H5]; · iexact H5
    isplitl [H6]; · iexact H6
    isplitl [H7]; · iexact H7
    isplitl [H8]; · iexact H8
    isplitl [S4]; · iexact S4
    isplitl [S5]; · iexact S5
    isplitl [S6]; · iexact S6
    iexact S7
  iexists C
  isplitl [HO]; · iexact HO
  isplitl [HW]; · iexact HW
  isplitl [Hi]; · iexact Hi
  iapply (pool_in (env m c))
  isplitl [Hh]; · iexact Hh
  isplitl [Hd]; · iexact Hd
  iexact Hq

theorem flat_out (c : Dev nD) (C : Cont F c) (H : HeldN (env m c) 4 C) (HR : Rows cc0_stg4_0 r40 (outRow (env m c)) 4 (C cc0_stg4_0)) : iprop((∃ r, prngReg c r) ∗ OWN c C ∗ XP (env m c) (lp 16)) ⊢ flatE m c := by
  unfold flatE XP OWN scrs
  rw [B0_list, HR.all40, H.all5, H.all6, H.all7, H.all8]
  iintro ⟨Hg, ⟨H4, H5, H6, H7, H8, S4, S5, S6, S7⟩, HW, Hi, HP⟩
  ihave ⟨Hh, Hd, Hq⟩ := (pool_out (env m c)) $$ HP
  isplitl [Hd S4 S5 S6 S7 Hq Hh]
  · isplitl [Hd]; · iexact Hd
    isplitl [S4 S5 S6 S7]
    · isplitl [S4]; · iexists _; iexact S4
      isplitl [S5]; · iexists _; iexact S5
      isplitl [S6]; · iexists _; iexact S6
      iexists _; iexact S7
    isplitl [Hq]; · iexact Hq
    iexact Hh
  isplitl [Hg]; · iexact Hg
  isplitl [HW]; · iexact HW
  isplitl [Hi]; · iexact Hi
  isplitl [H4]; · iexact H4
  isplitl [H5]; · iexact H5
  isplitl [H6]; · iexact H6
  isplitl [H7]; · iexact H7
  iexact H8

theorem post_of (c : Dev nD) (C : Cont F c) : iprop((∃ r, prngReg c r) ∗ ⌜HeldN (env m c) 4 C ∧ Rows cc0_stg4_0 r40 (outRow (env m c)) 4 (C cc0_stg4_0)⌝ ∗ OWN c C ∗ XP (env m c) (lp 16)) ⊢ bodyPost m c t0_0 := by
  iintro ⟨Hg, %H, HO, HX⟩
  iapply ((flat_out m c C H.1 H.2).trans (flat_post m c))
  isplitl [Hg]; · iexact Hg
  isplitl [HO]; · iexact HO
  iexact HX

theorem sound_body (c : Dev nD) (t : Fin cfg0.N) :
    bodyPre m c t ⊢ wp frame (wpE (defs₀ (F := F)) Variants.none c none) Set.univ (bodyAt0 t) (fun _ => bodyPost m c t) := by
  rw [fin_N0 t]
  refine (pre_flat m c).trans ((flat_in m c).trans ?_)
  iintro ⟨Hg, ⟨%C, HO, HX⟩⟩
  have hr : iprop(OWN c C ∗ XP (env m c) (pro 0)) ⊢ wp frame (wpE (defs₀ (F := F)) Variants.none (c : Thread nD τ) none) Set.univ (bodyAt0 t0_0)
      (fun _ => iprop(∃ C, ⌜HeldN (env m c) 4 C ∧ Rows cc0_stg4_0 r40 (outRow (env m c)) 4 (C cc0_stg4_0)⌝ ∗ OWN c C ∗ XP (env m c) (lp 16))) := by
    unfold bodyAt0 cc0_window_decode
    rw [wp_bind]
    refine (f261 (env m c) C ⟨Held.zero _ _, fun _ hu => absurd hu (Nat.not_lt_zero _)⟩).trans (wp_mono _ _ _ fun _ => ?_)
    exact le_wp_ret _ _ _ _ (fun _ => iprop(∃ C, ⌜HeldN (env m c) 4 C ∧ Rows cc0_stg4_0 r40 (outRow (env m c)) 4 (C cc0_stg4_0)⌝ ∗ OWN c C ∗ XP (env m c) (lp 16)))
  iapply ((sep_mono_right hr).trans ((wp_frame_l _ _ _).trans (wp_mono _ _ _ fun _ => (sep_exists_left.1.trans (exists_elim fun C' => post_of m c C')))))
  isplitl [Hg]; · iexact Hg
  isplitl [HO]; · iexact HO
  iexact HX

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- A window written once, whole, ends holding what the body left in its block. -/
theorem win_out {r : PUnit × MemSt nD τ sig (Elt F)} (h : Pipeline.RDat.FramePost (cfgs 0) (fun c => (dats m 0 c).toRForget forgets0) (V m) r)
    (c : Dev nD) (w : Fin cfg0.W) (hw : forgets0 w = false) (hf : (cfg0.win w).flush t0_0 = true) :
    ((cfg0.win w).blk t0_0).view.read (Elt F) (r.2.mem ((cfg0.spec w).arr.view.loc (c.tc : Thread nD τ))) = (dats m 0 c).flushed w t0_0 := by
  rw [((dats m 0 c).toRForget_arrAt_iff hw _ _).mp ((h c).1 w)]
  exact (dats m 0 c).read_blk_arrAt_eq_flushed w (fun t t' _ _ hne => absurd ((fin_N0 t).trans (fin_N0 t').symm) hne) cfg0.N t0_0 t0_0.isLt hf

theorem win_in {r : PUnit × MemSt nD τ sig (Elt F)} (h : Pipeline.RDat.FramePost (cfgs 0) (fun c => (dats m 0 c).toRForget forgets0) (V m) r)
    (c : Dev nD) (w : Fin cfg0.W) (hw : forgets0 w = false) (hi : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hi _).trans (A_eq m c w))

/-- The arguments are unchanged. -/
theorem args_kept {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(win_in m h c 1 rfl rfl).trans (V_main_arg0 m c),
      (win_in m h c 2 rfl rfl).trans (V_main_arg1 m c),
      (win_in m h c 3 rfl rfl).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (win_in m h c 0 rfl rfl).trans (V_main_arg7 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_kept m h.1 c, h.2⟩) (run_main m ρ)

end Cert.KernelIdeal.Hand

end
-- ==== Proof.KI.Result.lean ====
/-
  What the results hold after the run.
-/
module

public import proofs.«01_k».proof.Proof.KI.Frame

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- A window of one block, the whole array, reads the array. -/
theorem emb_4 (y : S4x1x32x256.Idx) : ((cfg0.win 4).blk t0_0).view.emb y = y := by
  funext a; apply Fin.ext; fin_cases a <;> exact (Nat.zero_add _).trans (Nat.one_mul _)
theorem emb_5 (y : S4x1x8x256.Idx) : ((cfg0.win 5).blk t0_0).view.emb y = y := by
  funext a; apply Fin.ext; fin_cases a <;> exact (Nat.zero_add _).trans (Nat.one_mul _)
theorem emb_6 (y : S4x1x8.Idx) : ((cfg0.win 6).blk t0_0).view.emb y = y := by
  funext a; apply Fin.ext; fin_cases a <;> exact (Nat.zero_add _).trans (Nat.one_mul _)
theorem emb_7 (y : S4x1x8x256.Idx) : ((cfg0.win 7).blk t0_0).view.emb y = y := by
  funext a; apply Fin.ext; fin_cases a <;> exact (Nat.zero_add _).trans (Nat.one_mul _)
theorem emb_8 (y : S4x1x8.Idx) : ((cfg0.win 8).blk t0_0).view.emb y = y := by
  funext a; apply Fin.ext; fin_cases a <;> exact (Nat.zero_add _).trans (Nat.one_mul _)
theorem emb_2 (y : S4x1x8x256.Idx) : ((cfg0.win 2).blk t0_0).view.emb y = y := by
  funext a; apply Fin.ext; fin_cases a <;> exact (Nat.zero_add _).trans (Nat.one_mul _)
theorem emb_3 (y : S4x1x8x256.Idx) : ((cfg0.win 3).blk t0_0).view.emb y = y := by
  funext a; apply Fin.ext; fin_cases a <;> exact (Nat.zero_add _).trans (Nat.one_mul _)

theorem emb_1 (y : S4x1x32x256.Idx) : ((cfg0.win 1).blk t0_0).view.emb y = y := by
  funext a; apply Fin.ext; fin_cases a <;> exact (Nat.zero_add _).trans (Nat.one_mul _)
theorem emb_0 (y : S4.Idx) : ((cfg0.win 0).blk t0_0).view.emb y = y := by
  funext a; apply Fin.ext; fin_cases a; exact (Nat.zero_add _).trans (Nat.one_mul _)

theorem f0_eq (c : Dev nD) : (env m c).f0 = m ((c.tc : Thread nD τ).loc main_arg7) := by
  refine Eq.trans ?_ (V_main_arg7 m c)
  funext y
  exact congrArg (V m c main_arg7) (emb_0 y)
theorem f1_eq (c : Dev nD) : (env m c).f1 = m ((c.tc : Thread nD τ).loc main_arg0) := by
  refine Eq.trans ?_ (V_main_arg0 m c)
  funext y
  exact congrArg (V m c main_arg0) (emb_1 y)
theorem f2_eq (c : Dev nD) : (env m c).f2 = m ((c.tc : Thread nD τ).loc main_arg1) := by
  refine Eq.trans ?_ (V_main_arg1 m c)
  funext y
  exact congrArg (V m c main_arg1) (emb_2 y)
theorem f3_eq (c : Dev nD) : (env m c).f3 = m ((c.tc : Thread nD τ).loc main_arg2) := by
  refine Eq.trans ?_ (V_main_arg2 m c)
  funext y
  exact congrArg (V m c main_arg2) (emb_3 y)

/-- After the run the outputs are those of the trips, and the codes and the scales of the new keys and values are those of the arguments. -/
theorem run_value : θ_run defs (onTc (τ := τ) (main (F := F))) ⟨m, fun _ => 0, ρ⟩ (fun r => ∀ c : Dev nD,
      r.2.mem ((c.tc : Thread nD τ).loc main_v2_0) = outAll (env m c)
      ∧ r.2.mem ((c.tc : Thread nD τ).loc main_v2_1) = codesAll (m ((c.tc : Thread nD τ).loc main_arg1))
      ∧ r.2.mem ((c.tc : Thread nD τ).loc main_v2_2) = scaleAll (m ((c.tc : Thread nD τ).loc main_arg1))
      ∧ r.2.mem ((c.tc : Thread nD τ).loc main_v2_3) = codesAll (m ((c.tc : Thread nD τ).loc main_arg2))
      ∧ r.2.mem ((c.tc : Thread nD τ).loc main_v2_4) = scaleAll (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, ?_, ?_, ?_, ?_, args_kept m h.1 c⟩) (run_main m ρ)
  · funext y
    have h5 := congrFun (win_out m h.1 c 4 rfl (by decide)) y
    exact (congrArg (r.2.mem ((c.tc : Thread nD τ).loc main_v2_0)) (emb_4 y)).symm.trans h5
  · funext y
    have h5 := congrFun (win_out m h.1 c 5 rfl (by decide)) y
    rw [← f2_eq m c]
    exact (congrArg (r.2.mem ((c.tc : Thread nD τ).loc main_v2_1)) (emb_5 y)).symm.trans h5
  · funext y
    have h5 := congrFun (win_out m h.1 c 6 rfl (by decide)) y
    rw [← f2_eq m c]
    exact (congrArg (r.2.mem ((c.tc : Thread nD τ).loc main_v2_2)) (emb_6 y)).symm.trans h5
  · funext y
    have h5 := congrFun (win_out m h.1 c 7 rfl (by decide)) y
    rw [← f3_eq m c]
    exact (congrArg (r.2.mem ((c.tc : Thread nD τ).loc main_v2_3)) (emb_7 y)).symm.trans h5
  · funext y
    have h5 := congrFun (win_out m h.1 c 8 rfl (by decide)) y
    rw [← f3_eq m c]
    exact (congrArg (r.2.mem ((c.tc : Thread nD τ).loc main_v2_4)) (emb_8 y)).symm.trans h5

end Cert.KernelIdeal.Hand

end
-- ==== Proof.Quant.lean ====
/-
  The codes and the scales that the kernel stores are those of the reference, over the extended reals.
-/
module

public import proofs.«01_k».proof.Proof.KI.Frame
public import proofs.«01_k».proof.Proof.Gen.ReferenceIdeal.Read
public import Idealize.ShloMosaic.PureOps.Ideal.Laws
public import Idealize.ShloMosaic.Lib.ValueIdx

@[expose] public section

noncomputable section

namespace Cert.Quant

open Cert.KernelIdeal Cert.KernelIdeal.Gen Cert.KernelIdeal.Hand
open Idealize.ShloMosaic Idealize.ShloMosaic.TcCoe Idealize.ShloMosaic.Tactic

open Cert.ReferenceIdeal.Read in
/-- The reference treats keys and values alike. -/
theorem ref_codes (x : S4x1x8x256.Idx → Elt Ideal .bf16) : val_main_v29 (F := Ideal) x = val_main_v14 (F := Ideal) x := rfl
open Cert.ReferenceIdeal.Read in
theorem ref_scale (x : S4x1x8x256.Idx → Elt Ideal .bf16) : val_main_v22 (F := Ideal) x = val_main_v7 (F := Ideal) x := rfl

/-! ## Rounding to eight bits -/

theorem ofBits_127 : Ideal.ofBits .f32 0x42FE0000#32 = ((127 : ℝ) : EReal) := by
  simp [Ideal.ofBits, Ideal.ieee, -EReal.coe_mul]; norm_num
theorem ofBits_neg127 : Ideal.ofBits .f32 0xC2FE0000#32 = ((-127 : ℝ) : EReal) := by
  simp [Ideal.ofBits, Ideal.ieee, -EReal.coe_mul]; norm_num

theorem trunc_bounds (r : ℝ) (h1 : -127 ≤ r) (h2 : r ≤ 127) : -127 ≤ (if 0 ≤ r then ⌊r⌋ else ⌈r⌉) ∧ (if 0 ≤ r then ⌊r⌋ else ⌈r⌉) ≤ 127 := by
  split
  · rename_i h
    exact ⟨le_trans (by norm_num) (Int.floor_nonneg.mpr h), by have := Int.floor_le r; have h3 : ((⌊r⌋ : ℤ) : ℝ) ≤ ((127 : ℤ) : ℝ) := by push_cast; linarith
                                                               exact_mod_cast h3⟩
  · rename_i h
    refine ⟨?_, ?_⟩
    · have := Int.le_ceil r
      have h3 : ((-127 : ℤ) : ℝ) ≤ ((⌈r⌉ : ℤ) : ℝ) := by push_cast; linarith
      exact_mod_cast h3
    · exact Int.ceil_le.mpr (by push_cast; linarith)

/-- A float between -127 and 127 converted to eight bits is the low eight bits of its conversion to a word. -/
theorem fptosi_8 (v : EReal) (h1 : ((-127 : ℝ) : EReal) ≤ v) (h2 : v ≤ ((127 : ℝ) : EReal)) : Ideal.fptosi 8 v = (Ideal.fptosi 32 v).setWidth 8 := by
  induction v using EReal.rec with
  | bot => exact absurd h1 (by simp)
  | top => exact absurd h2 (by simp)
  | coe r =>
    have b := trunc_bounds r (by exact_mod_cast h1) (by exact_mod_cast h2)
    unfold Ideal.fptosi
    simp only [Ideal.toIntClamped_coe]
    generalize (if 0 ≤ r then ⌊r⌋ else ⌈r⌉) = z at b
    have e1 : max (-(2 ^ (8 - 1) : ℕ) : ℤ) (min (((2 ^ (8 - 1) : ℕ) : ℤ) - 1) z) = z := by norm_num; omega
    have e2 : max (-(2 ^ (32 - 1) : ℕ) : ℤ) (min (((2 ^ (32 - 1) : ℕ) : ℤ) - 1) z) = z := by norm_num; omega
    rw [e1, e2]
    apply BitVec.eq_of_toNat_eq
    simp [BitVec.toNat_ofInt]
    omega

theorem clip_codes (u : EReal) :
    Ideal.fptosi 8 (min (Ideal.ofBits .f32 0x42FE0000#32) (max (Ideal.ofBits .f32 0xC2FE0000#32) u))
      = (Ideal.fptosi 32 (min (Ideal.ofBits .f32 0x42FE0000#32) (max (Ideal.ofBits .f32 0xC2FE0000#32) u))).setWidth 8 := by
  rw [ofBits_127, ofBits_neg127]
  refine fptosi_8 _ (le_min ?_ (le_max_left _ _)) (min_le_left _ _)
  exact EReal.coe_le_coe_iff.mpr (by norm_num)

/-! ## The rows -/

abbrev p1 (a : Fin 8) : S8.Idx := fun | ⟨0, _⟩ => a
abbrev p2 (a : Fin 8) (b : Fin 256) : S8x256.Idx := fun | ⟨0, _⟩ => a | ⟨1, _⟩ => b
abbrev p4 (a : Fin 8) (b : Fin 256) : S1x1x8x256.Idx := fun | ⟨0, _⟩ => (0 : Fin 1) | ⟨1, _⟩ => (0 : Fin 1) | ⟨2, _⟩ => a | ⟨3, _⟩ => b
abbrev q3 (n : Fin 4) (a : Fin 8) : S4x1x8.Idx := fun | ⟨0, _⟩ => n | ⟨1, _⟩ => (0 : Fin 1) | ⟨2, _⟩ => a
abbrev q4 (n : Fin 4) (a : Fin 8) (b : Fin 256) : S4x1x8x256.Idx := fun | ⟨0, _⟩ => n | ⟨1, _⟩ => (0 : Fin 1) | ⟨2, _⟩ => a | ⟨3, _⟩ => b

theorem emb_p4 (n : Fin 4) (a : Fin 8) (b : Fin 256) : (r11 (trip n)).emb (p4 a b) = q4 n a b := emb11 (q4 n a b)

variable (x : S4x1x8x256.Idx → Elt Ideal .bf16) (n : Fin 4)

/-- A row, as a matrix of heads. -/
abbrev row : FVec Ideal S8x256 .f32 := rowF (F := Ideal) (fun y => x ((r11 (trip n)).emb y))

theorem row_apply (a : Fin 8) (b : Fin 256) : row x n (p2 a b) = x (q4 n a b) := by
  show shapeCast S8x256 (fun y => x ((r11 (trip n)).emb y)) shapeCasts_S1x1x8x256_S8x256 (p2 a b) = _
  refine (shapeCast_apply _ shapeCasts_S1x1x8x256_S8x256 (p2 a b) (p4 a b) ?_).trans (congrArg x (emb_p4 n a b))
  rw [Shape.rowMajor_val_two, Shape.rowMajor_val_four]
  show ((0 * 1 + 0) * 8 + a.val) * 256 + b.val = a.val * 256 + b.val
  omega

theorem lift_p2 (a : Fin 8) (k : Fin 256) : Shape.Reduces.lift reduces_S8x256_S8 (p1 a) k = p2 a k := by
  funext d
  fin_cases d
  · rfl
  · rfl

theorem reduces_q : Cert.ReferenceIdeal.S4x1x8x256.Reduces [3] Cert.ReferenceIdeal.S4x1x8 := by decide
theorem lift_q4 (a : Fin 8) (k : Fin 256) : Shape.Reduces.lift reduces_q (q3 n a) k = q4 n a k := by
  funext d
  fin_cases d <;> rfl

open Cert.ReferenceIdeal.Read

/-- The largest magnitude of a head's vector. -/
theorem amax_eq (a : Fin 8) : amaxF (row x n) (p1 a) = val_main_v2 (F := Ideal) x (q3 n a) := by
  unfold amaxF val_main_v2
  refine (Ideal.multiReduction_maximumf_single _ _ _ _ _ _).trans (Eq.trans ?_ (Host.reduce_eq_fold_single (FloatOps.maximumf (F := Ideal) (φ := .f32)) _ _ _ reduces_q _ _).symm)
  refine Finset.fold_congr (fun k _ => ?_)
  show FloatOps.absf (row x n (Shape.Reduces.lift reduces_S8x256_S8 (p1 a) k)) = FloatOps.absf (F := Ideal) (x (Shape.Reduces.lift reduces_q (q3 n a) k))
  exact congrArg (FloatOps.absf (F := Ideal) (φ := .f32)) (((congrArg (row x n) (lift_p2 a k)).trans (row_apply x n a k)).trans (congrArg x (lift_q4 n a k).symm))

theorem scale_eq (a : Fin 8) : scaleF (row x n) (p1 a) = val_main_v7 (F := Ideal) x (q3 n a) := by
  show Scalar.select (FloatOps.cmpf .ogt (amaxF (row x n) (p1 a)) _) (FloatOps.divf (amaxF (row x n) (p1 a)) _) _ = _
  rw [amax_eq, val_main_v7_apply, val_main_v4_apply, val_main_v6_apply, val_main_v3_apply, val_main_v5_apply, val_main_call0_v1_apply]
  rfl

theorem code_eq (a : Fin 8) (b : Fin 256) : fptosi 8 (codesF (row x n)) (p2 a b) = val_main_v14 (F := Ideal) x (q4 n a b) := by
  have hb : broadcastTo S8x256 (shapeCast S8x1 (scaleF (row x n)) shapeCasts_S8_S8x1) broadcasts_S8x1_S8x256 (p2 a b) = val_main_v9 (F := Ideal) x (q4 n a b) := by
    rw [val_main_v9_apply, val_main_v8_apply]
    refine (broadcastTo_apply _ broadcasts_S8x1_S8x256 (p2 a b) (fun | ⟨0, _⟩ => a | ⟨1, _⟩ => (0 : Fin 1)) ?_).trans ?_
    · intro d
      fin_cases d <;> rfl
    · refine (shapeCast_apply _ shapeCasts_S8_S8x1 _ (p1 a) ?_).trans ((scale_eq x n a).trans (congrArg _ ?_))
      · rw [Shape.rowMajor_val_two, Shape.rowMajor_val_one]
        show a.val = a.val * 1 + 0
        omega
      · funext d
        fin_cases d <;> rfl
  have hd : divf (row x n) (broadcastTo S8x256 (shapeCast S8x1 (scaleF (row x n)) shapeCasts_S8_S8x1) broadcasts_S8x1_S8x256) (p2 a b) = val_main_v10 (F := Ideal) x (q4 n a b) := by
    show FloatOps.divf (row x n (p2 a b)) (broadcastTo S8x256 (shapeCast S8x1 (scaleF (row x n)) shapeCasts_S8_S8x1) broadcasts_S8x1_S8x256 (p2 a b)) = _
    rw [hb, row_apply]
    rfl
  refine Eq.trans ?_ (clip_codes (FloatOps.hostUnary (F := Ideal) (φ := .f32) .roundeven (val_main_v10 (F := Ideal) x (q4 n a b))))
  rw [← hd]
  rfl

/-! ## The arrays -/

theorem codesAll_eq : codesAll (F := Ideal) x = val_main_v14 (F := Ideal) x := by
  funext i
  refine Eq.trans ?_ ((code_eq x (i 0) (i 2) (i 3)).trans (congrArg _ ?_))
  · refine shapeCast_apply _ shapeCasts_S8x256_S1x1x8x256 (in11 i) (p2 (i 2) (i 3)) ?_
    rw [Shape.rowMajor_val_two, Shape.rowMajor_val_four]
    show (i 2).val * 256 + (i 3).val = ((0 * 1 + 0) * 8 + (i 2).val) * 256 + (i 3).val
    omega
  · have h1 : (i 1).val < 1 := (i 1).isLt
    funext d
    apply Fin.ext
    fin_cases d
    · rfl
    · show 0 = (i 1).val; omega
    · rfl
    · rfl

theorem scaleAll_eq : scaleAll (F := Ideal) x = val_main_v7 (F := Ideal) x := by
  funext i
  refine Eq.trans ?_ ((scale_eq x (i 0) (i 2)).trans (congrArg _ ?_))
  · refine shapeCast_apply _ shapeCasts_S8_S1x1x8 (in12 i) (p1 (i 2)) ?_
    rw [Shape.rowMajor_val_one, Shape.rowMajor_val_three]
    show (i 2).val = (0 * 1 + 0) * 8 + (i 2).val
    omega
  · have h1 : (i 1).val < 1 := (i 1).isLt
    funext d
    apply Fin.ext
    fin_cases d
    · rfl
    · show 0 = (i 1).val; omega
    · rfl

end Cert.Quant
-- ==== Proof.Attn.lean ====
/-
  Softmax attention over a window, on the extended reals: the sum of the products divided once is the sum of the divided products.
-/
module

public import Idealize.ShloMosaic.PureOps
public import Idealize.ShloMosaic.PureOps.Ideal

@[expose] public section

noncomputable section

namespace Cert.Attn

open Idealize.ShloMosaic Finset

/-- Of the lanes, eight to a token, those of one head: their sum is the sum over the tokens. -/
theorem sum_own (f : ℕ → EReal) (kv : ℕ) (hkv : kv < 8) (n : ℕ) :
    ∑ y ∈ range (8 * n), (if y % 8 = kv then f (y / 8) else 0) = ∑ u ∈ range n, f u := by
  induction n with
  | zero => rfl
  | succ n ih =>
    rw [show 8 * (n + 1) = 8 * n + 8 from rfl, sum_range_add, ih, sum_range_succ (fun u => f u) n]
    refine congrArg _ ?_
    have h (r : ℕ) (hr : r < 8) : (8 * n + r) % 8 = r ∧ (8 * n + r) / 8 = n := by omega
    rw [sum_congr rfl (fun r hr => by
      rw [(h r (mem_range.1 hr)).1, (h r (mem_range.1 hr)).2] : ∀ r ∈ range 8, _ = if r = kv then f n else 0)]
    rw [sum_ite_eq' (range 8) kv fun _ => f n, if_pos (mem_range.2 hkv)]

/-- A sum by tiles. -/
theorem sum_tiles (F : ℕ → EReal) (m n : ℕ) : ∑ j ∈ range n, ∑ l ∈ range m, F (m * j + l) = ∑ y ∈ range (m * n), F y := by
  induction n with
  | zero => rfl
  | succ n ih => rw [sum_range_succ, ih, show m * (n + 1) = m * n + m from rfl, sum_range_add]

/-- A sum over all tokens of what vanishes outside a window. -/
theorem sum_window (f : ℕ → EReal) (st w n : ℕ) (h : st + w ≤ n) (h0 : ∀ k < n, k < st ∨ st + w ≤ k → f k = 0) :
    ∑ u ∈ range w, f (st + u) = ∑ k ∈ range n, f k := by
  obtain ⟨r, rfl⟩ := Nat.exists_eq_add_of_le h
  rw [sum_range_add, sum_range_add, sum_eq_zero fun k hk => h0 k (by have := mem_range.1 hk; omega) (.inl (mem_range.1 hk)), zero_add]
  rw [show ∑ x ∈ range r, f (st + w + x) = 0 from sum_eq_zero fun k hk => h0 _ (by have := mem_range.1 hk; omega) (.inr (by omega)), add_zero]

/-- The sum over a window by tiles of `m` lanes, of which those of one head count. -/
theorem sum_lanes (f : ℕ → EReal) (kv st m n : ℕ) (hkv : kv < 8) (hm : m % 8 = 0) (hn : m * n = 8 * 1024) (hst : st ≤ 3072)
    (h0 : ∀ k < 4096, k < st ∨ st + 1024 ≤ k → f k = 0) (T : ℕ → ℕ → EReal)
    (hT : ∀ j < n, ∀ l < m, T j l = if l % 8 = kv then f (st + (m / 8 * j + l / 8)) else 0) :
    ∑ j ∈ range n, ∑ l ∈ range m, T j l = ∑ k ∈ range 4096, f k := by
  rw [← sum_window f st 1024 4096 (by omega) h0, ← sum_own (fun u => f (st + u)) kv hkv 1024, ← hn, ← sum_tiles]
  refine sum_congr rfl fun j hj => sum_congr rfl fun l hl => ?_
  rw [hT j (mem_range.1 hj) l (mem_range.1 hl)]
  obtain ⟨q, rfl⟩ : ∃ q, m = 8 * q := ⟨m / 8, by omega⟩
  rw [Nat.mul_div_cancel_left q (by decide), Nat.mul_assoc, Nat.mul_add_mod, Nat.mul_add_div (by decide)]

theorem exp_nonneg (x : EReal) : 0 ≤ Ideal.exp x := by
  induction x with
  | bot => exact le_refl _
  | top => exact le_top
  | coe r => exact EReal.coe_nonneg.2 (Real.exp_pos r).le

theorem exp_bot_sub (x : EReal) : Ideal.exp (⊥ - x) = 0 := by rw [EReal.bot_sub]; rfl

theorem sum_mul_of_nonneg {ι : Type} (s : Finset ι) (f : ι → EReal) (r : EReal) (h : 0 ≤ r) (h' : r ≠ ⊤) : (∑ i ∈ s, f i) * r = ∑ i ∈ s, f i * r := by
  classical
  induction s using Finset.induction_on with
  | empty => rw [sum_empty, sum_empty, zero_mul]
  | insert a s ha ih => rw [sum_insert ha, sum_insert ha, EReal.right_distrib_of_nonneg_of_ne_top h h', ih]

/-- A largest element, by what it is below. -/
def IsMax (S : ℕ → EReal) (sn M : EReal) : Prop := ∀ z, M ≤ z ↔ sn ≤ z ∧ ∀ k < 4096, S k ≤ z

theorem IsMax.unique {S : ℕ → EReal} {sn M M' : EReal} (h : IsMax S sn M) (h' : IsMax S sn M') : M = M' :=
  eq_of_forall_ge_iff fun z => (h z).trans (h' z).symm

/-- The sum of the weights is not zero when the new token's score is a number and no score is infinite. -/
theorem sum_ne_zero {S : ℕ → EReal} {sn M : EReal} (hM : IsMax S sn M) (hn : sn ≠ ⊤) (hn' : sn ≠ ⊥) (hS : ∀ k < 4096, S k ≠ ⊤) :
    (∑ k ∈ range 4096, Ideal.exp (S k - M)) + Ideal.exp (sn - M) ≠ 0 := by
  have h1 : M ≠ ⊤ := by
    refine ne_of_lt (lt_of_le_of_lt ((hM (max sn ((range 4096).sup S))).2 ⟨le_max_left _ _, fun k hk => ?_⟩) ?_)
    · exact (Finset.le_sup (f := S) (mem_range.2 hk)).trans (le_max_right _ _)
    · refine max_lt (lt_top_iff_ne_top.2 hn) ((Finset.sup_lt_iff bot_lt_top).2 fun k hk => lt_top_iff_ne_top.2 (hS k (mem_range.1 hk)))
  have h2 : sn ≤ M := ((hM M).1 le_rfl).1
  have h3 : M ≠ ⊥ := fun h => hn' (le_bot_iff.1 (h ▸ h2))
  lift M to ℝ using ⟨h1, h3⟩
  lift sn to ℝ using ⟨hn, hn'⟩
  refine ne_of_gt (lt_of_lt_of_le ?_ (le_add_of_nonneg_left (sum_nonneg fun k _ => exp_nonneg _)))
  rw [← EReal.coe_sub]
  exact EReal.coe_pos.2 (Real.exp_pos _)

/-- Dividing the sum of the products is summing the divided products. -/
theorem attn {S W V : ℕ → EReal} {sn wn vn M : EReal} (hM : IsMax S sn M) (hn : sn ≠ ⊤) (hn' : sn ≠ ⊥) (hS : ∀ k < 4096, S k ≠ ⊤)
    (L : EReal) (hL : L = (∑ k ∈ range 4096, Ideal.exp (S k - M)) + Ideal.exp (sn - M)) :
    Ideal.div ((∑ k ∈ range 4096, Ideal.exp (S k - M) * W k * V k) + Ideal.exp (sn - M) * wn * vn) L
      = (∑ k ∈ range 4096, V k * (Ideal.div (Ideal.exp (S k - M)) L * W k)) + vn * (Ideal.div (Ideal.exp (sn - M)) L * wn) := by
  have h0 : L ≠ 0 := hL ▸ sum_ne_zero hM hn hn' hS
  have h1 : 0 ≤ L := hL ▸ add_nonneg (sum_nonneg fun k _ => exp_nonneg _) (exp_nonneg _)
  have hr : 0 ≤ L⁻¹ := EReal.inv_nonneg_of_nonneg h1
  have hr' : L⁻¹ ≠ ⊤ := by
    intro h
    induction L with
    | bot => simp at h
    | top => simp at h
    | coe x => rw [← EReal.coe_inv] at h; exact EReal.coe_ne_top _ h
  simp only [Ideal.div, if_neg h0]
  rw [EReal.right_distrib_of_nonneg_of_ne_top hr hr', sum_mul_of_nonneg _ _ _ hr hr']
  refine congrArg₂ _ (sum_congr rfl fun k _ => ?_) ?_
  · ac_rfl
  · ac_rfl

end Cert.Attn

end
-- ==== Proof.Plain.lean ====
/-
  The attention, element by element: the scores of the cached tokens and of the new one, their weights and their values.
-/
module

public import proofs.«01_k».proof.Proof.Quant
public import proofs.«01_k».proof.Proof.Attn

@[expose] public section

noncomputable section

namespace Cert.Plain

open Cert.KernelIdeal Cert.Quant
open Idealize.ShloMosaic Idealize.ShloMosaic.TcCoe
open Cert.ReferenceIdeal.Read

abbrev ix (b : Fin 4) (h : Fin 32) (d : Fin 256) : S4x1x32x256.Idx := fun | ⟨0, _⟩ => b | ⟨1, _⟩ => (0 : Fin 1) | ⟨2, _⟩ => h | ⟨3, _⟩ => d
abbrev ic (b : Fin 4) (t : Fin 4096) (kv : Fin 8) (d : Fin 256) : S4x4096x8x256.Idx := fun | ⟨0, _⟩ => b | ⟨1, _⟩ => t | ⟨2, _⟩ => kv | ⟨3, _⟩ => d
abbrev is (b : Fin 4) (t : Fin 4096) (kv : Fin 8) : S4x4096x8.Idx := fun | ⟨0, _⟩ => b | ⟨1, _⟩ => t | ⟨2, _⟩ => kv
abbrev il (b : Fin 4) : S4.Idx := fun | ⟨0, _⟩ => b
/-- A head, by the head of the keys that it reads and its place among the four that read it. -/
abbrev hd (kv : Fin 8) (g : Fin 4) : Fin 32 := ⟨kv.val * 4 + g.val, by omega⟩
abbrev tk (k : ℕ) : Fin 4096 := ⟨k % 4096, Nat.mod_lt _ (by decide)⟩

/-- An integer of a bit pattern, as an extended real. -/
abbrev num {w : ℕ} (b : BitVec w) : EReal := ((b.toInt : ℝ) : EReal)

/-- Whether a token is before the length and within the window. -/
def seen (len : BitVec 32) (k : ℕ) : BitVec 1 :=
  IntOp.andi (IntOp.cmpi .slt (BitVec.ofNat 32 k) len) (IntOp.cmpi .slt (IntOp.subi len (BitVec.ofNat 32 k)) 1024#32)

/-- The scale of the scores. -/
abbrev sm : EReal := Ideal.ofBits .f32 0x3D800000#32

variable (x0 : S4x1x32x256.Idx → Elt Ideal .bf16) (x1 x2 : S4x1x8x256.Idx → Elt Ideal .bf16) (x3 x5 : S4x4096x8x256.Idx → Elt Ideal .i8)
  (x4 x6 : S4x4096x8.Idx → Elt Ideal .f32) (x7 : S4.Idx → Elt Ideal .i32)
variable (b : Fin 4) (kv : Fin 8) (g : Fin 4) (d : Fin 256)

def dots (k : ℕ) : EReal := ∑ c : Fin 256, num (x3 (ic b (tk k) kv c)) * x0 (ix b (hd kv g) c)
def raw (k : ℕ) : EReal := dots x0 x3 b kv g k * x4 (is b (tk k) kv) * sm
/-- A cached token's score. -/
def S (k : ℕ) : EReal := Scalar.select (seen (x7 (il b)) k) (raw x0 x3 x4 b kv g k) ⊥
/-- The new token's score. -/
def sn : EReal := (∑ c : Fin 256, num (val_main_v14 (F := Ideal) x1 (q4 b kv c)) * x0 (ix b (hd kv g) c)) * val_main_v7 (F := Ideal) x1 (q3 b kv) * sm
def W (k : ℕ) : EReal := x6 (is b (tk k) kv)
def V (k : ℕ) : EReal := num (x5 (ic b (tk k) kv d))
def wn : EReal := val_main_v7 (F := Ideal) x2 (q3 b kv)
def vn : EReal := num (val_main_v14 (F := Ideal) x2 (q4 b kv d))

end Cert.Plain

end
-- ==== Proof.Copied.lean ====
/-
  What the copies brought in, element by element.
-/
module

public import proofs.«01_k».proof.Proof.Plain
public import proofs.«01_k».proof.Proof.KI.Spec

@[expose] public section

noncomputable section

namespace Cert.Plain

open Cert.KernelIdeal Cert.KernelIdeal.Gen Cert.KernelIdeal.Hand Cert.Quant
open Idealize.ShloMosaic Idealize.ShloMosaic.TcCoe Idealize.ShloMosaic.Tactic

abbrev y2 (kv : Fin 8) (p : Fin 1152) : S8x1152.Idx := fun | ⟨0, _⟩ => kv | ⟨1, _⟩ => p
abbrev w3 (kv : Fin 8) (p : Fin 1152) : S1x8x1152.Idx := fun | ⟨0, _⟩ => (0 : Fin 1) | ⟨1, _⟩ => kv | ⟨2, _⟩ => p
abbrev u3 (b : Fin 4) (kv : Fin 8) (p : Fin 1152) : S4x8x1152.Idx := fun | ⟨0, _⟩ => b | ⟨1, _⟩ => kv | ⟨2, _⟩ => p
abbrev a3 (b : Fin 4) (kv : Fin 8) (t : Fin 4096) : S4x8x4096.Idx := fun | ⟨0, _⟩ => b | ⟨1, _⟩ => kv | ⟨2, _⟩ => t
abbrev y3 (p : Fin 1024) (kv : Fin 8) (d : Fin 256) : S1024x8x256.Idx := fun | ⟨0, _⟩ => p | ⟨1, _⟩ => kv | ⟨2, _⟩ => d
abbrev w4 (p : Fin 1024) (kv : Fin 8) (d : Fin 256) : S1x1024x8x256.Idx := fun | ⟨0, _⟩ => (0 : Fin 1) | ⟨1, _⟩ => p | ⟨2, _⟩ => kv | ⟨3, _⟩ => d
abbrev u4 (b : Fin 4) (p : Fin 1024) (kv : Fin 8) (d : Fin 256) : S4x1024x8x256.Idx := fun | ⟨0, _⟩ => b | ⟨1, _⟩ => p | ⟨2, _⟩ => kv | ⟨3, _⟩ => d

theorem resS (kv : Fin 8) (p : Fin 1152) (h) : Shape.reshapeEquiv (s := S1x8x1152) (s' := S8x1152) h (y2 kv p) = w3 kv p := by
  refine Shape.reshapeEquiv_eq_of_rowMajor h ?_
  rw [Shape.rowMajor_val_two, Shape.rowMajor_val_three]
  show (0 * 8 + kv.val) * 1152 + p.val = kv.val * 1152 + p.val
  omega
theorem resC (p : Fin 1024) (kv : Fin 8) (d : Fin 256) (h) : Shape.reshapeEquiv (s := S1x1024x8x256) (s' := S1024x8x256) h (y3 p kv d) = w4 p kv d := by
  refine Shape.reshapeEquiv_eq_of_rowMajor h ?_
  rw [Shape.rowMajor_val_three, Shape.rowMajor_val_four]
  show ((0 * 1024 + p.val) * 8 + kv.val) * 256 + d.val = (p.val * 8 + kv.val) * 256 + d.val
  omega

theorem embDS (b : Fin 4) (kv : Fin 8) (p : Fin 1152) : (Rect.unit (s := S4x8x1152) ![b.val, 0, 0] S1x8x1152.size (inb_d3 b)).emb (w3 kv p) = u3 b kv p := by
  refine funext fun a => Fin.ext ?_
  match a with
  | ⟨0, _⟩ => show b.val + 1 * 0 = b.val; omega
  | ⟨1, _⟩ => show 0 + 1 * kv.val = kv.val; omega
  | ⟨2, _⟩ => show 0 + 1 * p.val = p.val; omega
theorem embDC (b : Fin 4) (p : Fin 1024) (kv : Fin 8) (d : Fin 256) : (Rect.unit (s := S4x1024x8x256) ![b.val, 0, 0, 0] S1x1024x8x256.size (inb_d4 b)).emb (w4 p kv d) = u4 b p kv d := by
  refine funext fun a => Fin.ext ?_
  match a with
  | ⟨0, _⟩ => show b.val + 1 * 0 = b.val; omega
  | ⟨1, _⟩ => show 0 + 1 * p.val = p.val; omega
  | ⟨2, _⟩ => show 0 + 1 * kv.val = kv.val; omega
  | ⟨3, _⟩ => show 0 + 1 * d.val = d.val; omega
theorem embSS' (b : Fin 4) (kv : Fin 8) (p : Fin 1152) (o : ℕ) (h : ∀ a, (![b.val, 0, o] : Fin 3 → ℕ) a + S1x8x1152.size a ≤ S4x8x4096.size a) :
    (Rect.unit (s := S4x8x4096) ![b.val, 0, o] S1x8x1152.size h).emb (w3 kv p) = a3 b kv (tk (o + p.val)) := by
  have hp := p.isLt
  have hs : o + 1152 ≤ 4096 := h 2
  have e : o + 1 * p.val = (o + p.val) % 4096 := by omega
  refine funext fun a => Fin.ext ?_
  match a with
  | ⟨0, _⟩ => show b.val + 1 * 0 = b.val; omega
  | ⟨1, _⟩ => show 0 + 1 * kv.val = kv.val; omega
  | ⟨2, _⟩ => exact e
theorem embSS (b : Fin 4) (kv : Fin 8) (p : Fin 1152) (w : BitVec 32) :
    (Rect.unit (s := S4x8x4096) ![b.val, 0, (ssW w).toNat] S1x8x1152.size (inb_ss b b.isLt w)).emb (w3 kv p) = a3 b kv (tk ((ssW w).toNat + p.val)) :=
  embSS' b kv p _ _
theorem embSC (b : Fin 4) (p : Fin 1024) (kv : Fin 8) (d : Fin 256) (w : BitVec 32) :
    (Rect.unit (s := S4x4096x8x256) ![b.val, (stW w).toNat, 0, 0] S1x1024x8x256.size (inb_st b b.isLt w)).emb (w4 p kv d) = ic b (tk ((stW w).toNat + p.val)) kv d := by
  have hp := p.isLt
  have hs := stW_le w
  refine funext fun a => Fin.ext ?_
  match a with
  | ⟨0, _⟩ => show b.val + 1 * 0 = b.val; omega
  | ⟨1, _⟩ => show (stW w).toNat + 1 * p.val = ((stW w).toNat + p.val) % 4096; omega
  | ⟨2, _⟩ => show 0 + 1 * kv.val = kv.val; omega
  | ⟨3, _⟩ => show 0 + 1 * d.val = d.val; omega

variable {c : Dev nD} (E : Env Ideal c)

theorem G0_at (b : Fin 4) (kv : Fin 8) (p : Fin 1152) : G0 E b (u3 b kv p) = E.s0 (a3 b kv (tk ((ssW (wd E b)).toNat + p.val))) := by
  have e : (dstS (Memref.whole cc0_scratch2) b).view.emb (y2 kv p) = u3 b kv p :=
    (congrArg (Rect.unit (s := S4x8x1152) ![b.val, 0, 0] S1x8x1152.size (inb_d3 b)).emb (resS kv p _)).trans (embDS b kv p)
  unfold G0
  refine (congrArg _ e.symm).trans ((View.write_emb_of_mem _ _ (Finset.mem_univ _)).trans ?_)
  exact congrArg E.s0 ((congrArg (Rect.unit (s := S4x8x4096) ![b.val, 0, (ssW (wd E b)).toNat] S1x8x1152.size (inb_ss b b.isLt (wd E b))).emb (resS kv p _)).trans (embSS b kv p (wd E b)))
theorem G1_at (b : Fin 4) (kv : Fin 8) (p : Fin 1152) : G1 E b (u3 b kv p) = E.s1 (a3 b kv (tk ((ssW (wd E b)).toNat + p.val))) := by
  have e : (dstS (Memref.whole cc0_scratch3) b).view.emb (y2 kv p) = u3 b kv p :=
    (congrArg (Rect.unit (s := S4x8x1152) ![b.val, 0, 0] S1x8x1152.size (inb_d3 b)).emb (resS kv p _)).trans (embDS b kv p)
  unfold G1
  refine (congrArg _ e.symm).trans ((View.write_emb_of_mem _ _ (Finset.mem_univ _)).trans ?_)
  exact congrArg E.s1 ((congrArg (Rect.unit (s := S4x8x4096) ![b.val, 0, (ssW (wd E b)).toNat] S1x8x1152.size (inb_ss b b.isLt (wd E b))).emb (resS kv p _)).trans (embSS b kv p (wd E b)))
theorem G2_at (b : Fin 4) (p : Fin 1024) (kv : Fin 8) (d : Fin 256) : G2 E b (u4 b p kv d) = E.s2 (ic b (tk ((stW (wd E b)).toNat + p.val)) kv d) := by
  have e : (dstC (Memref.whole cc0_scratch0) b).view.emb (y3 p kv d) = u4 b p kv d :=
    (congrArg (Rect.unit (s := S4x1024x8x256) ![b.val, 0, 0, 0] S1x1024x8x256.size (inb_d4 b)).emb (resC p kv d _)).trans (embDC b p kv d)
  unfold G2
  refine (congrArg _ e.symm).trans ((View.write_emb_of_mem _ _ (Finset.mem_univ _)).trans ?_)
  exact congrArg E.s2 ((congrArg (Rect.unit (s := S4x4096x8x256) ![b.val, (stW (wd E b)).toNat, 0, 0] S1x1024x8x256.size (inb_st b b.isLt (wd E b))).emb (resC p kv d _)).trans (embSC b p kv d (wd E b)))
theorem G3_at (b : Fin 4) (p : Fin 1024) (kv : Fin 8) (d : Fin 256) : G3 E b (u4 b p kv d) = E.s3 (ic b (tk ((stW (wd E b)).toNat + p.val)) kv d) := by
  have e : (dstC (Memref.whole cc0_scratch1) b).view.emb (y3 p kv d) = u4 b p kv d :=
    (congrArg (Rect.unit (s := S4x1024x8x256) ![b.val, 0, 0, 0] S1x1024x8x256.size (inb_d4 b)).emb (resC p kv d _)).trans (embDC b p kv d)
  unfold G3
  refine (congrArg _ e.symm).trans ((View.write_emb_of_mem _ _ (Finset.mem_univ _)).trans ?_)
  exact congrArg E.s3 ((congrArg (Rect.unit (s := S4x4096x8x256) ![b.val, (stW (wd E b)).toNat, 0, 0] S1x1024x8x256.size (inb_st b b.isLt (wd E b))).emb (resC p kv d _)).trans (embSC b p kv d (wd E b)))

/-- The buffers that the launch finds, as the arguments. -/
structure Reads (x0 : S4x1x32x256.Idx → Elt Ideal .bf16) (x1 x2 : S4x1x8x256.Idx → Elt Ideal .bf16) (x3 x5 : S4x4096x8x256.Idx → Elt Ideal .i8)
    (x4 x6 : S4x4096x8.Idx → Elt Ideal .f32) (x7 : S4.Idx → Elt Ideal .i32) : Prop where
  f0 : E.f0 = x7
  f1 : E.f1 = x0
  f2 : E.f2 = x1
  f3 : E.f3 = x2
  s0 : ∀ b kv t, E.s0 (a3 b kv t) = x4 (is b t kv)
  s1 : ∀ b kv t, E.s1 (a3 b kv t) = x6 (is b t kv)
  s2 : E.s2 = x3
  s3 : E.s3 = x5

variable (n : Fin 4)

abbrev m2 (kv : Fin 8) (l : Fin 128) : S8x128.Idx := fun | ⟨0, _⟩ => kv | ⟨1, _⟩ => l
abbrev m3 (kv : Fin 8) (l : Fin 128) : S1x8x128.Idx := fun | ⟨0, _⟩ => (0 : Fin 1) | ⟨1, _⟩ => kv | ⟨2, _⟩ => l

theorem cast_m3 {α : Type} (x : S1x8x128.Idx → α) (kv : Fin 8) (l : Fin 128) : shapeCast S8x128 x shapeCasts_S1x8x128_S8x128 (m2 kv l) = x (m3 kv l) := by
  refine shapeCast_apply x _ _ _ ?_
  rw [Shape.rowMajor_val_two, Shape.rowMajor_val_three]
  show (0 * 8 + kv.val) * 128 + l.val = kv.val * 128 + l.val
  omega

theorem tb_trip : tb (trip n) = n := rfl

theorem emb_rS (i : ℕ) (hi : i < 9) (kv : Fin 8) (l : Fin 128) : (rS (trip n) i).toLoadRect.idx (m3 kv l) = u3 n kv ⟨128 * i + l.val, by omega⟩ := by
  have h := tn_eq (trip n)
  refine funext fun a => Fin.ext ?_
  match a with
  | ⟨0, _⟩ => show tn (trip n) + 1 * 0 = n.val; rw [h]; rfl
  | ⟨1, _⟩ => show 0 + 1 * kv.val = kv.val; omega
  | ⟨2, _⟩ => show 128 * (i % 9) + 1 * l.val = 128 * i + l.val; omega

theorem pieceK_at (i : ℕ) (hi : i < 9) (kv : Fin 8) (l : Fin 128) :
    pieceK E (trip n) i (m2 kv l) = E.s0 (a3 n kv (tk ((ssW (wd E n)).toNat + (128 * i + l.val)))) := by
  unfold pieceK
  refine (cast_m3 _ kv l).trans ?_
  exact (congrArg (G0 E n) (emb_rS n i hi kv l)).trans (G0_at E n kv _)
theorem pieceV_at (i : ℕ) (hi : i < 9) (kv : Fin 8) (l : Fin 128) :
    pieceV E (trip n) i (m2 kv l) = E.s1 (a3 n kv (tk ((ssW (wd E n)).toNat + (128 * i + l.val)))) := by
  unfold pieceV
  refine (cast_m3 _ kv l).trans ?_
  exact (congrArg (G1 E n) (emb_rS n i hi kv l)).trans (G1_at E n kv _)

abbrev k2 (y : Fin 1024) (d : Fin 256) : S1024x256.Idx := fun | ⟨0, _⟩ => y | ⟨1, _⟩ => d
abbrev k3 (p : Fin 128) (kv : Fin 8) (d : Fin 256) : S128x8x256.Idx := fun | ⟨0, _⟩ => p | ⟨1, _⟩ => kv | ⟨2, _⟩ => d
abbrev k4 (p : Fin 128) (kv : Fin 8) (d : Fin 256) : S1x128x8x256.Idx := fun | ⟨0, _⟩ => (0 : Fin 1) | ⟨1, _⟩ => p | ⟨2, _⟩ => kv | ⟨3, _⟩ => d

/-- A row of a chunk of codes, eight heads to a token. -/
theorem matF_at (x : Vec Ideal S1x128x8x256 .i8) (y : Fin 1024) (d : Fin 256) :
    matF (F := Ideal) x (k2 y d) = num (x (k4 ⟨y.val / 8, by omega⟩ ⟨y.val % 8, by omega⟩ d)) := by
  unfold matF
  refine (shapeCast_apply _ _ (k2 y d) (k3 ⟨y.val / 8, by omega⟩ ⟨y.val % 8, by omega⟩ d) ?_).trans ?_
  · rw [Shape.rowMajor_val_two, Shape.rowMajor_val_three]
    show (y.val / 8 * 8 + y.val % 8) * 256 + d.val = y.val * 256 + d.val
    omega
  · refine congrArg num (shapeCast_apply x _ _ (k4 ⟨y.val / 8, by omega⟩ ⟨y.val % 8, by omega⟩ d) ?_)
    rw [Shape.rowMajor_val_three, Shape.rowMajor_val_four]
    show ((0 * 128 + y.val / 8) * 8 + y.val % 8) * 256 + d.val = (y.val / 8 * 8 + y.val % 8) * 256 + d.val
    omega

theorem emb_rC (i : ℕ) (hi : i < 8) (p : Fin 128) (kv : Fin 8) (d : Fin 256) : (rC (trip n) i).toLoadRect.idx (k4 p kv d) = u4 n ⟨128 * i + p.val, by omega⟩ kv d := by
  have h := tn_eq (trip n)
  refine funext fun a => Fin.ext ?_
  match a with
  | ⟨0, _⟩ => show tn (trip n) + 1 * 0 = n.val; rw [h]; rfl
  | ⟨1, _⟩ => show 128 * (i % 8) + 1 * p.val = 128 * i + p.val; omega
  | ⟨2, _⟩ => show 0 + 1 * kv.val = kv.val; omega
  | ⟨3, _⟩ => show 0 + 1 * d.val = d.val; omega

theorem kcF_at (i : ℕ) (hi : i < 8) (y : Fin 1024) (d : Fin 256) :
    kcF E (trip n) i (k2 y d) = num (w := 8) (E.s2 (ic n (tk ((stW (wd E n)).toNat + (128 * i + y.val / 8))) ⟨y.val % 8, by omega⟩ d)) := by
  unfold kcF
  refine (matF_at _ y d).trans (congrArg (num (w := 8)) ?_)
  exact (congrArg (G2 E n) (emb_rC n i hi _ _ d)).trans (G2_at E n _ _ d)
theorem vcF_at (i : ℕ) (hi : i < 8) (y : Fin 1024) (d : Fin 256) :
    vcF E (trip n) i (k2 y d) = num (w := 8) (E.s3 (ic n (tk ((stW (wd E n)).toNat + (128 * i + y.val / 8))) ⟨y.val % 8, by omega⟩ d)) := by
  unfold vcF
  refine (matF_at _ y d).trans (congrArg (num (w := 8)) ?_)
  exact (congrArg (G3 E n) (emb_rC n i hi _ _ d)).trans (G3_at E n _ _ d)

end Cert.Plain

end
-- ==== Proof.Lanes.lean ====
/-
  The lanes of a tile: the token and the head of each, whether it is seen, and its scale.
-/
module

public import proofs.«01_k».proof.Proof.Copied

@[expose] public section

noncomputable section

namespace Cert.Plain

open Cert.KernelIdeal Cert.KernelIdeal.Gen Cert.KernelIdeal.Hand Cert.Quant
open Idealize.ShloMosaic Idealize.ShloMosaic.TcCoe Idealize.ShloMosaic.Tactic

/-! ## Words -/

theorem ltok_word : ∀ l : Fin 128, IntOp.shrsi .vector (BitVec.ofNat 32 l.val) 3#32 = BitVec.ofNat 32 (l.val / 8) := by decide +kernel
theorem own_word : ∀ (kv : Fin 8) (l : Fin 128), IntOp.cmpi .eq (IntOp.andi (BitVec.ofNat 32 l.val) 7#32) (BitVec.ofNat 32 kv.val) = if l.val % 8 = kv.val then 1#1 else 0#1 := by decide +kernel
theorem wrap_word : ∀ P : Fin 256, Scalar.select (IntOp.cmpi .slt (IntOp.andi (BitVec.ofNat 32 P.val) 127#32) 0#32)
    (IntOp.addi (IntOp.andi (BitVec.ofNat 32 P.val) 127#32) 128#32) (IntOp.andi (BitVec.ofNat 32 P.val) 127#32) = BitVec.ofNat 32 (P.val % 128) := by decide +kernel
theorem lo_word : ∀ P : Fin 256, IntOp.cmpi .slt (BitVec.ofNat 32 P.val) 128#32 = if P.val < 128 then 1#1 else 0#1 := by decide +kernel

theorem add_word (a : ℕ) (s : BitVec 32) (b : ℕ) : IntOp.addi (BitVec.ofNat 32 a) (IntOp.addi s (BitVec.ofNat 32 b)) = BitVec.ofNat 32 (s.toNat + b + a) := by
  apply BitVec.eq_of_toNat_eq
  simp only [IntOp.addi, BitVec.toNat_add, BitVec.toNat_ofNat]
  omega

/-- The window's start, in tokens. -/
abbrev st (w : BitVec 32) : ℕ := (stW w).toNat

theorem stW_int (w : BitVec 32) (h : 0 < w.toInt) : ((stW w).toNat : ℤ) = min (max (w.toInt - 1023) 0) 3072 := by
  have hw := BitVec.toInt_lt (x := w)
  have e : (Scalar.subi w 1023#32).toInt = w.toInt - 1023 := by
    show (w - 1023#32).toInt = _
    rw [BitVec.toInt_sub, show (1023#32).toInt = 1023 from rfl, Int.bmod_def]
    norm_num at hw ⊢
    omega
  have e0 : ((0#32).toInt : ℤ) = 0 := rfl
  have e3 : ((3072#32).toInt : ℤ) = 3072 := rfl
  have f0 : ((0#32).toNat : ℤ) = 0 := rfl
  have f3 : ((3072#32).toNat : ℤ) = 3072 := rfl
  have hn : (Scalar.subi w 1023#32).toInt < 0 ∨ ((Scalar.subi w 1023#32).toNat : ℤ) = (Scalar.subi w 1023#32).toInt := by
    rw [BitVec.toInt_eq_toNat_cond]
    split
    · right; rfl
    · left
      have := (Scalar.subi w 1023#32).isLt
      omega
  unfold stW Scalar.minsi Scalar.maxsi IntOp.minsi IntOp.maxsi
  generalize Scalar.subi w 1023#32 = x at *
  simp only [BitVec.slt_eq_decide, decide_eq_true_eq]
  repeat' split
  all_goals simp_all
  all_goals omega

/-- What is seen lies in the window. -/
theorem seen_window (w : BitVec 32) (k : ℕ) (hk : k < 4096) (h : seen w k = 1#1) : st w ≤ k ∧ k < st w + 1024 := by
  unfold seen at h
  have h1 : (BitVec.ofNat 32 k).slt w = true ∧ (w - BitVec.ofNat 32 k).slt 1024#32 = true := by
    revert h
    simp only [IntOp.andi, IntOp.cmpi, IntOp.subi]
    cases (BitVec.ofNat 32 k).slt w <;> cases (w - BitVec.ofNat 32 k).slt 1024#32 <;> simp
  have ek : (BitVec.ofNat 32 k).toInt = k := by
    rw [BitVec.toInt_ofNat', Int.bmod_def]
    norm_num
    omega
  have hw := BitVec.toInt_lt (x := w)
  rw [BitVec.slt_eq_decide, BitVec.slt_eq_decide, decide_eq_true_eq, decide_eq_true_eq, BitVec.toInt_sub, ek, show (1024#32).toInt = 1024 from rfl] at h1
  have h2 : ((w.toInt - k).bmod (2 ^ 32)) = w.toInt - k := by
    rw [Int.bmod_def]
    norm_num at hw ⊢
    omega
  rw [h2] at h1
  have := stW_int w (by omega)
  unfold st
  omega

theorem st_le (w : BitVec 32) : st w ≤ 3072 := stW_le w

variable {c : Dev nD} (E : Env Ideal c) (n : Fin 4)

theorem lane_at (kv : Fin 8) (l : Fin 128) : laneF (m2 kv l) = BitVec.ofNat 32 l.val := by
  show BitVec.ofNat 32 (0 * 128 + l.val) = _
  rw [Nat.zero_mul, Nat.zero_add]

theorem tok_at (j : ℕ) (kv : Fin 8) (l : Fin 128) : tokF E (trip n) j (m2 kv l) = BitVec.ofNat 32 (st (wd E n) + 16 * j + l.val / 8) := by
  show IntOp.addi (IntOp.shrsi .vector (laneF (m2 kv l)) 3#32) (IntOp.addi (stW (wd E n)) (BitVec.ofNat 32 (16 * j))) = _
  rw [lane_at, ltok_word, add_word]

theorem vis_at (j : ℕ) (kv : Fin 8) (l : Fin 128) :
    visF E (trip n) j (m2 kv l) = if l.val % 8 = kv.val then seen (wd E n) (st (wd E n) + (16 * j + l.val / 8)) else 0#1 := by
  show IntOp.andi (IntOp.andi (IntOp.cmpi .eq (IntOp.andi (laneF (m2 kv l)) 7#32) (BitVec.ofNat 32 (0 * 8 + kv.val))) (IntOp.cmpi .slt (tokF E (trip n) j (m2 kv l)) (wd E n)))
    (IntOp.cmpi .slt (IntOp.subi (wd E n) (tokF E (trip n) j (m2 kv l))) 1024#32) = _
  rw [lane_at, Nat.zero_mul, Nat.zero_add, own_word, tok_at, Nat.add_assoc]
  unfold seen
  generalize IntOp.cmpi .slt _ (wd E n) = u
  generalize IntOp.cmpi .slt _ 1024#32 = v
  split
  · revert u v; decide
  · revert u v; decide

/-- How far the window's start lies in the copied scales. -/
abbrev off (w : BitVec 32) : ℕ := st w - (ssW w).toNat
theorem off_le (w : BitVec 32) : off w ≤ 128 := by have := ssW_eq w; have := stW_le w; unfold off st; omega
theorem off_add (w : BitVec 32) : (ssW w).toNat + off w = st w := by have := ssW_eq w; unfold off st; omega

theorem offF_toNat : (offF E (trip n)).toNat = off (wd E n) := by
  show (stW (wd E n) - ssW (wd E n)).toNat = _
  have h := ssW_eq (wd E n)
  have h1 := stW_le (wd E n)
  rw [BitVec.toNat_sub]
  unfold off st
  omega

theorem pos_at (j : ℕ) (kv : Fin 8) (l : Fin 128) : posF E (trip n) j (m2 kv l) = BitVec.ofNat 32 (off (wd E n) + 16 * (j % 8) + l.val / 8) := by
  show IntOp.addi (IntOp.shrsi .vector (laneF (m2 kv l)) 3#32) (IntOp.addi (offF E (trip n)) (BitVec.ofNat 32 (16 * (j % 8)))) = _
  rw [lane_at, ltok_word, add_word, offF_toNat]

abbrev m21 (kv : Fin 8) (l : Fin 128) : S8x128x1.Idx := fun | ⟨0, _⟩ => kv | ⟨1, _⟩ => l | ⟨2, _⟩ => (0 : Fin 1)

theorem wrap_at (p : IVec S8x128 32) (kv : Fin 8) (l : Fin 128) (P : Fin 256) (h : p (m2 kv l) = BitVec.ofNat 32 P.val) : wrapF p (m2 kv l) = BitVec.ofNat 32 (P.val % 128) := by
  have e : (Shape.rowMajor S8x128x1 (m21 kv l)).val = (Shape.rowMajor S8x128 (m2 kv l)).val := by
    rw [Shape.rowMajor_val_two, Shape.rowMajor_val_three]
    show (kv.val * 128 + l.val) * 1 + 0 = kv.val * 128 + l.val
    omega
  unfold wrapF
  refine (shapeCast_apply _ _ (m2 kv l) (m21 kv l) e).trans ?_
  unfold wrapInF
  refine (shapeCast_apply _ _ (m21 kv l) (m2 kv l) e.symm).trans ?_
  rw [← wrap_word P, ← h]
  rfl

theorem spread_at (lo hi : FVec Ideal S8x128 .f32) (p : IVec S8x128 32) (kv : Fin 8) (l : Fin 128) (P : Fin 256) (h : p (m2 kv l) = BitVec.ofNat 32 P.val) :
    spreadF lo hi p (m2 kv l) = if P.val < 128 then lo (m2 kv ⟨P.val % 128, Nat.mod_lt _ (by decide)⟩) else hi (m2 kv ⟨P.val % 128, Nat.mod_lt _ (by decide)⟩) := by
  have hg (x : FVec Ideal S8x128 .f32) : dynamicGather 1 x (wrapF p) (m2 kv l) = x (m2 kv ⟨P.val % 128, Nat.mod_lt _ (by decide)⟩) := by
    refine congrArg x (funext fun a => Fin.ext ?_)
    match a with
    | ⟨0, _⟩ => rfl
    | ⟨1, _⟩ =>
      show (wrapF p (m2 kv l)).toNat % 128 = P.val % 128
      rw [wrap_at p kv l P h, BitVec.toNat_ofNat]
      omega
  show Scalar.select (IntOp.cmpi .slt (p (m2 kv l)) 128#32) (dynamicGather 1 lo (wrapF p) (m2 kv l)) (dynamicGather 1 hi (wrapF p) (m2 kv l)) = _
  rw [hg, hg, h, lo_word]
  split <;> rfl

theorem ks_at (j : ℕ) (hj : j < 64) (kv : Fin 8) (l : Fin 128) : ksF E (trip n) j (m2 kv l) = E.s0 (a3 n kv (tk (st (wd E n) + (16 * j + l.val / 8)))) := by
  have ho := off_le (wd E n)
  have ha := off_add (wd E n)
  unfold ksF
  rw [spread_at _ _ _ kv l ⟨off (wd E n) + 16 * (j % 8) + l.val / 8, by omega⟩ (pos_at E n j kv l)]
  split
  · rename_i h
    rw [pieceK_at E n _ (by omega)]
    refine congrArg (fun z => E.s0 (a3 n kv (tk z))) ?_
    simp only at h ⊢
    omega
  · rename_i h
    rw [pieceK_at E n _ (by omega)]
    refine congrArg (fun z => E.s0 (a3 n kv (tk z))) ?_
    simp only at h ⊢
    omega
theorem vs_at (j : ℕ) (hj : j < 64) (kv : Fin 8) (l : Fin 128) : vsF E (trip n) j (m2 kv l) = E.s1 (a3 n kv (tk (st (wd E n) + (16 * j + l.val / 8)))) := by
  have ho := off_le (wd E n)
  have ha := off_add (wd E n)
  unfold vsF
  rw [spread_at _ _ _ kv l ⟨off (wd E n) + 16 * (j % 8) + l.val / 8, by omega⟩ (pos_at E n j kv l)]
  split
  · rename_i h
    rw [pieceV_at E n _ (by omega)]
    refine congrArg (fun z => E.s1 (a3 n kv (tk z))) ?_
    simp only at h ⊢
    omega
  · rename_i h
    rw [pieceV_at E n _ (by omega)]
    refine congrArg (fun z => E.s1 (a3 n kv (tk z))) ?_
    simp only at h ⊢
    omega

end Cert.Plain

end
-- ==== Proof.Code.lean ====
/-
  A code, read as a float, is the float that was converted to it.
-/
module

public import proofs.«01_k».proof.Proof.Plain

@[expose] public section

noncomputable section

namespace Cert.Plain

open Cert.KernelIdeal Cert.KernelIdeal.Gen Cert.KernelIdeal.Hand Cert.Quant
open Idealize.ShloMosaic Idealize.ShloMosaic.TcCoe Idealize.ShloMosaic.Tactic
open Cert.ReferenceIdeal.Read

theorem num_int (z : ℤ) (h1 : -127 ≤ z) (h2 : z ≤ 127) : num (Ideal.fptosi 8 ((z : ℝ) : EReal)) = ((z : ℝ) : EReal) := by
  unfold Ideal.fptosi
  rw [Ideal.toIntClamped_coe, Int.floor_intCast, Int.ceil_intCast, ite_self]
  have e1 : max (-(2 ^ (8 - 1) : ℕ) : ℤ) (min (((2 ^ (8 - 1) : ℕ) : ℤ) - 1) z) = z := by norm_num; omega
  rw [e1]
  show (((BitVec.ofInt 8 z).toInt : ℝ) : EReal) = _
  rw [BitVec.toInt_ofInt]
  have e2 : z.bmod (2 ^ 8) = z := by rw [Int.bmod_def]; norm_num; omega
  rw [e2]

/-- What is rounded and clipped is an integer between -127 and 127. -/
theorem clip_int (u : EReal) : ∃ z : ℤ, -127 ≤ z ∧ z ≤ 127 ∧ min (Ideal.ofBits .f32 0x42FE0000#32) (max (Ideal.ofBits .f32 0xC2FE0000#32) (Ideal.liftRound Ideal.roundHalfEven u)) = ((z : ℝ) : EReal) := by
  rw [ofBits_127, ofBits_neg127]
  induction u using EReal.rec with
  | bot => exact ⟨-127, by norm_num, by norm_num, by
      show min _ (max _ ⊥) = _
      rw [max_eq_left bot_le, min_eq_right (EReal.coe_le_coe_iff.2 (by norm_num))]; norm_num⟩
  | top => exact ⟨127, by norm_num, by norm_num, by
      show min _ (max _ ⊤) = _
      rw [max_eq_right le_top, min_eq_left le_top]; norm_num⟩
  | coe r =>
    refine ⟨min 127 (max (-127) (Ideal.roundHalfEven r)), le_min (by norm_num) (le_max_left _ _), min_le_left _ _, ?_⟩
    show min _ (max _ (((Ideal.roundHalfEven r : ℤ) : ℝ) : EReal)) = _
    have hmono : Monotone (fun x : ℝ => (x : EReal)) := fun a b h => EReal.coe_le_coe_iff.2 h
    rw [← hmono.map_max, ← hmono.map_min]
    push_cast
    rfl

theorem num_clip (u : EReal) : num (Ideal.fptosi 8 (min (Ideal.ofBits .f32 0x42FE0000#32) (max (Ideal.ofBits .f32 0xC2FE0000#32) (Ideal.liftRound Ideal.roundHalfEven u))))
    = min (Ideal.ofBits .f32 0x42FE0000#32) (max (Ideal.ofBits .f32 0xC2FE0000#32) (Ideal.liftRound Ideal.roundHalfEven u)) := by
  obtain ⟨z, h1, h2, h⟩ := clip_int u
  rw [h]
  exact num_int z h1 h2

theorem code_num (x : S4x1x8x256.Idx → Elt Ideal .bf16) (n : Fin 4) (a : Fin 8) (b : Fin 256) :
    codesF (row x n) (p2 a b) = num (val_main_v14 (F := Ideal) x (q4 n a b)) := by
  rw [← code_eq]
  exact (num_clip (divf (row x n) (broadcastTo S8x256 (shapeCast S8x1 (scaleF (row x n)) shapeCasts_S8_S8x1) broadcasts_S8x1_S8x256) (p2 a b))).symm

end Cert.Plain

end
-- ==== Proof.Ref.lean ====
/-
  The reference's output, element by element.
-/
module

public import proofs.«01_k».proof.Proof.Plain

@[expose] public section

noncomputable section

namespace Cert.Plain

open Cert.KernelIdeal Cert.Quant
open Idealize.ShloMosaic Idealize.ShloMosaic.TcCoe
open Cert.ReferenceIdeal.Read
open Cert.Attn Finset

variable (x0 : S4x1x32x256.Idx → Elt Ideal .bf16) (x1 x2 : S4x1x8x256.Idx → Elt Ideal .bf16) (x3 x5 : S4x4096x8x256.Idx → Elt Ideal .i8)
  (x4 x6 : S4x4096x8.Idx → Elt Ideal .f32) (x7 : S4.Idx → Elt Ideal .i32)
variable (b : Fin 4) (kv : Fin 8) (g : Fin 4) (d : Fin 256)

abbrev j5 (t : Fin 4096) : Cert.ReferenceIdeal.S4x8x4x1x4096.Idx := fun | ⟨0, _⟩ => b | ⟨1, _⟩ => kv | ⟨2, _⟩ => g | ⟨3, _⟩ => (0 : Fin 1) | ⟨4, _⟩ => t
abbrev j1 : Cert.ReferenceIdeal.S4x8x4x1x1.Idx := fun | ⟨0, _⟩ => b | ⟨1, _⟩ => kv | ⟨2, _⟩ => g | ⟨3, _⟩ => (0 : Fin 1) | ⟨4, _⟩ => (0 : Fin 1)
abbrev jA (t : Fin 4097) : Cert.ReferenceIdeal.S4x8x4x1x4097.Idx := fun | ⟨0, _⟩ => b | ⟨1, _⟩ => kv | ⟨2, _⟩ => g | ⟨3, _⟩ => (0 : Fin 1) | ⟨4, _⟩ => t
abbrev jm : Cert.ReferenceIdeal.S4x8x4x1.Idx := fun | ⟨0, _⟩ => b | ⟨1, _⟩ => kv | ⟨2, _⟩ => g | ⟨3, _⟩ => (0 : Fin 1)
abbrev jo : Cert.ReferenceIdeal.S4x1x8x4x256.Idx := fun | ⟨0, _⟩ => b | ⟨1, _⟩ => (0 : Fin 1) | ⟨2, _⟩ => kv | ⟨3, _⟩ => g | ⟨4, _⟩ => d
abbrev jt (t : Fin 4096) : Cert.ReferenceIdeal.S4x1x4096.Idx := fun | ⟨0, _⟩ => b | ⟨1, _⟩ => (0 : Fin 1) | ⟨2, _⟩ => t

theorem neg_inf : Ideal.ofBits .f32 0xFF800000#32 = ⊥ := by simp [Ideal.ofBits, Ideal.ieee]
theorem zero_f32 : Ideal.ofBits .f32 0x00000000#32 = 0 := by simp [Ideal.ofBits, Ideal.ieee]

theorem tk_val (t : Fin 4096) : tk t.val = t := Fin.ext (Nat.mod_eq_of_lt t.isLt)

theorem toInt_ext (c : BitVec 8) : (c.signExtend 32).toInt = c.toInt := BitVec.toInt_signExtend_of_le (by decide)

theorem v30_at : val_main_v30 (F := Ideal) x0 (jo b kv g d) = x0 (ix b (hd kv g) d) := by
  rw [val_main_v30_apply]
  refine congrArg x0 (funext fun a => Fin.ext ?_)
  fin_cases a
  · show ((((b.val * 1 + 0) * 8 + kv.val) * 4 + g.val) * 256 + d.val) / 8192 = b.val
    omega
  · rfl
  · show ((((b.val * 1 + 0) * 8 + kv.val) * 4 + g.val) * 256 + d.val) / 256 % 32 = kv.val * 4 + g.val
    omega
  · show ((((b.val * 1 + 0) * 8 + kv.val) * 4 + g.val) * 256 + d.val) % 256 = d.val
    omega

theorem v40_at (t : Fin 4096) : val_main_v40 (F := Ideal) x0 x3 x4 (j5 b kv g t) = raw x0 x3 x4 b kv g t.val := by
  rw [val_main_v40_apply, val_main_v38_apply, val_main_v34_apply, val_main_v33_apply, val_main_v37_apply, val_main_v36_apply, val_main_v35_apply, val_main_v39_apply]
  unfold raw dots
  rw [tk_val]
  refine congrArg (· * sm) (congrArg₂ (· * ·) (sum_congr rfl fun c _ => congrArg₂ (· * ·) ?_ ?_) (congrArg x4 ?_))
  · rw [val_main_v32_apply, val_main_v31_apply]
    show num ((x3 _).signExtend 32) = _
    refine (congrArg (fun z : ℤ => ((z : ℝ) : EReal)) (toInt_ext _)).trans (congrArg (fun i => num (x3 i)) ?_)
    funext a; fin_cases a <;> rfl
  · refine Eq.trans (congrArg _ ?_) (v30_at x0 b kv g c)
    funext a; fin_cases a <;> rfl
  · funext a; fin_cases a <;> rfl

theorem v69_at (t : Fin 4096) : val_main_v69 (F := Ideal) x7 (jt b t) = seen (x7 (il b)) t.val := by
  have hl : (x7 (idx_main_v58 (idx_main_v60 (jt b t)))) = x7 (il b) := congrArg x7 (by funext a; fin_cases a; rfl)
  rw [val_main_v69_apply, val_main_v61_apply, val_main_v68_apply, val_main_v59_apply, val_main_v57_apply, val_main_v56_apply, val_main_v60_apply, val_main_v58_apply,
    val_main_v66_apply, val_main_v64_apply, val_main_v62_apply, val_main_v55_apply, val_main_v51_apply, val_main_v54_apply, val_main_v53_apply, val_main_v52_apply,
    val_main_v65_apply, val_main_v63_apply, val_main_v67_apply, hl]
  unfold seen
  refine congrArg₂ IntOp.andi rfl ?_
  refine congrArg₂ (IntOp.cmpi .slt) (congrArg₂ IntOp.subi ?_ rfl) rfl
  exact BitVec.add_zero _

theorem v81_at (t : Fin 4096) : val_main_v81 (F := Ideal) x0 x3 x4 x7 (j5 b kv g t) = S x0 x3 x4 x7 b kv g t.val := by
  rw [val_main_v81_apply, val_main_call6_v1_apply, val_main_v80_apply, val_main_call6_v2_apply, val_main_call6_v0_apply, v40_at]
  have hi : idx_main_v80 (idx_main_call6_v1 (j5 b kv g t)) = jt b t := by funext a; fin_cases a <;> rfl
  rw [hi, v69_at]
  unfold S
  exact congrArg (Scalar.select _ _) neg_inf

theorem v50_at : val_main_v50 (F := Ideal) x0 x1 (j1 b kv g) = sn x0 x1 b kv g := by
  rw [val_main_v50_apply, val_main_v48_apply, val_main_v44_apply, val_main_v43_apply, val_main_v47_apply, val_main_v46_apply, val_main_v45_apply, val_main_v49_apply]
  unfold sn
  refine congrArg (· * sm) (congrArg₂ (· * ·) (sum_congr rfl fun c _ => congrArg₂ (· * ·) ?_ ?_) (congrArg _ ?_))
  · rw [val_main_v42_apply, val_main_v41_apply]
    show num ((val_main_v14 (F := Ideal) x1 _).signExtend 32) = _
    refine (congrArg (fun z : ℤ => ((z : ℝ) : EReal)) (toInt_ext _)).trans (congrArg (fun i => num (val_main_v14 (F := Ideal) x1 i)) ?_)
    funext a; fin_cases a <;> rfl
  · refine Eq.trans (congrArg _ ?_) (v30_at x0 b kv g c)
    funext a; fin_cases a <;> rfl
  · funext a; fin_cases a <;> rfl

theorem v79_at (i : Cert.ReferenceIdeal.S1x1.Idx) : val_main_v79 (F := Ideal) i = 1#1 := by
  obtain rfl : i = fun | ⟨0, _⟩ => (0 : Fin 1) | ⟨1, _⟩ => (0 : Fin 1) := by funext a; fin_cases a <;> exact Subsingleton.elim (α := Fin 1) _ _
  decide +kernel

theorem v83_at : val_main_v83 (F := Ideal) x0 x1 (j1 b kv g) = sn x0 x1 b kv g := by
  rw [val_main_v83_apply, val_main_call7_v1_apply, val_main_v82_apply, v79_at, v50_at]
  rfl

abbrev lst : Fin 4097 := ⟨4096, by decide⟩

theorem cat_left (y : Cert.ReferenceIdeal.S4x8x4x1x4096.Idx → EReal) (y' : Cert.ReferenceIdeal.S4x8x4x1x1.Idx → EReal) (h) (t : Fin 4096) :
    concatenate Cert.ReferenceIdeal.S4x8x4x1x4097 4 [⟨Cert.ReferenceIdeal.S4x8x4x1x4096, y⟩, ⟨Cert.ReferenceIdeal.S4x8x4x1x1, y'⟩] h (jA b kv g t.castSucc) = y (j5 b kv g t) := by
  refine concatenate_pair_apply_left 4 y y' h (jA b kv g t.castSucc) rfl (j5 b kv g t) fun a => ?_
  match a with
  | ⟨0, _⟩ => rfl
  | ⟨1, _⟩ => rfl
  | ⟨2, _⟩ => rfl
  | ⟨3, _⟩ => rfl
  | ⟨4, _⟩ => rfl
theorem cat_right (y : Cert.ReferenceIdeal.S4x8x4x1x4096.Idx → EReal) (y' : Cert.ReferenceIdeal.S4x8x4x1x1.Idx → EReal) (h) :
    concatenate Cert.ReferenceIdeal.S4x8x4x1x4097 4 [⟨Cert.ReferenceIdeal.S4x8x4x1x4096, y⟩, ⟨Cert.ReferenceIdeal.S4x8x4x1x1, y'⟩] h (jA b kv g lst) = y' (j1 b kv g) := by
  refine concatenate_pair_apply_right 4 y y' h (jA b kv g lst) rfl rfl (j1 b kv g) (fun a ha => ?_) ?_
  · match a, ha with
    | ⟨0, _⟩, _ => rfl
    | ⟨1, _⟩, _ => rfl
    | ⟨2, _⟩, _ => rfl
    | ⟨3, _⟩, _ => rfl
    | ⟨4, _⟩, ha => exact absurd (Fin.ext (by rfl)) ha
  · show 0 + 4096 = 4096
    norm_num

theorem v84_left (t : Fin 4096) : val_main_v84 (F := Ideal) x0 x1 x3 x4 x7 (jA b kv g t.castSucc) = S x0 x3 x4 x7 b kv g t.val :=
  (cat_left b kv g _ _ _ t).trans (v81_at x0 x3 x4 x7 b kv g t)
theorem v84_right : val_main_v84 (F := Ideal) x0 x1 x3 x4 x7 (jA b kv g lst) = sn x0 x1 b kv g :=
  (cat_right b kv g _ _ _).trans (v83_at x0 x1 b kv g)
theorem last_eq : Fin.last 4096 = lst := rfl

theorem reduces_m : Cert.ReferenceIdeal.S4x8x4x1x4097.Reduces [4] Cert.ReferenceIdeal.S4x8x4x1 := by decide
theorem lift_m (k : Fin 4097) : Shape.Reduces.lift reduces_m (jm b kv g) k = jA b kv g k := by
  funext a
  fin_cases a <;> rfl

/-- The reference's largest score. -/
abbrev M : EReal := val_main_v87 (F := Ideal) x0 x1 x3 x4 x7 (jm b kv g)

theorem isMax_ref : IsMax (S x0 x3 x4 x7 b kv g) (sn x0 x1 b kv g) (M x0 x1 x3 x4 x7 b kv g) := by
  intro z
  unfold M
  rw [val_main_v87_apply, val_main_v86_apply]
  have h : val_main_v85 (F := Ideal) x0 x1 x3 x4 x7 (jm b kv g) = (univ : Finset (Fin 4097)).fold max ⊥ (fun k => val_main_v84 (F := Ideal) x0 x1 x3 x4 x7 (jA b kv g k)) := by
    unfold val_main_v85
    refine (Host.reduce_eq_fold_single (FloatOps.maximumf (F := Ideal) (φ := .f32)) _ _ _ reduces_m _ _).trans ?_
    refine (congrArg (fun e => Finset.fold max e _ univ) neg_inf).trans (Finset.fold_congr fun k _ => ?_)
    exact congrArg (val_main_v84 (F := Ideal) x0 x1 x3 x4 x7) (lift_m b kv g k)
  rw [h]
  show max (Ideal.ofBits .f32 0xFF800000#32) _ ≤ z ↔ _
  rw [neg_inf, bot_sup_eq, Finset.fold_max_le]
  constructor
  · rintro ⟨-, h⟩
    exact ⟨v84_right x0 x1 x3 x4 x7 b kv g ▸ h _ (mem_univ _), fun k hk => v84_left x0 x1 x3 x4 x7 b kv g ⟨k, hk⟩ ▸ h _ (mem_univ _)⟩
  · rintro ⟨h1, h2⟩
    refine ⟨bot_le, fun k _ => ?_⟩
    refine Fin.lastCases ?_ (fun t => ?_) k
    · rw [last_eq, v84_right]; exact h1
    · rw [v84_left]; exact h2 _ t.isLt

theorem v91_at (k : Fin 4097) : val_main_v91 (F := Ideal) x0 x1 x3 x4 x7 (jA b kv g k)
    = Ideal.exp (val_main_v84 (F := Ideal) x0 x1 x3 x4 x7 (jA b kv g k) - M x0 x1 x3 x4 x7 b kv g) := by
  rw [val_main_v91_apply, val_main_v90_apply, val_main_v89_apply, val_main_v88_apply]
  refine congrArg Ideal.exp (congrArg (val_main_v84 (F := Ideal) x0 x1 x3 x4 x7 (jA b kv g k) - ·) (congrArg _ ?_))
  funext a; fin_cases a <;> rfl

/-- The sum of the weights. -/
def L : EReal := (∑ k ∈ range 4096, Ideal.exp (S x0 x3 x4 x7 b kv g k - M x0 x1 x3 x4 x7 b kv g)) + Ideal.exp (sn x0 x1 b kv g - M x0 x1 x3 x4 x7 b kv g)

theorem v92_at : val_main_v92 (F := Ideal) x0 x1 x3 x4 x7 (jm b kv g) = L x0 x1 x3 x4 x7 b kv g := by
  rw [val_main_v92_apply]
  refine (congrArg (· + _) zero_f32).trans ((zero_add _).trans ?_)
  rw [Fin.sum_univ_castSucc]
  unfold L
  rw [Finset.sum_range]
  have hj (k : Fin 4097) : idx_main_v92 (jm b kv g) k = jA b kv g k := by funext a; fin_cases a <;> rfl
  refine congrArg₂ (· + ·) (sum_congr rfl fun k _ => ?_) ?_
  · rw [hj, v91_at, v84_left]
  · rw [last_eq, hj, v91_at, v84_right]

theorem v95_at (k : Fin 4097) : val_main_v95 (F := Ideal) x0 x1 x3 x4 x7 (jA b kv g k)
    = Ideal.div (Ideal.exp (val_main_v84 (F := Ideal) x0 x1 x3 x4 x7 (jA b kv g k) - M x0 x1 x3 x4 x7 b kv g)) (L x0 x1 x3 x4 x7 b kv g) := by
  rw [val_main_v95_apply, val_main_v94_apply, val_main_v93_apply, v91_at]
  refine congrArg (Ideal.div _) (Eq.trans (congrArg _ ?_) (v92_at x0 x1 x3 x4 x7 b kv g))
  funext a; fin_cases a <;> rfl

theorem v102_at (t : Fin 4096) : val_main_v102 (F := Ideal) x0 x1 x3 x4 x6 x7 (j5 b kv g t)
    = Ideal.div (Ideal.exp (S x0 x3 x4 x7 b kv g t.val - M x0 x1 x3 x4 x7 b kv g)) (L x0 x1 x3 x4 x7 b kv g) * W x6 b kv t.val := by
  rw [val_main_v102_apply, val_main_v101_apply, val_main_v96_apply, val_main_v100_apply, val_main_v99_apply, val_main_v98_apply]
  have hi : idx_main_v96 (j5 b kv g t) = jA b kv g t.castSucc := by funext a; fin_cases a <;> rfl
  rw [hi, v95_at, v84_left]
  unfold W
  rw [tk_val]
  refine congrArg₂ (fun a b : EReal => a * b) rfl (congrArg x6 ?_)
  funext a; fin_cases a <;> rfl

theorem v107_at : val_main_v107 (F := Ideal) x0 x1 x2 x3 x4 x7 (j1 b kv g)
    = Ideal.div (Ideal.exp (sn x0 x1 b kv g - M x0 x1 x3 x4 x7 b kv g)) (L x0 x1 x3 x4 x7 b kv g) * wn x2 b kv := by
  rw [val_main_v107_apply, val_main_v106_apply, val_main_v97_apply, val_main_v105_apply, val_main_v104_apply, val_main_v103_apply]
  have hi : idx_main_v97 (j1 b kv g) = jA b kv g lst := by
    refine funext fun a => Fin.ext ?_
    match a with
    | ⟨0, _⟩ => rfl
    | ⟨1, _⟩ => rfl
    | ⟨2, _⟩ => rfl
    | ⟨3, _⟩ => rfl
    | ⟨4, _⟩ => show 4096 + 0 = 4096; norm_num
  rw [hi, v95_at, v84_right, ref_scale]
  refine congrArg₂ (fun a b : EReal => a * b) rfl (congrArg (val_main_v7 (F := Ideal) x2) ?_)
  funext a; fin_cases a <;> rfl

/-- An element of the reference's output. -/
theorem ref_out : val_main_v118 (F := Ideal) x0 x1 x2 x3 x4 x5 x6 x7 (ix b (hd kv g) d)
    = (∑ k ∈ range 4096, V x5 b kv d k * (Ideal.div (Ideal.exp (S x0 x3 x4 x7 b kv g k - M x0 x1 x3 x4 x7 b kv g)) (L x0 x1 x3 x4 x7 b kv g) * W x6 b kv k))
      + vn x2 b kv d * (Ideal.div (Ideal.exp (sn x0 x1 b kv g - M x0 x1 x3 x4 x7 b kv g)) (L x0 x1 x3 x4 x7 b kv g) * wn x2 b kv) := by
  rw [val_main_v118_apply, val_main_v117_apply]
  have hi : idx_main_v117 (ix b (hd kv g) d) = jo b kv g d := by
    refine funext fun a => Fin.ext ?_
    fin_cases a
    · show (((b.val * 1 + 0) * 32 + (kv.val * 4 + g.val)) * 256 + d.val) / 8192 = b.val
      omega
    · rfl
    · show (((b.val * 1 + 0) * 32 + (kv.val * 4 + g.val)) * 256 + d.val) / 1024 % 8 = kv.val
      omega
    · show (((b.val * 1 + 0) * 32 + (kv.val * 4 + g.val)) * 256 + d.val) / 256 % 4 = g.val
      omega
    · show (((b.val * 1 + 0) * 32 + (kv.val * 4 + g.val)) * 256 + d.val) % 256 = d.val
      omega
  rw [hi, val_main_v116_apply, val_main_v111_apply, val_main_v110_apply, val_main_v115_apply, val_main_v114_apply, Finset.sum_range, Fin.sum_univ_one]
  refine congrArg₂ (· + ·) (sum_congr rfl fun t _ => congrArg₂ (· * ·) ?_ ?_) (congrArg₂ (· * ·) ?_ ?_)
  · rw [val_main_v109_apply, val_main_v108_apply]
    unfold V
    rw [tk_val]
    show num ((x5 _).signExtend 32) = _
    refine (congrArg (fun z : ℤ => ((z : ℝ) : EReal)) (toInt_ext _)).trans (congrArg (fun i => num (x5 i)) ?_)
    funext a; fin_cases a <;> rfl
  · refine Eq.trans (congrArg _ ?_) (v102_at x0 x1 x3 x4 x6 x7 b kv g t)
    funext a; fin_cases a <;> rfl
  · rw [val_main_v113_apply, val_main_v112_apply, ref_codes]
    show num ((val_main_v14 (F := Ideal) x2 _).signExtend 32) = _
    refine (congrArg (fun z : ℤ => ((z : ℝ) : EReal)) (toInt_ext _)).trans (congrArg (fun i => num (val_main_v14 (F := Ideal) x2 i)) ?_)
    funext a; fin_cases a <;> rfl
  · refine Eq.trans (congrArg _ ?_) (v107_at x0 x1 x2 x3 x4 x7 b kv g)
    funext a; fin_cases a <;> rfl

end Cert.Plain

end
-- ==== Proof.Query.lean ====
/-
  The query's rows, the dot products with the copied keys, and the scores of a tile.
-/
module

public import proofs.«01_k».proof.Proof.Lanes
public import proofs.«01_k».proof.Proof.Code
public import proofs.«01_k».proof.Proof.Ref

@[expose] public section

noncomputable section

namespace Cert.Plain

open Cert.KernelIdeal Cert.KernelIdeal.Gen Cert.KernelIdeal.Hand Cert.Quant
open Idealize.ShloMosaic Idealize.ShloMosaic.TcCoe Idealize.ShloMosaic.Tactic
open Cert.ReferenceIdeal.Read

variable {c : Dev nD} (E : Env Ideal c) (n : Fin 4)

abbrev xx (h : Fin 32) (d : Fin 256) : S32x256.Idx := fun | ⟨0, _⟩ => h | ⟨1, _⟩ => d
abbrev x4i (h : Fin 32) (d : Fin 256) : S1x1x32x256.Idx := fun | ⟨0, _⟩ => (0 : Fin 1) | ⟨1, _⟩ => (0 : Fin 1) | ⟨2, _⟩ => h | ⟨3, _⟩ => d
abbrev xh (h : Fin 32) (d : Fin 128) : S32x128.Idx := fun | ⟨0, _⟩ => h | ⟨1, _⟩ => d
abbrev xh3 (h : Fin 32) (d : Fin 128) : S1x32x128.Idx := fun | ⟨0, _⟩ => (0 : Fin 1) | ⟨1, _⟩ => h | ⟨2, _⟩ => d
abbrev md (r : Fin 32) (y : Fin 1024) : S32x1024.Idx := fun | ⟨0, _⟩ => r | ⟨1, _⟩ => y

theorem emb13 (h : Fin 32) (d : Fin 256) : (r13 (trip n)).emb (x4i h d) = ix n h d := by
  funext a
  apply Fin.ext
  show k0_off13 (trip n) a + 1 * (x4i h d a).val = (ix n h d a).val
  have h : k0_off13 (trip n) = ![n.val, 0, 0, 0] := by
    have : ∀ t : Fin k0_t1_loop.trips, k0_off13 t = ![t.val, 0, 0, 0] := by decide +kernel
    exact this _
  rw [h]
  fin_cases a <;> simp [x4i, ix]

theorem x_at (h : Fin 32) (d : Fin 256) : xF E (trip n) (xx h d) = E.f1 (ix n h d) := by
  have e : (Shape.rowMajor S1x1x32x256 (x4i h d)).val = (Shape.rowMajor S32x256 (xx h d)).val := by
    rw [Shape.rowMajor_val_two, Shape.rowMajor_val_four]
    show ((0 * 1 + 0) * 32 + h.val) * 256 + d.val = h.val * 256 + d.val
    omega
  show shapeCast S32x256 ((View.whole cc0_stg1_0).readAt (Elt Ideal) (r13 (trip n)).toLoadRect E.f1) shapeCasts_S1x1x32x256_S32x256 (xx h d) = _
  refine (shapeCast_apply _ _ (xx h d) (x4i h d) e).trans ?_
  exact congrArg E.f1 (emb13 n h d)

theorem pay17_at (p : ℕ) (h : Fin 32) (d : Fin 128) : pay17 E (trip n) p (xh3 h d) = E.f1 (ix n h ⟨128 * (p % 2) + d.val, by omega⟩) := by
  have e : (Shape.rowMajor S32x128 (xh h d)).val = (Shape.rowMajor S1x32x128 (xh3 h d)).val := by
    rw [Shape.rowMajor_val_two, Shape.rowMajor_val_three]
    show h.val * 128 + d.val = (0 * 32 + h.val) * 128 + d.val
    omega
  unfold pay17
  refine (shapeCast_apply _ _ (xh3 h d) (xh h d) e).trans ?_
  refine (extractStridedSlice_apply _ _ _ (xh h d) (xx h ⟨128 * (p % 2) + d.val, by omega⟩) fun a => ?_).trans (x_at E n h _)
  match a with
  | ⟨0, _⟩ => exact (Nat.zero_add _).symm
  | ⟨1, _⟩ => rfl

theorem ld17_at (g : Fin 4) (p : Fin 2) (kv : Fin 8) (l : Fin 128) :
    ld17 E (trip n) (2 * g.val + p.val) (m3 kv l) = E.f1 (ix n (hd kv g) ⟨128 * p.val + l.val, by omega⟩) := by
  have h1 : (2 * g.val + p.val) % 2 = p.val := by omega
  have h2 : (2 * g.val + p.val) / 2 % 4 = g.val := by omega
  have e : ld17 E (trip n) (2 * g.val + p.val) (m3 kv l) = pay17 E (trip n) p.val (xh3 (hd kv g) l) := by
    unfold ld17
    rw [h1]
    refine congrArg (pay17 E (trip n) p.val) (funext fun a => Fin.ext ?_)
    match a with
    | ⟨0, _⟩ => rfl
    | ⟨1, _⟩ =>
      show (2 * g.val + p.val) / 2 % 4 + 4 * kv.val = kv.val * 4 + g.val
      omega
    | ⟨2, _⟩ => rfl
  rw [e, pay17_at]
  refine congrArg (fun z => E.f1 (ix n (hd kv g) z)) (Fin.ext ?_)
  show 128 * (p.val % 2) + l.val = 128 * p.val + l.val
  omega

theorem catq_left (x₁ x₂ : FVec Ideal S8x128 .f32) (h) (kv : Fin 8) (d : Fin 256) (hd : d.val < 128) :
    concatenate S8x256 1 [⟨S8x128, x₁⟩, ⟨S8x128, x₂⟩] h (p2 kv d) = x₁ (m2 kv ⟨d.val, hd⟩) := by
  refine concatenate_pair_apply_left 1 x₁ x₂ h (p2 kv d) rfl (m2 kv ⟨d.val, hd⟩) fun a => ?_
  match a with
  | ⟨0, _⟩ => rfl
  | ⟨1, _⟩ => rfl
theorem catq_right (x₁ x₂ : FVec Ideal S8x128 .f32) (h) (kv : Fin 8) (d : Fin 256) (hd : ¬ d.val < 128) :
    concatenate S8x256 1 [⟨S8x128, x₁⟩, ⟨S8x128, x₂⟩] h (p2 kv d) = x₂ (m2 kv ⟨d.val - 128, by omega⟩) := by
  refine concatenate_pair_apply_right 1 x₁ x₂ h (p2 kv d) rfl rfl (m2 kv ⟨d.val - 128, by omega⟩) (fun a ha => ?_) ?_
  · match a with
    | ⟨0, _⟩ => rfl
    | ⟨1, _⟩ => exact absurd rfl ha
  · show (d.val - 128) + 128 = d.val
    omega

theorem qg_at (g : Fin 4) (kv : Fin 8) (d : Fin 256) : qgF E (trip n) g.val (p2 kv d) = E.f1 (ix n (hd kv g) d) := by
  unfold qgF
  by_cases h : d.val < 128
  · rw [catq_left _ _ _ kv d h, cast_m3]
    refine (ld17_at E n g 0 kv ⟨d.val, h⟩).trans ?_
    refine congrArg (fun z => E.f1 (ix n (hd kv g) z)) (Fin.ext ?_)
    show 128 * 0 + d.val = d.val
    omega
  · rw [catq_right _ _ _ kv d h, cast_m3]
    refine (ld17_at E n g 1 kv ⟨d.val - 128, by omega⟩).trans ?_
    refine congrArg (fun z => E.f1 (ix n (hd kv g) z)) (Fin.ext ?_)
    show 128 * 1 + (d.val - 128) = d.val
    omega

/-- A row of the stacked groups. -/
abbrev rw8 (g : Fin 4) (kv : Fin 8) : Fin 32 := ⟨8 * g.val + kv.val, by omega⟩

theorem cat4 (f : Fin 4 → FVec Ideal S8x256 .f32) (h) (g : Fin 4) (kv : Fin 8) (d : Fin 256) :
    concatenate S32x256 0 [⟨S8x256, f 0⟩, ⟨S8x256, f 1⟩, ⟨S8x256, f 2⟩, ⟨S8x256, f 3⟩] h (xx (rw8 g kv) d) = f g (p2 kv d) := by
  refine concatenate_ofFn_apply (N := 4) 0 f h rfl 8 rfl (xx (rw8 g kv) d) g ?_ (p2 kv d) ?_ ?_
  · show (8 * g.val + kv.val) / 8 = g.val
    omega
  · show kv.val = (8 * g.val + kv.val) % 8
    omega
  · intro a ha
    match a with
    | ⟨0, _⟩ => exact absurd rfl ha
    | ⟨1, _⟩ => rfl

theorem q_at (g : Fin 4) (kv : Fin 8) (d : Fin 256) : qF E (trip n) (xx (rw8 g kv) d) = E.f1 (ix n (hd kv g) d) := by
  refine Eq.trans ?_ (qg_at E n g kv d)
  exact cat4 (fun g => qgF E (trip n) g.val) concatenates_S8x256_S8x256_S8x256_S8x256_S32x256_d0 g kv d

/-! ## The dot products -/

abbrev D1 := dot_S32x256_S1024x256_S32x1024_1_1_0_0_n_n

theorem d1_l0 (o : S32x1024.Idx) (q) : (D1.lhsIdx o q 0).val = (o 0).val := by
  unfold DotDims.lhsIdx
  rw [dif_neg (show ¬ (0 : Fin 2) ∈ D1.lhsBatch by decide), dif_pos (show (0 : Fin 2) ∈ D1.lhsNonContracting by decide)]
  rfl
theorem d1_r0 (o : S32x1024.Idx) (q) : (D1.rhsIdx o q 0).val = (o 1).val := by
  unfold DotDims.rhsIdx
  rw [dif_neg (show ¬ (0 : Fin 2) ∈ D1.rhsBatch by decide), dif_pos (show (0 : Fin 2) ∈ D1.rhsNonContracting by decide)]
  rfl

theorem matmul1_at (q : FVec Ideal S32x256 .bf16) (k : FVec Ideal S1024x256 .bf16) (r : Fin 32) (y : Fin 1024) :
    matmul D1 none q k (constant S32x1024 .f32 0x00000000#32) (md r y) = ∑ z : Fin 256, q (xx r z) * k (k2 y z) := by
  have h := Ideal.matmul_apply D1 none q k (constant S32x1024 .f32 0x00000000#32) (md r y)
  refine h.trans ?_
  rw [show (constant (F := Ideal) S32x1024 .f32 0x00000000#32 (md r y) : EReal) = 0 from zero_f32, zero_add,
    ← Equiv.sum_comp (ValueIdx.contrEquiv1 D1 256 rfl rfl).symm]
  refine Finset.sum_congr rfl fun z _ => ?_
  refine congrArg₂ (fun a b : EReal => a * b) (congrArg q (funext fun a => Fin.ext ?_)) (congrArg k (funext fun a => Fin.ext ?_))
  · match a with
    | ⟨0, _⟩ => exact d1_l0 _ _
    | ⟨1, _⟩ => exact D1.lhsIdx_val_of_single rfl _ _
  · match a with
    | ⟨0, _⟩ => exact d1_r0 _ _
    | ⟨1, _⟩ => exact D1.rhsIdx_val_of_single rfl _ _

theorem dots_at (i : ℕ) (hi : i < 8) (g : Fin 4) (kv : Fin 8) (y : Fin 1024) (hy : y.val % 8 = kv.val) :
    dotsF E (trip n) i (md (rw8 g kv) y) = dots E.f1 E.s2 n kv g (st (wd E n) + (128 * i + y.val / 8)) := by
  refine (matmul1_at _ _ _ _).trans ?_
  unfold dots
  refine Finset.sum_congr rfl fun z _ => ?_
  rw [q_at, kcF_at E n i hi y z, mul_comm]
  rw [show (⟨y.val % 8, Nat.mod_lt _ (by decide)⟩ : Fin 8) = kv from Fin.ext hy]

end Cert.Plain

end
-- ==== Proof.Score.lean ====
/-
  The scores of the kernel, their largest, and their exponentials.
-/
module

public import proofs.«01_k».proof.Proof.Query

@[expose] public section

noncomputable section

namespace Cert.Plain

open Cert.KernelIdeal Cert.KernelIdeal.Gen Cert.KernelIdeal.Hand Cert.Quant
open Idealize.ShloMosaic Idealize.ShloMosaic.TcCoe Idealize.ShloMosaic.Tactic
open Cert.ReferenceIdeal.Read
open Cert.Attn Finset

variable {c : Dev nD} {E : Env Ideal c} {x0 : S4x1x32x256.Idx → Elt Ideal .bf16} {x1 x2 : S4x1x8x256.Idx → Elt Ideal .bf16} {x3 x5 : S4x4096x8x256.Idx → Elt Ideal .i8}
  {x4 x6 : S4x4096x8.Idx → Elt Ideal .f32} {x7 : S4.Idx → Elt Ideal .i32}
variable (R : Reads E x0 x1 x2 x3 x5 x4 x6 x7) (n : Fin 4) (kv : Fin 8) (g : Fin 4)

abbrev s1 (kv : Fin 8) : S8x1.Idx := fun | ⟨0, _⟩ => kv | ⟨1, _⟩ => (0 : Fin 1)

theorem cast_s1 {α : Type} (x : S8.Idx → α) (kv : Fin 8) : shapeCast S8x1 x shapeCasts_S8_S8x1 (s1 kv) = x (p1 kv) := by
  refine shapeCast_apply x _ _ _ ?_
  rw [Shape.rowMajor_val_two, Shape.rowMajor_val_one]
  show kv.val = kv.val * 1 + 0
  omega

include R

theorem wd_eq : wd E n = x7 (il n) := by
  rw [← R.f0]
  refine congrArg E.f0 (funext fun a => Fin.ext ?_)
  match a with
  | ⟨0, _⟩ => rfl

/-- A score of a tile. -/
theorem sg_at (j : ℕ) (hj : j < 64) (l : Fin 128) :
    sgF E (trip n) (4 * j + g.val) (m2 kv l) = if l.val % 8 = kv.val then S x0 x3 x4 x7 n kv g (st (wd E n) + (16 * j + l.val / 8)) else ⊥ := by
  have h1 : (4 * j + g.val) / 4 = j := by omega
  have hv : visF E (trip n) ((4 * j + g.val) / 4) (m2 kv l) = _ := (congrArg (fun z => visF E (trip n) z (m2 kv l)) h1).trans (vis_at E n j kv l)
  have hk : ksF E (trip n) ((4 * j + g.val) / 4) (m2 kv l) = _ := (congrArg (fun z => ksF E (trip n) z (m2 kv l)) h1).trans (ks_at E n j hj kv l)
  have hs : extractStridedSlice S8x128 ![8 * ((4 * j + g.val) % 4), 128 * ((4 * j + g.val) / 4 % 8)] (dotsF E (trip n) ((4 * j + g.val) / 4 / 8)) (slices20 (4 * j + g.val)) (m2 kv l)
      = dotsF E (trip n) (j / 8) (md (rw8 g kv) ⟨128 * (j % 8) + l.val, by omega⟩) := by
    refine (extractStridedSlice_apply _ _ _ (m2 kv l) (md (rw8 g kv) ⟨128 * (j % 8) + l.val, by omega⟩) fun a => ?_).trans ?_
    · match a with
      | ⟨0, _⟩ => show 8 * g.val + kv.val = 8 * ((4 * j + g.val) % 4) + kv.val; omega
      | ⟨1, _⟩ => show 128 * (j % 8) + l.val = 128 * ((4 * j + g.val) / 4 % 8) + l.val; omega
    · rw [h1]
  show Scalar.select (visF E (trip n) ((4 * j + g.val) / 4) (m2 kv l))
    (extractStridedSlice S8x128 ![8 * ((4 * j + g.val) % 4), 128 * ((4 * j + g.val) / 4 % 8)] (dotsF E (trip n) ((4 * j + g.val) / 4 / 8)) (slices20 (4 * j + g.val)) (m2 kv l)
      * ksF E (trip n) ((4 * j + g.val) / 4) (m2 kv l) * sm : EReal) (Ideal.ofBits .f32 0xFF800000#32) = _
  rw [hv, hk, hs, neg_inf]
  split
  · rename_i h
    rw [dots_at E n (j / 8) (by omega) g kv _ (by show (128 * (j % 8) + l.val) % 8 = kv.val; omega),
      show st (wd E n) + (128 * (j / 8) + (128 * (j % 8) + l.val) / 8) = st (wd E n) + (16 * j + l.val / 8) by omega]
    rw [R.s0, R.f1, R.s2]
    unfold S raw
    rw [← wd_eq R n]
  · rfl

/-- The new token's score. -/
theorem sn_at : snF E (trip n) g.val (s1 kv) = sn x0 x1 n kv g := by
  have hk : knF E (trip n) = row x1 n := congrArg (fun f : S4x1x8x256.Idx → Elt Ideal .bf16 => row f n) R.f2
  have e1 : shapeCast S8x1 (multiReduction .add [1] S8 (mulf (qgF E (trip n) g.val) (codesF (knF E (trip n)))) 0x00000000#32 reduces_S8x256_S8 (.inl rfl) rfl) shapeCasts_S8_S8x1 (s1 kv)
      = ∑ z : Fin 256, num (val_main_v14 (F := Ideal) x1 (q4 n kv z)) * x0 (ix n (hd kv g) z) := by
    have hz (z : Fin 256) : mulf (qgF E (trip n) g.val) (codesF (knF E (trip n))) (p2 kv z) = (num (val_main_v14 (F := Ideal) x1 (q4 n kv z)) * x0 (ix n (hd kv g) z) : EReal) := by
      show (qgF E (trip n) g.val (p2 kv z) * codesF (knF E (trip n)) (p2 kv z) : EReal) = _
      rw [qg_at, hk, code_num, R.f1, mul_comm]
    refine (cast_s1 _ kv).trans ((Ideal.multiReduction_add_single _ _ _ _ _ _).trans (sum_congr rfl fun z _ => ?_))
    exact (congrArg (mulf (qgF E (trip n) g.val) (codesF (knF E (trip n)))) (lift_p2 kv z)).trans (hz z)
  have e2 : shapeCast S8x1 (scaleF (knF E (trip n))) shapeCasts_S8_S8x1 (s1 kv) = val_main_v7 (F := Ideal) x1 (q3 n kv) := by
    rw [cast_s1, hk, scale_eq]
  unfold sn
  exact congrArg₂ (fun a b : EReal => a * b) (congrArg₂ (fun a b : EReal => a * b) e1 e2) rfl

/-! ## The largest score -/

theorem mx_le (m : ℕ) (l : Fin 128) (z : EReal) :
    mxF E (trip n) g.val m (m2 kv l) ≤ z ↔ sn x0 x1 n kv g ≤ z ∧ ∀ j < m, sgF E (trip n) (4 * j + g.val) (m2 kv l) ≤ z := by
  induction m with
  | zero =>
    have e : mxF E (trip n) g.val 0 (m2 kv l) = sn x0 x1 n kv g := by
      refine (broadcastTo_apply _ broadcasts_S8x1_S8x128 (m2 kv l) (s1 kv) fun a => ?_).trans ((shapeCast_apply _ _ (s1 kv) (s1 kv) rfl).trans (sn_at R n kv g))
      fin_cases a <;> rfl
    rw [e]
    exact ⟨fun h => ⟨h, fun j hj => absurd hj (Nat.not_lt_zero j)⟩, fun h => h.1⟩
  | succ m ih =>
    show max (mxF E (trip n) g.val m (m2 kv l) : EReal) (sgF E (trip n) (4 * m + g.val) (m2 kv l)) ≤ z ↔ _
    rw [max_le_iff, ih]
    constructor
    · rintro ⟨⟨h1, h2⟩, h3⟩
      refine ⟨h1, fun j hj => ?_⟩
      rcases Nat.lt_succ_iff_lt_or_eq.1 hj with h | rfl
      · exact h2 j h
      · exact h3
    · rintro ⟨h1, h2⟩
      exact ⟨⟨h1, fun j hj => h2 j (Nat.lt_succ_of_lt hj)⟩, h2 m (Nat.lt_succ_self m)⟩

omit R in
theorem lift_m2 (l : Fin 128) : Shape.Reduces.lift reduces_S8x128_S8 (p1 kv) l = m2 kv l := by
  funext a
  fin_cases a <;> rfl

omit R in
theorem S_bot (k : ℕ) (hk : k < 4096) (h : k < st (x7 (il n)) ∨ st (x7 (il n)) + 1024 ≤ k) : S x0 x3 x4 x7 n kv g k = ⊥ := by
  unfold S
  have : seen (x7 (il n)) k = 0#1 := by
    by_contra h'
    have h1 : seen (x7 (il n)) k = 1#1 := by
      revert h'
      generalize seen (x7 (il n)) k = v
      revert v; decide
    have := seen_window _ k hk h1
    omega
  rw [this]
  rfl

theorem isMax_k : IsMax (S x0 x3 x4 x7 n kv g) (sn x0 x1 n kv g) (mF E (trip n) g.val (s1 kv)) := by
  intro z
  have e : mF E (trip n) g.val (s1 kv) = (univ : Finset (Fin 128)).fold max ⊥ (fun l => (mxF E (trip n) g.val 64 (m2 kv l) : EReal)) := by
    unfold mF
    refine (cast_s1 _ kv).trans ((Ideal.multiReduction_maximumf_single _ _ _ _ _ _).trans ?_)
    refine (congrArg (fun e => Finset.fold max e _ univ) neg_inf).trans (Finset.fold_congr fun l _ => ?_)
    exact congrArg (mxF E (trip n) g.val 64) (lift_m2 kv l)
  have hst := st_le (wd E n)
  rw [e, Finset.fold_max_le]
  constructor
  · rintro ⟨-, h⟩
    refine ⟨((mx_le R n kv g 64 0 z).1 (h 0 (mem_univ _))).1, fun k hk => ?_⟩
    by_cases hw : k < st (wd E n) ∨ st (wd E n) + 1024 ≤ k
    · rw [S_bot n kv g k hk (wd_eq R n ▸ hw)]
      exact bot_le
    · have h2 := ((mx_le R n kv g 64 ⟨8 * ((k - st (wd E n)) % 16) + kv.val, by omega⟩ z).1 (h _ (mem_univ _))).2 ((k - st (wd E n)) / 16) (by omega)
      rw [sg_at R n kv g _ (by omega), if_pos (by show (8 * ((k - st (wd E n)) % 16) + kv.val) % 8 = kv.val; omega)] at h2
      have hk' : st (wd E n) + (16 * ((k - st (wd E n)) / 16) + (8 * ((k - st (wd E n)) % 16) + kv.val) / 8) = k := by omega
      simp only [hk'] at h2
      exact h2
  · rintro ⟨h1, h2⟩
    refine ⟨bot_le, fun l _ => (mx_le R n kv g 64 l z).2 ⟨h1, fun j hj => ?_⟩⟩
    rw [sg_at R n kv g j hj]
    split
    · exact h2 _ (by omega)
    · exact bot_le

theorem m_at : mF E (trip n) g.val (s1 kv) = M x0 x1 x3 x4 x7 n kv g := (isMax_k R n kv g).unique (isMax_ref x0 x1 x3 x4 x7 n kv g)

/-! ## The exponentials -/

/-- A token's weight, before the division. -/
abbrev ew (x0 : S4x1x32x256.Idx → Elt Ideal .bf16) (x1 : S4x1x8x256.Idx → Elt Ideal .bf16) (x3 : S4x4096x8x256.Idx → Elt Ideal .i8) (x4 : S4x4096x8.Idx → Elt Ideal .f32)
    (x7 : S4.Idx → Elt Ideal .i32) (n : Fin 4) (kv : Fin 8) (g : Fin 4) (k : ℕ) : EReal :=
  Ideal.exp (S x0 x3 x4 x7 n kv g k - M x0 x1 x3 x4 x7 n kv g)

theorem e_at (j : ℕ) (hj : j < 64) (l : Fin 128) :
    eF E (trip n) (4 * j + g.val) (m2 kv l) = if l.val % 8 = kv.val then ew x0 x1 x3 x4 x7 n kv g (st (wd E n) + (16 * j + l.val / 8)) else 0 := by
  have h1 : (4 * j + g.val) % 4 = g.val := by omega
  have hp : pay19 E (trip n) (4 * j + g.val) (m2 kv l) = _ := (shapeCast_apply _ _ (m2 kv l) (m2 kv l) rfl).trans (sg_at R n kv g j hj l)
  have hm : broadcastTo S8x128 (mF E (trip n) ((4 * j + g.val) % 4)) broadcasts_S8x1_S8x128 (m2 kv l) = M x0 x1 x3 x4 x7 n kv g := by
    rw [h1]
    refine (broadcastTo_apply _ broadcasts_S8x1_S8x128 (m2 kv l) (s1 kv) fun a => ?_).trans (m_at R n kv g)
    fin_cases a <;> rfl
  show Ideal.exp ((pay19 E (trip n) (4 * j + g.val) (m2 kv l) : EReal) - broadcastTo S8x128 (mF E (trip n) ((4 * j + g.val) % 4)) broadcasts_S8x1_S8x128 (m2 kv l)) = _
  rw [hp, hm]
  split
  · rfl
  · exact exp_bot_sub _

theorem pay20_at (j : ℕ) (hj : j < 64) (l : Fin 128) :
    pay20 E (trip n) (4 * j + g.val) (m2 kv l)
      = if l.val % 8 = kv.val then ew x0 x1 x3 x4 x7 n kv g (st (wd E n) + (16 * j + l.val / 8)) * W x6 n kv (st (wd E n) + (16 * j + l.val / 8)) else 0 := by
  have h1 : (4 * j + g.val) / 4 = j := by omega
  have hv : vsF E (trip n) ((4 * j + g.val) / 4) (m2 kv l) = _ := (congrArg (fun z => vsF E (trip n) z (m2 kv l)) h1).trans (vs_at E n j hj kv l)
  unfold pay20
  refine (shapeCast_apply _ _ (m2 kv l) (m2 kv l) rfl).trans ?_
  show (eF E (trip n) (4 * j + g.val) (m2 kv l) * vsF E (trip n) ((4 * j + g.val) / 4) (m2 kv l) : EReal) = _
  rw [hv, e_at R n kv g j hj l, R.s1]
  split
  · rfl
  · exact zero_mul _

end Cert.Plain

end
-- ==== Proof.Sums.lean ====
/-
  The sums of the kernel, and its output, element by element.
-/
module

public import proofs.«01_k».proof.Proof.Score

@[expose] public section

noncomputable section

namespace Cert.Plain

open Cert.KernelIdeal Cert.KernelIdeal.Gen Cert.KernelIdeal.Hand Cert.Quant
open Idealize.ShloMosaic Idealize.ShloMosaic.TcCoe Idealize.ShloMosaic.Tactic
open Cert.ReferenceIdeal.Read
open Cert.Attn Finset

abbrev D2 := dot_S32x1024_S1024x256_S32x256_1_0_0_1_n_n

theorem d2_l0 (o : S32x256.Idx) (q) : (D2.lhsIdx o q 0).val = (o 0).val := by
  unfold DotDims.lhsIdx
  rw [dif_neg (show ¬ (0 : Fin 2) ∈ D2.lhsBatch by decide), dif_pos (show (0 : Fin 2) ∈ D2.lhsNonContracting by decide)]
  rfl
theorem d2_r1 (o : S32x256.Idx) (q) : (D2.rhsIdx o q 1).val = (o 1).val := by
  unfold DotDims.rhsIdx
  rw [dif_neg (show ¬ (1 : Fin 2) ∈ D2.rhsBatch by decide), dif_pos (show (1 : Fin 2) ∈ D2.rhsNonContracting by decide)]
  rfl

theorem matmul2_at (p : FVec Ideal S32x1024 .bf16) (v : FVec Ideal S1024x256 .bf16) (r : Fin 32) (d : Fin 256) :
    matmul D2 none p v (constant S32x256 .f32 0x00000000#32) (xx r d) = ∑ y : Fin 1024, p (md r y) * v (k2 y d) := by
  have h := Ideal.matmul_apply D2 none p v (constant S32x256 .f32 0x00000000#32) (xx r d)
  refine h.trans ?_
  rw [show (constant (F := Ideal) S32x256 .f32 0x00000000#32 (xx r d) : EReal) = 0 from zero_f32, zero_add,
    ← Equiv.sum_comp (ValueIdx.contrEquiv1 D2 1024 rfl rfl).symm]
  refine Finset.sum_congr rfl fun z _ => ?_
  refine congrArg₂ (fun a b : EReal => a * b) (congrArg p (funext fun a => Fin.ext ?_)) (congrArg v (funext fun a => Fin.ext ?_))
  · match a with
    | ⟨0, _⟩ => exact d2_l0 _ _
    | ⟨1, _⟩ => exact D2.lhsIdx_val_of_single rfl _ _
  · match a with
    | ⟨0, _⟩ => exact D2.rhsIdx_val_of_single rfl _ _
    | ⟨1, _⟩ => exact d2_r1 _ _

variable {c : Dev nD} {E : Env Ideal c} {x0 : S4x1x32x256.Idx → Elt Ideal .bf16} {x1 x2 : S4x1x8x256.Idx → Elt Ideal .bf16} {x3 x5 : S4x4096x8x256.Idx → Elt Ideal .i8}
  {x4 x6 : S4x4096x8.Idx → Elt Ideal .f32} {x7 : S4.Idx → Elt Ideal .i32}
variable (R : Reads E x0 x1 x2 x3 x5 x4 x6 x7) (n : Fin 4) (kv : Fin 8) (g : Fin 4) (d : Fin 256)

include R

theorem ew_zero (k : ℕ) (hk : k < 4096) (h : k < st (wd E n) ∨ st (wd E n) + 1024 ≤ k) : ew x0 x1 x3 x4 x7 n kv g k = 0 := by
  unfold ew
  rw [S_bot n kv g k hk (wd_eq R n ▸ h), exp_bot_sub]

/-! ## The sum of the weights -/

theorem l_sum (m : ℕ) (l : Fin 128) : lF E (trip n) g.val m (m2 kv l) = ∑ j ∈ range m, (eF E (trip n) (4 * j + g.val) (m2 kv l) : EReal) := by
  induction m with
  | zero => exact zero_f32
  | succ m ih =>
    rw [sum_range_succ, ← ih]
    rfl

theorem l_at : shapeCast S8x1 (multiReduction .add [1] S8 (lF E (trip n) g.val 64) 0x00000000#32 reduces_S8x128_S8 (.inl rfl) rfl) shapeCasts_S8_S8x1 (s1 kv)
    = ∑ k ∈ range 4096, ew x0 x1 x3 x4 x7 n kv g k := by
  have hl (l : Fin 128) : lF E (trip n) g.val 64 (m2 kv l)
      = ∑ j ∈ range 64, (if l.val % 8 = kv.val then ew x0 x1 x3 x4 x7 n kv g (st (wd E n) + (128 / 8 * j + l.val / 8)) else 0) :=
    (l_sum R n kv g 64 l).trans (sum_congr rfl fun j hj => e_at R n kv g j (mem_range.1 hj) l)
  rw [← sum_lanes (fun k => ew x0 x1 x3 x4 x7 n kv g k) kv.val (st (wd E n)) 128 64 kv.isLt (by norm_num) (by norm_num) (st_le _) (fun k hk h => ew_zero R n kv g k hk h)
    (fun j l => if l % 8 = kv.val then ew x0 x1 x3 x4 x7 n kv g (st (wd E n) + (128 / 8 * j + l / 8)) else 0) (fun _ _ _ _ => rfl), sum_comm]
  refine (cast_s1 _ kv).trans ((Ideal.multiReduction_add_single _ _ _ _ _ _).trans ?_)
  refine Eq.trans ?_ (Finset.sum_range (n := 128) fun l => ∑ j ∈ range 64, (if l % 8 = kv.val then ew x0 x1 x3 x4 x7 n kv g (st (wd E n) + (128 / 8 * j + l / 8)) else 0)).symm
  refine sum_congr rfl fun l _ => ?_
  exact (congrArg (lF E (trip n) g.val 64) (lift_m2 kv l)).trans (hl l)

/-! ## The sum of the weighted values -/

theorem p_at (i : ℕ) (hi : i < 8) (y : Fin 1024) :
    pF E (trip n) i (md (rw8 g kv) y)
      = if y.val % 8 = kv.val then ew x0 x1 x3 x4 x7 n kv g (st (wd E n) + (128 * i + y.val / 8)) * W x6 n kv (st (wd E n) + (128 * i + y.val / 8)) else 0 := by
  have e : pF E (trip n) i (md (rw8 g kv) y) = pay20 E (trip n) (4 * (8 * i + y.val / 128) + g.val) (m2 kv ⟨y.val % 128, Nat.mod_lt _ (by decide)⟩) := by
    have h1 : 32 * i + (4 * (y.val / 128) + (8 * g.val + kv.val) / 8) = 4 * (8 * i + y.val / 128) + g.val := by omega
    unfold pF
    show pay20 E (trip n) (32 * i + (4 * (y.val / 128) + (8 * g.val + kv.val) / 8)) _ = _
    rw [h1]
    refine congrArg (pay20 E (trip n) _) (funext fun a => Fin.ext ?_)
    match a with
    | ⟨0, _⟩ => show (8 * g.val + kv.val) % 8 = kv.val; omega
    | ⟨1, _⟩ => rfl
  rw [e, pay20_at R n kv g _ (by omega)]
  have h2 : st (wd E n) + (16 * (8 * i + y.val / 128) + y.val % 128 / 8) = st (wd E n) + (128 * i + y.val / 8) := by omega
  have h3 : y.val % 128 % 8 = y.val % 8 := by omega
  simp only [h2, h3]

/-- What a token adds to the output, before the division. -/
abbrev ct (x0 : S4x1x32x256.Idx → Elt Ideal .bf16) (x1 : S4x1x8x256.Idx → Elt Ideal .bf16) (x3 x5 : S4x4096x8x256.Idx → Elt Ideal .i8) (x4 x6 : S4x4096x8.Idx → Elt Ideal .f32)
    (x7 : S4.Idx → Elt Ideal .i32) (n : Fin 4) (kv : Fin 8) (g : Fin 4) (d : Fin 256) (k : ℕ) : EReal :=
  ew x0 x1 x3 x4 x7 n kv g k * W x6 n kv k * V x5 n kv d k

theorem chunk_at (i : ℕ) (hi : i < 8) :
    matmul D2 none (truncf .bf16 (pF E (trip n) i) bitsLt_bf16_f32) (vcF E (trip n) i) (constant S32x256 .f32 0x00000000#32) (xx (rw8 g kv) d)
      = ∑ y ∈ range 1024, (if y % 8 = kv.val then ct x0 x1 x3 x5 x4 x6 x7 n kv g d (st (wd E n) + (1024 / 8 * i + y / 8)) else 0) := by
  refine (matmul2_at _ _ _ _).trans ?_
  rw [Finset.sum_range]
  refine sum_congr rfl fun y _ => ?_
  refine (congrArg₂ (fun a b : EReal => a * b) (p_at R n kv g i hi y) (vcF_at E n i hi y d)).trans ?_
  by_cases h : y.val % 8 = kv.val
  · have h' : (⟨y.val % 8, Nat.mod_lt _ (by decide)⟩ : Fin 8) = kv := Fin.ext h
    simp only [if_pos h, h', R.s3]
    rfl
  · simp only [if_neg h]
    exact zero_mul _

theorem acc_sum (m : ℕ) : accF E (trip n) m (xx (rw8 g kv) d)
    = ∑ i ∈ range m, (matmul D2 none (truncf .bf16 (pF E (trip n) i) bitsLt_bf16_f32) (vcF E (trip n) i) (constant S32x256 .f32 0x00000000#32) (xx (rw8 g kv) d) : EReal) := by
  induction m with
  | zero => exact zero_f32
  | succ m ih =>
    rw [sum_range_succ, ← ih]
    rfl

theorem acc_at : accF E (trip n) 8 (xx (rw8 g kv) d) = ∑ k ∈ range 4096, ct x0 x1 x3 x5 x4 x6 x7 n kv g d k := by
  rw [← sum_lanes (fun k => ct x0 x1 x3 x5 x4 x6 x7 n kv g d k) kv.val (st (wd E n)) 1024 8 kv.isLt (by norm_num) (by norm_num) (st_le _)
    (fun k hk h => by show ew x0 x1 x3 x4 x7 n kv g k * _ * _ = 0; rw [ew_zero R n kv g k hk h, zero_mul, zero_mul])
    (fun i y => if y % 8 = kv.val then ct x0 x1 x3 x5 x4 x6 x7 n kv g d (st (wd E n) + (1024 / 8 * i + y / 8)) else 0) (fun _ _ _ _ => rfl)]
  exact (acc_sum R n kv g d 8).trans (sum_congr rfl fun i hi => chunk_at R n kv g d i (mem_range.1 hi))

/-! ## The output -/

theorem en_at : enF E (trip n) g.val (s1 kv) = Ideal.exp (sn x0 x1 n kv g - M x0 x1 x3 x4 x7 n kv g) := by
  show Ideal.exp ((snF E (trip n) g.val (s1 kv) : EReal) - mF E (trip n) g.val (s1 kv)) = _
  rw [sn_at R, m_at R]

omit R in
theorem bc_p2 (x : FVec Ideal S8x1 .f32) : broadcastTo S8x256 x broadcasts_S8x1_S8x256 (p2 kv d) = x (s1 kv) := by
  refine broadcastTo_apply _ broadcasts_S8x1_S8x256 (p2 kv d) (s1 kv) fun a => ?_
  fin_cases a <;> rfl

theorem o_at : oF E (trip n) g.val (p2 kv d)
    = Ideal.div ((∑ k ∈ range 4096, ct x0 x1 x3 x5 x4 x6 x7 n kv g d k) + Ideal.exp (sn x0 x1 n kv g - M x0 x1 x3 x4 x7 n kv g) * wn x2 n kv * vn x2 n kv d)
        (L x0 x1 x3 x4 x7 n kv g) := by
  have hv : vnF E (trip n) = row x2 n := congrArg (fun f : S4x1x8x256.Idx → Elt Ideal .bf16 => row f n) R.f3
  have ha : extractStridedSlice S8x256 ![8 * (g.val % 4), 0] (accF E (trip n) 8) (slicesA g.val) (p2 kv d) = ∑ k ∈ range 4096, ct x0 x1 x3 x5 x4 x6 x7 n kv g d k := by
    refine (extractStridedSlice_apply _ _ _ (p2 kv d) (xx (rw8 g kv) d) fun a => ?_).trans (acc_at R n kv g d)
    match a with
    | ⟨0, _⟩ => show 8 * g.val + kv.val = 8 * (g.val % 4) + kv.val; omega
    | ⟨1, _⟩ => exact (Nat.zero_add _).symm
  have hw : shapeCast S8x1 (scaleF (vnF E (trip n))) shapeCasts_S8_S8x1 (s1 kv) = wn x2 n kv := by
    rw [cast_s1, hv, scale_eq]
    rfl
  have hc : codesF (vnF E (trip n)) (p2 kv d) = vn x2 n kv d := by
    rw [hv, code_num]
    rfl
  refine congrArg₂ Ideal.div (congrArg₂ (fun a b : EReal => a + b) ha (congrArg₂ (fun a b : EReal => a * b) ((bc_p2 kv d _).trans ?_) hc)) ((bc_p2 kv d _).trans ?_)
  · exact congrArg₂ (fun a b : EReal => a * b) (en_at R n kv g) hw
  · exact congrArg₂ (fun a b : EReal => a + b) (l_at R n kv g) (en_at R n kv g)

theorem pay18_at (p : Fin 2) (l : Fin 128) : pay18 E (trip n) (2 * g.val + p.val) (m3 kv l) = oF E (trip n) g.val (p2 kv ⟨128 * p.val + l.val, by omega⟩) := by
  have h1 : (2 * g.val + p.val) / 2 = g.val := by omega
  have e : (Shape.rowMajor S8x128 (m2 kv l)).val = (Shape.rowMajor S1x8x128 (m3 kv l)).val := by
    rw [Shape.rowMajor_val_two, Shape.rowMajor_val_three]
    show kv.val * 128 + l.val = (0 * 8 + kv.val) * 128 + l.val
    omega
  unfold pay18
  refine (shapeCast_apply _ _ (m3 kv l) (m2 kv l) e).trans ?_
  refine (extractStridedSlice_apply _ _ _ (m2 kv l) (p2 kv ⟨128 * p.val + l.val, by omega⟩) fun a => ?_).trans ?_
  · match a with
    | ⟨0, _⟩ => exact (Nat.zero_add _).symm
    | ⟨1, _⟩ => show 128 * p.val + l.val = 128 * ((2 * g.val + p.val) % 2) + l.val; omega
  · rw [h1]

theorem ld18_at (p : Fin 2) (l : Fin 128) : ld18 E (trip n) p.val (xh3 (hd kv g) l) = oF E (trip n) g.val (p2 kv ⟨128 * p.val + l.val, by omega⟩) := by
  have h1 : (kv.val * 4 + g.val) % 4 = g.val := by omega
  refine Eq.trans ?_ (pay18_at R n kv g p l)
  unfold ld18
  show pay18 E (trip n) (2 * ((kv.val * 4 + g.val) % 4) + p.val) _ = _
  rw [h1]
  refine congrArg (pay18 E (trip n) _) (funext fun a => Fin.ext ?_)
  match a with
  | ⟨0, _⟩ => rfl
  | ⟨1, _⟩ => show (kv.val * 4 + g.val) / 4 = kv.val; omega
  | ⟨2, _⟩ => rfl

omit R in
theorem cato_left (x₁ x₂ : FVec Ideal S32x128 .f32) (h) (r : Fin 32) (d : Fin 256) (hd : d.val < 128) :
    concatenate S32x256 1 [⟨S32x128, x₁⟩, ⟨S32x128, x₂⟩] h (xx r d) = x₁ (xh r ⟨d.val, hd⟩) := by
  refine concatenate_pair_apply_left 1 x₁ x₂ h (xx r d) rfl (xh r ⟨d.val, hd⟩) fun a => ?_
  match a with
  | ⟨0, _⟩ => rfl
  | ⟨1, _⟩ => rfl
omit R in
theorem cato_right (x₁ x₂ : FVec Ideal S32x128 .f32) (h) (r : Fin 32) (d : Fin 256) (hd : ¬ d.val < 128) :
    concatenate S32x256 1 [⟨S32x128, x₁⟩, ⟨S32x128, x₂⟩] h (xx r d) = x₂ (xh r ⟨d.val - 128, by omega⟩) := by
  refine concatenate_pair_apply_right 1 x₁ x₂ h (xx r d) rfl rfl (xh r ⟨d.val - 128, by omega⟩) (fun a ha => ?_) ?_
  · match a with
    | ⟨0, _⟩ => rfl
    | ⟨1, _⟩ => exact absurd rfl ha
  · show (d.val - 128) + 128 = d.val
    omega

omit R in
theorem cast_xh (x : FVec Ideal S1x32x128 .f32) (r : Fin 32) (l : Fin 128) : shapeCast S32x128 x shapeCasts_S1x32x128_S32x128 (xh r l) = x (xh3 r l) := by
  refine shapeCast_apply x _ _ _ ?_
  rw [Shape.rowMajor_val_two, Shape.rowMajor_val_three]
  show (0 * 32 + r.val) * 128 + l.val = r.val * 128 + l.val
  omega

theorem outRow_at : outRow E (trip n) (x4i (hd kv g) d) = oF E (trip n) g.val (p2 kv d) := by
  have e : (Shape.rowMajor S32x256 (xx (hd kv g) d)).val = (Shape.rowMajor S1x1x32x256 (x4i (hd kv g) d)).val := by
    rw [Shape.rowMajor_val_two, Shape.rowMajor_val_four]
    show (kv.val * 4 + g.val) * 256 + d.val = ((0 * 1 + 0) * 32 + (kv.val * 4 + g.val)) * 256 + d.val
    omega
  unfold outRow
  refine (shapeCast_apply _ _ (x4i (hd kv g) d) (xx (hd kv g) d) e).trans ?_
  show concatenate S32x256 1 [⟨S32x128, shapeCast S32x128 (ld18 E (trip n) 0) shapeCasts_S1x32x128_S32x128⟩, ⟨S32x128, shapeCast S32x128 (ld18 E (trip n) 1) shapeCasts_S1x32x128_S32x128⟩]
    concatenates_S32x128_S32x128_S32x256_d1 (xx (hd kv g) d) = _
  by_cases h : d.val < 128
  · rw [cato_left _ _ _ _ d h, cast_xh]
    refine (ld18_at R n kv g 0 ⟨d.val, h⟩).trans ?_
    refine congrArg (fun z => oF E (trip n) g.val (p2 kv z)) (Fin.ext ?_)
    show 128 * 0 + d.val = d.val
    omega
  · rw [cato_right _ _ _ _ d h, cast_xh]
    refine (ld18_at R n kv g 1 ⟨d.val - 128, by omega⟩).trans ?_
    refine congrArg (fun z => oF E (trip n) g.val (p2 kv z)) (Fin.ext ?_)
    show 128 * 1 + (d.val - 128) = d.val
    omega

/-- An element of the kernel's output is the reference's, where the scores are numbers. -/
theorem out_eq (hn : sn x0 x1 n kv g ≠ ⊤) (hn' : sn x0 x1 n kv g ≠ ⊥) (hS : ∀ k < 4096, S x0 x3 x4 x7 n kv g k ≠ ⊤) :
    outAll E (ix n (hd kv g) d) = val_main_v118 (F := Ideal) x0 x1 x2 x3 x4 x5 x6 x7 (ix n (hd kv g) d) := by
  have e : outAll E (ix n (hd kv g) d) = outRow E (trip n) (x4i (hd kv g) d) := by
    refine congrArg (outRow E (trip n)) (funext fun a => Fin.ext ?_)
    match a with
    | ⟨0, _⟩ => rfl
    | ⟨1, _⟩ => rfl
    | ⟨2, _⟩ => rfl
    | ⟨3, _⟩ => rfl
  rw [e, outRow_at R, o_at R, ref_out]
  exact attn (isMax_ref x0 x1 x3 x4 x7 n kv g) hn hn' hS (L x0 x1 x3 x4 x7 n kv g) rfl

end Cert.Plain

end
-- ==== Proof.Numbers.lean ====
/-
  The scores are numbers where the query and the cached keys' scales are.
-/
module

public import proofs.«01_k».proof.Proof.Sums
public import proofs.«01_k».proof.Pre_finite

@[expose] public section

noncomputable section

namespace Cert.Plain

open Cert.KernelIdeal Cert.Quant
open Idealize.ShloMosaic Idealize.ShloMosaic.TcCoe
open Cert.ReferenceIdeal.Read
open Cert.Attn Finset

/-- Neither infinity. -/
def Re (v : EReal) : Prop := ∃ r : ℝ, v = (r : EReal)

theorem Re.coe (r : ℝ) : Re (r : EReal) := ⟨r, rfl⟩
theorem Re.mul {a b : EReal} (ha : Re a) (hb : Re b) : Re (a * b) := by
  obtain ⟨r, rfl⟩ := ha
  obtain ⟨s, rfl⟩ := hb
  exact ⟨r * s, (EReal.coe_mul r s).symm⟩
theorem Re.add {a b : EReal} (ha : Re a) (hb : Re b) : Re (a + b) := by
  obtain ⟨r, rfl⟩ := ha
  obtain ⟨s, rfl⟩ := hb
  exact ⟨r + s, (EReal.coe_add r s).symm⟩
theorem Re.sum {ι : Type} (s : Finset ι) (f : ι → EReal) (h : ∀ i, Re (f i)) : Re (∑ i ∈ s, f i) := by
  classical
  induction s using Finset.induction_on with
  | empty => exact ⟨0, by rw [sum_empty]; rfl⟩
  | insert a s ha ih => rw [sum_insert ha]; exact (h a).add ih
theorem Re.ne_top {a : EReal} (h : Re a) : a ≠ ⊤ := by obtain ⟨r, rfl⟩ := h; exact EReal.coe_ne_top r
theorem Re.ne_bot {a : EReal} (h : Re a) : a ≠ ⊥ := by obtain ⟨r, rfl⟩ := h; exact EReal.coe_ne_bot r
theorem Re.of {a : EReal} (h : a ≠ ⊤) (h' : a ≠ ⊥) : Re a := ⟨a.toReal, (EReal.coe_toReal h h').symm⟩

theorem pos_inf : Ideal.ofBits .f32 0x7F800000#32 = ⊤ := by simp [Ideal.ofBits, Ideal.ieee]
theorem re_sm : Re sm := ⟨1 / 16, by simp [sm, Ideal.ofBits, Ideal.ieee, -EReal.coe_mul]; norm_num⟩
theorem one_f32 : Ideal.ofBits .f32 0x3F800000#32 = ((1 : ℝ) : EReal) := by simp [Ideal.ofBits, Ideal.ieee, -EReal.coe_mul]; norm_num

/-- What the precondition says of an element. -/
theorem re_of_lt (x : EReal) (h : Ideal.cmp .olt (max x (-x)) (Ideal.ofBits .f32 0x7F800000#32) = 1#1) : Re x := by
  rw [pos_inf] at h
  have h1 : max x (-x) < ⊤ := by
    by_contra h'
    have h0 : Ideal.cmp .olt (max x (-x)) ⊤ = 0#1 := by
      show BitVec.ofBool (decide (max x (-x) < ⊤)) = 0#1
      rw [decide_eq_false h']
      rfl
    rw [h0] at h
    exact absurd h (by decide)
  refine Re.of (fun e => ?_) (fun e => ?_)
  · subst e; exact absurd (lt_of_le_of_lt (le_max_left _ _) h1) (lt_irrefl _)
  · subst e; exact absurd (lt_of_le_of_lt (le_max_right _ _) h1) (by rw [EReal.neg_bot]; exact lt_irrefl _)

variable {x0 : S4x1x32x256.Idx → Elt Ideal .bf16} {x1 : S4x1x8x256.Idx → Elt Ideal .bf16} (x3 : S4x4096x8x256.Idx → Elt Ideal .i8) {x4 : S4x4096x8.Idx → Elt Ideal .f32} (x7 : S4.Idx → Elt Ideal .i32)
variable (b : Fin 4) (kv : Fin 8) (g : Fin 4)

/-- A scale is a number, or infinite. -/
theorem re_scale : Re (val_main_v7 (F := Ideal) x1 (q3 b kv)) ∨ val_main_v7 (F := Ideal) x1 (q3 b kv) = (⊤ : EReal) := by
  rw [val_main_v7_apply, val_main_v4_apply, val_main_v6_apply, val_main_v3_apply, val_main_v5_apply, val_main_call0_v1_apply]
  generalize val_main_v2 (F := Ideal) x1 (q3 b kv) = a
  show Re (Scalar.select (Ideal.cmp .ogt a (Ideal.ofBits .f32 0x00000000#32)) (Ideal.div a (Ideal.ofBits .f32 0x42FE0000#32)) (Ideal.ofBits .f32 0x3F800000#32))
    ∨ Scalar.select (Ideal.cmp .ogt a (Ideal.ofBits .f32 0x00000000#32)) (Ideal.div a (Ideal.ofBits .f32 0x42FE0000#32)) (Ideal.ofBits .f32 0x3F800000#32) = ⊤
  rw [zero_f32, ofBits_127, one_f32]
  have h127 : ((127 : ℝ) : EReal) ≠ 0 := by
    rw [← EReal.coe_zero]
    exact fun e => absurd (EReal.coe_eq_coe_iff.1 e) (by norm_num)
  by_cases hp : (0 : EReal) < a
  · have h1 : Ideal.cmp .ogt a 0 = 1#1 := by
      show BitVec.ofBool (decide (_ < _)) = 1#1
      rw [decide_eq_true hp]
      rfl
    rw [h1]
    show Re (Ideal.div a _) ∨ Ideal.div a _ = ⊤
    unfold Ideal.div
    rw [if_neg h127, ← EReal.coe_inv]
    by_cases ht : a = ⊤
    · right
      rw [ht]
      exact EReal.top_mul_coe_of_pos (by norm_num)
    · left
      obtain ⟨r, rfl⟩ := Re.of ht (ne_of_gt (lt_of_le_of_lt bot_le hp))
      exact (Re.coe r).mul (Re.coe _)
  · left
    have h1 : Ideal.cmp .ogt a 0 = 0#1 := by
      show BitVec.ofBool (decide (_ < _)) = 0#1
      rw [decide_eq_false hp]
      rfl
    rw [h1]
    exact Re.coe 1

/-- Where the scale is infinite, the codes are zero. -/
theorem code_zero (h : val_main_v7 (F := Ideal) x1 (q3 b kv) = (⊤ : EReal)) (d : Fin 256) : num (val_main_v14 (F := Ideal) x1 (q4 b kv d)) = 0 := by
  have hb : broadcastTo S8x256 (shapeCast S8x1 (Cert.KernelIdeal.Hand.scaleF (row x1 b)) Cert.KernelIdeal.Gen.shapeCasts_S8_S8x1) Cert.KernelIdeal.Gen.broadcasts_S8x1_S8x256 (p2 kv d) = (⊤ : EReal) := by
    rw [bc_p2, cast_s1, scale_eq, h]
  rw [← code_num]
  show min (Ideal.ofBits .f32 0x42FE0000#32) (max (Ideal.ofBits .f32 0xC2FE0000#32) (Ideal.liftRound Ideal.roundHalfEven (Ideal.div (row x1 b (p2 kv d))
    (broadcastTo S8x256 (shapeCast S8x1 (Cert.KernelIdeal.Hand.scaleF (row x1 b)) Cert.KernelIdeal.Gen.shapeCasts_S8_S8x1) Cert.KernelIdeal.Gen.broadcasts_S8x1_S8x256 (p2 kv d))))) = (0 : EReal)
  rw [hb]
  have hd (y : EReal) : Ideal.div y ⊤ = ((0 : ℝ) : EReal) := by
    unfold Ideal.div
    rw [if_neg EReal.top_ne_zero, EReal.inv_top, mul_zero]
    rfl
  have hr : Ideal.liftRound Ideal.roundHalfEven ((0 : ℝ) : EReal) = 0 := by
    show (((Ideal.roundHalfEven 0 : ℤ) : ℝ) : EReal) = 0
    simp [Ideal.roundHalfEven]
  rw [hd, hr, ofBits_127, ofBits_neg127, max_eq_right, min_eq_right]
  · exact EReal.coe_nonneg.2 (by norm_num)
  · exact EReal.coe_nonpos.2 (by norm_num)

/-- The new token's score is a number whatever the new keys are. -/
theorem re_sn (h0 : ∀ i, Re (x0 i)) : Re (sn x0 x1 b kv g) := by
  unfold sn
  rcases re_scale (x1 := x1) b kv with h | h
  · exact ((Re.sum _ _ fun c => (Re.coe _).mul (h0 _)).mul h).mul re_sm
  · rw [sum_eq_zero fun c _ => by rw [code_zero b kv h c, zero_mul], zero_mul, zero_mul]
    exact Re.coe 0

theorem S_ne_top (h0 : ∀ i, Re (x0 i)) (k : ℕ) (h4 : seen (x7 (il b)) k = 1#1 → Re (x4 (is b (tk k) kv))) : S x0 x3 x4 x7 b kv g k ≠ ⊤ := by
  unfold S
  rcases (show ∀ v : BitVec 1, v = 0#1 ∨ v = 1#1 by decide) (seen (x7 (il b)) k) with h | h <;> rw [h]
  · exact bot_ne_top
  · exact (((Re.sum _ _ fun c => (Re.coe _).mul (h0 _)).mul (h4 h)).mul re_sm).ne_top

/-! ## The output -/

variable {c : Dev nD} {E : Cert.KernelIdeal.Hand.Env Ideal c} {x2 : S4x1x8x256.Idx → Elt Ideal .bf16} {x5 : S4x4096x8x256.Idx → Elt Ideal .i8} {x6 : S4x4096x8.Idx → Elt Ideal .f32} {x3 x7}

theorem outAll_eq (R : Reads E x0 x1 x2 x3 x5 x4 x6 x7) (h0 : ∀ i, Re (x0 i)) (h4 : ∀ b kv (t : Fin 4096), seen (x7 (il b)) t.val = 1#1 → Re (x4 (is b t kv))) :
    Cert.KernelIdeal.Hand.outAll E = val_main_v118 (F := Ideal) x0 x1 x2 x3 x4 x5 x6 x7 := by
  funext i
  have h2 : (i 2).val < 32 := (i 2).isLt
  have hi : i = ix (i 0) (hd ⟨(i 2).val / 4, by omega⟩ ⟨(i 2).val % 4, by omega⟩) (i 3) := by
    funext a
    apply Fin.ext
    match a with
    | ⟨0, _⟩ => rfl
    | ⟨1, _⟩ =>
      have h : (i 1).val < 1 := (i 1).isLt
      show (i 1).val = 0
      omega
    | ⟨2, _⟩ => show (i 2).val = (i 2).val / 4 * 4 + (i 2).val % 4; omega
    | ⟨3, _⟩ => rfl
  rw [hi]
  refine out_eq R _ _ _ _ (re_sn _ _ _ h0).ne_top (re_sn _ _ _ h0).ne_bot fun k hk => S_ne_top _ _ _ _ _ h0 k fun h => h4 _ _ (tk k) ?_
  exact (congrArg (seen _) (Nat.mod_eq_of_lt hk)).trans h

end Cert.Plain

end
-- ==== Proof.Found.lean ====
/-
  What the launch finds in its buffers: the arguments, and the scales transposed.
-/
module

public import proofs.«01_k».proof.Proof.KI.Result
public import proofs.«01_k».proof.Proof.Numbers

@[expose] public section

noncomputable section

namespace Cert.Plain

open Cert.KernelIdeal Cert.KernelIdeal.Gen Cert.KernelIdeal.Hand
open Idealize.ShloMosaic Idealize.ShloMosaic.TcCoe Idealize.ShloMosaic.Tactic

variable (m : (ℓ : Loc nD τ sig) → Buf (Elt Ideal) ℓ) (c : Dev nD)

theorem V_v0 : Cert.KernelIdeal.Gen.V m c main_v0 = transpose S4x8x4096 [0, 2, 1] (m ((c.tc : Thread nD τ).loc main_arg4)) transposes_S4x4096x8_S4x8x4096_0_2_1 := by
  show StableHlo.after hostOps0 (fun b => m (c, b)) (Proc.devRef .tc main_v0) = _
  rw [StableHlo.after_cons, StableHlo.after_cons, StableHlo.after_nil]
  refine (StableHlo.unary_result_ne _ _ _ _ _ _ (by decide)).trans ?_
  exact StableHlo.unary_result _ _ _ _ _ _
theorem V_v1 : Cert.KernelIdeal.Gen.V m c main_v1 = transpose S4x8x4096 [0, 2, 1] (m ((c.tc : Thread nD τ).loc main_arg6)) transposes_S4x4096x8_S4x8x4096_0_2_1 := by
  show StableHlo.after hostOps0 (fun b => m (c, b)) (Proc.devRef .tc main_v1) = _
  rw [StableHlo.after_cons, StableHlo.after_cons, StableHlo.after_nil]
  refine (StableHlo.unary_result _ _ _ _ _ _).trans ?_
  refine congrArg (fun x => transpose S4x8x4096 [0, 2, 1] x transposes_S4x4096x8_S4x8x4096_0_2_1) ?_
  exact StableHlo.unary_result_ne _ _ _ _ _ _ (by decide)

theorem transpose_at (x : S4x4096x8.Idx → Elt Ideal .f32) (b : Fin 4) (kv : Fin 8) (t : Fin 4096) :
    transpose S4x8x4096 [0, 2, 1] x transposes_S4x4096x8_S4x8x4096_0_2_1 (a3 b kv t) = x (is b t kv) := by
  refine transpose_apply _ x _ (a3 b kv t) (is b t kv) fun a => ?_
  match a with
  | ⟨0, _⟩ => rfl
  | ⟨1, _⟩ => rfl
  | ⟨2, _⟩ => rfl

theorem reads : Reads (env m c) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg4)) (m ((c.tc : Thread nD τ).loc main_arg6))
    (m ((c.tc : Thread nD τ).loc main_arg7)) where
  f0 := f0_eq m c
  f1 := f1_eq m c
  f2 := f2_eq m c
  f3 := f3_eq m c
  s0 b kv t := (congrFun (V_v0 m c) (a3 b kv t)).trans (transpose_at _ b kv t)
  s1 b kv t := (congrFun (V_v1 m c) (a3 b kv t)).trans (transpose_at _ b kv t)
  s2 := V_main_arg3 m c
  s3 := V_main_arg5 m c

end Cert.Plain

end
-- ==== Proof.lean ====
/-
  The proof of the claims: the three frames, the idealization, the codes and scales, and all the results where the scores are numbers.
-/
module

public import proofs.«01_k».proof.Defs
public import proofs.«01_k».proof.Proof.K.Frame
public import proofs.«01_k».proof.Proof.KI.Frame
public import proofs.«01_k».proof.Proof.KI.Result
public import proofs.«01_k».proof.Proof.Quant
public import proofs.«01_k».proof.Proof.Gen.ReferenceIdeal.Run
public import proofs.«01_k».proof.Proof.Gen.ReferenceIdeal.Read
public import proofs.«01_k».proof.Proof.Gen.On_codes_and_scales
public import proofs.«01_k».proof.Proof.Gen.Pre_finite
public import proofs.«01_k».proof.Proof.Found
public import Idealize.ShloMosaic.Adequacy
public import Idealize.ShloMosaic.Init

@[expose] public section

noncomputable section

namespace Cert.Proof

open Idealize.ShloMosaic Idealize.ShloMosaic.TcCoe Idealize.SL.Sem

set_option maxHeartbeats 4000000 in
/-- The reference runs and leaves its arguments alone: its run, read at the arguments; it declares no semaphore. -/
theorem frame_r : Cert.quiescent_ReferenceIdeal := by
  intro m ρ _
  refine (θ_run Cert.ReferenceIdeal.defs _ _).mono (fun r h => ⟨fun c => ?_,
      Idealize.ShloMosaic.sem_eq_zero_of_no_sems (by decide) r.2⟩)
    (Cert.ReferenceIdeal.Value.run (F := Ideal) m ρ)
  obtain ⟨-, -, -, -, -, h⟩ := h c
  exact h

theorem frame_k : Cert.quiescent_Kernel := fun m g _ => Cert.Kernel.Hand.frame (F := Bits) m g

theorem frame_ki : Cert.quiescent_KernelIdeal := fun m g _ => Cert.KernelIdeal.Hand.frame (F := Ideal) m g

/-- The mask of the claim on values leaves out the attention's output. -/
theorem masked (x0 x1 x2 x3 x4 x5 x6 x7) (i : (⟨4, ![4, 1, 32, 256]⟩ : Shape).Idx)
    (h : (Cert.On_codes_and_scales.fn (F := Ideal) x0 x1 x2 x3 x4 x5 x6 x7).1 i = 1#1) : False :=
  absurd (show (0#1 : BitVec 1) = 1#1 from h) (by decide)

set_option maxHeartbeats 4000000 in
/-- Kernel and reference store the same codes and the same scales. -/
theorem algebraic : Cert.algebraic_KernelIdeal_ReferenceIdeal_on_codes_and_scales := by
  intro m g m' g' _ hm
  refine ⟨fun c => m ((c.tc : Thread Cert.KernelIdeal.nD Cert.KernelIdeal.τ).loc Cert.KernelIdeal.main_v2_0),
    fun c => Cert.KernelIdeal.Hand.codesAll (F := Ideal) (m ((c.tc : Thread Cert.KernelIdeal.nD Cert.KernelIdeal.τ).loc Cert.KernelIdeal.main_arg1)),
    fun c => Cert.KernelIdeal.Hand.scaleAll (F := Ideal) (m ((c.tc : Thread Cert.KernelIdeal.nD Cert.KernelIdeal.τ).loc Cert.KernelIdeal.main_arg1)),
    fun c => Cert.KernelIdeal.Hand.codesAll (F := Ideal) (m ((c.tc : Thread Cert.KernelIdeal.nD Cert.KernelIdeal.τ).loc Cert.KernelIdeal.main_arg2)),
    fun c => Cert.KernelIdeal.Hand.scaleAll (F := Ideal) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Hand.run_value (F := Ideal) m g)
    obtain ⟨-, h1, h2, h3, h4, ha⟩ := h c
    exact ⟨fun i hi => (masked _ _ _ _ _ _ _ _ i hi).elim, fun i _ => congrFun h1 i, fun i _ => congrFun h2 i, fun i _ => congrFun h3 i,
      fun i _ => congrFun h4 i, ha⟩
  · refine (θ_run Cert.ReferenceIdeal.defs _ _).mono (fun r h c => ?_) (Cert.ReferenceIdeal.Value.run (F := Ideal) m' g')
    obtain ⟨-, e1, e2, -⟩ := hm c
    obtain ⟨-, h1, h2, h3, h4, ha⟩ := h c
    rw [Cert.ReferenceIdeal.Read.val_main_v14_eq, e1] at h1
    rw [Cert.ReferenceIdeal.Read.val_main_v7_eq, e1] at h2
    rw [Cert.ReferenceIdeal.Read.val_main_v29_eq, e2] at h3
    rw [Cert.ReferenceIdeal.Read.val_main_v22_eq, e2] at h4
    exact ⟨fun i hi => (masked _ _ _ _ _ _ _ _ i hi).elim,
      fun i _ => congrFun (h1.trans (Cert.Quant.codesAll_eq _).symm) i,
      fun i _ => congrFun (h2.trans (Cert.Quant.scaleAll_eq _).symm) i,
      fun i _ => congrFun ((h3.trans (Cert.Quant.ref_codes _)).trans (Cert.Quant.codesAll_eq _).symm) i,
      fun i _ => congrFun ((h4.trans (Cert.Quant.ref_scale _)).trans (Cert.Quant.scaleAll_eq _).symm) i, ha⟩

theorem frame_ki_finite : Cert.quiescent_KernelIdeal_pre_finite := fun m g _ => frame_ki m g trivial
theorem frame_r_finite : Cert.quiescent_ReferenceIdeal_pre_finite := fun m g _ => frame_r m g trivial

/-- What the precondition says, element by element. -/
theorem finite_re (x0 x1 x2 x3 x4 x5 x6 x7)
    (h : (Cert.Pre_finite.fn (F := Ideal) x0 x1 x2 x3 x4 x5 x6 x7).1 = (fun _ => 1#1)
      ∧ (Cert.Pre_finite.fn (F := Ideal) x0 x1 x2 x3 x4 x5 x6 x7).2 = (fun _ => 1#1)) :
    (∀ i, Cert.Plain.Re (x0 i)) ∧
      ∀ b kv (t : Fin 4096), Cert.Plain.seen (x7 (Cert.Plain.il b)) t.val = 1#1 → Cert.Plain.Re (x4 (Cert.Plain.is b t kv)) := by
  refine ⟨fun i => Cert.Plain.re_of_lt _ (congrFun h.1 i), fun b kv t hs => Cert.Plain.re_of_lt _ ?_⟩
  have hl : broadcastInDim Cert.Pre_finite.S4x4096x8 ![0, 1, 2] Cert.Pre_finite.Gen.bcast_S4x1x1_S4x4096x8_0_1_2
      (broadcastInDim Cert.Pre_finite.S4x1x1 ![0] Cert.Pre_finite.Gen.bcast_S4_S4x1x1_0 x7) (Cert.Plain.is b t kv) = x7 (Cert.Plain.il b) :=
    congrArg x7 (by funext a; fin_cases a; rfl)
  have h1 : IntOp.ori (~~~Cert.Plain.seen (broadcastInDim Cert.Pre_finite.S4x4096x8 ![0, 1, 2] Cert.Pre_finite.Gen.bcast_S4x1x1_S4x4096x8_0_1_2
      (broadcastInDim Cert.Pre_finite.S4x1x1 ![0] Cert.Pre_finite.Gen.bcast_S4_S4x1x1_0 x7) (Cert.Plain.is b t kv)) t.val)
      (Ideal.cmp .olt (max (x4 (Cert.Plain.is b t kv)) (-x4 (Cert.Plain.is b t kv))) (Ideal.ofBits .f32 0x7F800000#32)) = 1#1 :=
    congrFun h.2 (Cert.Plain.is b t kv)
  rw [hl] at h1
  rw [hs] at h1
  exact (show ∀ v : BitVec 1, IntOp.ori (~~~1#1) v = 1#1 → v = 1#1 by decide) _ h1

set_option maxHeartbeats 4000000 in
/-- Kernel and reference compute the same output, codes and scales. -/
theorem algebraic_finite : Cert.algebraic_KernelIdeal_ReferenceIdeal_pre_finite := by
  intro m g m' g' hp hm
  refine ⟨fun c => Cert.KernelIdeal.Hand.outAll (F := Ideal) (Cert.KernelIdeal.Hand.env m c),
    fun c => Cert.KernelIdeal.Hand.codesAll (F := Ideal) (m ((c.tc : Thread Cert.KernelIdeal.nD Cert.KernelIdeal.τ).loc Cert.KernelIdeal.main_arg1)),
    fun c => Cert.KernelIdeal.Hand.scaleAll (F := Ideal) (m ((c.tc : Thread Cert.KernelIdeal.nD Cert.KernelIdeal.τ).loc Cert.KernelIdeal.main_arg1)),
    fun c => Cert.KernelIdeal.Hand.codesAll (F := Ideal) (m ((c.tc : Thread Cert.KernelIdeal.nD Cert.KernelIdeal.τ).loc Cert.KernelIdeal.main_arg2)),
    fun c => Cert.KernelIdeal.Hand.scaleAll (F := Ideal) (m ((c.tc : Thread Cert.KernelIdeal.nD Cert.KernelIdeal.τ).loc Cert.KernelIdeal.main_arg2)), ?_, ?_⟩
  · exact Cert.KernelIdeal.Hand.run_value (F := Ideal) m g
  · refine (θ_run Cert.ReferenceIdeal.defs _ _).mono (fun r h c => ?_) (Cert.ReferenceIdeal.Value.run (F := Ideal) m' g')
    obtain ⟨e0, e1, e2, e3, e4, e5, e6, e7⟩ := hm c
    obtain ⟨h0, h1, h2, h3, h4, ha⟩ := h c
    obtain ⟨p0, p4⟩ := finite_re _ _ _ _ _ _ _ _ (hp c)
    rw [Cert.ReferenceIdeal.Read.val_main_v118_eq, e0, e1, e2, e3, e4, e5, e6, e7] at h0
    rw [Cert.ReferenceIdeal.Read.val_main_v14_eq, e1] at h1
    rw [Cert.ReferenceIdeal.Read.val_main_v7_eq, e1] at h2
    rw [Cert.ReferenceIdeal.Read.val_main_v29_eq, e2] at h3
    rw [Cert.ReferenceIdeal.Read.val_main_v22_eq, e2] at h4
    exact ⟨h0.trans (Cert.Plain.outAll_eq (Cert.Plain.reads m c) p0 p4).symm, h1.trans (Cert.Quant.codesAll_eq _).symm, h2.trans (Cert.Quant.scaleAll_eq _).symm,
      (h3.trans (Cert.Quant.ref_codes _)).trans (Cert.Quant.codesAll_eq _).symm,
      (h4.trans (Cert.Quant.ref_scale _)).trans (Cert.Quant.scaleAll_eq _).symm, ha⟩

theorem claim : Cert.Claim :=
  ⟨Cert.Kernel.Gen.facts, Cert.KernelIdeal.Gen.facts, Cert.ReferenceIdeal.Gen.facts, Cert.Pre_finite.Gen.facts, Cert.On_codes_and_scales.Gen.facts,
    frame_k, frame_ki, frame_ki_finite, frame_r, frame_r_finite, trivial, algebraic, algebraic_finite⟩

end Cert.Proof

end
